-- ==== Defs.lean ====
def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_qk [hPre_finite_qk : Cert.Pre_finite_qk.Facts] (m : (ℓ : Loc Cert.SbIdeal.nD Cert.SbIdeal.τ Cert.SbIdeal.sig) → Buf (Elt Ideal) ℓ) : Prop :=
  ∀ c : Dev Cert.SbIdeal.nD,
    (Cert.Pre_finite_qk.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_qk [hPre_finite_qk : Cert.Pre_finite_qk.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_qk.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Experts [hPre_experts_exist : Cert.Pre_experts_exist.Facts] (m : (ℓ : Loc Cert.Experts.nD Cert.Experts.τ Cert.Experts.sig) → Buf (Elt Bits) ℓ) : Prop :=
  ∀ c : Dev Cert.Experts.nD,
    (Cert.Pre_experts_exist.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_experts_exist : Cert.Pre_experts_exist.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_exist.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal [hPre_experts_exist : Cert.Pre_experts_exist.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_exist.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_ProjCRefIdeal (m : (ℓ : Loc Cert.ProjCRefIdeal.nD Cert.ProjCRefIdeal.τ Cert.ProjCRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_qkc [hPre_finite_qkc : Cert.Pre_finite_qkc.Facts] (m : (ℓ : Loc Cert.FoxIdeal.nD Cert.FoxIdeal.τ Cert.FoxIdeal.sig) → Buf (Elt Ideal) ℓ) : Prop :=
  ∀ c : Dev Cert.FoxIdeal.nD,
    (Cert.Pre_finite_qkc.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).1 = (fun _ => 1#1)
    ∧ (Cert.Pre_finite_qkc.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_qkc [hPre_finite_qkc : Cert.Pre_finite_qkc.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_qkc.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).1 = (fun _ => 1#1)
    ∧ (Cert.Pre_finite_qkc.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).2 = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_CombineS (m : (ℓ : Loc Cert.CombineS.nD Cert.CombineS.τ Cert.CombineS.sig) → Buf (Elt Bits) ℓ) : Prop :=
  True

def Pre_CombineSIdeal (m : (ℓ : Loc Cert.CombineSIdeal.nD Cert.CombineSIdeal.τ Cert.CombineSIdeal.sig) → Buf (Elt Ideal) ℓ) : Prop :=
  True

def Pre_CombineSRefIdeal (m : (ℓ : Loc Cert.CombineSRefIdeal.nD Cert.CombineSRefIdeal.τ Cert.CombineSRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_ProjCS (m : (ℓ : Loc Cert.ProjCS.nD Cert.ProjCS.τ Cert.ProjCS.sig) → Buf (Elt Bits) ℓ) : Prop :=
  True

def Pre_ProjCSIdeal (m : (ℓ : Loc Cert.ProjCSIdeal.nD Cert.ProjCSIdeal.τ Cert.ProjCSIdeal.sig) → Buf (Elt Ideal) ℓ) : Prop :=
  True

def Pre_ProjCSRefIdeal (m : (ℓ : Loc Cert.ProjCSRefIdeal.nD Cert.ProjCSRefIdeal.τ Cert.ProjCSRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ r.2.sem = fun _ => 0)

def quiescent_SbIdeal_pre_finite_qk [hSbIdeal : Cert.SbIdeal.Facts] [hPre_finite_qk : Cert.Pre_finite_qk.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_qk m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_SbRefIdeal_pre_finite_qk [hSbRefIdeal : Cert.SbRefIdeal.Facts] [hPre_finite_qk : Cert.Pre_finite_qk.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_qk m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Experts [hExperts : Cert.Experts.Facts] [hPre_experts_exist : Cert.Pre_experts_exist.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_experts_exist : Cert.Pre_experts_exist.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] [hPre_experts_exist : Cert.Pre_experts_exist.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1)
      ∧ r.2.mem ((c.tc : Thread Cert.ProjC.nD Cert.ProjC.τ).loc Cert.ProjC.main_arg2) = m ((c.tc : Thread Cert.ProjC.nD Cert.ProjC.τ).loc Cert.ProjC.main_arg2))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
      ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2))
      ∧ r.2.sem = fun _ => 0)

def quiescent_ProjCRefIdeal [hProjCRefIdeal : Cert.ProjCRefIdeal.Facts] : Prop :=
  ∀ (m : (ℓ : Loc Cert.ProjCRefIdeal.nD Cert.ProjCRefIdeal.τ Cert.ProjCRefIdeal.sig) → Buf (Elt Ideal) ℓ) (g : Dev Cert.ProjCRefIdeal.nD → PrngReg), Pre_ProjCRefIdeal m →
    θ_run (Cert.ProjCRefIdeal.defs (F := Ideal)) (onTc (τ := Cert.ProjCRefIdeal.τ) (Cert.ProjCRefIdeal.main (F := Ideal))) ⟨m, fun _ => 0, g⟩ (fun r => (∀ c : Dev Cert.ProjCRefIdeal.nD,
      r.2.mem ((c.tc : Thread Cert.ProjCRefIdeal.nD Cert.ProjCRefIdeal.τ).loc Cert.ProjCRefIdeal.main_arg0) = m ((c.tc : Thread Cert.ProjCRefIdeal.nD Cert.ProjCRefIdeal.τ).loc Cert.ProjCRefIdeal.main_arg0)
      ∧ r.2.mem ((c.tc : Thread Cert.ProjCRefIdeal.nD Cert.ProjCRefIdeal.τ).loc Cert.ProjCRefIdeal.main_arg1) = m ((c.tc : Thread Cert.ProjCRefIdeal.nD Cert.ProjCRefIdeal.τ).loc Cert.ProjCRefIdeal.main_arg1)
      ∧ r.2.mem ((c.tc : Thread Cert.ProjCRefIdeal.nD Cert.ProjCRefIdeal.τ).loc Cert.ProjCRefIdeal.main_arg2) = m ((c.tc : Thread Cert.ProjCRefIdeal.nD Cert.ProjCRefIdeal.τ).loc Cert.ProjCRefIdeal.main_arg2))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_finite_qkc [hFoxIdeal : Cert.FoxIdeal.Facts] [hPre_finite_qkc : Cert.Pre_finite_qkc.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_qkc m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_finite_qkc [hFoxRefIdeal : Cert.FoxRefIdeal.Facts] [hPre_finite_qkc : Cert.Pre_finite_qkc.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_qkc m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3))
      ∧ r.2.sem = fun _ => 0)

def quiescent_CombineS [hCombineS : Cert.CombineS.Facts] : Prop :=
  ∀ (m : (ℓ : Loc Cert.CombineS.nD Cert.CombineS.τ Cert.CombineS.sig) → Buf (Elt Bits) ℓ) (g : Dev Cert.CombineS.nD → PrngReg), Pre_CombineS m →
    θ_run (Cert.CombineS.defs (F := Bits)) (onTc (τ := Cert.CombineS.τ) (Cert.CombineS.main (F := Bits))) ⟨m, fun _ => 0, g⟩ (fun r => (∀ c : Dev Cert.CombineS.nD,
      r.2.mem ((c.tc : Thread Cert.CombineS.nD Cert.CombineS.τ).loc Cert.CombineS.main_arg0) = m ((c.tc : Thread Cert.CombineS.nD Cert.CombineS.τ).loc Cert.CombineS.main_arg0)
      ∧ r.2.mem ((c.tc : Thread Cert.CombineS.nD Cert.CombineS.τ).loc Cert.CombineS.main_arg1) = m ((c.tc : Thread Cert.CombineS.nD Cert.CombineS.τ).loc Cert.CombineS.main_arg1)
      ∧ r.2.mem ((c.tc : Thread Cert.CombineS.nD Cert.CombineS.τ).loc Cert.CombineS.main_arg2) = m ((c.tc : Thread Cert.CombineS.nD Cert.CombineS.τ).loc Cert.CombineS.main_arg2)
      ∧ r.2.mem ((c.tc : Thread Cert.CombineS.nD Cert.CombineS.τ).loc Cert.CombineS.main_arg3) = m ((c.tc : Thread Cert.CombineS.nD Cert.CombineS.τ).loc Cert.CombineS.main_arg3))
      ∧ r.2.sem = fun _ => 0)

def quiescent_CombineSIdeal [hCombineSIdeal : Cert.CombineSIdeal.Facts] : Prop :=
  ∀ (m : (ℓ : Loc Cert.CombineSIdeal.nD Cert.CombineSIdeal.τ Cert.CombineSIdeal.sig) → Buf (Elt Ideal) ℓ) (g : Dev Cert.CombineSIdeal.nD → PrngReg), Pre_CombineSIdeal m →
    θ_run (Cert.CombineSIdeal.defs (F := Ideal)) (onTc (τ := Cert.CombineSIdeal.τ) (Cert.CombineSIdeal.main (F := Ideal))) ⟨m, fun _ => 0, g⟩ (fun r => (∀ c : Dev Cert.CombineSIdeal.nD,
      r.2.mem ((c.tc : Thread Cert.CombineSIdeal.nD Cert.CombineSIdeal.τ).loc Cert.CombineSIdeal.main_arg0) = m ((c.tc : Thread Cert.CombineSIdeal.nD Cert.CombineSIdeal.τ).loc Cert.CombineSIdeal.main_arg0)
      ∧ r.2.mem ((c.tc : Thread Cert.CombineSIdeal.nD Cert.CombineSIdeal.τ).loc Cert.CombineSIdeal.main_arg1) = m ((c.tc : Thread Cert.CombineSIdeal.nD Cert.CombineSIdeal.τ).loc Cert.CombineSIdeal.main_arg1)
      ∧ r.2.mem ((c.tc : Thread Cert.CombineSIdeal.nD Cert.CombineSIdeal.τ).loc Cert.CombineSIdeal.main_arg2) = m ((c.tc : Thread Cert.CombineSIdeal.nD Cert.CombineSIdeal.τ).loc Cert.CombineSIdeal.main_arg2)
      ∧ r.2.mem ((c.tc : Thread Cert.CombineSIdeal.nD Cert.CombineSIdeal.τ).loc Cert.CombineSIdeal.main_arg3) = m ((c.tc : Thread Cert.CombineSIdeal.nD Cert.CombineSIdeal.τ).loc Cert.CombineSIdeal.main_arg3))
      ∧ r.2.sem = fun _ => 0)

def quiescent_CombineSRefIdeal [hCombineSRefIdeal : Cert.CombineSRefIdeal.Facts] : Prop :=
  ∀ (m : (ℓ : Loc Cert.CombineSRefIdeal.nD Cert.CombineSRefIdeal.τ Cert.CombineSRefIdeal.sig) → Buf (Elt Ideal) ℓ) (g : Dev Cert.CombineSRefIdeal.nD → PrngReg), Pre_CombineSRefIdeal m →
    θ_run (Cert.CombineSRefIdeal.defs (F := Ideal)) (onTc (τ := Cert.CombineSRefIdeal.τ) (Cert.CombineSRefIdeal.main (F := Ideal))) ⟨m, fun _ => 0, g⟩ (fun r => (∀ c : Dev Cert.CombineSRefIdeal.nD,
      r.2.mem ((c.tc : Thread Cert.CombineSRefIdeal.nD Cert.CombineSRefIdeal.τ).loc Cert.CombineSRefIdeal.main_arg0) = m ((c.tc : Thread Cert.CombineSRefIdeal.nD Cert.CombineSRefIdeal.τ).loc Cert.CombineSRefIdeal.main_arg0)
      ∧ r.2.mem ((c.tc : Thread Cert.CombineSRefIdeal.nD Cert.CombineSRefIdeal.τ).loc Cert.CombineSRefIdeal.main_arg1) = m ((c.tc : Thread Cert.CombineSRefIdeal.nD Cert.CombineSRefIdeal.τ).loc Cert.CombineSRefIdeal.main_arg1)
      ∧ r.2.mem ((c.tc : Thread Cert.CombineSRefIdeal.nD Cert.CombineSRefIdeal.τ).loc Cert.CombineSRefIdeal.main_arg2) = m ((c.tc : Thread Cert.CombineSRefIdeal.nD Cert.CombineSRefIdeal.τ).loc Cert.CombineSRefIdeal.main_arg2)
      ∧ r.2.mem ((c.tc : Thread Cert.CombineSRefIdeal.nD Cert.CombineSRefIdeal.τ).loc Cert.CombineSRefIdeal.main_arg3) = m ((c.tc : Thread Cert.CombineSRefIdeal.nD Cert.CombineSRefIdeal.τ).loc Cert.CombineSRefIdeal.main_arg3))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3))
      ∧ r.2.sem = fun _ => 0)

def quiescent_ProjCS [hProjCS : Cert.ProjCS.Facts] : Prop :=
  ∀ (m : (ℓ : Loc Cert.ProjCS.nD Cert.ProjCS.τ Cert.ProjCS.sig) → Buf (Elt Bits) ℓ) (g : Dev Cert.ProjCS.nD → PrngReg), Pre_ProjCS m →
    θ_run (Cert.ProjCS.defs (F := Bits)) (onTc (τ := Cert.ProjCS.τ) (Cert.ProjCS.main (F := Bits))) ⟨m, fun _ => 0, g⟩ (fun r => (∀ c : Dev Cert.ProjCS.nD,
      r.2.mem ((c.tc : Thread Cert.ProjCS.nD Cert.ProjCS.τ).loc Cert.ProjCS.main_arg0) = m ((c.tc : Thread Cert.ProjCS.nD Cert.ProjCS.τ).loc Cert.ProjCS.main_arg0)
      ∧ r.2.mem ((c.tc : Thread Cert.ProjCS.nD Cert.ProjCS.τ).loc Cert.ProjCS.main_arg1) = m ((c.tc : Thread Cert.ProjCS.nD Cert.ProjCS.τ).loc Cert.ProjCS.main_arg1)
      ∧ r.2.mem ((c.tc : Thread Cert.ProjCS.nD Cert.ProjCS.τ).loc Cert.ProjCS.main_arg2) = m ((c.tc : Thread Cert.ProjCS.nD Cert.ProjCS.τ).loc Cert.ProjCS.main_arg2))
      ∧ r.2.sem = fun _ => 0)

def quiescent_ProjCSIdeal [hProjCSIdeal : Cert.ProjCSIdeal.Facts] : Prop :=
  ∀ (m : (ℓ : Loc Cert.ProjCSIdeal.nD Cert.ProjCSIdeal.τ Cert.ProjCSIdeal.sig) → Buf (Elt Ideal) ℓ) (g : Dev Cert.ProjCSIdeal.nD → PrngReg), Pre_ProjCSIdeal m →
    θ_run (Cert.ProjCSIdeal.defs (F := Ideal)) (onTc (τ := Cert.ProjCSIdeal.τ) (Cert.ProjCSIdeal.main (F := Ideal))) ⟨m, fun _ => 0, g⟩ (fun r => (∀ c : Dev Cert.ProjCSIdeal.nD,
      r.2.mem ((c.tc : Thread Cert.ProjCSIdeal.nD Cert.ProjCSIdeal.τ).loc Cert.ProjCSIdeal.main_arg0) = m ((c.tc : Thread Cert.ProjCSIdeal.nD Cert.ProjCSIdeal.τ).loc Cert.ProjCSIdeal.main_arg0)
      ∧ r.2.mem ((c.tc : Thread Cert.ProjCSIdeal.nD Cert.ProjCSIdeal.τ).loc Cert.ProjCSIdeal.main_arg1) = m ((c.tc : Thread Cert.ProjCSIdeal.nD Cert.ProjCSIdeal.τ).loc Cert.ProjCSIdeal.main_arg1)
      ∧ r.2.mem ((c.tc : Thread Cert.ProjCSIdeal.nD Cert.ProjCSIdeal.τ).loc Cert.ProjCSIdeal.main_arg2) = m ((c.tc : Thread Cert.ProjCSIdeal.nD Cert.ProjCSIdeal.τ).loc Cert.ProjCSIdeal.main_arg2))
      ∧ r.2.sem = fun _ => 0)

def quiescent_ProjCSRefIdeal [hProjCSRefIdeal : Cert.ProjCSRefIdeal.Facts] : Prop :=
  ∀ (m : (ℓ : Loc Cert.ProjCSRefIdeal.nD Cert.ProjCSRefIdeal.τ Cert.ProjCSRefIdeal.sig) → Buf (Elt Ideal) ℓ) (g : Dev Cert.ProjCSRefIdeal.nD → PrngReg), Pre_ProjCSRefIdeal m →
    θ_run (Cert.ProjCSRefIdeal.defs (F := Ideal)) (onTc (τ := Cert.ProjCSRefIdeal.τ) (Cert.ProjCSRefIdeal.main (F := Ideal))) ⟨m, fun _ => 0, g⟩ (fun r => (∀ c : Dev Cert.ProjCSRefIdeal.nD,
      r.2.mem ((c.tc : Thread Cert.ProjCSRefIdeal.nD Cert.ProjCSRefIdeal.τ).loc Cert.ProjCSRefIdeal.main_arg0) = m ((c.tc : Thread Cert.ProjCSRefIdeal.nD Cert.ProjCSRefIdeal.τ).loc Cert.ProjCSRefIdeal.main_arg0)
      ∧ r.2.mem ((c.tc : Thread Cert.ProjCSRefIdeal.nD Cert.ProjCSRefIdeal.τ).loc Cert.ProjCSRefIdeal.main_arg1) = m ((c.tc : Thread Cert.ProjCSRefIdeal.nD Cert.ProjCSRefIdeal.τ).loc Cert.ProjCSRefIdeal.main_arg1)
      ∧ r.2.mem ((c.tc : Thread Cert.ProjCSRefIdeal.nD Cert.ProjCSRefIdeal.τ).loc Cert.ProjCSRefIdeal.main_arg2) = m ((c.tc : Thread Cert.ProjCSRefIdeal.nD Cert.ProjCSRefIdeal.τ).loc Cert.ProjCSRefIdeal.main_arg2))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4))
      ∧ r.2.sem = fun _ => 0)

def preserves_Sb_SbIdeal : Prop :=
  IdealRules.named_const.Statement Cert.SbIdeal.κ "log2e" .f32 0x3FB8AA3B#32 (((Real.log 2)⁻¹ : ℝ) : EReal)

def algebraic_SbIdeal_SbRefIdeal_pre_finite_qk [hSbIdeal : Cert.SbIdeal.Facts] [hSbRefIdeal : Cert.SbRefIdeal.Facts] [hPre_finite_qk : Cert.Pre_finite_qk.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_finite_qk m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)
      ∧ m' ((c.tc : Thread Cert.SbRefIdeal.nD Cert.SbRefIdeal.τ).loc Cert.SbRefIdeal.main_arg2) = m ((c.tc : Thread Cert.SbIdeal.nD Cert.SbIdeal.τ).loc Cert.SbIdeal.main_arg2)) →
    ∃ (v0 : (c : Dev Cert.SbIdeal.nD) → Buf (Elt Ideal) ((c.tc : Thread Cert.SbIdeal.nD Cert.SbIdeal.τ).loc Cert.SbIdeal.main_v0)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v0) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v28) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_exist : Cert.Pre_experts_exist.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v35) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Proj_ProjIdeal : Prop :=
  IdealRules.named_const.Statement Cert.ProjIdeal.κ "qscale" .f32 0x3E38AA3B#32 (((Real.log 256)⁻¹ : ℝ) : EReal)

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v14_0)) (v1 : (c : Dev Cert.ProjIdeal.nD) → Buf (Elt Ideal) ((c.tc : Thread Cert.ProjIdeal.nD Cert.ProjIdeal.τ).loc Cert.ProjIdeal.main_v14_1)) (v2 : (c : Dev Cert.ProjIdeal.nD) → Buf (Elt Ideal) ((c.tc : Thread Cert.ProjIdeal.nD Cert.ProjIdeal.τ).loc Cert.ProjIdeal.main_v14_2)) (v3 : (c : Dev Cert.ProjIdeal.nD) → Buf (Elt Ideal) ((c.tc : Thread Cert.ProjIdeal.nD Cert.ProjIdeal.τ).loc Cert.ProjIdeal.main_v14_3)) (v4 : (c : Dev Cert.ProjIdeal.nD) → Buf (Elt Ideal) ((c.tc : Thread Cert.ProjIdeal.nD Cert.ProjIdeal.τ).loc Cert.ProjIdeal.main_v14_4)) (v5 : (c : Dev Cert.ProjIdeal.nD) → Buf (Elt Ideal) ((c.tc : Thread Cert.ProjIdeal.nD Cert.ProjIdeal.τ).loc Cert.ProjIdeal.main_v14_5)) (v6 : (c : Dev Cert.ProjIdeal.nD) → Buf (Elt Ideal) ((c.tc : Thread Cert.ProjIdeal.nD Cert.ProjIdeal.τ).loc Cert.ProjIdeal.main_v14_6)) (v7 : (c : Dev Cert.ProjIdeal.nD) → Buf (Elt Ideal) ((c.tc : Thread Cert.ProjIdeal.nD Cert.ProjIdeal.τ).loc Cert.ProjIdeal.main_v14_7)) (v8 : (c : Dev Cert.ProjIdeal.nD) → Buf (Elt Ideal) ((c.tc : Thread Cert.ProjIdeal.nD Cert.ProjIdeal.τ).loc Cert.ProjIdeal.main_v14_8)) (v9 : (c : Dev Cert.ProjIdeal.nD) → Buf (Elt Ideal) ((c.tc : Thread Cert.ProjIdeal.nD Cert.ProjIdeal.τ).loc Cert.ProjIdeal.main_v14_9)) (v10 : (c : Dev Cert.ProjIdeal.nD) → Buf (Elt Ideal) ((c.tc : Thread Cert.ProjIdeal.nD Cert.ProjIdeal.τ).loc Cert.ProjIdeal.main_v14_10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v14_0) = v0 c
          ∧ r.2.mem ((c.tc : Thread Cert.ProjIdeal.nD Cert.ProjIdeal.τ).loc Cert.ProjIdeal.main_v14_1) = v1 c
          ∧ r.2.mem ((c.tc : Thread Cert.ProjIdeal.nD Cert.ProjIdeal.τ).loc Cert.ProjIdeal.main_v14_2) = v2 c
          ∧ r.2.mem ((c.tc : Thread Cert.ProjIdeal.nD Cert.ProjIdeal.τ).loc Cert.ProjIdeal.main_v14_3) = v3 c
          ∧ r.2.mem ((c.tc : Thread Cert.ProjIdeal.nD Cert.ProjIdeal.τ).loc Cert.ProjIdeal.main_v14_4) = v4 c
          ∧ r.2.mem ((c.tc : Thread Cert.ProjIdeal.nD Cert.ProjIdeal.τ).loc Cert.ProjIdeal.main_v14_5) = v5 c
          ∧ r.2.mem ((c.tc : Thread Cert.ProjIdeal.nD Cert.ProjIdeal.τ).loc Cert.ProjIdeal.main_v14_6) = v6 c
          ∧ r.2.mem ((c.tc : Thread Cert.ProjIdeal.nD Cert.ProjIdeal.τ).loc Cert.ProjIdeal.main_v14_7) = v7 c
          ∧ r.2.mem ((c.tc : Thread Cert.ProjIdeal.nD Cert.ProjIdeal.τ).loc Cert.ProjIdeal.main_v14_8) = v8 c
          ∧ r.2.mem ((c.tc : Thread Cert.ProjIdeal.nD Cert.ProjIdeal.τ).loc Cert.ProjIdeal.main_v14_9) = v9 c
          ∧ r.2.mem ((c.tc : Thread Cert.ProjIdeal.nD Cert.ProjIdeal.τ).loc Cert.ProjIdeal.main_v14_10) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v33) = v0 c
          ∧ r.2.mem ((c.tc : Thread Cert.ProjRefIdeal.nD Cert.ProjRefIdeal.τ).loc Cert.ProjRefIdeal.main_v34) = v1 c
          ∧ r.2.mem ((c.tc : Thread Cert.ProjRefIdeal.nD Cert.ProjRefIdeal.τ).loc Cert.ProjRefIdeal.main_v35) = v2 c
          ∧ r.2.mem ((c.tc : Thread Cert.ProjRefIdeal.nD Cert.ProjRefIdeal.τ).loc Cert.ProjRefIdeal.main_v41) = v3 c
          ∧ r.2.mem ((c.tc : Thread Cert.ProjRefIdeal.nD Cert.ProjRefIdeal.τ).loc Cert.ProjRefIdeal.main_v42) = v4 c
          ∧ r.2.mem ((c.tc : Thread Cert.ProjRefIdeal.nD Cert.ProjRefIdeal.τ).loc Cert.ProjRefIdeal.main_v43) = v5 c
          ∧ r.2.mem ((c.tc : Thread Cert.ProjRefIdeal.nD Cert.ProjRefIdeal.τ).loc Cert.ProjRefIdeal.main_v45) = v6 c
          ∧ r.2.mem ((c.tc : Thread Cert.ProjRefIdeal.nD Cert.ProjRefIdeal.τ).loc Cert.ProjRefIdeal.main_v47) = v7 c
          ∧ r.2.mem ((c.tc : Thread Cert.ProjRefIdeal.nD Cert.ProjRefIdeal.τ).loc Cert.ProjRefIdeal.main_v49) = v8 c
          ∧ r.2.mem ((c.tc : Thread Cert.ProjRefIdeal.nD Cert.ProjRefIdeal.τ).loc Cert.ProjRefIdeal.main_v51) = v9 c
          ∧ r.2.mem ((c.tc : Thread Cert.ProjRefIdeal.nD Cert.ProjRefIdeal.τ).loc Cert.ProjRefIdeal.main_v52) = v10 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_ProjC_ProjCIdeal : Prop :=
  True

def algebraic_ProjCIdeal_ProjCRefIdeal [hProjCIdeal : Cert.ProjCIdeal.Facts] [hProjCRefIdeal : Cert.ProjCRefIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.ProjCRefIdeal.nD Cert.ProjCRefIdeal.τ Cert.ProjCRefIdeal.sig) → Buf (Elt Ideal) ℓ) (g' : Dev Cert.ProjCRefIdeal.nD → PrngReg), Pre_ProjCIdeal m →
    (∀ c : Dev Cert.ProjCIdeal.nD,
      m' ((c.tc : Thread Cert.ProjCRefIdeal.nD Cert.ProjCRefIdeal.τ).loc Cert.ProjCRefIdeal.main_arg0) = m ((c.tc : Thread Cert.ProjCIdeal.nD Cert.ProjCIdeal.τ).loc Cert.ProjCIdeal.main_arg0)
      ∧ m' ((c.tc : Thread Cert.ProjCRefIdeal.nD Cert.ProjCRefIdeal.τ).loc Cert.ProjCRefIdeal.main_arg1) = m ((c.tc : Thread Cert.ProjCIdeal.nD Cert.ProjCIdeal.τ).loc Cert.ProjCIdeal.main_arg1)
      ∧ m' ((c.tc : Thread Cert.ProjCRefIdeal.nD Cert.ProjCRefIdeal.τ).loc Cert.ProjCRefIdeal.main_arg2) = m ((c.tc : Thread Cert.ProjCIdeal.nD Cert.ProjCIdeal.τ).loc Cert.ProjCIdeal.main_arg2)) →
    ∃ (v0 : (c : Dev Cert.ProjCIdeal.nD) → Buf (Elt Ideal) ((c.tc : Thread Cert.ProjCIdeal.nD Cert.ProjCIdeal.τ).loc Cert.ProjCIdeal.main_v4_0)) (v1 : (c : Dev Cert.ProjCIdeal.nD) → Buf (Elt Ideal) ((c.tc : Thread Cert.ProjCIdeal.nD Cert.ProjCIdeal.τ).loc Cert.ProjCIdeal.main_v4_1)) (v2 : (c : Dev Cert.ProjCIdeal.nD) → Buf (Elt Ideal) ((c.tc : Thread Cert.ProjCIdeal.nD Cert.ProjCIdeal.τ).loc Cert.ProjCIdeal.main_v4_2)) (v3 : (c : Dev Cert.ProjCIdeal.nD) → Buf (Elt Ideal) ((c.tc : Thread Cert.ProjCIdeal.nD Cert.ProjCIdeal.τ).loc Cert.ProjCIdeal.main_v4_3)) (v4 : (c : Dev Cert.ProjCIdeal.nD) → Buf (Elt Ideal) ((c.tc : Thread Cert.ProjCIdeal.nD Cert.ProjCIdeal.τ).loc Cert.ProjCIdeal.main_v4_4)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v4_0) = v0 c
          ∧ r.2.mem ((c.tc : Thread Cert.ProjCIdeal.nD Cert.ProjCIdeal.τ).loc Cert.ProjCIdeal.main_v4_1) = v1 c
          ∧ r.2.mem ((c.tc : Thread Cert.ProjCIdeal.nD Cert.ProjCIdeal.τ).loc Cert.ProjCIdeal.main_v4_2) = v2 c
          ∧ r.2.mem ((c.tc : Thread Cert.ProjCIdeal.nD Cert.ProjCIdeal.τ).loc Cert.ProjCIdeal.main_v4_3) = v3 c
          ∧ r.2.mem ((c.tc : Thread Cert.ProjCIdeal.nD Cert.ProjCIdeal.τ).loc Cert.ProjCIdeal.main_v4_4) = v4 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
          ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2))
      ∧ θ_run (Cert.ProjCRefIdeal.defs (F := Ideal)) (onTc (τ := Cert.ProjCRefIdeal.τ) (Cert.ProjCRefIdeal.main (F := Ideal))) ⟨m', fun _ => 0, g'⟩ (fun r => ∀ c : Dev Cert.ProjCRefIdeal.nD,
          r.2.mem ((c.tc : Thread Cert.ProjCRefIdeal.nD Cert.ProjCRefIdeal.τ).loc Cert.ProjCRefIdeal.main_v21) = v0 c
          ∧ r.2.mem ((c.tc : Thread Cert.ProjCRefIdeal.nD Cert.ProjCRefIdeal.τ).loc Cert.ProjCRefIdeal.main_v17) = v1 c
          ∧ r.2.mem ((c.tc : Thread Cert.ProjCRefIdeal.nD Cert.ProjCRefIdeal.τ).loc Cert.ProjCRefIdeal.main_v18) = v2 c
          ∧ r.2.mem ((c.tc : Thread Cert.ProjCRefIdeal.nD Cert.ProjCRefIdeal.τ).loc Cert.ProjCRefIdeal.main_v22) = v3 c
          ∧ r.2.mem ((c.tc : Thread Cert.ProjCRefIdeal.nD Cert.ProjCRefIdeal.τ).loc Cert.ProjCRefIdeal.main_v23) = v4 c
          ∧ r.2.mem ((c.tc : Thread Cert.ProjCRefIdeal.nD Cert.ProjCRefIdeal.τ).loc Cert.ProjCRefIdeal.main_arg0) = m' ((c.tc : Thread Cert.ProjCRefIdeal.nD Cert.ProjCRefIdeal.τ).loc Cert.ProjCRefIdeal.main_arg0)
          ∧ r.2.mem ((c.tc : Thread Cert.ProjCRefIdeal.nD Cert.ProjCRefIdeal.τ).loc Cert.ProjCRefIdeal.main_arg1) = m' ((c.tc : Thread Cert.ProjCRefIdeal.nD Cert.ProjCRefIdeal.τ).loc Cert.ProjCRefIdeal.main_arg1)
          ∧ r.2.mem ((c.tc : Thread Cert.ProjCRefIdeal.nD Cert.ProjCRefIdeal.τ).loc Cert.ProjCRefIdeal.main_arg2) = m' ((c.tc : Thread Cert.ProjCRefIdeal.nD Cert.ProjCRefIdeal.τ).loc Cert.ProjCRefIdeal.main_arg2))

def preserves_Fox_FoxIdeal : Prop :=
  IdealRules.named_const.Statement Cert.FoxIdeal.κ "mask" .f32 0xF149F2CA#32 ⊥

def algebraic_FoxIdeal_FoxRefIdeal_pre_finite_qkc [hFoxIdeal : Cert.FoxIdeal.Facts] [hFoxRefIdeal : Cert.FoxRefIdeal.Facts] [hPre_finite_qkc : Cert.Pre_finite_qkc.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_qkc m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v4)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v4) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v39) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v21) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3))

def preserves_CombineS_CombineSIdeal : Prop :=
  True

def algebraic_CombineSIdeal_CombineSRefIdeal [hCombineSIdeal : Cert.CombineSIdeal.Facts] [hCombineSRefIdeal : Cert.CombineSRefIdeal.Facts] : Prop :=
  ∀ (m : (ℓ : Loc Cert.CombineSIdeal.nD Cert.CombineSIdeal.τ Cert.CombineSIdeal.sig) → Buf (Elt Ideal) ℓ) (g : Dev Cert.CombineSIdeal.nD → PrngReg)
    (m' : (ℓ : Loc Cert.CombineSRefIdeal.nD Cert.CombineSRefIdeal.τ Cert.CombineSRefIdeal.sig) → Buf (Elt Ideal) ℓ) (g' : Dev Cert.CombineSRefIdeal.nD → PrngReg), Pre_CombineSIdeal m →
    (∀ c : Dev Cert.CombineSIdeal.nD,
      m' ((c.tc : Thread Cert.CombineSRefIdeal.nD Cert.CombineSRefIdeal.τ).loc Cert.CombineSRefIdeal.main_arg0) = m ((c.tc : Thread Cert.CombineSIdeal.nD Cert.CombineSIdeal.τ).loc Cert.CombineSIdeal.main_arg0)
      ∧ m' ((c.tc : Thread Cert.CombineSRefIdeal.nD Cert.CombineSRefIdeal.τ).loc Cert.CombineSRefIdeal.main_arg1) = m ((c.tc : Thread Cert.CombineSIdeal.nD Cert.CombineSIdeal.τ).loc Cert.CombineSIdeal.main_arg1)
      ∧ m' ((c.tc : Thread Cert.CombineSRefIdeal.nD Cert.CombineSRefIdeal.τ).loc Cert.CombineSRefIdeal.main_arg2) = m ((c.tc : Thread Cert.CombineSIdeal.nD Cert.CombineSIdeal.τ).loc Cert.CombineSIdeal.main_arg2)
      ∧ m' ((c.tc : Thread Cert.CombineSRefIdeal.nD Cert.CombineSRefIdeal.τ).loc Cert.CombineSRefIdeal.main_arg3) = m ((c.tc : Thread Cert.CombineSIdeal.nD Cert.CombineSIdeal.τ).loc Cert.CombineSIdeal.main_arg3)) →
    ∃ (v0 : (c : Dev Cert.CombineSIdeal.nD) → Buf (Elt Ideal) ((c.tc : Thread Cert.CombineSIdeal.nD Cert.CombineSIdeal.τ).loc Cert.CombineSIdeal.main_v1)),
      θ_run (Cert.CombineSIdeal.defs (F := Ideal)) (onTc (τ := Cert.CombineSIdeal.τ) (Cert.CombineSIdeal.main (F := Ideal))) ⟨m, fun _ => 0, g⟩ (fun r => ∀ c : Dev Cert.CombineSIdeal.nD,
          r.2.mem ((c.tc : Thread Cert.CombineSIdeal.nD Cert.CombineSIdeal.τ).loc Cert.CombineSIdeal.main_v1) = v0 c
          ∧ r.2.mem ((c.tc : Thread Cert.CombineSIdeal.nD Cert.CombineSIdeal.τ).loc Cert.CombineSIdeal.main_arg0) = m ((c.tc : Thread Cert.CombineSIdeal.nD Cert.CombineSIdeal.τ).loc Cert.CombineSIdeal.main_arg0)
          ∧ r.2.mem ((c.tc : Thread Cert.CombineSIdeal.nD Cert.CombineSIdeal.τ).loc Cert.CombineSIdeal.main_arg1) = m ((c.tc : Thread Cert.CombineSIdeal.nD Cert.CombineSIdeal.τ).loc Cert.CombineSIdeal.main_arg1)
          ∧ r.2.mem ((c.tc : Thread Cert.CombineSIdeal.nD Cert.CombineSIdeal.τ).loc Cert.CombineSIdeal.main_arg2) = m ((c.tc : Thread Cert.CombineSIdeal.nD Cert.CombineSIdeal.τ).loc Cert.CombineSIdeal.main_arg2)
          ∧ r.2.mem ((c.tc : Thread Cert.CombineSIdeal.nD Cert.CombineSIdeal.τ).loc Cert.CombineSIdeal.main_arg3) = m ((c.tc : Thread Cert.CombineSIdeal.nD Cert.CombineSIdeal.τ).loc Cert.CombineSIdeal.main_arg3))
      ∧ θ_run (Cert.CombineSRefIdeal.defs (F := Ideal)) (onTc (τ := Cert.CombineSRefIdeal.τ) (Cert.CombineSRefIdeal.main (F := Ideal))) ⟨m', fun _ => 0, g'⟩ (fun r => ∀ c : Dev Cert.CombineSRefIdeal.nD,
          r.2.mem ((c.tc : Thread Cert.CombineSRefIdeal.nD Cert.CombineSRefIdeal.τ).loc Cert.CombineSRefIdeal.main_v21) = v0 c
          ∧ r.2.mem ((c.tc : Thread Cert.CombineSRefIdeal.nD Cert.CombineSRefIdeal.τ).loc Cert.CombineSRefIdeal.main_arg0) = m' ((c.tc : Thread Cert.CombineSRefIdeal.nD Cert.CombineSRefIdeal.τ).loc Cert.CombineSRefIdeal.main_arg0)
          ∧ r.2.mem ((c.tc : Thread Cert.CombineSRefIdeal.nD Cert.CombineSRefIdeal.τ).loc Cert.CombineSRefIdeal.main_arg1) = m' ((c.tc : Thread Cert.CombineSRefIdeal.nD Cert.CombineSRefIdeal.τ).loc Cert.CombineSRefIdeal.main_arg1)
          ∧ r.2.mem ((c.tc : Thread Cert.CombineSRefIdeal.nD Cert.CombineSRefIdeal.τ).loc Cert.CombineSRefIdeal.main_arg2) = m' ((c.tc : Thread Cert.CombineSRefIdeal.nD Cert.CombineSRefIdeal.τ).loc Cert.CombineSRefIdeal.main_arg2)
          ∧ r.2.mem ((c.tc : Thread Cert.CombineSRefIdeal.nD Cert.CombineSRefIdeal.τ).loc Cert.CombineSRefIdeal.main_arg3) = m' ((c.tc : Thread Cert.CombineSRefIdeal.nD Cert.CombineSRefIdeal.τ).loc Cert.CombineSRefIdeal.main_arg3))

def preserves_ProjS_ProjSIdeal : Prop :=
  IdealRules.named_const.Statement Cert.ProjSIdeal.κ "qscale" .f32 0x3E38AA3B#32 (((Real.log 256)⁻¹ : ℝ) : EReal)

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)) →
    ∃ (v0 : (c : Dev Cert.ProjSIdeal.nD) → Buf (Elt Ideal) ((c.tc : Thread Cert.ProjSIdeal.nD Cert.ProjSIdeal.τ).loc Cert.ProjSIdeal.main_v14_1)) (v1 : (c : Dev Cert.ProjSIdeal.nD) → Buf (Elt Ideal) ((c.tc : Thread Cert.ProjSIdeal.nD Cert.ProjSIdeal.τ).loc Cert.ProjSIdeal.main_v14_2)) (v2 : (c : Dev Cert.ProjSIdeal.nD) → Buf (Elt Ideal) ((c.tc : Thread Cert.ProjSIdeal.nD Cert.ProjSIdeal.τ).loc Cert.ProjSIdeal.main_v14_4)) (v3 : (c : Dev Cert.ProjSIdeal.nD) → Buf (Elt Ideal) ((c.tc : Thread Cert.ProjSIdeal.nD Cert.ProjSIdeal.τ).loc Cert.ProjSIdeal.main_v14_5)) (v4 : (c : Dev Cert.ProjSIdeal.nD) → Buf (Elt Ideal) ((c.tc : Thread Cert.ProjSIdeal.nD Cert.ProjSIdeal.τ).loc Cert.ProjSIdeal.main_v14_10)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v14_1) = v0 c
          ∧ r.2.mem ((c.tc : Thread Cert.ProjSIdeal.nD Cert.ProjSIdeal.τ).loc Cert.ProjSIdeal.main_v14_2) = v1 c
          ∧ r.2.mem ((c.tc : Thread Cert.ProjSIdeal.nD Cert.ProjSIdeal.τ).loc Cert.ProjSIdeal.main_v14_4) = v2 c
          ∧ r.2.mem ((c.tc : Thread Cert.ProjSIdeal.nD Cert.ProjSIdeal.τ).loc Cert.ProjSIdeal.main_v14_5) = v3 c
          ∧ r.2.mem ((c.tc : Thread Cert.ProjSIdeal.nD Cert.ProjSIdeal.τ).loc Cert.ProjSIdeal.main_v14_10) = v4 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v28) = v0 c
          ∧ r.2.mem ((c.tc : Thread Cert.ProjSRefIdeal.nD Cert.ProjSRefIdeal.τ).loc Cert.ProjSRefIdeal.main_v29) = v1 c
          ∧ r.2.mem ((c.tc : Thread Cert.ProjSRefIdeal.nD Cert.ProjSRefIdeal.τ).loc Cert.ProjSRefIdeal.main_v30) = v2 c
          ∧ r.2.mem ((c.tc : Thread Cert.ProjSRefIdeal.nD Cert.ProjSRefIdeal.τ).loc Cert.ProjSRefIdeal.main_v31) = v3 c
          ∧ r.2.mem ((c.tc : Thread Cert.ProjSRefIdeal.nD Cert.ProjSRefIdeal.τ).loc Cert.ProjSRefIdeal.main_v32) = v4 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3))

def preserves_ProjCS_ProjCSIdeal : Prop :=
  True

def algebraic_ProjCSIdeal_ProjCSRefIdeal [hProjCSIdeal : Cert.ProjCSIdeal.Facts] [hProjCSRefIdeal : Cert.ProjCSRefIdeal.Facts] : Prop :=
  ∀ (m : (ℓ : Loc Cert.ProjCSIdeal.nD Cert.ProjCSIdeal.τ Cert.ProjCSIdeal.sig) → Buf (Elt Ideal) ℓ) (g : Dev Cert.ProjCSIdeal.nD → PrngReg)
    (m' : (ℓ : Loc Cert.ProjCSRefIdeal.nD Cert.ProjCSRefIdeal.τ Cert.ProjCSRefIdeal.sig) → Buf (Elt Ideal) ℓ) (g' : Dev Cert.ProjCSRefIdeal.nD → PrngReg), Pre_ProjCSIdeal m →
    (∀ c : Dev Cert.ProjCSIdeal.nD,
      m' ((c.tc : Thread Cert.ProjCSRefIdeal.nD Cert.ProjCSRefIdeal.τ).loc Cert.ProjCSRefIdeal.main_arg0) = m ((c.tc : Thread Cert.ProjCSIdeal.nD Cert.ProjCSIdeal.τ).loc Cert.ProjCSIdeal.main_arg0)
      ∧ m' ((c.tc : Thread Cert.ProjCSRefIdeal.nD Cert.ProjCSRefIdeal.τ).loc Cert.ProjCSRefIdeal.main_arg1) = m ((c.tc : Thread Cert.ProjCSIdeal.nD Cert.ProjCSIdeal.τ).loc Cert.ProjCSIdeal.main_arg1)
      ∧ m' ((c.tc : Thread Cert.ProjCSRefIdeal.nD Cert.ProjCSRefIdeal.τ).loc Cert.ProjCSRefIdeal.main_arg2) = m ((c.tc : Thread Cert.ProjCSIdeal.nD Cert.ProjCSIdeal.τ).loc Cert.ProjCSIdeal.main_arg2)) →
    ∃ (v0 : (c : Dev Cert.ProjCSIdeal.nD) → Buf (Elt Ideal) ((c.tc : Thread Cert.ProjCSIdeal.nD Cert.ProjCSIdeal.τ).loc Cert.ProjCSIdeal.main_v4_1)) (v1 : (c : Dev Cert.ProjCSIdeal.nD) → Buf (Elt Ideal) ((c.tc : Thread Cert.ProjCSIdeal.nD Cert.ProjCSIdeal.τ).loc Cert.ProjCSIdeal.main_v4_2)),
      θ_run (Cert.ProjCSIdeal.defs (F := Ideal)) (onTc (τ := Cert.ProjCSIdeal.τ) (Cert.ProjCSIdeal.main (F := Ideal))) ⟨m, fun _ => 0, g⟩ (fun r => ∀ c : Dev Cert.ProjCSIdeal.nD,
          r.2.mem ((c.tc : Thread Cert.ProjCSIdeal.nD Cert.ProjCSIdeal.τ).loc Cert.ProjCSIdeal.main_v4_1) = v0 c
          ∧ r.2.mem ((c.tc : Thread Cert.ProjCSIdeal.nD Cert.ProjCSIdeal.τ).loc Cert.ProjCSIdeal.main_v4_2) = v1 c
          ∧ r.2.mem ((c.tc : Thread Cert.ProjCSIdeal.nD Cert.ProjCSIdeal.τ).loc Cert.ProjCSIdeal.main_arg0) = m ((c.tc : Thread Cert.ProjCSIdeal.nD Cert.ProjCSIdeal.τ).loc Cert.ProjCSIdeal.main_arg0)
          ∧ r.2.mem ((c.tc : Thread Cert.ProjCSIdeal.nD Cert.ProjCSIdeal.τ).loc Cert.ProjCSIdeal.main_arg1) = m ((c.tc : Thread Cert.ProjCSIdeal.nD Cert.ProjCSIdeal.τ).loc Cert.ProjCSIdeal.main_arg1)
          ∧ r.2.mem ((c.tc : Thread Cert.ProjCSIdeal.nD Cert.ProjCSIdeal.τ).loc Cert.ProjCSIdeal.main_arg2) = m ((c.tc : Thread Cert.ProjCSIdeal.nD Cert.ProjCSIdeal.τ).loc Cert.ProjCSIdeal.main_arg2))
      ∧ θ_run (Cert.ProjCSRefIdeal.defs (F := Ideal)) (onTc (τ := Cert.ProjCSRefIdeal.τ) (Cert.ProjCSRefIdeal.main (F := Ideal))) ⟨m', fun _ => 0, g'⟩ (fun r => ∀ c : Dev Cert.ProjCSRefIdeal.nD,
          r.2.mem ((c.tc : Thread Cert.ProjCSRefIdeal.nD Cert.ProjCSRefIdeal.τ).loc Cert.ProjCSRefIdeal.main_v17) = v0 c
          ∧ r.2.mem ((c.tc : Thread Cert.ProjCSRefIdeal.nD Cert.ProjCSRefIdeal.τ).loc Cert.ProjCSRefIdeal.main_v18) = v1 c
          ∧ r.2.mem ((c.tc : Thread Cert.ProjCSRefIdeal.nD Cert.ProjCSRefIdeal.τ).loc Cert.ProjCSRefIdeal.main_arg0) = m' ((c.tc : Thread Cert.ProjCSRefIdeal.nD Cert.ProjCSRefIdeal.τ).loc Cert.ProjCSRefIdeal.main_arg0)
          ∧ r.2.mem ((c.tc : Thread Cert.ProjCSRefIdeal.nD Cert.ProjCSRefIdeal.τ).loc Cert.ProjCSRefIdeal.main_arg1) = m' ((c.tc : Thread Cert.ProjCSRefIdeal.nD Cert.ProjCSRefIdeal.τ).loc Cert.ProjCSRefIdeal.main_arg1)
          ∧ r.2.mem ((c.tc : Thread Cert.ProjCSRefIdeal.nD Cert.ProjCSRefIdeal.τ).loc Cert.ProjCSRefIdeal.main_arg2) = m' ((c.tc : Thread Cert.ProjCSRefIdeal.nD Cert.ProjCSRefIdeal.τ).loc Cert.ProjCSRefIdeal.main_arg2))

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)
      ∧ m' ((c.tc : Thread Cert.RouteRefIdeal.nD Cert.RouteRefIdeal.τ).loc Cert.RouteRefIdeal.main_arg4) = m ((c.tc : Thread Cert.RouteIdeal.nD Cert.RouteIdeal.τ).loc Cert.RouteIdeal.main_arg4)) →
    ∃ (v0 : (c : Dev Cert.RouteIdeal.nD) → Buf (Elt Ideal) ((c.tc : Thread Cert.RouteIdeal.nD Cert.RouteIdeal.τ).loc Cert.RouteIdeal.main_v4_0)) (v1 : (c : Dev Cert.RouteIdeal.nD) → Buf (Elt Ideal) ((c.tc : Thread Cert.RouteIdeal.nD Cert.RouteIdeal.τ).loc Cert.RouteIdeal.main_v4_1)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v4_0) = v0 c
          ∧ r.2.mem ((c.tc : Thread Cert.RouteIdeal.nD Cert.RouteIdeal.τ).loc Cert.RouteIdeal.main_v4_1) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v3) = v0 c
          ∧ r.2.mem ((c.tc : Thread Cert.RouteRefIdeal.nD Cert.RouteRefIdeal.τ).loc Cert.RouteRefIdeal.main_v19) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3)
          ∧ r.2.mem ((c.tc : Thread Cert.RouteRefIdeal.nD Cert.RouteRefIdeal.τ).loc Cert.RouteRefIdeal.main_arg4) = m' ((c.tc : Thread Cert.RouteRefIdeal.nD Cert.RouteRefIdeal.τ).loc Cert.RouteRefIdeal.main_arg4))

def Claim : Prop :=
  ∃ (hSb : Cert.Sb.Facts) (hSbIdeal : Cert.SbIdeal.Facts) (hSbRefIdeal : Cert.SbRefIdeal.Facts) (hFfn : Cert.Ffn.Facts) (hFfnIdeal : Cert.FfnIdeal.Facts) (hFfnRefIdeal : Cert.FfnRefIdeal.Facts) (hExperts : Cert.Experts.Facts) (hExpertsIdeal : Cert.ExpertsIdeal.Facts) (hExpertsRefIdeal : Cert.ExpertsRefIdeal.Facts) (hProj : Cert.Proj.Facts) (hProjIdeal : Cert.ProjIdeal.Facts) (hProjRefIdeal : Cert.ProjRefIdeal.Facts) (hProjC : Cert.ProjC.Facts) (hProjCIdeal : Cert.ProjCIdeal.Facts) (hProjCRefIdeal : Cert.ProjCRefIdeal.Facts) (hFox : Cert.Fox.Facts) (hFoxIdeal : Cert.FoxIdeal.Facts) (hFoxRefIdeal : Cert.FoxRefIdeal.Facts) (hCombine : Cert.Combine.Facts) (hCombineIdeal : Cert.CombineIdeal.Facts) (hCombineRefIdeal : Cert.CombineRefIdeal.Facts) (hCombineS : Cert.CombineS.Facts) (hCombineSIdeal : Cert.CombineSIdeal.Facts) (hCombineSRefIdeal : Cert.CombineSRefIdeal.Facts) (hProjS : Cert.ProjS.Facts) (hProjSIdeal : Cert.ProjSIdeal.Facts) (hProjSRefIdeal : Cert.ProjSRefIdeal.Facts) (hProjCS : Cert.ProjCS.Facts) (hProjCSIdeal : Cert.ProjCSIdeal.Facts) (hProjCSRefIdeal : Cert.ProjCSRefIdeal.Facts) (hRoute : Cert.Route.Facts) (hRouteIdeal : Cert.RouteIdeal.Facts) (hRouteRefIdeal : Cert.RouteRefIdeal.Facts) (hPre_finite_qk : Cert.Pre_finite_qk.Facts) (hPre_experts_exist : Cert.Pre_experts_exist.Facts) (hPre_finite_qkc : Cert.Pre_finite_qkc.Facts),
    quiescent_Sb (hSb := hSb)
    ∧ quiescent_SbIdeal (hSbIdeal := hSbIdeal)
    ∧ quiescent_SbIdeal_pre_finite_qk (hSbIdeal := hSbIdeal) (hPre_finite_qk := hPre_finite_qk)
    ∧ quiescent_SbRefIdeal (hSbRefIdeal := hSbRefIdeal)
    ∧ quiescent_SbRefIdeal_pre_finite_qk (hSbRefIdeal := hSbRefIdeal) (hPre_finite_qk := hPre_finite_qk)
    ∧ quiescent_Ffn (hFfn := hFfn)
    ∧ quiescent_FfnIdeal (hFfnIdeal := hFfnIdeal)
    ∧ quiescent_FfnRefIdeal (hFfnRefIdeal := hFfnRefIdeal)
    ∧ quiescent_Experts (hExperts := hExperts) (hPre_experts_exist := hPre_experts_exist)
    ∧ quiescent_ExpertsIdeal (hExpertsIdeal := hExpertsIdeal) (hPre_experts_exist := hPre_experts_exist)
    ∧ quiescent_ExpertsRefIdeal (hExpertsRefIdeal := hExpertsRefIdeal) (hPre_experts_exist := hPre_experts_exist)
    ∧ quiescent_Proj (hProj := hProj)
    ∧ quiescent_ProjIdeal (hProjIdeal := hProjIdeal)
    ∧ quiescent_ProjRefIdeal (hProjRefIdeal := hProjRefIdeal)
    ∧ quiescent_ProjC (hProjC := hProjC)
    ∧ quiescent_ProjCIdeal (hProjCIdeal := hProjCIdeal)
    ∧ quiescent_ProjCRefIdeal (hProjCRefIdeal := hProjCRefIdeal)
    ∧ quiescent_Fox (hFox := hFox)
    ∧ quiescent_FoxIdeal (hFoxIdeal := hFoxIdeal)
    ∧ quiescent_FoxIdeal_pre_finite_qkc (hFoxIdeal := hFoxIdeal) (hPre_finite_qkc := hPre_finite_qkc)
    ∧ quiescent_FoxRefIdeal (hFoxRefIdeal := hFoxRefIdeal)
    ∧ quiescent_FoxRefIdeal_pre_finite_qkc (hFoxRefIdeal := hFoxRefIdeal) (hPre_finite_qkc := hPre_finite_qkc)
    ∧ quiescent_Combine (hCombine := hCombine)
    ∧ quiescent_CombineIdeal (hCombineIdeal := hCombineIdeal)
    ∧ quiescent_CombineRefIdeal (hCombineRefIdeal := hCombineRefIdeal)
    ∧ quiescent_CombineS (hCombineS := hCombineS)
    ∧ quiescent_CombineSIdeal (hCombineSIdeal := hCombineSIdeal)
    ∧ quiescent_CombineSRefIdeal (hCombineSRefIdeal := hCombineSRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_ProjCS (hProjCS := hProjCS)
    ∧ quiescent_ProjCSIdeal (hProjCSIdeal := hProjCSIdeal)
    ∧ quiescent_ProjCSRefIdeal (hProjCSRefIdeal := hProjCSRefIdeal)
    ∧ quiescent_Route (hRoute := hRoute)
    ∧ quiescent_RouteIdeal (hRouteIdeal := hRouteIdeal)
    ∧ quiescent_RouteRefIdeal (hRouteRefIdeal := hRouteRefIdeal)
    ∧ preserves_Sb_SbIdeal
    ∧ algebraic_SbIdeal_SbRefIdeal_pre_finite_qk (hSbIdeal := hSbIdeal) (hSbRefIdeal := hSbRefIdeal) (hPre_finite_qk := hPre_finite_qk)
    ∧ preserves_Ffn_FfnIdeal
    ∧ algebraic_FfnIdeal_FfnRefIdeal (hFfnIdeal := hFfnIdeal) (hFfnRefIdeal := hFfnRefIdeal)
    ∧ preserves_Experts_ExpertsIdeal
    ∧ algebraic_ExpertsIdeal_ExpertsRefIdeal (hExpertsIdeal := hExpertsIdeal) (hExpertsRefIdeal := hExpertsRefIdeal) (hPre_experts_exist := hPre_experts_exist)
    ∧ preserves_Proj_ProjIdeal
    ∧ algebraic_ProjIdeal_ProjRefIdeal (hProjIdeal := hProjIdeal) (hProjRefIdeal := hProjRefIdeal)
    ∧ preserves_ProjC_ProjCIdeal
    ∧ algebraic_ProjCIdeal_ProjCRefIdeal (hProjCIdeal := hProjCIdeal) (hProjCRefIdeal := hProjCRefIdeal)
    ∧ preserves_Fox_FoxIdeal
    ∧ algebraic_FoxIdeal_FoxRefIdeal_pre_finite_qkc (hFoxIdeal := hFoxIdeal) (hFoxRefIdeal := hFoxRefIdeal) (hPre_finite_qkc := hPre_finite_qkc)
    ∧ preserves_Combine_CombineIdeal
    ∧ algebraic_CombineIdeal_CombineRefIdeal (hCombineIdeal := hCombineIdeal) (hCombineRefIdeal := hCombineRefIdeal)
    ∧ preserves_CombineS_CombineSIdeal
    ∧ algebraic_CombineSIdeal_CombineSRefIdeal (hCombineSIdeal := hCombineSIdeal) (hCombineSRefIdeal := hCombineSRefIdeal)
    ∧ preserves_ProjS_ProjSIdeal
    ∧ algebraic_ProjSIdeal_ProjSRefIdeal (hProjSIdeal := hProjSIdeal) (hProjSRefIdeal := hProjSRefIdeal)
    ∧ preserves_ProjCS_ProjCSIdeal
    ∧ algebraic_ProjCSIdeal_ProjCSRefIdeal (hProjCSIdeal := hProjCSIdeal) (hProjCSRefIdeal := hProjCSRefIdeal)
    ∧ preserves_Route_RouteIdeal
    ∧ algebraic_RouteIdeal_RouteRefIdeal (hRouteIdeal := hRouteIdeal) (hRouteRefIdeal := hRouteRefIdeal)
-- ==== Pre_experts_exist.lean ====
abbrev S136 : Shape := ⟨1, ![136]⟩
abbrev S1 : Shape := ⟨1, ![1]⟩
abbrev S4x139264x256 : Shape := ⟨3, ![4, 139264, 256]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)

variable [Facts]

def fn {F : FTy → Type} [FloatOps F] (main_arg0 : IVec S136 32) (main_arg1 : IVec S1 32) (main_arg2 : FVec F S4x139264x256 .f32) (main_arg3 : FVec F S8x1024x3584 .f32) (main_arg4 : FVec F S8x1024x3584 .f32) (main_arg5 : FVec F S8x3584x1024 .f32) : IVec S136 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  main_v4
-- ==== Pre_finite_qk.lean ====
abbrev S16x4096x512 : Shape := ⟨3, ![16, 4096, 512]⟩
abbrev S_ : Shape := ⟨0, ![]⟩

class Facts : Prop where
  bitsLt_bf16_f32 : FTy.bits .bf16 < FTy.bits .f32
  bcast_S_S16x4096x512 : S_.BroadcastsInDim S16x4096x512 (![] : Fin 0 → Fin S16x4096x512.rank)

variable [Facts]

def fn {F : FTy → Type} [FloatOps F] (main_arg0 : FVec F S16x4096x512 .bf16) (main_arg1 : FVec F S16x4096x512 .bf16) (main_arg2 : FVec F S16x4096x512 .bf16) : IVec S16x4096x512 1 :=
  let main_v0 : FVec F S16x4096x512 .f32 := (extf .f32 · bitsLt_bf16_f32) main_arg0
  let main_v1 : FVec F S16x4096x512 .f32 := Host.absf main_v0
  let main_cst : FVec F S_ .f32 := constant S_ .f32 0x7F800000#32
  let main_v2 : FVec F S16x4096x512 .f32 := broadcastInDim S16x4096x512 ![] bcast_S_S16x4096x512 main_cst
  let main_v3 : IVec S16x4096x512 1 := cmpf .olt main_v1 main_v2
  let main_v4 : FVec F S16x4096x512 .f32 := (extf .f32 · bitsLt_bf16_f32) main_arg1
  let main_v5 : FVec F S16x4096x512 .f32 := Host.absf main_v4
  let main_cst_0 : FVec F S_ .f32 := constant S_ .f32 0x7F800000#32
  let main_v6 : FVec F S16x4096x512 .f32 := broadcastInDim S16x4096x512 ![] bcast_S_S16x4096x512 main_cst_0
  let main_v7 : IVec S16x4096x512 1 := cmpf .olt main_v5 main_v6
  let main_v8 : IVec S16x4096x512 1 := andi main_v3 main_v7
  main_v8
-- ==== Pre_finite_qkc.lean ====
abbrev S16x4096x512 : Shape := ⟨3, ![16, 4096, 512]⟩
abbrev S16x4096x8 : Shape := ⟨3, ![16, 4096, 8]⟩
abbrev S_ : Shape := ⟨0, ![]⟩

class Facts : Prop where
  bitsLt_bf16_f32 : FTy.bits .bf16 < FTy.bits .f32
  bcast_S_S16x4096x512 : S_.BroadcastsInDim S16x4096x512 (![] : Fin 0 → Fin S16x4096x512.rank)
  bcast_S_S16x4096x8 : S_.BroadcastsInDim S16x4096x8 (![] : Fin 0 → Fin S16x4096x8.rank)

variable [Facts]

def fn {F : FTy → Type} [FloatOps F] (main_arg0 : FVec F S16x4096x512 .bf16) (main_arg1 : FVec F S16x4096x512 .bf16) (main_arg2 : FVec F S16x4096x512 .bf16) (main_arg3 : FVec F S16x4096x8 .f32) : IVec S16x4096x512 1 × IVec S16x4096x8 1 :=
  let main_v0 : FVec F S16x4096x512 .f32 := (extf .f32 · bitsLt_bf16_f32) main_arg0
  let main_v1 : FVec F S16x4096x512 .f32 := Host.absf main_v0
  let main_cst : FVec F S_ .f32 := constant S_ .f32 0x7F800000#32
  let main_v2 : FVec F S16x4096x512 .f32 := broadcastInDim S16x4096x512 ![] bcast_S_S16x4096x512 main_cst
  let main_v3 : IVec S16x4096x512 1 := cmpf .olt main_v1 main_v2
  let main_v4 : FVec F S16x4096x512 .f32 := (extf .f32 · bitsLt_bf16_f32) main_arg1
  let main_v5 : FVec F S16x4096x512 .f32 := Host.absf main_v4
  let main_cst_0 : FVec F S_ .f32 := constant S_ .f32 0x7F800000#32
  let main_v6 : FVec F S16x4096x512 .f32 := broadcastInDim S16x4096x512 ![] bcast_S_S16x4096x512 main_cst_0
  let main_v7 : IVec S16x4096x512 1 := cmpf .olt main_v5 main_v6
  let main_v8 : IVec S16x4096x512 1 := andi main_v3 main_v7
  let main_v9 : FVec F S16x4096x8 .f32 := Host.absf main_arg3
  let main_cst_1 : FVec F S_ .f32 := constant S_ .f32 0x7F800000#32
  let main_v10 : FVec F S16x4096x8 .f32 := broadcastInDim S16x4096x8 ![] bcast_S_S16x4096x8 main_cst_1
  let main_v11 : IVec S16x4096x8 1 := cmpf .olt main_v9 main_v10
  (main_v8, main_v11)
-- ==== Sb.lean ====
abbrev S16x4096x512 : Shape := ⟨3, ![16, 4096, 512]⟩
abbrev S1x512x128 : Shape := ⟨3, ![1, 512, 128]⟩
abbrev S1x4096x128 : Shape := ⟨3, ![1, 4096, 128]⟩
abbrev S1024x128 : Shape := ⟨2, ![1024, 128]⟩
abbrev S512x128 : Shape := ⟨2, ![512, 128]⟩
abbrev S1024x512 : Shape := ⟨2, ![1024, 512]⟩
abbrev S256x256 : Shape := ⟨2, ![256, 256]⟩
abbrev S1024x1 : Shape := ⟨2, ![1024, 1]⟩
abbrev S1024x256 : Shape := ⟨2, ![1024, 256]⟩
abbrev S256x128 : Shape := ⟨2, ![256, 128]⟩

abbrev nBuf : Space → Nat
  | .hbm => 4
  | .vmem => 13
  | .smem => 0
  | _ => 0

abbrev bufTy : (tb : Table) → Fin (tcTables nBuf tb) → BufTy
  | .hbm, ⟨0, _⟩ => ⟨S16x4096x512, .bf16⟩
  | .hbm, ⟨1, _⟩ => ⟨S16x4096x512, .bf16⟩
  | .hbm, ⟨2, _⟩ => ⟨S16x4096x512, .bf16⟩
  | .hbm, ⟨3, _⟩ => ⟨S16x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x512x128, .bf16⟩
  | .local _ .vmem, ⟨11, _⟩ => ⟨S1x512x128, .bf16⟩
  | .local _ .vmem, ⟨12, _⟩ => ⟨S1024x128, .f32⟩
  | _, _ => ⟨S16x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 8], ![false, false, false]⟩

@[reducible] def k0_t1_loop (i : grid0.Coords) : Scf.Loop 32 :=
  let c0_i32_52 : BitVec 32 := 0#32
  let c0_i32_51 : BitVec 32 := 0#32
  let arg2 : BitVec 32 := BitVec.ofNat 32 (i 2).val
  let c0_i32_44 : BitVec 32 := 0#32
  let v128 : BitVec 1 := Scalar.cmpi .sgt arg2 c0_i32_44
  let v129 : BitVec 32 := Scalar.extui v128
  let c0_i32_45 : BitVec 32 := 0#32
  let v130 : BitVec 1 := Scalar.cmpi .slt arg2 c0_i32_45
  let v131 : BitVec 32 := Scalar.extui v130
  let v132 : BitVec 32 := Scalar.subi v129 v131
  let c1_i32_43 : BitVec 32 := 1#32
  let c0_i32_46 : BitVec 32 := 0#32
  let v133 : BitVec 1 := Scalar.cmpi .sgt c1_i32_43 c0_i32_46
  let v134 : BitVec 32 := Scalar.extui v133
  let c0_i32_47 : BitVec 32 := 0#32
  let v135 : BitVec 1 := Scalar.cmpi .slt c1_i32_43 c0_i32_47
  let v136 : BitVec 32 := Scalar.extui v135
  let v137 : BitVec 32 := Scalar.subi v134 v136
  let v138 : BitVec 1 := Scalar.cmpi .ne v132 v137
  let v139 : BitVec 32 := Scalar.remsi arg2 c1_i32_43
  let c0_i32_48 : BitVec 32 := 0#32
  let v140 : BitVec 1 := Scalar.cmpi .ne v139 c0_i32_48
  let v141 : BitVec 1 := Scalar.andi v138 v140
  let v127 : BitVec 32 := Scalar.divsi arg2 c1_i32_43
  let c1_i32_49 : BitVec 32 := 1#32
  let v142 : BitVec 32 := Scalar.subi v127 c1_i32_49
  let v143 : BitVec 32 := Scalar.select v141 v142 v127
  let c1_i32_50 : BitVec 32 := 1#32
  let v144 : BitVec 32 := Scalar.muli v143 c1_i32_50
  let v145 : BitVec 32 := Scalar.addi c0_i32_51 v144
  let v146 : BitVec 32 := Scalar.subi v145 c0_i32_52
  let c1_i32_53 : BitVec 32 := 1#32
  let v148 : BitVec 32 := Scalar.divsi v146 c1_i32_53
  let v149 : BitVec 32 := Scalar.muli v148 c1_i32_53
  let v150 : BitVec 32 := Scalar.addi c0_i32_52 v149
  let c1_i32_54 : BitVec 32 := 1#32
  ⟨c0_i32_52, v150, c1_i32_54⟩
def k0_mult1 (i : grid0.Coords) (k0_t1 : Fin (k0_t1_loop i).trips) : BitVec 32 :=
  let c0_i32_51 : BitVec 32 := 0#32
  let arg2 : BitVec 32 := BitVec.ofNat 32 (i 2).val
  let c0_i32_44 : BitVec 32 := 0#32
  let v128 : BitVec 1 := Scalar.cmpi .sgt arg2 c0_i32_44
  let v129 : BitVec 32 := Scalar.extui v128
  let c0_i32_45 : BitVec 32 := 0#32
  let v130 : BitVec 1 := Scalar.cmpi .slt arg2 c0_i32_45
  let v131 : BitVec 32 := Scalar.extui v130
  let v132 : BitVec 32 := Scalar.subi v129 v131
  let c1_i32_43 : BitVec 32 := 1#32
  let c0_i32_46 : BitVec 32 := 0#32
  let v133 : BitVec 1 := Scalar.cmpi .sgt c1_i32_43 c0_i32_46
  let v134 : BitVec 32 := Scalar.extui v133
  let c0_i32_47 : BitVec 32 := 0#32
  let v135 : BitVec 1 := Scalar.cmpi .slt c1_i32_43 c0_i32_47
  let v136 : BitVec 32 := Scalar.extui v135
  let v137 : BitVec 32 := Scalar.subi v134 v136
  let v138 : BitVec 1 := Scalar.cmpi .ne v132 v137
  let v139 : BitVec 32 := Scalar.remsi arg2 c1_i32_43
  let c0_i32_48 : BitVec 32 := 0#32
  let v140 : BitVec 1 := Scalar.cmpi .ne v139 c0_i32_48
  let v141 : BitVec 1 := Scalar.andi v138 v140
  let v127 : BitVec 32 := Scalar.divsi arg2 c1_i32_43
  let c1_i32_49 : BitVec 32 := 1#32
  let v142 : BitVec 32 := Scalar.subi v127 c1_i32_49
  let v143 : BitVec 32 := Scalar.select v141 v142 v127
  let c1_i32_50 : BitVec 32 := 1#32
  let v144 : BitVec 32 := Scalar.muli v143 c1_i32_50
  let v145 : BitVec 32 := Scalar.addi c0_i32_51 v144
  let c1_i32_62 : BitVec 32 := 1#32
  let v164 : BitVec 32 := Scalar.subi v145 c1_i32_62
  let c0_i32_52 : BitVec 32 := 0#32
  let c1_i32_54 : BitVec 32 := 1#32
  let arg10 : BitVec 32 := Scf.iv c0_i32_52 c1_i32_54 k0_t1
  let v165 : BitVec 32 := Scalar.subi v164 arg10
  let c512_i32_63 : BitVec 32 := 512#32
  let v166 : BitVec 32 := Scalar.muli v165 c512_i32_63
  v166
def k0_off1 (i : grid0.Coords) (k0_t1 : Fin (k0_t1_loop i).trips) : Fin 3 → Nat :=
  let c0_64 : Index := 0#32
  let c0_i32_51 : BitVec 32 := 0#32
  let arg2 : BitVec 32 := BitVec.ofNat 32 (i 2).val
  let c0_i32_44 : BitVec 32 := 0#32
  let v128 : BitVec 1 := Scalar.cmpi .sgt arg2 c0_i32_44
  let v129 : BitVec 32 := Scalar.extui v128
  let c0_i32_45 : BitVec 32 := 0#32
  let v130 : BitVec 1 := Scalar.cmpi .slt arg2 c0_i32_45
  let v131 : BitVec 32 := Scalar.extui v130
  let v132 : BitVec 32 := Scalar.subi v129 v131
  let c1_i32_43 : BitVec 32 := 1#32
  let c0_i32_46 : BitVec 32 := 0#32
  let v133 : BitVec 1 := Scalar.cmpi .sgt c1_i32_43 c0_i32_46
  let v134 : BitVec 32 := Scalar.extui v133
  let c0_i32_47 : BitVec 32 := 0#32
  let v135 : BitVec 1 := Scalar.cmpi .slt c1_i32_43 c0_i32_47
  let v136 : BitVec 32 := Scalar.extui v135
  let v137 : BitVec 32 := Scalar.subi v134 v136
  let v138 : BitVec 1 := Scalar.cmpi .ne v132 v137
  let v139 : BitVec 32 := Scalar.remsi arg2 c1_i32_43
  let c0_i32_48 : BitVec 32 := 0#32
  let v140 : BitVec 1 := Scalar.cmpi .ne v139 c0_i32_48
  let v141 : BitVec 1 := Scalar.andi v138 v140
  let v127 : BitVec 32 := Scalar.divsi arg2 c1_i32_43
  let c1_i32_49 : BitVec 32 := 1#32
  let v142 : BitVec 32 := Scalar.subi v127 c1_i32_49
  let v143 : BitVec 32 := Scalar.select v141 v142 v127
  let c1_i32_50 : BitVec 32 := 1#32
  let v144 : BitVec 32 := Scalar.muli v143 c1_i32_50
  let v145 : BitVec 32 := Scalar.addi c0_i32_51 v144
  let c1_i32_62 : BitVec 32 := 1#32
  let v164 : BitVec 32 := Scalar.subi v145 c1_i32_62
  let c0_i32_52 : BitVec 32 := 0#32
  let c1_i32_54 : BitVec 32 := 1#32
  let arg10 : BitVec 32 := Scf.iv c0_i32_52 c1_i32_54 k0_t1
  let v165 : BitVec 32 := Scalar.subi v164 arg10
  let c512_i32_63 : BitVec 32 := 512#32
  let v166 : BitVec 32 := Scalar.muli v165 c512_i32_63
  let v167 : BitVec 32 := v166
  let v168 : Index := Scalar.indexCast v167
  let c0_65 : Index := 0#32
  ![0, v168.toNat, 0]
@[reducible] def k0_t2_loop (i : grid0.Coords) : Scf.Loop 32 :=
  let c0_i32_52 : BitVec 32 := 0#32
  let c0_i32_51 : BitVec 32 := 0#32
  let arg2 : BitVec 32 := BitVec.ofNat 32 (i 2).val
  let c0_i32_44 : BitVec 32 := 0#32
  let v128 : BitVec 1 := Scalar.cmpi .sgt arg2 c0_i32_44
  let v129 : BitVec 32 := Scalar.extui v128
  let c0_i32_45 : BitVec 32 := 0#32
  let v130 : BitVec 1 := Scalar.cmpi .slt arg2 c0_i32_45
  let v131 : BitVec 32 := Scalar.extui v130
  let v132 : BitVec 32 := Scalar.subi v129 v131
  let c1_i32_43 : BitVec 32 := 1#32
  let c0_i32_46 : BitVec 32 := 0#32
  let v133 : BitVec 1 := Scalar.cmpi .sgt c1_i32_43 c0_i32_46
  let v134 : BitVec 32 := Scalar.extui v133
  let c0_i32_47 : BitVec 32 := 0#32
  let v135 : BitVec 1 := Scalar.cmpi .slt c1_i32_43 c0_i32_47
  let v136 : BitVec 32 := Scalar.extui v135
  let v137 : BitVec 32 := Scalar.subi v134 v136
  let v138 : BitVec 1 := Scalar.cmpi .ne v132 v137
  let v139 : BitVec 32 := Scalar.remsi arg2 c1_i32_43
  let c0_i32_48 : BitVec 32 := 0#32
  let v140 : BitVec 1 := Scalar.cmpi .ne v139 c0_i32_48
  let v141 : BitVec 1 := Scalar.andi v138 v140
  let v127 : BitVec 32 := Scalar.divsi arg2 c1_i32_43
  let c1_i32_49 : BitVec 32 := 1#32
  let v142 : BitVec 32 := Scalar.subi v127 c1_i32_49
  let v143 : BitVec 32 := Scalar.select v141 v142 v127
  let c1_i32_50 : BitVec 32 := 1#32
  let v144 : BitVec 32 := Scalar.muli v143 c1_i32_50
  let v145 : BitVec 32 := Scalar.addi c0_i32_51 v144
  let v146 : BitVec 32 := Scalar.subi v145 c0_i32_52
  let c1_i32_53 : BitVec 32 := 1#32
  let v148 : BitVec 32 := Scalar.divsi v146 c1_i32_53
  let v149 : BitVec 32 := Scalar.muli v148 c1_i32_53
  let v150 : BitVec 32 := Scalar.addi c0_i32_52 v149
  let v147 : BitVec 32 := Scalar.addi c0_i32_52 v146
  let c1_i32_55 : BitVec 32 := 1#32
  ⟨v150, v147, c1_i32_55⟩
def k0_mult2 (i : grid0.Coords) (k0_t2 : Fin (k0_t2_loop i).trips) : BitVec 32 :=
  let c0_i32_51 : BitVec 32 := 0#32
  let arg2 : BitVec 32 := BitVec.ofNat 32 (i 2).val
  let c0_i32_44 : BitVec 32 := 0#32
  let v128 : BitVec 1 := Scalar.cmpi .sgt arg2 c0_i32_44
  let v129 : BitVec 32 := Scalar.extui v128
  let c0_i32_45 : BitVec 32 := 0#32
  let v130 : BitVec 1 := Scalar.cmpi .slt arg2 c0_i32_45
  let v131 : BitVec 32 := Scalar.extui v130
  let v132 : BitVec 32 := Scalar.subi v129 v131
  let c1_i32_43 : BitVec 32 := 1#32
  let c0_i32_46 : BitVec 32 := 0#32
  let v133 : BitVec 1 := Scalar.cmpi .sgt c1_i32_43 c0_i32_46
  let v134 : BitVec 32 := Scalar.extui v133
  let c0_i32_47 : BitVec 32 := 0#32
  let v135 : BitVec 1 := Scalar.cmpi .slt c1_i32_43 c0_i32_47
  let v136 : BitVec 32 := Scalar.extui v135
  let v137 : BitVec 32 := Scalar.subi v134 v136
  let v138 : BitVec 1 := Scalar.cmpi .ne v132 v137
  let v139 : BitVec 32 := Scalar.remsi arg2 c1_i32_43
  let c0_i32_48 : BitVec 32 := 0#32
  let v140 : BitVec 1 := Scalar.cmpi .ne v139 c0_i32_48
  let v141 : BitVec 1 := Scalar.andi v138 v140
  let v127 : BitVec 32 := Scalar.divsi arg2 c1_i32_43
  let c1_i32_49 : BitVec 32 := 1#32
  let v142 : BitVec 32 := Scalar.subi v127 c1_i32_49
  let v143 : BitVec 32 := Scalar.select v141 v142 v127
  let c1_i32_50 : BitVec 32 := 1#32
  let v144 : BitVec 32 := Scalar.muli v143 c1_i32_50
  let v145 : BitVec 32 := Scalar.addi c0_i32_51 v144
  let c1_i32_62 : BitVec 32 := 1#32
  let v164 : BitVec 32 := Scalar.subi v145 c1_i32_62
  let c0_i32_52 : BitVec 32 := 0#32
  let v146 : BitVec 32 := Scalar.subi v145 c0_i32_52
  let c1_i32_53 : BitVec 32 := 1#32
  let v148 : BitVec 32 := Scalar.divsi v146 c1_i32_53
  let v149 : BitVec 32 := Scalar.muli v148 c1_i32_53
  let v150 : BitVec 32 := Scalar.addi c0_i32_52 v149
  let c1_i32_55 : BitVec 32 := 1#32
  let arg10 : BitVec 32 := Scf.iv v150 c1_i32_55 k0_t2
  let v165 : BitVec 32 := Scalar.subi v164 arg10
  let c512_i32_63 : BitVec 32 := 512#32
  let v166 : BitVec 32 := Scalar.muli v165 c512_i32_63
  v166
def k0_off2 (i : grid0.Coords) (k0_t2 : Fin (k0_t2_loop i).trips) : Fin 3 → Nat :=
  let c0_64 : Index := 0#32
  let c0_i32_51 : BitVec 32 := 0#32
  let arg2 : BitVec 32 := BitVec.ofNat 32 (i 2).val
  let c0_i32_44 : BitVec 32 := 0#32
  let v128 : BitVec 1 := Scalar.cmpi .sgt arg2 c0_i32_44
  let v129 : BitVec 32 := Scalar.extui v128
  let c0_i32_45 : BitVec 32 := 0#32
  let v130 : BitVec 1 := Scalar.cmpi .slt arg2 c0_i32_45
  let v131 : BitVec 32 := Scalar.extui v130
  let v132 : BitVec 32 := Scalar.subi v129 v131
  let c1_i32_43 : BitVec 32 := 1#32
  let c0_i32_46 : BitVec 32 := 0#32
  let v133 : BitVec 1 := Scalar.cmpi .sgt c1_i32_43 c0_i32_46
  let v134 : BitVec 32 := Scalar.extui v133
  let c0_i32_47 : BitVec 32 := 0#32
  let v135 : BitVec 1 := Scalar.cmpi .slt c1_i32_43 c0_i32_47
  let v136 : BitVec 32 := Scalar.extui v135
  let v137 : BitVec 32 := Scalar.subi v134 v136
  let v138 : BitVec 1 := Scalar.cmpi .ne v132 v137
  let v139 : BitVec 32 := Scalar.remsi arg2 c1_i32_43
  let c0_i32_48 : BitVec 32 := 0#32
  let v140 : BitVec 1 := Scalar.cmpi .ne v139 c0_i32_48
  let v141 : BitVec 1 := Scalar.andi v138 v140
  let v127 : BitVec 32 := Scalar.divsi arg2 c1_i32_43
  let c1_i32_49 : BitVec 32 := 1#32
  let v142 : BitVec 32 := Scalar.subi v127 c1_i32_49
  let v143 : BitVec 32 := Scalar.select v141 v142 v127
  let c1_i32_50 : BitVec 32 := 1#32
  let v144 : BitVec 32 := Scalar.muli v143 c1_i32_50
  let v145 : BitVec 32 := Scalar.addi c0_i32_51 v144
  let c1_i32_62 : BitVec 32 := 1#32
  let v164 : BitVec 32 := Scalar.subi v145 c1_i32_62
  let c0_i32_52 : BitVec 32 := 0#32
  let v146 : BitVec 32 := Scalar.subi v145 c0_i32_52
  let c1_i32_53 : BitVec 32 := 1#32
  let v148 : BitVec 32 := Scalar.divsi v146 c1_i32_53
  let v149 : BitVec 32 := Scalar.muli v148 c1_i32_53
  let v150 : BitVec 32 := Scalar.addi c0_i32_52 v149
  let c1_i32_55 : BitVec 32 := 1#32
  let arg10 : BitVec 32 := Scf.iv v150 c1_i32_55 k0_t2
  let v165 : BitVec 32 := Scalar.subi v164 arg10
  let c512_i32_63 : BitVec 32 := 512#32
  let v166 : BitVec 32 := Scalar.muli v165 c512_i32_63
  let v167 : BitVec 32 := v166
  let v168 : Index := Scalar.indexCast v167
  let c0_65 : Index := 0#32
  ![0, v168.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== SbIdeal.lean ====
variable {F : FTy → Type} [FloatOps F] [Named F]
def κ : String → Option EReal := fun
  | "log2e" => some (((Real.log 2)⁻¹ : ℝ) : EReal)
  | _ => none
-- ==== SbRefIdeal.lean ====
abbrev S16x4096x512 : Shape := ⟨3, ![16, 4096, 512]⟩
abbrev S16x4096x8x64 : Shape := ⟨4, ![16, 4096, 8, 64]⟩
abbrev S4096 : Shape := ⟨1, ![4096]⟩
abbrev S16x8x4096x4096 : Shape := ⟨4, ![16, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S16x8x64x4096 : Shape := ⟨4, ![16, 8, 64, 4096]⟩

abbrev nBuf : Space → Nat
  | .hbm => 73
  | .vmem => 0
  | .smem => 0
  | _ => 0

abbrev bufTy : (tb : Table) → Fin (tcTables nBuf tb) → BufTy
  | .hbm, ⟨0, _⟩ => ⟨S16x4096x512, .bf16⟩
  | .hbm, ⟨1, _⟩ => ⟨S16x4096x512, .bf16⟩
  | .hbm, ⟨2, _⟩ => ⟨S16x4096x512, .bf16⟩
  | .hbm, ⟨3, _⟩ => ⟨S16x4096x512, .f32⟩
  | .hbm, ⟨4, _⟩ => ⟨S16x4096x8x64, .f32⟩
  | .hbm, ⟨5, _⟩ => ⟨S16x4096x512, .f32⟩
  | .hbm, ⟨6, _⟩ => ⟨S16x4096x8x64, .f32⟩
  | .hbm, ⟨7, _⟩ => ⟨S16x4096x512, .f32⟩
  | .hbm, ⟨8, _⟩ => ⟨S16x4096x8x64, .f32⟩
  | .hbm, ⟨9, _⟩ => ⟨S4096, .i32⟩
  | .hbm, ⟨10, _⟩ => ⟨S16x8x4096x4096, .f32⟩
  | .hbm, ⟨11, _⟩ => ⟨S_, .f32⟩
  | .hbm, ⟨12, _⟩ => ⟨S_, .f32⟩
  | .hbm, ⟨13, _⟩ => ⟨S16x8x4096x4096, .f32⟩
  | .hbm, ⟨14, _⟩ => ⟨S16x8x4096x4096, .f32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S16x8x4096x4096, .f32⟩
  | .hbm, ⟨21, _⟩ => ⟨S16x8x4096x4096, .f32⟩
  | .hbm, ⟨22, _⟩ => ⟨S_, .f32⟩
  | .hbm, ⟨23, _⟩ => ⟨S16x8x4096x4096, .f32⟩
  | .hbm, ⟨24, _⟩ => ⟨S16x8x4096x4096, .f32⟩
  | .hbm, ⟨25, _⟩ => ⟨S16x8x4096x4096, .f32⟩
  | .hbm, ⟨26, _⟩ => ⟨S16x8x4096x4096, .f32⟩
  | .hbm, ⟨27, _⟩ => ⟨S16x8x4096x4096, .i1⟩
  | .hbm, ⟨28, _⟩ => ⟨S16x8x4096x4096, .f32⟩
  | .hbm, ⟨29, _⟩ => ⟨S16x8x4096x4096, .f32⟩
  | .hbm, ⟨30, _⟩ => ⟨S16x8x4096x4096, .f32⟩
  | .hbm, ⟨31, _⟩ => ⟨S16x8x4096x4096, .f32⟩
  | .hbm, ⟨32, _⟩ => ⟨S16x8x4096x4096, .f32⟩
  | .hbm, ⟨33, _⟩ => ⟨S16x8x4096x4096, .f32⟩
  | .hbm, ⟨34, _⟩ => ⟨S16x8x4096x4096, .f32⟩
  | .hbm, ⟨35, _⟩ => ⟨S16x8x4096x4096, .f32⟩
  | .hbm, ⟨36, _⟩ => ⟨S16x8x4096x4096, .f32⟩
  | .hbm, ⟨37, _⟩ => ⟨S_, .f32⟩
  | .hbm, ⟨38, _⟩ => ⟨S_, .f32⟩
  | .hbm, ⟨39, _⟩ => ⟨S16x8x4096x4096, .i1⟩
  | .hbm, ⟨40, _⟩ => ⟨S16x8x4096x4096, .f32⟩
  | .hbm, ⟨41, _⟩ => ⟨S16x8x4096x4096, .f32⟩
  | .hbm, ⟨42, _⟩ => ⟨S_, .f32⟩
  | .hbm, ⟨43, _⟩ => ⟨S_, .f32⟩
  | .hbm, ⟨44, _⟩ => ⟨S16x8x4096x4096, .f32⟩
  | .hbm, ⟨45, _⟩ => ⟨S16x8x4096x4096, .f32⟩
  | .hbm, ⟨46, _⟩ => ⟨S16x8x4096x4096, .f32⟩
  | .hbm, ⟨47, _⟩ => ⟨S_, .f32⟩
  | .hbm, ⟨48, _⟩ => ⟨S16x8x4096x4096, .f32⟩
  | .hbm, ⟨49, _⟩ => ⟨S16x8x4096x4096, .f32⟩
  | .hbm, ⟨50, _⟩ => ⟨S16x8x4096x4096, .f32⟩
  | .hbm, ⟨51, _⟩ => ⟨S16x8x4096x4096, .f32⟩
  | .hbm, ⟨52, _⟩ => ⟨S16x8x4096x4096, .i1⟩
  | .hbm, ⟨53, _⟩ => ⟨S16x8x4096x4096, .f32⟩
  | .hbm, ⟨54, _⟩ => ⟨S16x8x4096x4096, .f32⟩
  | .hbm, ⟨55, _⟩ => ⟨S16x8x4096x4096, .f32⟩
  | .hbm, ⟨56, _⟩ => ⟨S16x8x4096x4096, .f32⟩
  | .hbm, ⟨57, _⟩ => ⟨S16x8x4096x4096, .f32⟩
  | .hbm, ⟨58, _⟩ => ⟨S16x8x4096x4096, .f32⟩
  | .hbm, ⟨59, _⟩ => ⟨S16x8x4096x4096, .f32⟩
  | .hbm, ⟨60, _⟩ => ⟨S16x8x4096x4096, .f32⟩
  | .hbm, ⟨61, _⟩ => ⟨S16x8x4096x4096, .f32⟩
  | .hbm, ⟨62, _⟩ => ⟨S16x8x4096x4096, .f32⟩
  | .hbm, ⟨63, _⟩ => ⟨S16x8x4096x4096, .f32⟩
  | .hbm, ⟨64, _⟩ => ⟨S_, .f32⟩
  | .hbm, ⟨65, _⟩ => ⟨S_, .f32⟩
  | .hbm, ⟨66, _⟩ => ⟨S16x8x4096x4096, .i1⟩
  | .hbm, ⟨67, _⟩ => ⟨S16x8x4096x4096, .f32⟩
  | .hbm, ⟨68, _⟩ => ⟨S16x8x4096x4096, .f32⟩
  | .hbm, ⟨69, _⟩ => ⟨S16x8x64x4096, .f32⟩
  | .hbm, ⟨70, _⟩ => ⟨S16x4096x8x64, .f32⟩
  | .hbm, ⟨71, _⟩ => ⟨S16x4096x512, .f32⟩
  | .hbm, ⟨72, _⟩ => ⟨S16x4096x512, .bf16⟩
  | _, _ => ⟨S16x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v17 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_call2_cst : Ref sig .tc := ⟨.hbm, 42, rfl⟩
abbrev main_call2_v0 : Ref sig .tc := ⟨.hbm, 43, rfl⟩
abbrev main_v19 : Ref sig .tc := ⟨.hbm, 44, rfl⟩
abbrev main_v20 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩

abbrev nD : Nat := 1
abbrev τ : Topo := Topo.v7x

variable {F : FTy → Type} [FloatOps F]
-- ==== Ffn.lean ====
abbrev S65536x1024 : Shape := ⟨2, ![65536, 1024]⟩
abbrev S65536x512 : Shape := ⟨2, ![65536, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 19
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024x1024, .f32⟩
  | .hbm, ⟨9, _⟩ => ⟨S1024x1024, .bf16⟩
  | .hbm, ⟨10, _⟩ => ⟨S1024, .f32⟩
  | .hbm, ⟨11, _⟩ => ⟨S1x1024, .f32⟩
  | .hbm, ⟨12, _⟩ => ⟨S1024x2816, .f32⟩
  | .hbm, ⟨13, _⟩ => ⟨S1024x2816, .bf16⟩
  | .hbm, ⟨14, _⟩ => ⟨S1024x2816, .f32⟩
  | .hbm, ⟨15, _⟩ => ⟨S1024x2816, .bf16⟩
  | .hbm, ⟨16, _⟩ => ⟨S2816x1024, .f32⟩
  | .hbm, ⟨17, _⟩ => ⟨S2816x1024, .bf16⟩
  | .hbm, ⟨18, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnRefIdeal.lean ====
abbrev S65536x1024 : Shape := ⟨2, ![65536, 1024]⟩
abbrev S65536x512 : Shape := ⟨2, ![65536, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x2816 : Shape := ⟨2, ![1024, 2816]⟩
abbrev S2816x1024 : Shape := ⟨2, ![2816, 1024]⟩
abbrev S65536x2816 : Shape := ⟨2, ![65536, 2816]⟩

abbrev nBuf : Space → Nat
  | .hbm => 48
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S65536x512, .f32⟩
  | .hbm, ⟨9, _⟩ => ⟨S65536x512, .f32⟩
  | .hbm, ⟨10, _⟩ => ⟨S65536x1024, .f32⟩
  | .hbm, ⟨11, _⟩ => ⟨S1024x1024, .f32⟩
  | .hbm, ⟨12, _⟩ => ⟨S65536x1024, .f32⟩
  | .hbm, ⟨13, _⟩ => ⟨S65536x1024, .f32⟩
  | .hbm, ⟨14, _⟩ => ⟨S1024, .f32⟩
  | .hbm, ⟨15, _⟩ => ⟨S65536x1024, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x1, .f32⟩
  | .hbm, ⟨26, _⟩ => ⟨S65536x1024, .f32⟩
  | .hbm, ⟨27, _⟩ => ⟨S65536x1024, .f32⟩
  | .hbm, ⟨28, _⟩ => ⟨S1x1024, .f32⟩
  | .hbm, ⟨29, _⟩ => ⟨S65536x1024, .f32⟩
  | .hbm, ⟨30, _⟩ => ⟨S65536x1024, .f32⟩
  | .hbm, ⟨31, _⟩ => ⟨S1024x2816, .f32⟩
  | .hbm, ⟨32, _⟩ => ⟨S1024x2816, .f32⟩
  | .hbm, ⟨33, _⟩ => ⟨S2816x1024, .f32⟩
  | .hbm, ⟨34, _⟩ => ⟨S65536x2816, .f32⟩
  | .hbm, ⟨35, _⟩ => ⟨S65536x2816, .f32⟩
  | .hbm, ⟨36, _⟩ => ⟨S65536x2816, .f32⟩
  | .hbm, ⟨37, _⟩ => ⟨S_, .f32⟩
  | .hbm, ⟨38, _⟩ => ⟨S65536x2816, .f32⟩
  | .hbm, ⟨39, _⟩ => ⟨S65536x2816, .f32⟩
  | .hbm, ⟨40, _⟩ => ⟨S_, .f32⟩
  | .hbm, ⟨41, _⟩ => ⟨S65536x2816, .f32⟩
  | .hbm, ⟨42, _⟩ => ⟨S65536x2816, .f32⟩
  | .hbm, ⟨43, _⟩ => ⟨S65536x2816, .f32⟩
  | .hbm, ⟨44, _⟩ => ⟨S65536x2816, .f32⟩
  | .hbm, ⟨45, _⟩ => ⟨S65536x2816, .f32⟩
  | .hbm, ⟨46, _⟩ => ⟨S65536x1024, .f32⟩
  | .hbm, ⟨47, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Experts.lean ====
abbrev S136 : Shape := ⟨1, ![136]⟩
abbrev S1 : Shape := ⟨1, ![1]⟩
abbrev S4x139264x256 : Shape := ⟨3, ![4, 139264, 256]⟩
abbrev S8x1024x3584 : Shape := ⟨3, ![8, 1024, 3584]⟩
abbrev S8x3584x1024 : Shape := ⟨3, ![8, 3584, 1024]⟩
abbrev S4x1024x256 : Shape := ⟨3, ![4, 1024, 256]⟩
abbrev S1x1024x512 : Shape := ⟨3, ![1, 1024, 512]⟩
abbrev S1x512x1024 : Shape := ⟨3, ![1, 512, 1024]⟩
abbrev S1024x1024 : Shape := ⟨2, ![1024, 1024]⟩
abbrev S1x1024x256 : Shape := ⟨3, ![1, 1024, 256]⟩
abbrev S1024x256 : Shape := ⟨2, ![1024, 256]⟩
abbrev S1024x512 : Shape := ⟨2, ![1024, 512]⟩
abbrev S512x1024 : Shape := ⟨2, ![512, 1024]⟩

abbrev nBuf : Space → Nat
  | .hbm => 5
  | .vmem => 12
  | .smem => 2
  | _ => 0

abbrev bufTy : (tb : Table) → Fin (tcTables nBuf tb) → BufTy
  | .hbm, ⟨0, _⟩ => ⟨S4x139264x256, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S4x139264x256, .f32⟩
  | .local _ .vmem, ⟨0, _⟩ => ⟨S4x1024x256, .f32⟩
  | .local _ .vmem, ⟨1, _⟩ => ⟨S4x1024x256, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S4x1024x256, .f32⟩
  | .local _ .vmem, ⟨9, _⟩ => ⟨S4x1024x256, .f32⟩
  | .local _ .vmem, ⟨10, _⟩ => ⟨S1024x1024, .bf16⟩
  | .local _ .vmem, ⟨11, _⟩ => ⟨S1024x1024, .f32⟩
  | .local _ .smem, ⟨0, _⟩ => ⟨S136, .i32⟩
  | .local _ .smem, ⟨1, _⟩ => ⟨S1, .i32⟩
  | _, _ => ⟨S4x139264x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c6_i32 : BitVec 32 := 6#32
  let v8 : BitVec 1 := Scalar.cmpi .eq arg1 c6_i32
  let v9 : BitVec 1 := Scalar.andi v1 v8
  let v10 : BitVec 32 := Scalar.extui v9
  let c0_i32_2 : BitVec 32 := 0#32
  let v11 : BitVec 1 := Scalar.cmpi .ne v10 c0_i32_2
  v11

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c6_i32_3 : BitVec 32 := 6#32
  let v13 : BitVec 1 := Scalar.cmpi .eq arg1 c6_i32_3
  let v14 : BitVec 1 := Scalar.andi v12 v13
  let v15 : BitVec 32 := Scalar.extui v14
  let c0_i32_4 : BitVec 32 := 0#32
  let v16 : BitVec 1 := Scalar.cmpi .ne v15 c0_i32_4
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsRefIdeal.lean ====
abbrev S136 : Shape := ⟨1, ![136]⟩
abbrev S1 : Shape := ⟨1, ![1]⟩
abbrev S4x139264x256 : Shape := ⟨3, ![4, 139264, 256]⟩
abbrev S8x1024x3584 : Shape := ⟨3, ![8, 1024, 3584]⟩
abbrev S8x3584x1024 : Shape := ⟨3, ![8, 3584, 1024]⟩
abbrev S139264x4x256 : Shape := ⟨3, ![139264, 4, 256]⟩
abbrev S136x1024x1024 : Shape := ⟨3, ![136, 1024, 1024]⟩
abbrev S_ : Shape := ⟨0, ![]⟩
abbrev S136x1 : Shape := ⟨2, ![136, 1]⟩
abbrev S136x1024x3584 : Shape := ⟨3, ![136, 1024, 3584]⟩
abbrev S136x3584x1024 : Shape := ⟨3, ![136, 3584, 1024]⟩
abbrev S136x1x1 : Shape := ⟨3, ![136, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S136, .i32⟩
  | .hbm, ⟨1, _⟩ => ⟨S1, .i32⟩
  | .hbm, ⟨2, _⟩ => ⟨S4x139264x256, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S139264x4x256, .f32⟩
  | .hbm, ⟨7, _⟩ => ⟨S136x1024x1024, .f32⟩
  | .hbm, ⟨8, _⟩ => ⟨S_, .i32⟩
  | .hbm, ⟨9, _⟩ => ⟨S136, .i32⟩
  | .hbm, ⟨10, _⟩ => ⟨S136, .i1⟩
  | .hbm, ⟨11, _⟩ => ⟨S_, .i32⟩
  | .hbm, ⟨12, _⟩ => ⟨S136, .i32⟩
  | .hbm, ⟨13, _⟩ => ⟨S136, .i32⟩
  | .hbm, ⟨14, _⟩ => ⟨S136, .i32⟩
  | .hbm, ⟨15, _⟩ => ⟨S136x1, .i32⟩
  | .hbm, ⟨16, _⟩ => ⟨S136x1024x3584, .f32⟩
  | .hbm, ⟨17, _⟩ => ⟨S_, .i32⟩
  | .hbm, ⟨18, _⟩ => ⟨S136, .i32⟩
  | .hbm, ⟨19, _⟩ => ⟨S136, .i1⟩
  | .hbm, ⟨20, _⟩ => ⟨S_, .i32⟩
  | .hbm, ⟨21, _⟩ => ⟨S136, .i32⟩
  | .hbm, ⟨22, _⟩ => ⟨S136, .i32⟩
  | .hbm, ⟨23, _⟩ => ⟨S136, .i32⟩
  | .hbm, ⟨24, _⟩ => ⟨S136x1, .i32⟩
  | .hbm, ⟨25, _⟩ => ⟨S136x1024x3584, .f32⟩
  | .hbm, ⟨26, _⟩ => ⟨S_, .i32⟩
  | .hbm, ⟨27, _⟩ => ⟨S136, .i32⟩
  | .hbm, ⟨28, _⟩ => ⟨S136, .i1⟩
  | .hbm, ⟨29, _⟩ => ⟨S_, .i32⟩
  | .hbm, ⟨30, _⟩ => ⟨S136, .i32⟩
  | .hbm, ⟨31, _⟩ => ⟨S136, .i32⟩
  | .hbm, ⟨32, _⟩ => ⟨S136, .i32⟩
  | .hbm, ⟨33, _⟩ => ⟨S136x1, .i32⟩
  | .hbm, ⟨34, _⟩ => ⟨S136x3584x1024, .f32⟩
  | .hbm, ⟨35, _⟩ => ⟨S136x1024x3584, .f32⟩
  | .hbm, ⟨36, _⟩ => ⟨S136x1024x3584, .f32⟩
  | .hbm, ⟨37, _⟩ => ⟨S136x1024x3584, .f32⟩
  | .hbm, ⟨38, _⟩ => ⟨S_, .f32⟩
  | .hbm, ⟨39, _⟩ => ⟨S136x1024x3584, .f32⟩
  | .hbm, ⟨40, _⟩ => ⟨S136x1024x3584, .f32⟩
  | .hbm, ⟨41, _⟩ => ⟨S_, .f32⟩
  | .hbm, ⟨42, _⟩ => ⟨S136x1024x3584, .f32⟩
  | .hbm, ⟨43, _⟩ => ⟨S136x1024x3584, .f32⟩
  | .hbm, ⟨44, _⟩ => ⟨S136x1024x3584, .f32⟩
  | .hbm, ⟨45, _⟩ => ⟨S136x1024x3584, .f32⟩
  | .hbm, ⟨46, _⟩ => ⟨S136x1024x3584, .f32⟩
  | .hbm, ⟨47, _⟩ => ⟨S136x1024x1024, .f32⟩
  | .hbm, ⟨48, _⟩ => ⟨S136, .i32⟩
  | .hbm, ⟨49, _⟩ => ⟨S136x1x1, .i32⟩
  | .hbm, ⟨50, _⟩ => ⟨S_, .i32⟩
  | .hbm, ⟨51, _⟩ => ⟨S136x1x1, .i32⟩
  | .hbm, ⟨52, _⟩ => ⟨S136x1x1, .i1⟩
  | .hbm, ⟨53, _⟩ => ⟨S_, .f32⟩
  | .hbm, ⟨54, _⟩ => ⟨S_, .f32⟩
  | .hbm, ⟨55, _⟩ => ⟨S136x1024x1024, .i1⟩
  | .hbm, ⟨56, _⟩ => ⟨S136x1024x1024, .f32⟩
  | .hbm, ⟨57, _⟩ => ⟨S136x1024x1024, .f32⟩
  | .hbm, ⟨58, _⟩ => ⟨S139264x4x256, .f32⟩
  | .hbm, ⟨59, _⟩ => ⟨S4x139264x256, .f32⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]
-- ==== Proj.lean ====
abbrev S16x4096x1024 : Shape := ⟨3, ![16, 4096, 1024]⟩
abbrev S1x1024 : Shape := ⟨2, ![1, 1024]⟩
abbrev S1x1024x3080 : Shape := ⟨3, ![1, 1024, 3080]⟩
abbrev S1x8 : Shape := ⟨2, ![1, 8]⟩
abbrev S_ : Shape := ⟨0, ![]⟩
abbrev S1024x128 : Shape := ⟨2, ![1024, 128]⟩
abbrev S1024x3080 : Shape := ⟨2, ![1024, 3080]⟩
abbrev S1024x8 : Shape := ⟨2, ![1024, 8]⟩
abbrev S1 : Shape := ⟨1, ![1]⟩
abbrev S65536x1024 : Shape := ⟨2, ![65536, 1024]⟩
abbrev S1024 : Shape := ⟨1, ![1024]⟩
abbrev S1024x3072 : Shape := ⟨2, ![1024, 3072]⟩
abbrev S8 : Shape := ⟨1, ![8]⟩
abbrev S65536x512 : Shape := ⟨2, ![65536, 512]⟩
abbrev S65536x8x64 : Shape := ⟨3, ![65536, 8, 64]⟩
abbrev S65536x8 : Shape := ⟨2, ![65536, 8]⟩
abbrev S512x1024 : Shape := ⟨2, ![512, 1024]⟩
abbrev S512x512 : Shape := ⟨2, ![512, 512]⟩
abbrev S512x8x64 : Shape := ⟨3, ![512, 8, 64]⟩
abbrev S512x8 : Shape := ⟨2, ![512, 8]⟩
abbrev S512 : Shape := ⟨1, ![512]⟩
abbrev S512x1 : Shape := ⟨2, ![512, 1]⟩
abbrev S1024x512 : Shape := ⟨2, ![1024, 512]⟩
abbrev S512x128 : Shape := ⟨2, ![512, 128]⟩

abbrev nBuf : Space → Nat
  | .hbm => 31
  | .vmem => 28
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x3080, .f32⟩
  | .hbm, ⟨3, _⟩ => ⟨S1x8, .f32⟩
  | .hbm, ⟨4, _⟩ => ⟨S_, .f32⟩
  | .hbm, ⟨5, _⟩ => ⟨S1024x128, .f32⟩
  | .hbm, ⟨6, _⟩ => ⟨S1024x3080, .f32⟩
  | .hbm, ⟨7, _⟩ => ⟨S1024x8, .f32⟩
  | .hbm, ⟨8, _⟩ => ⟨S_, .i32⟩
  | .hbm, ⟨9, _⟩ => ⟨S1, .i32⟩
  | .hbm, ⟨10, _⟩ => ⟨S1024x128, .f32⟩
  | .hbm, ⟨11, _⟩ => ⟨S65536x1024, .f32⟩
  | .hbm, ⟨12, _⟩ => ⟨S1024, .f32⟩
  | .hbm, ⟨13, _⟩ => ⟨S1x1024, .f32⟩
  | .hbm, ⟨14, _⟩ => ⟨S1024x3080, .f32⟩
  | .hbm, ⟨15, _⟩ => ⟨S1024x3072, .f32⟩
  | .hbm, ⟨16, _⟩ => ⟨S1024x3072, .bf16⟩
  | .hbm, ⟨17, _⟩ => ⟨S1024x128, .bf16⟩
  | .hbm, ⟨18, _⟩ => ⟨S8, .f32⟩
  | .hbm, ⟨19, _⟩ => ⟨S1x8, .f32⟩
  | .hbm, ⟨20, _⟩ => ⟨S65536x512, .bf16⟩
  | .hbm, ⟨21, _⟩ => ⟨S65536x8x64, .f32⟩
  | .hbm, ⟨22, _⟩ => ⟨S65536x8x64, .f32⟩
  | .hbm, ⟨23, _⟩ => ⟨S65536x512, .bf16⟩
  | .hbm, ⟨24, _⟩ => ⟨S65536x8x64, .f32⟩
  | .hbm, ⟨25, _⟩ => ⟨S65536x8x64, .f32⟩
  | .hbm, ⟨26, _⟩ => ⟨S65536x512, .bf16⟩
  | .hbm, ⟨27, _⟩ => ⟨S65536x512, .bf16⟩
  | .hbm, ⟨28, _⟩ => ⟨S65536x512, .bf16⟩
  | .hbm, ⟨29, _⟩ => ⟨S65536x512, .bf16⟩
  | .hbm, ⟨30, _⟩ => ⟨S65536x8, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1x8, .f32⟩
  | .local _ .vmem, ⟨6, _⟩ => ⟨S512x512, .bf16⟩
  | .local _ .vmem, ⟨7, _⟩ => ⟨S512x512, .bf16⟩
  | .local _ .vmem, ⟨8, _⟩ => ⟨S512x8x64, .f32⟩
  | .local _ .vmem, ⟨9, _⟩ => ⟨S512x8x64, .f32⟩
  | .local _ .vmem, ⟨10, _⟩ => ⟨S512x8x64, .f32⟩
  | .local _ .vmem, ⟨11, _⟩ => ⟨S512x8x64, .f32⟩
  | .local _ .vmem, ⟨12, _⟩ => ⟨S512x512, .bf16⟩
  | .local _ .vmem, ⟨13, _⟩ => ⟨S512x512, .bf16⟩
  | .local _ .vmem, ⟨14, _⟩ => ⟨S512x8x64, .f32⟩
  | .local _ .vmem, ⟨15, _⟩ => ⟨S512x8x64, .f32⟩
  | .local _ .vmem, ⟨16, _⟩ => ⟨S512x8x64, .f32⟩
  | .local _ .vmem, ⟨17, _⟩ => ⟨S512x8x64, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x8, .f32⟩
  | .local _ .vmem, ⟨27, _⟩ => ⟨S512x8, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev main_v14_5 : Ref sig .tc := ⟨.hbm, 25, rfl⟩
abbrev main_v14_6 : Ref sig .tc := ⟨.hbm, 26, rfl⟩
abbrev main_v14_7 : Ref sig .tc := ⟨.hbm, 27, rfl⟩
abbrev main_v14_8 : Ref sig .tc := ⟨.hbm, 28, rfl⟩
abbrev main_v14_9 : Ref sig .tc := ⟨.hbm, 29, rfl⟩
abbrev main_v14_10 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x8x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x8x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x8x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjIdeal.lean ====
variable {F : FTy → Type} [FloatOps F] [Named F]
def κ : String → Option EReal := fun
  | "qscale" => some (((Real.log 256)⁻¹ : ℝ) : EReal)
  | _ => none
-- ==== ProjRefIdeal.lean ====
abbrev S16x4096x1024 : Shape := ⟨3, ![16, 4096, 1024]⟩
abbrev S1x1024 : Shape := ⟨2, ![1, 1024]⟩
abbrev S1x1024x3080 : Shape := ⟨3, ![1, 1024, 3080]⟩
abbrev S1x8 : Shape := ⟨2, ![1, 8]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x3080 : Shape := ⟨2, ![1024, 3080]⟩
abbrev S16x4096x3080 : Shape := ⟨3, ![16, 4096, 3080]⟩
abbrev S16x4096x512 : Shape := ⟨3, ![16, 4096, 512]⟩
abbrev S16x4096x8 : Shape := ⟨3, ![16, 4096, 8]⟩
abbrev S8 : Shape := ⟨1, ![8]⟩
abbrev S1x1x8 : Shape := ⟨3, ![1, 1, 8]⟩
abbrev S65536x512 : Shape := ⟨2, ![65536, 512]⟩
abbrev S65536x8x64 : Shape := ⟨3, ![65536, 8, 64]⟩
abbrev S65536x8 : Shape := ⟨2, ![65536, 8]⟩

abbrev nBuf : Space → Nat
  | .hbm => 79
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x3080, .f32⟩
  | .hbm, ⟨3, _⟩ => ⟨S1x8, .f32⟩
  | .hbm, ⟨4, _⟩ => ⟨S1024, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S1024x3080, .f32⟩
  | .hbm, ⟨22, _⟩ => ⟨S16x4096x3080, .f32⟩
  | .hbm, ⟨23, _⟩ => ⟨S16x4096x512, .f32⟩
  | .hbm, ⟨24, _⟩ => ⟨S16x4096x512, .f32⟩
  | .hbm, ⟨25, _⟩ => ⟨S16x4096x512, .f32⟩
  | .hbm, ⟨26, _⟩ => ⟨S16x4096x512, .f32⟩
  | .hbm, ⟨27, _⟩ => ⟨S16x4096x512, .f32⟩
  | .hbm, ⟨28, _⟩ => ⟨S16x4096x512, .f32⟩
  | .hbm, ⟨29, _⟩ => ⟨S16x4096x8, .f32⟩
  | .hbm, ⟨30, _⟩ => ⟨S8, .f32⟩
  | .hbm, ⟨31, _⟩ => ⟨S1x1x8, .f32⟩
  | .hbm, ⟨32, _⟩ => ⟨S16x4096x8, .f32⟩
  | .hbm, ⟨33, _⟩ => ⟨S16x4096x8, .f32⟩
  | .hbm, ⟨34, _⟩ => ⟨S16x4096x8, .f32⟩
  | .hbm, ⟨35, _⟩ => ⟨S_, .f32⟩
  | .hbm, ⟨36, _⟩ => ⟨S16x4096x8, .f32⟩
  | .hbm, ⟨37, _⟩ => ⟨S16x4096x8, .f32⟩
  | .hbm, ⟨38, _⟩ => ⟨S16x4096x8, .f32⟩
  | .hbm, ⟨39, _⟩ => ⟨S16x4096x8, .f32⟩
  | .hbm, ⟨40, _⟩ => ⟨S16x4096x8, .i1⟩
  | .hbm, ⟨41, _⟩ => ⟨S16x4096x8, .f32⟩
  | .hbm, ⟨42, _⟩ => ⟨S16x4096x8, .f32⟩
  | .hbm, ⟨43, _⟩ => ⟨S16x4096x8, .f32⟩
  | .hbm, ⟨44, _⟩ => ⟨S16x4096x8, .f32⟩
  | .hbm, ⟨45, _⟩ => ⟨S16x4096x8, .f32⟩
  | .hbm, ⟨46, _⟩ => ⟨S16x4096x8, .f32⟩
  | .hbm, ⟨47, _⟩ => ⟨S16x4096x8, .f32⟩
  | .hbm, ⟨48, _⟩ => ⟨S16x4096x8, .f32⟩
  | .hbm, ⟨49, _⟩ => ⟨S16x4096x8, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S16x4096x512, .f32⟩
  | .hbm, ⟨55, _⟩ => ⟨S16x4096x512, .f32⟩
  | .hbm, ⟨56, _⟩ => ⟨S65536x512, .f32⟩
  | .hbm, ⟨57, _⟩ => ⟨S65536x512, .bf16⟩
  | .hbm, ⟨58, _⟩ => ⟨S65536x8x64, .f32⟩
  | .hbm, ⟨59, _⟩ => ⟨S65536x8x64, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S16x4096x512, .f32⟩
  | .hbm, ⟨65, _⟩ => ⟨S16x4096x512, .f32⟩
  | .hbm, ⟨66, _⟩ => ⟨S65536x512, .f32⟩
  | .hbm, ⟨67, _⟩ => ⟨S65536x512, .bf16⟩
  | .hbm, ⟨68, _⟩ => ⟨S65536x8x64, .f32⟩
  | .hbm, ⟨69, _⟩ => ⟨S65536x8x64, .f32⟩
  | .hbm, ⟨70, _⟩ => ⟨S65536x512, .f32⟩
  | .hbm, ⟨71, _⟩ => ⟨S65536x512, .bf16⟩
  | .hbm, ⟨72, _⟩ => ⟨S65536x512, .f32⟩
  | .hbm, ⟨73, _⟩ => ⟨S65536x512, .bf16⟩
  | .hbm, ⟨74, _⟩ => ⟨S65536x512, .f32⟩
  | .hbm, ⟨75, _⟩ => ⟨S65536x512, .bf16⟩
  | .hbm, ⟨76, _⟩ => ⟨S65536x512, .f32⟩
  | .hbm, ⟨77, _⟩ => ⟨S65536x512, .bf16⟩
  | .hbm, ⟨78, _⟩ => ⟨S65536x8, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call0_v0 : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_v1 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩

abbrev nD : Nat := 1
abbrev τ : Topo := Topo.v7x

variable {F : FTy → Type} [FloatOps F]
-- ==== ProjC.lean ====
abbrev S65536x1024 : Shape := ⟨2, ![65536, 1024]⟩
abbrev S1x1024 : Shape := ⟨2, ![1, 1024]⟩
abbrev S1x1024x1280 : Shape := ⟨3, ![1, 1024, 1280]⟩
abbrev S1024 : Shape := ⟨1, ![1024]⟩
abbrev S1024x1280 : Shape := ⟨2, ![1024, 1280]⟩
abbrev S65536x128 : Shape := ⟨2, ![65536, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S1024x128 : Shape := ⟨2, ![1024, 128]⟩

abbrev nBuf : Space → Nat
  | .hbm => 12
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1x1024x1280, .f32⟩
  | .hbm, ⟨3, _⟩ => ⟨S1024, .f32⟩
  | .hbm, ⟨4, _⟩ => ⟨S1x1024, .f32⟩
  | .hbm, ⟨5, _⟩ => ⟨S1024x1280, .f32⟩
  | .hbm, ⟨6, _⟩ => ⟨S1024x1280, .bf16⟩
  | .hbm, ⟨7, _⟩ => ⟨S65536x1024, .bf16⟩
  | .hbm, ⟨8, _⟩ => ⟨S65536x128, .f32⟩
  | .hbm, ⟨9, _⟩ => ⟨S65536x128, .f32⟩
  | .hbm, ⟨10, _⟩ => ⟨S65536x128, .bf16⟩
  | .hbm, ⟨11, _⟩ => ⟨S65536x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1280, .bf16⟩
  | .local _ .vmem, ⟨4, _⟩ => ⟨S512x1024, .bf16⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjCRefIdeal.lean ====
abbrev S65536x1024 : Shape := ⟨2, ![65536, 1024]⟩
abbrev S1x1024 : Shape := ⟨2, ![1, 1024]⟩
abbrev S1x1024x1280 : Shape := ⟨3, ![1, 1024, 1280]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x1280 : Shape := ⟨2, ![1024, 1280]⟩
abbrev S65536x1280 : Shape := ⟨2, ![65536, 1280]⟩
abbrev S65536x128 : Shape := ⟨2, ![65536, 128]⟩

abbrev nBuf : Space → Nat
  | .hbm => 31
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1x1024x1280, .f32⟩
  | .hbm, ⟨3, _⟩ => ⟨S1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S1024x1280, .f32⟩
  | .hbm, ⟨21, _⟩ => ⟨S65536x1280, .f32⟩
  | .hbm, ⟨22, _⟩ => ⟨S65536x1024, .f32⟩
  | .hbm, ⟨23, _⟩ => ⟨S65536x128, .f32⟩
  | .hbm, ⟨24, _⟩ => ⟨S65536x128, .f32⟩
  | .hbm, ⟨25, _⟩ => ⟨S_, .f32⟩
  | .hbm, ⟨26, _⟩ => ⟨S65536x1024, .f32⟩
  | .hbm, ⟨27, _⟩ => ⟨S65536x1024, .f32⟩
  | .hbm, ⟨28, _⟩ => ⟨S65536x1024, .bf16⟩
  | .hbm, ⟨29, _⟩ => ⟨S65536x128, .bf16⟩
  | .hbm, ⟨30, _⟩ => ⟨S65536x128, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Fox.lean ====
abbrev S16x4096x512 : Shape := ⟨3, ![16, 4096, 512]⟩
abbrev S16x4096x8 : Shape := ⟨3, ![16, 4096, 8]⟩
abbrev S16x4096x4x2 : Shape := ⟨4, ![16, 4096, 4, 2]⟩
abbrev S16x4x2x4096 : Shape := ⟨4, ![16, 4, 2, 4096]⟩
abbrev S16x8x512x4x2 : Shape := ⟨5, ![16, 8, 512, 4, 2]⟩
abbrev S16x4x8x2x512 : Shape := ⟨5, ![16, 4, 8, 2, 512]⟩
abbrev S1x512x128 : Shape := ⟨3, ![1, 512, 128]⟩
abbrev S1x4096x128 : Shape := ⟨3, ![1, 4096, 128]⟩
abbrev S1x1x2x512 : Shape := ⟨4, ![1, 1, 2, 512]⟩
abbrev S1x1x8x2x512 : Shape := ⟨5, ![1, 1, 8, 2, 512]⟩
abbrev S1024x128 : Shape := ⟨2, ![1024, 128]⟩
abbrev S512x128 : Shape := ⟨2, ![512, 128]⟩
abbrev S1024x512 : Shape := ⟨2, ![1024, 512]⟩
abbrev S1024x1 : Shape := ⟨2, ![1024, 1]⟩
abbrev S2x512 : Shape := ⟨2, ![2, 512]⟩
abbrev S512x512 : Shape := ⟨2, ![512, 512]⟩
abbrev S1x512 : Shape := ⟨2, ![1, 512]⟩
abbrev S1024 : Shape := ⟨1, ![1024]⟩
abbrev S1x1x1x2x512 : Shape := ⟨5, ![1, 1, 1, 2, 512]⟩

abbrev nBuf : Space → Nat
  | .hbm => 9
  | .vmem => 17
  | .smem => 0
  | _ => 0

abbrev bufTy : (tb : Table) → Fin (tcTables nBuf tb) → BufTy
  | .hbm, ⟨0, _⟩ => ⟨S16x4096x512, .bf16⟩
  | .hbm, ⟨1, _⟩ => ⟨S16x4096x512, .bf16⟩
  | .hbm, ⟨2, _⟩ => ⟨S16x4096x512, .bf16⟩
  | .hbm, ⟨3, _⟩ => ⟨S16x4096x8, .f32⟩
  | .hbm, ⟨4, _⟩ => ⟨S16x4096x4x2, .f32⟩
  | .hbm, ⟨5, _⟩ => ⟨S16x4x2x4096, .f32⟩
  | .hbm, ⟨6, _⟩ => ⟨S16x8x512x4x2, .f32⟩
  | .hbm, ⟨7, _⟩ => ⟨S16x4x8x2x512, .f32⟩
  | .hbm, ⟨8, _⟩ => ⟨S16x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x1x2x512, .f32⟩
  | .local _ .vmem, ⟨11, _⟩ => ⟨S1x1x2x512, .f32⟩
  | .local _ .vmem, ⟨12, _⟩ => ⟨S1x1x8x2x512, .f32⟩
  | .local _ .vmem, ⟨13, _⟩ => ⟨S1x1x8x2x512, .f32⟩
  | .local _ .vmem, ⟨14, _⟩ => ⟨S1x512x128, .bf16⟩
  | .local _ .vmem, ⟨15, _⟩ => ⟨S1x512x128, .bf16⟩
  | .local _ .vmem, ⟨16, _⟩ => ⟨S1024x128, .f32⟩
  | _, _ => ⟨S16x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![16, 4, 8], ![false, false, false]⟩

@[reducible] def k0_t1_loop (i : grid0.Coords) : Scf.Loop 32 :=
  let c0_i32_46 : BitVec 32 := 0#32
  let c0_i32_45 : BitVec 32 := 0#32
  let arg2 : BitVec 32 := BitVec.ofNat 32 (i 2).val
  let c0_i32_38 : BitVec 32 := 0#32
  let v89 : BitVec 1 := Scalar.cmpi .sgt arg2 c0_i32_38
  let v90 : BitVec 32 := Scalar.extui v89
  let c0_i32_39 : BitVec 32 := 0#32
  let v91 : BitVec 1 := Scalar.cmpi .slt arg2 c0_i32_39
  let v92 : BitVec 32 := Scalar.extui v91
  let v93 : BitVec 32 := Scalar.subi v90 v92
  let c1_i32_37 : BitVec 32 := 1#32
  let c0_i32_40 : BitVec 32 := 0#32
  let v94 : BitVec 1 := Scalar.cmpi .sgt c1_i32_37 c0_i32_40
  let v95 : BitVec 32 := Scalar.extui v94
  let c0_i32_41 : BitVec 32 := 0#32
  let v96 : BitVec 1 := Scalar.cmpi .slt c1_i32_37 c0_i32_41
  let v97 : BitVec 32 := Scalar.extui v96
  let v98 : BitVec 32 := Scalar.subi v95 v97
  let v99 : BitVec 1 := Scalar.cmpi .ne v93 v98
  let v100 : BitVec 32 := Scalar.remsi arg2 c1_i32_37
  let c0_i32_42 : BitVec 32 := 0#32
  let v101 : BitVec 1 := Scalar.cmpi .ne v100 c0_i32_42
  let v102 : BitVec 1 := Scalar.andi v99 v101
  let v88 : BitVec 32 := Scalar.divsi arg2 c1_i32_37
  let c1_i32_43 : BitVec 32 := 1#32
  let v103 : BitVec 32 := Scalar.subi v88 c1_i32_43
  let v104 : BitVec 32 := Scalar.select v102 v103 v88
  let c1_i32_44 : BitVec 32 := 1#32
  let v105 : BitVec 32 := Scalar.muli v104 c1_i32_44
  let v106 : BitVec 32 := Scalar.addi c0_i32_45 v105
  let v107 : BitVec 32 := Scalar.subi v106 c0_i32_46
  let c1_i32_47 : BitVec 32 := 1#32
  let v109 : BitVec 32 := Scalar.divsi v107 c1_i32_47
  let v110 : BitVec 32 := Scalar.muli v109 c1_i32_47
  let v111 : BitVec 32 := Scalar.addi c0_i32_46 v110
  let c1_i32_48 : BitVec 32 := 1#32
  ⟨c0_i32_46, v111, c1_i32_48⟩
def k0_mult1 (i : grid0.Coords) (k0_t1 : Fin (k0_t1_loop i).trips) : BitVec 32 :=
  let c0_i32_46 : BitVec 32 := 0#32
  let c1_i32_48 : BitVec 32 := 1#32
  let arg12 : BitVec 32 := Scf.iv c0_i32_46 c1_i32_48 k0_t1
  let c512_i32_56 : BitVec 32 := 512#32
  let v127 : BitVec 32 := Scalar.muli arg12 c512_i32_56
  v127
def k0_off1 (i : grid0.Coords) (k0_t1 : Fin (k0_t1_loop i).trips) : Fin 3 → Nat :=
  let c0_57 : Index := 0#32
  let c0_i32_46 : BitVec 32 := 0#32
  let c1_i32_48 : BitVec 32 := 1#32
  let arg12 : BitVec 32 := Scf.iv c0_i32_46 c1_i32_48 k0_t1
  let c512_i32_56 : BitVec 32 := 512#32
  let v127 : BitVec 32 := Scalar.muli arg12 c512_i32_56
  let v128 : BitVec 32 := v127
  let v129 : Index := Scalar.indexCast v128
  let c0_58 : Index := 0#32
  ![0, v129.toNat, 0]
def k0_off2 (i : grid0.Coords) (k0_t1 : Fin (k0_t1_loop i).trips) : Fin 5 → Nat :=
  let c0_62 : Index := 0#32
  let c0_63 : Index := 0#32
  let c0_i32_46 : BitVec 32 := 0#32
  let c1_i32_48 : BitVec 32 := 1#32
  let arg12 : BitVec 32 := Scf.iv c0_i32_46 c1_i32_48 k0_t1
  let v136 : Index := Scalar.indexCast arg12
  let c0_64 : Index := 0#32
  let c0_65 : Index := 0#32
  ![0, 0, v136.toNat, 0, 0]
@[reducible] def k0_t2_loop (i : grid0.Coords) : Scf.Loop 32 :=
  let c0_i32_46 : BitVec 32 := 0#32
  let c0_i32_45 : BitVec 32 := 0#32
  let arg2 : BitVec 32 := BitVec.ofNat 32 (i 2).val
  let c0_i32_38 : BitVec 32 := 0#32
  let v89 : BitVec 1 := Scalar.cmpi .sgt arg2 c0_i32_38
  let v90 : BitVec 32 := Scalar.extui v89
  let c0_i32_39 : BitVec 32 := 0#32
  let v91 : BitVec 1 := Scalar.cmpi .slt arg2 c0_i32_39
  let v92 : BitVec 32 := Scalar.extui v91
  let v93 : BitVec 32 := Scalar.subi v90 v92
  let c1_i32_37 : BitVec 32 := 1#32
  let c0_i32_40 : BitVec 32 := 0#32
  let v94 : BitVec 1 := Scalar.cmpi .sgt c1_i32_37 c0_i32_40
  let v95 : BitVec 32 := Scalar.extui v94
  let c0_i32_41 : BitVec 32 := 0#32
  let v96 : BitVec 1 := Scalar.cmpi .slt c1_i32_37 c0_i32_41
  let v97 : BitVec 32 := Scalar.extui v96
  let v98 : BitVec 32 := Scalar.subi v95 v97
  let v99 : BitVec 1 := Scalar.cmpi .ne v93 v98
  let v100 : BitVec 32 := Scalar.remsi arg2 c1_i32_37
  let c0_i32_42 : BitVec 32 := 0#32
  let v101 : BitVec 1 := Scalar.cmpi .ne v100 c0_i32_42
  let v102 : BitVec 1 := Scalar.andi v99 v101
  let v88 : BitVec 32 := Scalar.divsi arg2 c1_i32_37
  let c1_i32_43 : BitVec 32 := 1#32
  let v103 : BitVec 32 := Scalar.subi v88 c1_i32_43
  let v104 : BitVec 32 := Scalar.select v102 v103 v88
  let c1_i32_44 : BitVec 32 := 1#32
  let v105 : BitVec 32 := Scalar.muli v104 c1_i32_44
  let v106 : BitVec 32 := Scalar.addi c0_i32_45 v105
  let v107 : BitVec 32 := Scalar.subi v106 c0_i32_46
  let c1_i32_47 : BitVec 32 := 1#32
  let v109 : BitVec 32 := Scalar.divsi v107 c1_i32_47
  let v110 : BitVec 32 := Scalar.muli v109 c1_i32_47
  let v111 : BitVec 32 := Scalar.addi c0_i32_46 v110
  let v108 : BitVec 32 := Scalar.addi c0_i32_46 v107
  let c1_i32_49 : BitVec 32 := 1#32
  ⟨v111, v108, c1_i32_49⟩
def k0_mult2 (i : grid0.Coords) (k0_t2 : Fin (k0_t2_loop i).trips) : BitVec 32 :=
  let c0_i32_46 : BitVec 32 := 0#32
  let c0_i32_45 : BitVec 32 := 0#32
  let arg2 : BitVec 32 := BitVec.ofNat 32 (i 2).val
  let c0_i32_38 : BitVec 32 := 0#32
  let v89 : BitVec 1 := Scalar.cmpi .sgt arg2 c0_i32_38
  let v90 : BitVec 32 := Scalar.extui v89
  let c0_i32_39 : BitVec 32 := 0#32
  let v91 : BitVec 1 := Scalar.cmpi .slt arg2 c0_i32_39
  let v92 : BitVec 32 := Scalar.extui v91
  let v93 : BitVec 32 := Scalar.subi v90 v92
  let c1_i32_37 : BitVec 32 := 1#32
  let c0_i32_40 : BitVec 32 := 0#32
  let v94 : BitVec 1 := Scalar.cmpi .sgt c1_i32_37 c0_i32_40
  let v95 : BitVec 32 := Scalar.extui v94
  let c0_i32_41 : BitVec 32 := 0#32
  let v96 : BitVec 1 := Scalar.cmpi .slt c1_i32_37 c0_i32_41
  let v97 : BitVec 32 := Scalar.extui v96
  let v98 : BitVec 32 := Scalar.subi v95 v97
  let v99 : BitVec 1 := Scalar.cmpi .ne v93 v98
  let v100 : BitVec 32 := Scalar.remsi arg2 c1_i32_37
  let c0_i32_42 : BitVec 32 := 0#32
  let v101 : BitVec 1 := Scalar.cmpi .ne v100 c0_i32_42
  let v102 : BitVec 1 := Scalar.andi v99 v101
  let v88 : BitVec 32 := Scalar.divsi arg2 c1_i32_37
  let c1_i32_43 : BitVec 32 := 1#32
  let v103 : BitVec 32 := Scalar.subi v88 c1_i32_43
  let v104 : BitVec 32 := Scalar.select v102 v103 v88
  let c1_i32_44 : BitVec 32 := 1#32
  let v105 : BitVec 32 := Scalar.muli v104 c1_i32_44
  let v106 : BitVec 32 := Scalar.addi c0_i32_45 v105
  let v107 : BitVec 32 := Scalar.subi v106 c0_i32_46
  let c1_i32_47 : BitVec 32 := 1#32
  let v109 : BitVec 32 := Scalar.divsi v107 c1_i32_47
  let v110 : BitVec 32 := Scalar.muli v109 c1_i32_47
  let v111 : BitVec 32 := Scalar.addi c0_i32_46 v110
  let c1_i32_49 : BitVec 32 := 1#32
  let arg12 : BitVec 32 := Scf.iv v111 c1_i32_49 k0_t2
  let c512_i32_56 : BitVec 32 := 512#32
  let v127 : BitVec 32 := Scalar.muli arg12 c512_i32_56
  v127
def k0_off3 (i : grid0.Coords) (k0_t2 : Fin (k0_t2_loop i).trips) : Fin 3 → Nat :=
  let c0_57 : Index := 0#32
  let c0_i32_46 : BitVec 32 := 0#32
  let c0_i32_45 : BitVec 32 := 0#32
  let arg2 : BitVec 32 := BitVec.ofNat 32 (i 2).val
  let c0_i32_38 : BitVec 32 := 0#32
  let v89 : BitVec 1 := Scalar.cmpi .sgt arg2 c0_i32_38
  let v90 : BitVec 32 := Scalar.extui v89
  let c0_i32_39 : BitVec 32 := 0#32
  let v91 : BitVec 1 := Scalar.cmpi .slt arg2 c0_i32_39
  let v92 : BitVec 32 := Scalar.extui v91
  let v93 : BitVec 32 := Scalar.subi v90 v92
  let c1_i32_37 : BitVec 32 := 1#32
  let c0_i32_40 : BitVec 32 := 0#32
  let v94 : BitVec 1 := Scalar.cmpi .sgt c1_i32_37 c0_i32_40
  let v95 : BitVec 32 := Scalar.extui v94
  let c0_i32_41 : BitVec 32 := 0#32
  let v96 : BitVec 1 := Scalar.cmpi .slt c1_i32_37 c0_i32_41
  let v97 : BitVec 32 := Scalar.extui v96
  let v98 : BitVec 32 := Scalar.subi v95 v97
  let v99 : BitVec 1 := Scalar.cmpi .ne v93 v98
  let v100 : BitVec 32 := Scalar.remsi arg2 c1_i32_37
  let c0_i32_42 : BitVec 32 := 0#32
  let v101 : BitVec 1 := Scalar.cmpi .ne v100 c0_i32_42
  let v102 : BitVec 1 := Scalar.andi v99 v101
  let v88 : BitVec 32 := Scalar.divsi arg2 c1_i32_37
  let c1_i32_43 : BitVec 32 := 1#32
  let v103 : BitVec 32 := Scalar.subi v88 c1_i32_43
  let v104 : BitVec 32 := Scalar.select v102 v103 v88
  let c1_i32_44 : BitVec 32 := 1#32
  let v105 : BitVec 32 := Scalar.muli v104 c1_i32_44
  let v106 : BitVec 32 := Scalar.addi c0_i32_45 v105
  let v107 : BitVec 32 := Scalar.subi v106 c0_i32_46
  let c1_i32_47 : BitVec 32 := 1#32
  let v109 : BitVec 32 := Scalar.divsi v107 c1_i32_47
  let v110 : BitVec 32 := Scalar.muli v109 c1_i32_47
  let v111 : BitVec 32 := Scalar.addi c0_i32_46 v110
  let c1_i32_49 : BitVec 32 := 1#32
  let arg12 : BitVec 32 := Scf.iv v111 c1_i32_49 k0_t2
  let c512_i32_56 : BitVec 32 := 512#32
  let v127 : BitVec 32 := Scalar.muli arg12 c512_i32_56
  let v128 : BitVec 32 := v127
  let v129 : Index := Scalar.indexCast v128
  let c0_58 : Index := 0#32
  ![0, v129.toNat, 0]
def k0_off4 (i : grid0.Coords) (k0_t2 : Fin (k0_t2_loop i).trips) : Fin 5 → Nat :=
  let c0_62 : Index := 0#32
  let c0_63 : Index := 0#32
  let c0_i32_46 : BitVec 32 := 0#32
  let c0_i32_45 : BitVec 32 := 0#32
  let arg2 : BitVec 32 := BitVec.ofNat 32 (i 2).val
  let c0_i32_38 : BitVec 32 := 0#32
  let v89 : BitVec 1 := Scalar.cmpi .sgt arg2 c0_i32_38
  let v90 : BitVec 32 := Scalar.extui v89
  let c0_i32_39 : BitVec 32 := 0#32
  let v91 : BitVec 1 := Scalar.cmpi .slt arg2 c0_i32_39
  let v92 : BitVec 32 := Scalar.extui v91
  let v93 : BitVec 32 := Scalar.subi v90 v92
  let c1_i32_37 : BitVec 32 := 1#32
  let c0_i32_40 : BitVec 32 := 0#32
  let v94 : BitVec 1 := Scalar.cmpi .sgt c1_i32_37 c0_i32_40
  let v95 : BitVec 32 := Scalar.extui v94
  let c0_i32_41 : BitVec 32 := 0#32
  let v96 : BitVec 1 := Scalar.cmpi .slt c1_i32_37 c0_i32_41
  let v97 : BitVec 32 := Scalar.extui v96
  let v98 : BitVec 32 := Scalar.subi v95 v97
  let v99 : BitVec 1 := Scalar.cmpi .ne v93 v98
  let v100 : BitVec 32 := Scalar.remsi arg2 c1_i32_37
  let c0_i32_42 : BitVec 32 := 0#32
  let v101 : BitVec 1 := Scalar.cmpi .ne v100 c0_i32_42
  let v102 : BitVec 1 := Scalar.andi v99 v101
  let v88 : BitVec 32 := Scalar.divsi arg2 c1_i32_37
  let c1_i32_43 : BitVec 32 := 1#32
  let v103 : BitVec 32 := Scalar.subi v88 c1_i32_43
  let v104 : BitVec 32 := Scalar.select v102 v103 v88
  let c1_i32_44 : BitVec 32 := 1#32
  let v105 : BitVec 32 := Scalar.muli v104 c1_i32_44
  let v106 : BitVec 32 := Scalar.addi c0_i32_45 v105
  let v107 : BitVec 32 := Scalar.subi v106 c0_i32_46
  let c1_i32_47 : BitVec 32 := 1#32
  let v109 : BitVec 32 := Scalar.divsi v107 c1_i32_47
  let v110 : BitVec 32 := Scalar.muli v109 c1_i32_47
  let v111 : BitVec 32 := Scalar.addi c0_i32_46 v110
  let c1_i32_49 : BitVec 32 := 1#32
  let arg12 : BitVec 32 := Scf.iv v111 c1_i32_49 k0_t2
  let v136 : Index := Scalar.indexCast arg12
  let c0_64 : Index := 0#32
  let c0_65 : Index := 0#32
  ![0, 0, v136.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, arg1.toNat, c0_i32_5.toNat, v16.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x8x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== FoxIdeal.lean ====
variable {F : FTy → Type} [FloatOps F] [Named F]
def κ : String → Option EReal := fun
  | "mask" => some ⊥
  | _ => none
-- ==== FoxRefIdeal.lean ====
abbrev S16x4096x512 : Shape := ⟨3, ![16, 4096, 512]⟩
abbrev S16x4096x8 : Shape := ⟨3, ![16, 4096, 8]⟩
abbrev S16x4096x8x64 : Shape := ⟨4, ![16, 4096, 8, 64]⟩
abbrev S4096 : Shape := ⟨1, ![4096]⟩
abbrev S16x8x4096x4096 : Shape := ⟨4, ![16, 8, 4096, 4096]⟩
abbrev S16x8x4096 : Shape := ⟨3, ![16, 8, 4096]⟩
abbrev S16x8x4096x1 : Shape := ⟨4, ![16, 8, 4096, 1]⟩
abbrev S16x8x1x4096 : Shape := ⟨4, ![16, 8, 1, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16x8x64x4096 : Shape := ⟨4, ![16, 8, 64, 4096]⟩

abbrev nBuf : Space → Nat
  | .hbm => 52
  | .vmem => 0
  | .smem => 0
  | _ => 0

abbrev bufTy : (tb : Table) → Fin (tcTables nBuf tb) → BufTy
  | .hbm, ⟨0, _⟩ => ⟨S16x4096x512, .bf16⟩
  | .hbm, ⟨1, _⟩ => ⟨S16x4096x512, .bf16⟩
  | .hbm, ⟨2, _⟩ => ⟨S16x4096x512, .bf16⟩
  | .hbm, ⟨3, _⟩ => ⟨S16x4096x8, .f32⟩
  | .hbm, ⟨4, _⟩ => ⟨S16x4096x512, .f32⟩
  | .hbm, ⟨5, _⟩ => ⟨S16x4096x8x64, .f32⟩
  | .hbm, ⟨6, _⟩ => ⟨S16x4096x512, .f32⟩
  | .hbm, ⟨7, _⟩ => ⟨S16x4096x8x64, .f32⟩
  | .hbm, ⟨8, _⟩ => ⟨S16x4096x512, .f32⟩
  | .hbm, ⟨9, _⟩ => ⟨S16x4096x8x64, .f32⟩
  | .hbm, ⟨10, _⟩ => ⟨S4096, .i32⟩
  | .hbm, ⟨11, _⟩ => ⟨S16x8x4096x4096, .f32⟩
  | .hbm, ⟨12, _⟩ => ⟨S16x8x4096, .f32⟩
  | .hbm, ⟨13, _⟩ => ⟨S16x8x4096x1, .f32⟩
  | .hbm, ⟨14, _⟩ => ⟨S16x8x4096x4096, .f32⟩
  | .hbm, ⟨15, _⟩ => ⟨S16x8x4096x4096, .f32⟩
  | .hbm, ⟨16, _⟩ => ⟨S16x8x4096, .f32⟩
  | .hbm, ⟨17, _⟩ => ⟨S16x8x1x4096, .f32⟩
  | .hbm, ⟨18, _⟩ => ⟨S16x8x4096x4096, .f32⟩
  | .hbm, ⟨19, _⟩ => ⟨S16x8x4096x4096, .f32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S16x8x4096x4096, .f32⟩
  | .hbm, ⟨28, _⟩ => ⟨S16x8x4096x4096, .f32⟩
  | .hbm, ⟨29, _⟩ => ⟨S_, .f32⟩
  | .hbm, ⟨30, _⟩ => ⟨S_, .f32⟩
  | .hbm, ⟨31, _⟩ => ⟨S16x8x4096x4096, .i1⟩
  | .hbm, ⟨32, _⟩ => ⟨S16x8x4096x4096, .f32⟩
  | .hbm, ⟨33, _⟩ => ⟨S16x8x4096x4096, .f32⟩
  | .hbm, ⟨34, _⟩ => ⟨S_, .f32⟩
  | .hbm, ⟨35, _⟩ => ⟨S16x8x4096, .f32⟩
  | .hbm, ⟨36, _⟩ => ⟨S_, .f32⟩
  | .hbm, ⟨37, _⟩ => ⟨S16x8x4096, .f32⟩
  | .hbm, ⟨38, _⟩ => ⟨S16x8x4096, .f32⟩
  | .hbm, ⟨39, _⟩ => ⟨S16x8x4096x1, .f32⟩
  | .hbm, ⟨40, _⟩ => ⟨S16x8x4096x4096, .f32⟩
  | .hbm, ⟨41, _⟩ => ⟨S16x8x4096x4096, .f32⟩
  | .hbm, ⟨42, _⟩ => ⟨S16x8x4096x4096, .f32⟩
  | .hbm, ⟨43, _⟩ => ⟨S_, .f32⟩
  | .hbm, ⟨44, _⟩ => ⟨S16x8x4096, .f32⟩
  | .hbm, ⟨45, _⟩ => ⟨S16x8x4096x1, .f32⟩
  | .hbm, ⟨46, _⟩ => ⟨S16x8x4096x4096, .f32⟩
  | .hbm, ⟨47, _⟩ => ⟨S16x8x4096x4096, .f32⟩
  | .hbm, ⟨48, _⟩ => ⟨S16x8x64x4096, .f32⟩
  | .hbm, ⟨49, _⟩ => ⟨S16x4096x8x64, .f32⟩
  | .hbm, ⟨50, _⟩ => ⟨S16x4096x512, .f32⟩
  | .hbm, ⟨51, _⟩ => ⟨S16x4096x512, .bf16⟩
  | _, _ => ⟨S16x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Combine.lean ====
abbrev S4x131072x256 : Shape := ⟨3, ![4, 131072, 256]⟩
abbrev S65536x1024 : Shape := ⟨2, ![65536, 1024]⟩
abbrev S65536x128 : Shape := ⟨2, ![65536, 128]⟩
abbrev S1024 : Shape := ⟨1, ![1024]⟩
abbrev S1x1024 : Shape := ⟨2, ![1, 1024]⟩
abbrev S4x1024x256 : Shape := ⟨3, ![4, 1024, 256]⟩
abbrev S1024x1024 : Shape := ⟨2, ![1024, 1024]⟩
abbrev S1024x128 : Shape := ⟨2, ![1024, 128]⟩
abbrev S1x1024x256 : Shape := ⟨3, ![1, 1024, 256]⟩
abbrev S1024x256 : Shape := ⟨2, ![1024, 256]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S4x131072x256, .f32⟩
  | .hbm, ⟨1, _⟩ => ⟨S65536x1024, .f32⟩
  | .hbm, ⟨2, _⟩ => ⟨S65536x128, .f32⟩
  | .hbm, ⟨3, _⟩ => ⟨S1024, .f32⟩
  | .hbm, ⟨4, _⟩ => ⟨S1x1024, .f32⟩
  | .hbm, ⟨5, _⟩ => ⟨S65536x1024, .f32⟩
  | .local _ .vmem, ⟨0, _⟩ => ⟨S4x1024x256, .f32⟩
  | .local _ .vmem, ⟨1, _⟩ => ⟨S4x1024x256, .f32⟩
  | .local _ .vmem, ⟨2, _⟩ => ⟨S4x1024x256, .f32⟩
  | .local _ .vmem, ⟨3, _⟩ => ⟨S4x1024x256, .f32⟩
  | .local _ .vmem, ⟨4, _⟩ => ⟨S1024x1024, .f32⟩
  | .local _ .vmem, ⟨5, _⟩ => ⟨S1024x1024, .f32⟩
  | .local _ .vmem, ⟨6, _⟩ => ⟨S1024x128, .f32⟩
  | .local _ .vmem, ⟨7, _⟩ => ⟨S1024x128, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S4x131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineIdeal.lean ====
abbrev S4x131072x256 : Shape := ⟨3, ![4, 131072, 256]⟩
abbrev S65536x1024 : Shape := ⟨2, ![65536, 1024]⟩
abbrev S65536x128 : Shape := ⟨2, ![65536, 128]⟩
abbrev S1024 : Shape := ⟨1, ![1024]⟩
abbrev S1x1024 : Shape := ⟨2, ![1, 1024]⟩
abbrev S4x1024x256 : Shape := ⟨3, ![4, 1024, 256]⟩
abbrev S1024x1024 : Shape := ⟨2, ![1024, 1024]⟩
abbrev S1024x128 : Shape := ⟨2, ![1024, 128]⟩
abbrev S1x1024x256 : Shape := ⟨3, ![1, 1024, 256]⟩
abbrev S1024x256 : Shape := ⟨2, ![1024, 256]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S4x131072x256, .f32⟩
  | .hbm, ⟨1, _⟩ => ⟨S65536x1024, .f32⟩
  | .hbm, ⟨2, _⟩ => ⟨S65536x128, .f32⟩
  | .hbm, ⟨3, _⟩ => ⟨S1024, .f32⟩
  | .hbm, ⟨4, _⟩ => ⟨S1x1024, .f32⟩
  | .hbm, ⟨5, _⟩ => ⟨S65536x1024, .f32⟩
  | .local _ .vmem, ⟨0, _⟩ => ⟨S4x1024x256, .f32⟩
  | .local _ .vmem, ⟨1, _⟩ => ⟨S4x1024x256, .f32⟩
  | .local _ .vmem, ⟨2, _⟩ => ⟨S4x1024x256, .f32⟩
  | .local _ .vmem, ⟨3, _⟩ => ⟨S4x1024x256, .f32⟩
  | .local _ .vmem, ⟨4, _⟩ => ⟨S1024x1024, .f32⟩
  | .local _ .vmem, ⟨5, _⟩ => ⟨S1024x1024, .f32⟩
  | .local _ .vmem, ⟨6, _⟩ => ⟨S1024x128, .f32⟩
  | .local _ .vmem, ⟨7, _⟩ => ⟨S1024x128, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S4x131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineRefIdeal.lean ====
abbrev S4x131072x256 : Shape := ⟨3, ![4, 131072, 256]⟩
abbrev S65536x1024 : Shape := ⟨2, ![65536, 1024]⟩
abbrev S65536x128 : Shape := ⟨2, ![65536, 128]⟩
abbrev S1024 : Shape := ⟨1, ![1024]⟩
abbrev S131072x4x256 : Shape := ⟨3, ![131072, 4, 256]⟩
abbrev S2x65536x1024 : Shape := ⟨3, ![2, 65536, 1024]⟩
abbrev S65536x2 : Shape := ⟨2, ![65536, 2]⟩
abbrev S2x65536 : Shape := ⟨2, ![2, 65536]⟩
abbrev S2x65536x1 : Shape := ⟨3, ![2, 65536, 1]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x131072x256, .f32⟩
  | .hbm, ⟨1, _⟩ => ⟨S65536x1024, .f32⟩
  | .hbm, ⟨2, _⟩ => ⟨S65536x128, .f32⟩
  | .hbm, ⟨3, _⟩ => ⟨S1024, .f32⟩
  | .hbm, ⟨4, _⟩ => ⟨S131072x4x256, .f32⟩
  | .hbm, ⟨5, _⟩ => ⟨S2x65536x1024, .f32⟩
  | .hbm, ⟨6, _⟩ => ⟨S65536x2, .f32⟩
  | .hbm, ⟨7, _⟩ => ⟨S2x65536, .f32⟩
  | .hbm, ⟨8, _⟩ => ⟨S2x65536x1, .f32⟩
  | .hbm, ⟨9, _⟩ => ⟨S2x65536x1024, .f32⟩
  | .hbm, ⟨10, _⟩ => ⟨S2x65536x1024, .f32⟩
  | .hbm, ⟨11, _⟩ => ⟨S_, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S65536x1, .f32⟩
  | .hbm, ⟨25, _⟩ => ⟨S65536x1024, .f32⟩
  | .hbm, ⟨26, _⟩ => ⟨S65536x1024, .f32⟩
  | .hbm, ⟨27, _⟩ => ⟨S1x1024, .f32⟩
  | .hbm, ⟨28, _⟩ => ⟨S65536x1024, .f32⟩
  | .hbm, ⟨29, _⟩ => ⟨S65536x1024, .f32⟩
  | _, _ => ⟨S4x131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== CombineS.lean ====
abbrev S4x2048x256 : Shape := ⟨3, ![4, 2048, 256]⟩
abbrev S1024x1024 : Shape := ⟨2, ![1024, 1024]⟩
abbrev S1024x128 : Shape := ⟨2, ![1024, 128]⟩
abbrev S1024 : Shape := ⟨1, ![1024]⟩
abbrev S1x1024 : Shape := ⟨2, ![1, 1024]⟩
abbrev S4x1024x256 : Shape := ⟨3, ![4, 1024, 256]⟩
abbrev S1x1024x256 : Shape := ⟨3, ![1, 1024, 256]⟩
abbrev S1024x256 : Shape := ⟨2, ![1024, 256]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x256, .f32⟩
  | .hbm, ⟨1, _⟩ => ⟨S1024x1024, .f32⟩
  | .hbm, ⟨2, _⟩ => ⟨S1024x128, .f32⟩
  | .hbm, ⟨3, _⟩ => ⟨S1024, .f32⟩
  | .hbm, ⟨4, _⟩ => ⟨S1x1024, .f32⟩
  | .hbm, ⟨5, _⟩ => ⟨S1024x1024, .f32⟩
  | .local _ .vmem, ⟨0, _⟩ => ⟨S4x1024x256, .f32⟩
  | .local _ .vmem, ⟨1, _⟩ => ⟨S4x1024x256, .f32⟩
  | .local _ .vmem, ⟨2, _⟩ => ⟨S1024x1024, .f32⟩
  | .local _ .vmem, ⟨3, _⟩ => ⟨S1024x128, .f32⟩
  | .local _ .vmem, ⟨4, _⟩ => ⟨S1x1024, .f32⟩
  | .local _ .vmem, ⟨5, _⟩ => ⟨S1024x1024, .f32⟩
  | _, _ => ⟨S4x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== CombineSRefIdeal.lean ====
abbrev S4x2048x256 : Shape := ⟨3, ![4, 2048, 256]⟩
abbrev S1024x1024 : Shape := ⟨2, ![1024, 1024]⟩
abbrev S1024x128 : Shape := ⟨2, ![1024, 128]⟩
abbrev S1024 : Shape := ⟨1, ![1024]⟩
abbrev S2048x4x256 : Shape := ⟨3, ![2048, 4, 256]⟩
abbrev S2x1024x1024 : Shape := ⟨3, ![2, 1024, 1024]⟩
abbrev S1024x2 : Shape := ⟨2, ![1024, 2]⟩
abbrev S2x1024 : Shape := ⟨2, ![2, 1024]⟩
abbrev S2x1024x1 : Shape := ⟨3, ![2, 1024, 1]⟩
abbrev S_ : Shape := ⟨0, ![]⟩
abbrev S1024x1 : Shape := ⟨2, ![1024, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x256, .f32⟩
  | .hbm, ⟨1, _⟩ => ⟨S1024x1024, .f32⟩
  | .hbm, ⟨2, _⟩ => ⟨S1024x128, .f32⟩
  | .hbm, ⟨3, _⟩ => ⟨S1024, .f32⟩
  | .hbm, ⟨4, _⟩ => ⟨S2048x4x256, .f32⟩
  | .hbm, ⟨5, _⟩ => ⟨S2x1024x1024, .f32⟩
  | .hbm, ⟨6, _⟩ => ⟨S1024x2, .f32⟩
  | .hbm, ⟨7, _⟩ => ⟨S2x1024, .f32⟩
  | .hbm, ⟨8, _⟩ => ⟨S2x1024x1, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024, .f32⟩
  | .hbm, ⟨17, _⟩ => ⟨S1024x1, .f32⟩
  | .hbm, ⟨18, _⟩ => ⟨S_, .f32⟩
  | .hbm, ⟨19, _⟩ => ⟨S1024x1, .f32⟩
  | .hbm, ⟨20, _⟩ => ⟨S1024x1, .f32⟩
  | .hbm, ⟨21, _⟩ => ⟨S_, .f32⟩
  | .hbm, ⟨22, _⟩ => ⟨S1024x1, .f32⟩
  | .hbm, ⟨23, _⟩ => ⟨S1024x1, .f32⟩
  | .hbm, ⟨24, _⟩ => ⟨S1024x1, .f32⟩
  | .hbm, ⟨25, _⟩ => ⟨S1024x1024, .f32⟩
  | .hbm, ⟨26, _⟩ => ⟨S1024x1024, .f32⟩
  | .hbm, ⟨27, _⟩ => ⟨S1x1024, .f32⟩
  | .hbm, ⟨28, _⟩ => ⟨S1024x1024, .f32⟩
  | .hbm, ⟨29, _⟩ => ⟨S1024x1024, .f32⟩
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== ProjS.lean ====
abbrev S16x64x1024 : Shape := ⟨3, ![16, 64, 1024]⟩
abbrev S1x1024 : Shape := ⟨2, ![1, 1024]⟩
abbrev S1x1024x3080 : Shape := ⟨3, ![1, 1024, 3080]⟩
abbrev S1x8 : Shape := ⟨2, ![1, 8]⟩
abbrev S_ : Shape := ⟨0, ![]⟩
abbrev S1024x128 : Shape := ⟨2, ![1024, 128]⟩
abbrev S1024x3080 : Shape := ⟨2, ![1024, 3080]⟩
abbrev S1024x8 : Shape := ⟨2, ![1024, 8]⟩
abbrev S1 : Shape := ⟨1, ![1]⟩
abbrev S1024x1024 : Shape := ⟨2, ![1024, 1024]⟩
abbrev S1024 : Shape := ⟨1, ![1024]⟩
abbrev S1024x3072 : Shape := ⟨2, ![1024, 3072]⟩
abbrev S8 : Shape := ⟨1, ![8]⟩
abbrev S1024x512 : Shape := ⟨2, ![1024, 512]⟩
abbrev S1024x8x64 : Shape := ⟨3, ![1024, 8, 64]⟩
abbrev S512x1024 : Shape := ⟨2, ![512, 1024]⟩
abbrev S512x512 : Shape := ⟨2, ![512, 512]⟩
abbrev S512x8x64 : Shape := ⟨3, ![512, 8, 64]⟩
abbrev S512x8 : Shape := ⟨2, ![512, 8]⟩
abbrev S512 : Shape := ⟨1, ![512]⟩
abbrev S512x1 : Shape := ⟨2, ![512, 1]⟩
abbrev S512x128 : Shape := ⟨2, ![512, 128]⟩

abbrev nBuf : Space → Nat
  | .hbm => 31
  | .vmem => 28
  | .smem => 0
  | _ => 0

abbrev bufTy : (tb : Table) → Fin (tcTables nBuf tb) → BufTy
  | .hbm, ⟨0, _⟩ => ⟨S16x64x1024, .f32⟩
  | .hbm, ⟨1, _⟩ => ⟨S1x1024, .f32⟩
  | .hbm, ⟨2, _⟩ => ⟨S1x1024x3080, .f32⟩
  | .hbm, ⟨3, _⟩ => ⟨S1x8, .f32⟩
  | .hbm, ⟨4, _⟩ => ⟨S_, .f32⟩
  | .hbm, ⟨5, _⟩ => ⟨S1024x128, .f32⟩
  | .hbm, ⟨6, _⟩ => ⟨S1024x3080, .f32⟩
  | .hbm, ⟨7, _⟩ => ⟨S1024x8, .f32⟩
  | .hbm, ⟨8, _⟩ => ⟨S_, .i32⟩
  | .hbm, ⟨9, _⟩ => ⟨S1, .i32⟩
  | .hbm, ⟨10, _⟩ => ⟨S1024x128, .f32⟩
  | .hbm, ⟨11, _⟩ => ⟨S1024x1024, .f32⟩
  | .hbm, ⟨12, _⟩ => ⟨S1024, .f32⟩
  | .hbm, ⟨13, _⟩ => ⟨S1x1024, .f32⟩
  | .hbm, ⟨14, _⟩ => ⟨S1024x3080, .f32⟩
  | .hbm, ⟨15, _⟩ => ⟨S1024x3072, .f32⟩
  | .hbm, ⟨16, _⟩ => ⟨S1024x3072, .bf16⟩
  | .hbm, ⟨17, _⟩ => ⟨S1024x128, .bf16⟩
  | .hbm, ⟨18, _⟩ => ⟨S8, .f32⟩
  | .hbm, ⟨19, _⟩ => ⟨S1x8, .f32⟩
  | .hbm, ⟨20, _⟩ => ⟨S1024x512, .bf16⟩
  | .hbm, ⟨21, _⟩ => ⟨S1024x8x64, .f32⟩
  | .hbm, ⟨22, _⟩ => ⟨S1024x8x64, .f32⟩
  | .hbm, ⟨23, _⟩ => ⟨S1024x512, .bf16⟩
  | .hbm, ⟨24, _⟩ => ⟨S1024x8x64, .f32⟩
  | .hbm, ⟨25, _⟩ => ⟨S1024x8x64, .f32⟩
  | .hbm, ⟨26, _⟩ => ⟨S1024x512, .bf16⟩
  | .hbm, ⟨27, _⟩ => ⟨S1024x512, .bf16⟩
  | .hbm, ⟨28, _⟩ => ⟨S1024x512, .bf16⟩
  | .hbm, ⟨29, _⟩ => ⟨S1024x512, .bf16⟩
  | .hbm, ⟨30, _⟩ => ⟨S1024x8, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1x8, .f32⟩
  | .local _ .vmem, ⟨6, _⟩ => ⟨S512x512, .bf16⟩
  | .local _ .vmem, ⟨7, _⟩ => ⟨S512x512, .bf16⟩
  | .local _ .vmem, ⟨8, _⟩ => ⟨S512x8x64, .f32⟩
  | .local _ .vmem, ⟨9, _⟩ => ⟨S512x8x64, .f32⟩
  | .local _ .vmem, ⟨10, _⟩ => ⟨S512x8x64, .f32⟩
  | .local _ .vmem, ⟨11, _⟩ => ⟨S512x8x64, .f32⟩
  | .local _ .vmem, ⟨12, _⟩ => ⟨S512x512, .bf16⟩
  | .local _ .vmem, ⟨13, _⟩ => ⟨S512x512, .bf16⟩
  | .local _ .vmem, ⟨14, _⟩ => ⟨S512x8x64, .f32⟩
  | .local _ .vmem, ⟨15, _⟩ => ⟨S512x8x64, .f32⟩
  | .local _ .vmem, ⟨16, _⟩ => ⟨S512x8x64, .f32⟩
  | .local _ .vmem, ⟨17, _⟩ => ⟨S512x8x64, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x8, .f32⟩
  | .local _ .vmem, ⟨27, _⟩ => ⟨S512x8, .f32⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev main_v14_5 : Ref sig .tc := ⟨.hbm, 25, rfl⟩
abbrev main_v14_6 : Ref sig .tc := ⟨.hbm, 26, rfl⟩
abbrev main_v14_7 : Ref sig .tc := ⟨.hbm, 27, rfl⟩
abbrev main_v14_8 : Ref sig .tc := ⟨.hbm, 28, rfl⟩
abbrev main_v14_9 : Ref sig .tc := ⟨.hbm, 29, rfl⟩
abbrev main_v14_10 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x8x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x8x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x8x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjSIdeal.lean ====
variable {F : FTy → Type} [FloatOps F] [Named F]
def κ : String → Option EReal := fun
  | "qscale" => some (((Real.log 256)⁻¹ : ℝ) : EReal)
  | _ => none
-- ==== ProjSRefIdeal.lean ====
abbrev S16x64x1024 : Shape := ⟨3, ![16, 64, 1024]⟩
abbrev S1x1024 : Shape := ⟨2, ![1, 1024]⟩
abbrev S1x1024x3080 : Shape := ⟨3, ![1, 1024, 3080]⟩
abbrev S1x8 : Shape := ⟨2, ![1, 8]⟩
abbrev S1024 : Shape := ⟨1, ![1024]⟩
abbrev S_ : Shape := ⟨0, ![]⟩
abbrev S16x64 : Shape := ⟨2, ![16, 64]⟩
abbrev S16x64x1 : Shape := ⟨3, ![16, 64, 1]⟩
abbrev S1x1x1024 : Shape := ⟨3, ![1, 1, 1024]⟩
abbrev S1024x3080 : Shape := ⟨2, ![1024, 3080]⟩
abbrev S16x64x3080 : Shape := ⟨3, ![16, 64, 3080]⟩
abbrev S16x64x512 : Shape := ⟨3, ![16, 64, 512]⟩
abbrev S16x64x8 : Shape := ⟨3, ![16, 64, 8]⟩
abbrev S8 : Shape := ⟨1, ![8]⟩
abbrev S1x1x8 : Shape := ⟨3, ![1, 1, 8]⟩
abbrev S1024x8x64 : Shape := ⟨3, ![1024, 8, 64]⟩
abbrev S1024x8 : Shape := ⟨2, ![1024, 8]⟩

abbrev nBuf : Space → Nat
  | .hbm => 55
  | .vmem => 0
  | .smem => 0
  | _ => 0

abbrev bufTy : (tb : Table) → Fin (tcTables nBuf tb) → BufTy
  | .hbm, ⟨0, _⟩ => ⟨S16x64x1024, .f32⟩
  | .hbm, ⟨1, _⟩ => ⟨S1x1024, .f32⟩
  | .hbm, ⟨2, _⟩ => ⟨S1x1024x3080, .f32⟩
  | .hbm, ⟨3, _⟩ => ⟨S1x8, .f32⟩
  | .hbm, ⟨4, _⟩ => ⟨S1024, .f32⟩
  | .hbm, ⟨5, _⟩ => ⟨S16x64x1024, .f32⟩
  | .hbm, ⟨6, _⟩ => ⟨S_, .f32⟩
  | .hbm, ⟨7, _⟩ => ⟨S16x64, .f32⟩
  | .hbm, ⟨8, _⟩ => ⟨S16x64x1, .f32⟩
  | .hbm, ⟨9, _⟩ => ⟨S_, .f32⟩
  | .hbm, ⟨10, _⟩ => ⟨S16x64x1, .f32⟩
  | .hbm, ⟨11, _⟩ => ⟨S16x64x1, .f32⟩
  | .hbm, ⟨12, _⟩ => ⟨S_, .f32⟩
  | .hbm, ⟨13, _⟩ => ⟨S16x64x1, .f32⟩
  | .hbm, ⟨14, _⟩ => ⟨S16x64x1, .f32⟩
  | .hbm, ⟨15, _⟩ => ⟨S16x64x1, .f32⟩
  | .hbm, ⟨16, _⟩ => ⟨S16x64x1024, .f32⟩
  | .hbm, ⟨17, _⟩ => ⟨S16x64x1024, .f32⟩
  | .hbm, ⟨18, _⟩ => ⟨S1x1x1024, .f32⟩
  | .hbm, ⟨19, _⟩ => ⟨S16x64x1024, .f32⟩
  | .hbm, ⟨20, _⟩ => ⟨S16x64x1024, .f32⟩
  | .hbm, ⟨21, _⟩ => ⟨S1024x3080, .f32⟩
  | .hbm, ⟨22, _⟩ => ⟨S16x64x3080, .f32⟩
  | .hbm, ⟨23, _⟩ => ⟨S16x64x512, .f32⟩
  | .hbm, ⟨24, _⟩ => ⟨S16x64x512, .f32⟩
  | .hbm, ⟨25, _⟩ => ⟨S16x64x512, .f32⟩
  | .hbm, ⟨26, _⟩ => ⟨S16x64x512, .f32⟩
  | .hbm, ⟨27, _⟩ => ⟨S16x64x512, .f32⟩
  | .hbm, ⟨28, _⟩ => ⟨S16x64x512, .f32⟩
  | .hbm, ⟨29, _⟩ => ⟨S16x64x8, .f32⟩
  | .hbm, ⟨30, _⟩ => ⟨S8, .f32⟩
  | .hbm, ⟨31, _⟩ => ⟨S1x1x8, .f32⟩
  | .hbm, ⟨32, _⟩ => ⟨S16x64x8, .f32⟩
  | .hbm, ⟨33, _⟩ => ⟨S16x64x8, .f32⟩
  | .hbm, ⟨34, _⟩ => ⟨S16x64x8, .f32⟩
  | .hbm, ⟨35, _⟩ => ⟨S_, .f32⟩
  | .hbm, ⟨36, _⟩ => ⟨S16x64x8, .f32⟩
  | .hbm, ⟨37, _⟩ => ⟨S16x64x8, .f32⟩
  | .hbm, ⟨38, _⟩ => ⟨S16x64x8, .f32⟩
  | .hbm, ⟨39, _⟩ => ⟨S16x64x8, .f32⟩
  | .hbm, ⟨40, _⟩ => ⟨S16x64x8, .i1⟩
  | .hbm, ⟨41, _⟩ => ⟨S16x64x8, .f32⟩
  | .hbm, ⟨42, _⟩ => ⟨S16x64x8, .f32⟩
  | .hbm, ⟨43, _⟩ => ⟨S16x64x8, .f32⟩
  | .hbm, ⟨44, _⟩ => ⟨S16x64x8, .f32⟩
  | .hbm, ⟨45, _⟩ => ⟨S16x64x8, .f32⟩
  | .hbm, ⟨46, _⟩ => ⟨S16x64x8, .f32⟩
  | .hbm, ⟨47, _⟩ => ⟨S16x64x8, .f32⟩
  | .hbm, ⟨48, _⟩ => ⟨S16x64x8, .f32⟩
  | .hbm, ⟨49, _⟩ => ⟨S16x64x8, .f32⟩
  | .hbm, ⟨50, _⟩ => ⟨S1024x8x64, .f32⟩
  | .hbm, ⟨51, _⟩ => ⟨S1024x8x64, .f32⟩
  | .hbm, ⟨52, _⟩ => ⟨S1024x8x64, .f32⟩
  | .hbm, ⟨53, _⟩ => ⟨S1024x8x64, .f32⟩
  | .hbm, ⟨54, _⟩ => ⟨S1024x8, .f32⟩
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call0_v0 : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_v1 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩

abbrev nD : Nat := 1
abbrev τ : Topo := Topo.v7x

variable {F : FTy → Type} [FloatOps F]
-- ==== ProjCS.lean ====
abbrev S1024x1024 : Shape := ⟨2, ![1024, 1024]⟩
abbrev S1x1024 : Shape := ⟨2, ![1, 1024]⟩
abbrev S1x1024x1280 : Shape := ⟨3, ![1, 1024, 1280]⟩
abbrev S1024 : Shape := ⟨1, ![1024]⟩
abbrev S1024x1280 : Shape := ⟨2, ![1024, 1280]⟩
abbrev S1024x128 : Shape := ⟨2, ![1024, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1x1024x1280, .f32⟩
  | .hbm, ⟨3, _⟩ => ⟨S1024, .f32⟩
  | .hbm, ⟨4, _⟩ => ⟨S1x1024, .f32⟩
  | .hbm, ⟨5, _⟩ => ⟨S1024x1280, .f32⟩
  | .hbm, ⟨6, _⟩ => ⟨S1024x1280, .bf16⟩
  | .hbm, ⟨7, _⟩ => ⟨S1024x1024, .bf16⟩
  | .hbm, ⟨8, _⟩ => ⟨S1024x128, .f32⟩
  | .hbm, ⟨9, _⟩ => ⟨S1024x128, .f32⟩
  | .hbm, ⟨10, _⟩ => ⟨S1024x128, .bf16⟩
  | .hbm, ⟨11, _⟩ => ⟨S1024x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1280, .bf16⟩
  | .local _ .vmem, ⟨4, _⟩ => ⟨S512x1024, .bf16⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjCSRefIdeal.lean ====
abbrev S1024x1024 : Shape := ⟨2, ![1024, 1024]⟩
abbrev S1x1024 : Shape := ⟨2, ![1, 1024]⟩
abbrev S1x1024x1280 : Shape := ⟨3, ![1, 1024, 1280]⟩
abbrev S1024 : Shape := ⟨1, ![1024]⟩
abbrev S_ : Shape := ⟨0, ![]⟩
abbrev S1024x1 : Shape := ⟨2, ![1024, 1]⟩
abbrev S1024x1280 : Shape := ⟨2, ![1024, 1280]⟩
abbrev S1024x128 : Shape := ⟨2, ![1024, 128]⟩

abbrev nBuf : Space → Nat
  | .hbm => 25
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1x1024x1280, .f32⟩
  | .hbm, ⟨3, _⟩ => ⟨S1024, .f32⟩
  | .hbm, ⟨4, _⟩ => ⟨S1024x1024, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1024, .f32⟩
  | .hbm, ⟨16, _⟩ => ⟨S1024x1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x1280, .f32⟩
  | .hbm, ⟨21, _⟩ => ⟨S1024x1280, .f32⟩
  | .hbm, ⟨22, _⟩ => ⟨S1024x1024, .f32⟩
  | .hbm, ⟨23, _⟩ => ⟨S1024x128, .f32⟩
  | .hbm, ⟨24, _⟩ => ⟨S1024x128, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Route.lean ====
abbrev S65536x1024 : Shape := ⟨2, ![65536, 1024]⟩
abbrev S1x1024x1024 : Shape := ⟨3, ![1, 1024, 1024]⟩
abbrev S1x1024 : Shape := ⟨2, ![1, 1024]⟩
abbrev S2048x128 : Shape := ⟨2, ![2048, 128]⟩
abbrev S1024x1024 : Shape := ⟨2, ![1024, 1024]⟩
abbrev S1024 : Shape := ⟨1, ![1024]⟩
abbrev S4x65536x256 : Shape := ⟨3, ![4, 65536, 256]⟩
abbrev S65536x128 : Shape := ⟨2, ![65536, 128]⟩
abbrev S512x1024 : Shape := ⟨2, ![512, 1024]⟩
abbrev S4x512x256 : Shape := ⟨3, ![4, 512, 256]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩
abbrev S1024x128 : Shape := ⟨2, ![1024, 128]⟩

abbrev nBuf : Space → Nat
  | .hbm => 12
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1x1024x1024, .f32⟩
  | .hbm, ⟨3, _⟩ => ⟨S1x1024, .f32⟩
  | .hbm, ⟨4, _⟩ => ⟨S2048x128, .bf16⟩
  | .hbm, ⟨5, _⟩ => ⟨S1024x1024, .f32⟩
  | .hbm, ⟨6, _⟩ => ⟨S1024x1024, .bf16⟩
  | .hbm, ⟨7, _⟩ => ⟨S1024, .f32⟩
  | .hbm, ⟨8, _⟩ => ⟨S1x1024, .f32⟩
  | .hbm, ⟨9, _⟩ => ⟨S65536x1024, .f32⟩
  | .hbm, ⟨10, _⟩ => ⟨S4x65536x256, .f32⟩
  | .hbm, ⟨11, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S2048x128, .bf16⟩
  | .local _ .vmem, ⟨7, _⟩ => ⟨S512x1024, .f32⟩
  | .local _ .vmem, ⟨8, _⟩ => ⟨S512x1024, .f32⟩
  | .local _ .vmem, ⟨9, _⟩ => ⟨S4x512x256, .f32⟩
  | .local _ .vmem, ⟨10, _⟩ => ⟨S4x512x256, .f32⟩
  | .local _ .vmem, ⟨11, _⟩ => ⟨S512x128, .f32⟩
  | .local _ .vmem, ⟨12, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RouteRefIdeal.lean ====
abbrev S65536x1024 : Shape := ⟨2, ![65536, 1024]⟩
abbrev S1x1024x1024 : Shape := ⟨3, ![1, 1024, 1024]⟩
abbrev S1x1024 : Shape := ⟨2, ![1, 1024]⟩
abbrev S2048x128 : Shape := ⟨2, ![2048, 128]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S65536x4x256 : Shape := ⟨3, ![65536, 4, 256]⟩
abbrev S4x65536x256 : Shape := ⟨3, ![4, 65536, 256]⟩

abbrev nBuf : Space → Nat
  | .hbm => 28
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1x1024x1024, .f32⟩
  | .hbm, ⟨3, _⟩ => ⟨S1x1024, .f32⟩
  | .hbm, ⟨4, _⟩ => ⟨S2048x128, .bf16⟩
  | .hbm, ⟨5, _⟩ => ⟨S65536x1024, .f32⟩
  | .hbm, ⟨6, _⟩ => ⟨S1024x1024, .f32⟩
  | .hbm, ⟨7, _⟩ => ⟨S65536x1024, .f32⟩
  | .hbm, ⟨8, _⟩ => ⟨S65536x1024, .f32⟩
  | .hbm, ⟨9, _⟩ => ⟨S1024, .f32⟩
  | .hbm, ⟨10, _⟩ => ⟨S65536x1024, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x1, .f32⟩
  | .hbm, ⟨21, _⟩ => ⟨S65536x1024, .f32⟩
  | .hbm, ⟨22, _⟩ => ⟨S65536x1024, .f32⟩
  | .hbm, ⟨23, _⟩ => ⟨S1x1024, .f32⟩
  | .hbm, ⟨24, _⟩ => ⟨S65536x1024, .f32⟩
  | .hbm, ⟨25, _⟩ => ⟨S65536x1024, .f32⟩
  | .hbm, ⟨26, _⟩ => ⟨S65536x4x256, .f32⟩
  | .hbm, ⟨27, _⟩ => ⟨S4x65536x256, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.StickMath.lean ====
/-
  The arithmetic of stick-breaking attention for ONE query row, on the real line and in the extended reals.

  For a query row the logits are a function `z` of the key position, in base 2, and the row sees the keys before
  position `T`. `gate z` is the base-2 logarithm of the logistic function at that logit, `gate z - z` the base-2
  logarithm of its complement. `suffix z T a` sums the latter over the visible keys from `a` on; `weight z T s` is
  key `s`'s attention weight; `mix z T v a` is the weighted sum of the values from key `a` on.

  `block_*` state how a block of 256 keys takes the pair (`suffix`, `mix`) at its end to the pair at its start;
  `gate_log` and `weight_exp` restate the weights in base e, as softplus and the exponential write them.
-/
module

public import Idealize.ShloMosaic.PureOps.Ideal
public import Mathlib.Analysis.SpecialFunctions.Pow.Real
public import Mathlib.Analysis.SpecialFunctions.Log.Basic

@[expose] public section

noncomputable section

namespace Cert.Stick

open Idealize.ShloMosaic

/-- The base-2 logarithm of the logistic function at base-2 logit `z`. -/
def gate (z : ℝ) : ℝ := min z 0 - Real.log (1 + (2 : ℝ) ^ (-|z|)) * (Real.log 2)⁻¹

/-- The base-2 logarithm of what key `j` leaves of the stick; zero for a key the row does not see. -/
def keep (z : ℕ → ℝ) (T j : ℕ) : ℝ := if j < T then gate (z j) - z j else 0

/-- What the keys from `a` on leave of the stick, in base 2. -/
def suffix (z : ℕ → ℝ) (T a : ℕ) : ℝ := ∑ j ∈ Finset.Ico a 4096, keep z T j

/-- Key `s`'s attention weight. -/
def weight (z : ℕ → ℝ) (T s : ℕ) : ℝ := if s < T then (2 : ℝ) ^ (gate (z s) + suffix z T (s + 1)) else 0

/-- The weighted sum of the values from key `a` on. -/
def mix (z : ℕ → ℝ) (T : ℕ) (v : ℕ → EReal) (a : ℕ) : EReal :=
  ∑ s ∈ Finset.Ico a 4096, ((weight z T s : ℝ) : EReal) * v s

/-- A sum of real numbers read in the extended reals. -/
theorem coe_sum {ι : Type} (s : Finset ι) (f : ι → ℝ) : ((∑ i ∈ s, f i : ℝ) : EReal) = ∑ i ∈ s, (f i : EReal) :=
  map_sum (⟨⟨fun x : ℝ => (x : EReal), rfl⟩, fun _ _ => rfl⟩ : ℝ →+ EReal) f s

theorem coe_max (x y : ℝ) : ((max x y : ℝ) : EReal) = max (x : EReal) (y : EReal) :=
  Monotone.map_max (f := fun x : ℝ => (x : EReal)) fun _ _ h => EReal.coe_le_coe_iff.mpr h

theorem coe_min (x y : ℝ) : ((min x y : ℝ) : EReal) = min (x : EReal) (y : EReal) :=
  Monotone.map_min (f := fun x : ℝ => (x : EReal)) fun _ _ h => EReal.coe_le_coe_iff.mpr h

/-- A row that sees no key from `a` on has nothing there. -/
theorem suffix_of_le (z : ℕ → ℝ) (T a : ℕ) (h : T ≤ a) : suffix z T a = 0 :=
  Finset.sum_eq_zero fun j hj => if_neg (by have := (Finset.mem_Ico.mp hj).1; omega)

theorem mix_of_le (z : ℕ → ℝ) (T : ℕ) (v : ℕ → EReal) (a : ℕ) (h : T ≤ a) : mix z T v a = 0 :=
  Finset.sum_eq_zero fun j hj => by
    have h' : ¬ j < T := by have := (Finset.mem_Ico.mp hj).1; omega
    simp [weight, h']

/-- A sum over an interval of 256 positions as a sum over `Fin 256`. -/
theorem sum_Ico_256 {M : Type} [AddCommMonoid M] (f : ℕ → M) (a : ℕ) :
    ∑ j ∈ Finset.Ico a (a + 256), f j = ∑ k : Fin 256, f (a + k.val) := by
  rw [Finset.sum_Ico_eq_sum_range, Nat.add_sub_cancel_left, Finset.sum_range]

theorem suffix_split (z : ℕ → ℝ) (T a b : ℕ) (h : a ≤ b) (hb : b ≤ 4096) :
    suffix z T a = (∑ j ∈ Finset.Ico a b, keep z T j) + suffix z T b :=
  (Finset.sum_Ico_consecutive _ h hb).symm

theorem mix_block (z : ℕ → ℝ) (T : ℕ) (v : ℕ → EReal) (a : ℕ) (ha : a + 256 ≤ 4096) :
    mix z T v (a + 256) + ∑ k : Fin 256, ((weight z T (a + k.val) : ℝ) : EReal) * v (a + k.val) = mix z T v a := by
  unfold mix
  rw [← Finset.sum_Ico_consecutive _ (Nat.le_add_right a 256) ha,
    sum_Ico_256 (fun s => ((weight z T s : ℝ) : EReal) * v s) a, add_comm]

/-- The strictly later keys of the block, as a product with the strictly triangular matrix. -/
theorem block_after (z : ℕ → ℝ) (T a : ℕ) (c : Fin 256) :
    (∑ k : Fin 256, ((keep z T (a + k.val) : ℝ) : EReal) * (if c.val < k.val then 1 else 0))
      = ((∑ j ∈ Finset.Ico (a + c.val + 1) (a + 256), keep z T j : ℝ) : EReal) := by
  have e : ∀ k : Fin 256, ((keep z T (a + k.val) : ℝ) : EReal) * (if c.val < k.val then 1 else 0)
      = (((if a + c.val < a + k.val then keep z T (a + k.val) else 0 : ℝ)) : EReal) := fun k => by
    by_cases h : c.val < k.val
    · simp [h]
    · simp [h]
  rw [Finset.sum_congr rfl fun k _ => e k, ← coe_sum,
    ← sum_Ico_256 (fun j => if a + c.val < j then keep z T j else 0) a, ← Finset.sum_filter]
  congr 2
  ext j
  simp only [Finset.mem_filter, Finset.mem_Ico]
  omega

/-- The whole block's sum: its first key and the strictly later ones. -/
theorem block_total (z : ℕ → ℝ) (T a : ℕ) (ha : a + 256 ≤ 4096) :
    ((suffix z T (a + 256) : ℝ) : EReal) + ((∑ j ∈ Finset.Ico (a + 0 + 1) (a + 256), keep z T j : ℝ) : EReal)
      + ((keep z T a : ℝ) : EReal) = ((suffix z T a : ℝ) : EReal) := by
  rw [← EReal.coe_add, ← EReal.coe_add, suffix_split z T a (a + 256) (by omega) ha,
    Finset.sum_eq_sum_Ico_succ_bot (by omega : a < a + 256)]
  congr 1
  simp only [Nat.add_zero]
  ring

/-- A visible key's weight from the block's own later keys and the keys of the blocks after it. -/
theorem block_weight (z : ℕ → ℝ) (T a : ℕ) (ha : a + 256 ≤ 4096) (c : Fin 256) (h : a + c.val < T) :
    Ideal.exp2 (((gate (z (a + c.val)) : ℝ) : EReal)
      + ((∑ j ∈ Finset.Ico (a + c.val + 1) (a + 256), keep z T j : ℝ) : EReal) + ((suffix z T (a + 256) : ℝ) : EReal))
      = ((weight z T (a + c.val) : ℝ) : EReal) := by
  rw [← EReal.coe_add, ← EReal.coe_add, Ideal.exp2_coe]
  congr 1
  unfold weight
  rw [if_pos h, suffix_split z T (a + c.val + 1) (a + 256) (by omega) ha, add_assoc]
  rfl

/-- The logistic function's base-2 logarithm as the extended reals' operations compute it. -/
theorem gate_eq (z : ℝ) : min (z : EReal) 0
      - Ideal.log (1 + Ideal.exp2 (0 - max (z : EReal) (-(z : EReal)))) * (((Real.log 2)⁻¹ : ℝ) : EReal)
      = ((gate z : ℝ) : EReal) := by
  have e1 : max (z : EReal) (-(z : EReal)) = ((|z| : ℝ) : EReal) := by
    rw [← EReal.coe_neg, ← coe_max]; rfl
  have e2 : (0 : EReal) - ((|z| : ℝ) : EReal) = ((-|z| : ℝ) : EReal) := by
    rw [zero_sub, EReal.coe_neg]
  have e3 : (1 : EReal) + ((Real.rpow 2 (-|z|) : ℝ) : EReal) = ((1 + (2:ℝ) ^ (-|z|) : ℝ) : EReal) := by
    rw [EReal.coe_add]; rfl
  have hpos : (0:ℝ) < 1 + (2:ℝ) ^ (-|z|) := by positivity
  have e4 : Ideal.log ((1 + (2:ℝ) ^ (-|z|) : ℝ) : EReal) = ((Real.log (1 + (2:ℝ) ^ (-|z|)) : ℝ) : EReal) := by
    rw [Ideal.log_coe, if_neg (not_le.mpr hpos)]
  rw [e1, e2, Ideal.exp2_coe, e3, e4, ← EReal.coe_mul]
  unfold gate
  rw [EReal.coe_sub, coe_min]
  rfl

/-- The same in base e: minus the softplus of minus the logit. -/
theorem gate_log (z : ℝ) : gate z * Real.log 2
    = -(max (-(z * Real.log 2)) 0 + Real.log (1 + Real.exp (-|(-(z * Real.log 2))|))) := by
  have hl : (0:ℝ) < Real.log 2 := Real.log_pos (by norm_num)
  have e1 : |(-(z * Real.log 2))| = |z| * Real.log 2 := by rw [abs_neg, abs_mul, abs_of_pos hl]
  have e2 : (2:ℝ) ^ (-|z|) = Real.exp (-(|z| * Real.log 2)) := by
    rw [Real.rpow_def_of_pos (by norm_num)]; congr 1; ring
  have e3 : min z 0 * Real.log 2 = - max (-(z * Real.log 2)) 0 := by
    rw [min_mul_of_nonneg _ _ hl.le, zero_mul, ← min_neg_neg, neg_neg, neg_zero]
  unfold gate
  rw [sub_mul, mul_assoc, inv_mul_cancel₀ hl.ne', mul_one, e1, ← e2, e3]
  ring

theorem keep_log (z : ℝ) : (gate z - z) * Real.log 2
    = -(max (z * Real.log 2) 0 + Real.log (1 + Real.exp (-|z * Real.log 2|))) := by
  rw [sub_mul, gate_log, abs_neg]
  have : max (z * Real.log 2) 0 = max (-(z * Real.log 2)) 0 + z * Real.log 2 := by
    rw [← max_add_add_right, neg_add_cancel, zero_add, max_comm]
  rw [this]; ring

/-- The weight of a visible key in base e. -/
theorem weight_exp (z : ℕ → ℝ) (T s : ℕ) (h : s < T) :
    weight z T s = Real.exp (gate (z s) * Real.log 2 + ∑ j ∈ Finset.Ico (s + 1) 4096, keep z T j * Real.log 2) := by
  unfold weight suffix
  rw [if_pos h, Real.rpow_def_of_pos (by norm_num), ← Finset.sum_mul, ← add_mul, mul_comm]

end Cert.Stick

end
-- ==== Proof.StickTile.lean ====
module

public import proofs.«01_k».proof.Proof.Gen.SbIdeal.Skeleton
public import proofs.«01_k».proof.Proof.StickMath
public import Idealize.ShloMosaic.Lib.Pointwise
public import Idealize.ShloMosaic.Lib.WordCmp

/-! What one 512-key tile of the stick-breaking kernel computes: its logits, the two 256-key blocks it is cut into, and
how each of the kernel's stored words acts on the pair (total of the later keeps, accumulated mix). -/

@[expose] public section

set_option maxRecDepth 16384

noncomputable section

namespace Cert.SbIdeal.Tile

open Cert.SbIdeal Cert.SbIdeal.Gen Cert.Stick Idealize.ShloMosaic Idealize.ShloMosaic.TcCoe Idealize.SL.Sem

/-- Comparing two small naturals as words. -/
theorem slt_nat (a b : ℕ) (ha : a < 2 ^ 31) (hb : b < 2 ^ 31) :
    IntOp.cmpi CmpIPredicate.slt (BitVec.ofNat 32 a) (BitVec.ofNat 32 b) = if a < b then 1#1 else 0#1 := by
  rw [WordCmp.cmpi_slt_ofNat ha hb]
  by_cases h : a < b <;> simp [h]

theorem sgt_nat (a b : ℕ) (ha : a < 2 ^ 31) (hb : b < 2 ^ 31) :
    IntOp.cmpi CmpIPredicate.sgt (BitVec.ofNat 32 a) (BitVec.ofNat 32 b) = if b < a then 1#1 else 0#1 := by
  rw [WordCmp.cmpi_sgt_ofNat ha hb]
  by_cases h : b < a <;> simp [h]

/-- The strictly triangular matrix of a past block: one below the diagonal, zero elsewhere. -/
theorem upper_past (k c : Fin 256) : k0_pay22 (F := Ideal) (ix2 k c) = if c.val < k.val then 1 else 0 := by
  pointwise [k0_pay22]
  rw [sgt_nat _ _ (by omega) (by omega)]
  by_cases h : c.val < k.val
  · rw [if_pos h, if_pos h]
    show (((BitVec.setWidth 32 1#1).toInt : ℝ) : EReal) = 1
    rw [show (BitVec.setWidth 32 1#1).toInt = 1 from by decide]
    norm_num
  · rw [if_neg h, if_neg h]
    show (((BitVec.setWidth 32 0#1).toInt : ℝ) : EReal) = 0
    rw [show (BitVec.setWidth 32 0#1).toInt = 0 from by decide]
    norm_num

/-- The diagonal block's matrix is the same. -/
theorem upper_diag (k c : Fin 256) : k0_pay21 (F := Ideal) (ix2 k c) = if c.val < k.val then 1 else 0 :=
  upper_past k c

/-- The row within the tile, as the kernel's words compute it. -/
theorem row_word : ∀ r : Fin 1024, (IntOp.addi 0#32
    (Scalar.select
      (IntOp.andi
        (IntOp.xori
          (IntOp.cmpi CmpIPredicate.slt
            (IntOp.remsi ArithUnit.vector (BitVec.ofNat 32 ↑r)
              (Scalar.select (Scalar.cmpi CmpIPredicate.eq 512#32 0#32) 1#32 512#32))
            0#32)
          (Scalar.cmpi CmpIPredicate.slt (Scalar.select (Scalar.cmpi CmpIPredicate.eq 512#32 0#32) 1#32 512#32)
            0#32))
        (IntOp.cmpi CmpIPredicate.ne
          (IntOp.remsi ArithUnit.vector (BitVec.ofNat 32 ↑r)
            (Scalar.select (Scalar.cmpi CmpIPredicate.eq 512#32 0#32) 1#32 512#32))
          0#32))
      (IntOp.addi
        (IntOp.remsi ArithUnit.vector (BitVec.ofNat 32 ↑r)
          (Scalar.select (Scalar.cmpi CmpIPredicate.eq 512#32 0#32) 1#32 512#32))
        (Scalar.select (Scalar.cmpi CmpIPredicate.eq 512#32 0#32) 1#32 512#32))
      (IntOp.remsi ArithUnit.vector (BitVec.ofNat 32 ↑r)
        (Scalar.select (Scalar.cmpi CmpIPredicate.eq 512#32 0#32) 1#32 512#32)))) = BitVec.ofNat 32 (r.val % 512) := by
  decide +kernel

/-- The diagonal block's mask: column before the row within the tile. -/
theorem mask_at (r : Fin 1024) (c : Fin 512) :
    k0_pay20 0#32 k0_pay17 k0_pay18 k0_pay19 (ix2 r c) = if c.val < r.val % 512 then 1#1 else 0#1 := by
  pointwise [k0_pay20, k0_pay17, k0_pay18, k0_pay19]
  rw [row_word r]
  have hr : r.val % 512 < 512 := Nat.mod_lt _ (by norm_num)
  generalize r.val % 512 = q at hr
  exact slt_nat _ _ (by omega) (by omega)

/-- The stacked queries: rows 0–511 hold the first head's lanes, rows 512–1023 the second head's, the other lanes zero. -/
theorem stacked_at (q : Vec Ideal S1x512x128 .bf16) (r : Fin 1024) (x : Fin 128) :
    k0_pay16 (F := Ideal) q (ix2 r x)
      = if x.val / 64 = r.val / 512 then q (ix3 0 ⟨r.val % 512, Nat.mod_lt _ (by norm_num)⟩ x) else 0 := by
  pointwise [k0_pay16]
  have e1 : IntOp.cmpi CmpIPredicate.slt (BitVec.ofNat 32 x.val) 64#32 = if x.val / 64 = 0 then 1#1 else 0#1 := by
    rw [slt_nat _ 64 (by omega) (by omega)]
    exact if_congr (by omega) rfl rfl
  have e2 : IntOp.cmpi CmpIPredicate.sge (BitVec.ofNat 32 x.val) 64#32 = if x.val / 64 = 1 then 1#1 else 0#1 := by
    revert x; decide +kernel
  rw [e1, e2]
  have hx : x.val / 64 = 0 ∨ x.val / 64 = 1 := by omega
  by_cases hr : r.val < 512
  · have h0 : r.val / 512 = 0 := by omega
    have hm : (⟨r.val % 512, Nat.mod_lt _ (by norm_num)⟩ : Fin 512) = ⟨r.val, hr⟩ := Fin.ext (by show r.val % 512 = r.val; omega)
    rw [dif_pos hr, h0, hm]
    rcases hx with h | h <;> rw [h] <;> rfl
  · have h0 : r.val / 512 = 1 := by omega
    have hm : (⟨r.val % 512, Nat.mod_lt _ (by norm_num)⟩ : Fin 512) = ⟨r.val - 512, by omega⟩ := Fin.ext (by show r.val % 512 = r.val - 512; omega)
    rw [dif_neg hr, h0, hm]
    rcases hx with h | h <;> rw [h] <;> rfl

/-- The output picks, per lane, the accumulator's row of that lane's head. -/
theorem picked_at (acc : Vec Ideal S1024x128 .f32) (r : Fin 512) (l : Fin 128) :
    k0_pay45 (F := Ideal) acc (ix2 r l) = acc (ix2 ⟨512 * (l.val / 64) + r.val, by omega⟩ l) := by
  pointwise [k0_pay45]
  have e1 : IntOp.cmpi CmpIPredicate.slt (BitVec.ofNat 32 l.val) 64#32 = if l.val / 64 = 0 then 1#1 else 0#1 := by
    rw [slt_nat _ 64 (by omega) (by omega)]
    exact if_congr (by omega) rfl rfl
  rw [e1]
  have hx : l.val / 64 = 0 ∨ l.val / 64 = 1 := by omega
  rcases hx with h | h
  · rw [if_pos h]
    refine congrArg (fun a => acc (ix2 a l)) (Fin.ext ?_)
    show r.val = 512 * (l.val / 64) + r.val
    omega
  · rw [if_neg (by omega)]
    refine congrArg (fun a => acc (ix2 a l)) (Fin.ext ?_)
    show 512 + r.val = 512 * (l.val / 64) + r.val
    omega

/-- What one tile of 512 keys holds: the logits of the 1024 stacked rows are `z`, the values `V`, the keys starting at
    position `a`. -/
structure Holds (qs : FVec Ideal S1024x128 .bf16) (k v : Vec Ideal S1x512x128 .bf16) (z : Fin 1024 → ℕ → ℝ)
    (V : Fin 128 → ℕ → EReal) (a : ℕ) : Prop where
  logit : ∀ (r : Fin 1024) (c : Fin 512), (∑ x : Fin 128, qs (ix2 r x) * k (ix3 0 c x)) = ((z r (a + c.val) : ℝ) : EReal)
  value : ∀ (l : Fin 128) (c : Fin 512), v (ix3 0 c l) = V l (a + c.val)

variable {qs : FVec Ideal S1024x128 .bf16} {k v : Vec Ideal S1x512x128 .bf16} {z : Fin 1024 → ℕ → ℝ}
  {V : Fin 128 → ℕ → EReal} {a : ℕ}

theorem logits (h : Holds qs k v z V a) (r : Fin 1024) (c : Fin 512) :
    k0_pay3 (F := Ideal) qs k (ix2 r c) = ((z r (a + c.val) : ℝ) : EReal) := by
  pointwise [k0_pay3]
  exact h.logit r c

theorem gates (h : Holds qs k v z V a) (r : Fin 1024) (c : Fin 512) :
    k0_pay4 (F := Ideal) qs k (ix2 r c) = ((gate (z r (a + c.val)) : ℝ) : EReal) := by
  pointwise [k0_pay4, logits h r c]
  rw [IdealRules.named_const.ideal_named_scalar Cert.SbIdeal.κ "log2e" _ (((Real.log 2)⁻¹ : ℝ) : EReal) rfl]
  exact gate_eq _

theorem keeps (h : Holds qs k v z V a) (T : Fin 1024 → ℕ) (hT : ∀ r, a + 512 ≤ T r) (r : Fin 1024) (c : Fin 512) :
    k0_pay5 (F := Ideal) qs k (ix2 r c) = ((keep (z r) (T r) (a + c.val) : ℝ) : EReal) := by
  pointwise [k0_pay5, logits h r c, gates h r c]
  rw [← EReal.coe_sub]
  unfold keep
  rw [if_pos (by have := hT r; omega)]

/-- The later keys of the tile's upper half, at each of its columns. -/
theorem after_hi (lk : FVec Ideal S1024x512 .bf16) (zr : ℕ → ℝ) (T : ℕ) (r : Fin 1024)
    (h : ∀ c : Fin 512, lk (ix2 r c) = ((keep zr T (a + c.val) : ℝ) : EReal)) (u : FVec Ideal S256x256 .bf16)
    (hu : ∀ k c : Fin 256, u (ix2 k c) = if c.val < k.val then 1 else 0) (c : Fin 256) :
    (∑ k : Fin 256, lk (ix2 r ⟨256 + k.val, by omega⟩) * u (ix2 k c))
      = ((∑ j ∈ Finset.Ico (a + 256 + c.val + 1) (a + 256 + 256), keep zr T j : ℝ) : EReal) := by
  rw [← block_after]
  exact Finset.sum_congr rfl fun k _ => by rw [h, hu, ← Nat.add_assoc]

/-- The same in the tile's lower half. -/
theorem after_lo (lk : FVec Ideal S1024x512 .bf16) (zr : ℕ → ℝ) (T : ℕ) (r : Fin 1024)
    (h : ∀ c : Fin 512, lk (ix2 r c) = ((keep zr T (a + c.val) : ℝ) : EReal)) (u : FVec Ideal S256x256 .bf16)
    (hu : ∀ k c : Fin 256, u (ix2 k c) = if c.val < k.val then 1 else 0) (c : Fin 256) :
    (∑ k : Fin 256, lk (ix2 r ⟨k.val, by omega⟩) * u (ix2 k c))
      = ((∑ j ∈ Finset.Ico (a + c.val + 1) (a + 256), keep zr T j : ℝ) : EReal) := by
  rw [← block_after]
  exact Finset.sum_congr rfl fun k _ => by rw [h, hu]

section Past

variable (h : Holds qs k v z V a) (T : Fin 1024 → ℕ) (ha : a + 512 ≤ 4096) (hT : ∀ r, a + 512 ≤ T r)
include h ha hT

/-- PAST TILE, upper half: the accumulator. -/
theorem past_mix_hi (tot : FVec Ideal S1024x1 .f32) (acc : Vec Ideal S1024x128 .f32)
    (htot : ∀ r, tot (ix2 r 0) = ((suffix (z r) (T r) (a + 512) : ℝ) : EReal))
    (hacc : ∀ r l, acc (ix2 r l) = mix (z r) (T r) (V l) (a + 512)) (r : Fin 1024) (l : Fin 128) :
    k0_pay7 (F := Ideal) qs (k0_pay22 (F := Ideal)) tot k v acc (ix2 r l) = mix (z r) (T r) (V l) (a + 256) := by
  pointwise [k0_pay7, k0_pay6, k0_pay2]
  rw [hacc, ← mix_block (z r) (T r) (V l) (a + 256) (by omega)]
  refine congrArg₂ (· + ·) rfl (Finset.sum_congr rfl fun c _ => ?_)
  rw [after_hi _ (z r) (T r) r (keeps h T hT r) _ upper_past, gates h, htot, h.value]
  have := block_weight (z r) (T r) (a + 256) (by omega) c (by have := hT r; omega)
  rw [← Nat.add_assoc, ← this]
  rfl

/-- PAST TILE, upper half: the total. -/
theorem past_total_hi (tot : FVec Ideal S1024x1 .f32)
    (htot : ∀ r, tot (ix2 r 0) = ((suffix (z r) (T r) (a + 512) : ℝ) : EReal)) (r : Fin 1024) :
    k0_pay37 (F := Ideal) tot (k0_pay5 qs k) (k0_pay8 qs (k0_pay22 (F := Ideal)) k) (ix2 r 0)
      = ((suffix (z r) (T r) (a + 256) : ℝ) : EReal) := by
  pointwise [k0_pay37, k0_pay8, k0_pay6]
  have e := after_hi _ (z r) (T r) r (keeps h T hT r) _ upper_past 0
  refine (congrArg₂ (· + ·) (congrArg₂ (· + ·) (htot r) e) (keeps h T hT r 256)).trans ?_
  exact block_total (z r) (T r) (a + 256) (by omega)

/-- PAST TILE: the accumulator. -/
theorem past_mix (tot : FVec Ideal S1024x1 .f32) (acc : Vec Ideal S1024x128 .f32)
    (htot : ∀ r, tot (ix2 r 0) = ((suffix (z r) (T r) (a + 512) : ℝ) : EReal))
    (hacc : ∀ r l, acc (ix2 r l) = mix (z r) (T r) (V l) (a + 512)) (r : Fin 1024) (l : Fin 128) :
    k0_pay39 (F := Ideal) (k0_pay22 (F := Ideal)) tot (k0_pay2 v) (k0_pay4 qs k) (k0_pay5 qs k)
      (k0_pay8 qs (k0_pay22 (F := Ideal)) k) (k0_pay7 (F := Ideal) qs (k0_pay22 (F := Ideal)) tot k v acc) (ix2 r l)
      = mix (z r) (T r) (V l) a := by
  pointwise [k0_pay39, k0_pay38, k0_pay2]
  rw [past_mix_hi h T ha hT tot acc htot hacc, ← mix_block (z r) (T r) (V l) a (by omega)]
  refine congrArg₂ (· + ·) rfl (Finset.sum_congr rfl fun c _ => ?_)
  rw [after_lo _ (z r) (T r) r (keeps h T hT r) _ upper_past, gates h, past_total_hi h T ha hT tot htot, h.value]
  rw [← block_weight (z r) (T r) a (by omega) c (by have := hT r; omega)]
  rfl

/-- PAST TILE: the total. -/
theorem past_total (tot : FVec Ideal S1024x1 .f32)
    (htot : ∀ r, tot (ix2 r 0) = ((suffix (z r) (T r) (a + 512) : ℝ) : EReal)) (r : Fin 1024) :
    k0_pay40 (F := Ideal) (k0_pay22 (F := Ideal)) tot (k0_pay5 qs k) (k0_pay8 qs (k0_pay22 (F := Ideal)) k) (ix2 r 0)
      = ((suffix (z r) (T r) a : ℝ) : EReal) := by
  pointwise [k0_pay40, k0_pay38]
  have e := after_lo _ (z r) (T r) r (keeps h T hT r) _ upper_past 0
  refine (congrArg₂ (· + ·) (congrArg₂ (· + ·) (past_total_hi h T ha hT tot htot r) e) (keeps h T hT r 0)).trans ?_
  exact block_total (z r) (T r) a (by omega)

end Past

section Diagonal

/-! The diagonal tile, the last one a row sees part of: it starts from a zero total and a zero accumulator. -/

variable (h : Holds qs k v z V a) (T : Fin 1024 → ℕ) (ha : a + 512 ≤ 4096) (hT : ∀ r, T r = a + r.val % 512)
include h hT

theorem masks (r : Fin 1024) (c : Fin 512) :
    k0_pay20 0#32 k0_pay17 k0_pay18 k0_pay19 (ix2 r c) = if a + c.val < T r then 1#1 else 0#1 := by
  rw [mask_at]; exact if_congr (by rw [hT]; omega) rfl rfl

theorem diag_logits (r : Fin 1024) (c : Fin 512) :
    k0_pay24 (F := Ideal) qs k (ix2 r c) = ((z r (a + c.val) : ℝ) : EReal) := logits h r c

theorem diag_gates (r : Fin 1024) (c : Fin 512) :
    k0_pay27 (F := Ideal) qs k (ix2 r c) = ((gate (z r (a + c.val)) : ℝ) : EReal) := gates h r c

theorem diag_keeps (r : Fin 1024) (c : Fin 512) :
    k0_pay28 (F := Ideal) qs 0#32 k0_pay17 k0_pay18 k0_pay19 k (ix2 r c) = ((keep (z r) (T r) (a + c.val) : ℝ) : EReal) := by
  pointwise [k0_pay28, diag_logits h T hT r c, diag_gates h T hT r c, masks h T hT r c]
  unfold keep
  by_cases hc : a + c.val < T r
  · rw [if_pos hc, if_pos hc, EReal.coe_sub]; rfl
  · rw [if_neg hc, if_neg hc]; rfl

include ha

abbrev dlk (qs : FVec Ideal S1024x128 .bf16) (k : Vec Ideal S1x512x128 .bf16) : FVec Ideal S1024x512 .bf16 :=
  k0_pay28 (F := Ideal) qs 0#32 k0_pay17 k0_pay18 k0_pay19 k

/-- DIAGONAL TILE, upper half: the accumulator. -/
theorem diag_mix_hi (r : Fin 1024) (l : Fin 128) :
    k0_pay30 (F := Ideal) (k0_pay20 0#32 k0_pay17 k0_pay18 k0_pay19) (k0_pay21 (F := Ideal)) (k0_pay25 v)
      (k0_pay26 (F := Ideal)) (k0_pay27 qs k) (dlk qs k) (k0_pay23 (F := Ideal)) (ix2 r l)
      = mix (z r) (T r) (V l) (a + 256) := by
  pointwise [k0_pay30, k0_pay29, k0_pay25, k0_pay26, k0_pay23]
  rw [← mix_block (z r) (T r) (V l) (a + 256) (by omega), mix_of_le _ _ _ (a + 256 + 256) (by rw [hT]; omega),
    zero_add]
  refine Finset.sum_congr rfl fun c _ => ?_
  rw [after_hi _ (z r) (T r) r (diag_keeps h T hT r) _ upper_diag, diag_gates h T hT, h.value, masks h T hT]
  rw [← Nat.add_assoc]
  by_cases hc : a + 256 + c.val < T r
  · have := block_weight (z r) (T r) (a + 256) (by omega) c hc
    rw [suffix_of_le _ _ (a + 256 + 256) (by rw [hT]; omega), EReal.coe_zero, add_zero] at this
    rw [if_pos (by simpa [← Nat.add_assoc] using hc), ← this]
    rfl
  · rw [if_neg (by simpa [← Nat.add_assoc] using hc)]
    unfold weight
    rw [if_neg hc, EReal.coe_zero, zero_mul]; rfl

/-- DIAGONAL TILE, upper half: the total. -/
theorem diag_total_hi (r : Fin 1024) :
    k0_pay31 (F := Ideal) (k0_pay21 (F := Ideal)) (k0_pay26 (F := Ideal)) (dlk qs k) (ix2 r 0)
      = ((suffix (z r) (T r) (a + 256) : ℝ) : EReal) := by
  pointwise [k0_pay31, k0_pay29, k0_pay26]
  have e := after_hi _ (z r) (T r) r (diag_keeps h T hT r) _ upper_diag 0
  have t := block_total (z r) (T r) (a + 256) (by omega)
  rw [suffix_of_le _ _ (a + 256 + 256) (by rw [hT]; omega), EReal.coe_zero, zero_add] at t
  exact (congrArg₂ (· + ·) e (diag_keeps h T hT r 256)).trans t

/-- DIAGONAL TILE: the accumulator. -/
theorem diag_mix (r : Fin 1024) (l : Fin 128) :
    k0_pay33 (F := Ideal) (k0_pay20 0#32 k0_pay17 k0_pay18 k0_pay19) (k0_pay21 (F := Ideal)) (k0_pay25 v)
      (k0_pay26 (F := Ideal)) (k0_pay27 qs k) (dlk qs k)
      (k0_pay30 (F := Ideal) (k0_pay20 0#32 k0_pay17 k0_pay18 k0_pay19) (k0_pay21 (F := Ideal)) (k0_pay25 v)
      (k0_pay26 (F := Ideal)) (k0_pay27 qs k) (dlk qs k) (k0_pay23 (F := Ideal))) (ix2 r l)
      = mix (z r) (T r) (V l) a := by
  have e := diag_mix_hi h T ha hT
  generalize k0_pay30 (F := Ideal) _ _ _ _ _ _ _ = acc at e ⊢
  pointwise [k0_pay33, k0_pay32, k0_pay25]
  rw [e, ← mix_block (z r) (T r) (V l) a (by omega)]
  refine congrArg₂ (· + ·) rfl (Finset.sum_congr rfl fun c _ => ?_)
  rw [after_lo _ (z r) (T r) r (diag_keeps h T hT r) _ upper_diag, diag_gates h T hT, h.value, masks h T hT,
    diag_total_hi h T ha hT]
  by_cases hc : a + c.val < T r
  · rw [if_pos hc, ← block_weight (z r) (T r) a (by omega) c hc]
    rfl
  · rw [if_neg hc]
    unfold weight
    rw [if_neg hc, EReal.coe_zero, zero_mul]; rfl

/-- DIAGONAL TILE: the total. -/
theorem diag_total (r : Fin 1024) :
    k0_pay36 (F := Ideal) (k0_pay34 (F := Ideal) (k0_pay21 (F := Ideal)) (k0_pay26 (F := Ideal)) (dlk qs k)) (k0_pay35 (dlk qs k)) (ix2 r 0)
      = ((suffix (z r) (T r) a : ℝ) : EReal) := by
  pointwise [k0_pay36, k0_pay34, k0_pay35, k0_pay32]
  have e := after_lo _ (z r) (T r) r (diag_keeps h T hT r) _ upper_diag 0
  exact (congrArg₂ (· + ·) (congrArg₂ (· + ·) (diag_total_hi h T ha hT r) e) (diag_keeps h T hT r 0)).trans
    (block_total (z r) (T r) a (by omega))

end Diagonal

end Cert.SbIdeal.Tile

end
-- ==== Proof.StickRun.lean ====
module

public import proofs.«01_k».proof.Proof.Gen.SbIdeal.Frame
public import proofs.«01_k».proof.Proof.StickTile
public import Idealize.ShloMosaic.Lib.Pipeline.Value
public import Idealize.ShloMosaic.Lib.Pipeline.ValueKit

/-! One grid point of the stick-breaking kernel: the diagonal tile, then the loop over the past tiles from the nearest
to the farthest. The loop's state is the pair (total of the later keeps, accumulated mix). -/

@[expose] public section

set_option maxRecDepth 16384

noncomputable section

namespace Cert.SbIdeal.Tile

open Cert.SbIdeal Cert.SbIdeal.Gen Cert.Stick Idealize.ShloMosaic Idealize.ShloMosaic.TcCoe Idealize.SL.Sem

theorem zero2 : (![0, 0] : Fin 2 → ℕ) = fun _ => 0 := by funext a; fin_cases a <;> rfl
theorem zero3 : (![0, 0, 0] : Fin 3 → ℕ) = fun _ => 0 := by funext a; fin_cases a <;> rfl

/-- The past loop of row tile `n` makes `n` trips. -/
theorem trips_past (i : grid0.Coords) : (k0_t1_loop i).trips = (i 2).val := by
  unfold k0_t1_loop
  generalize i 2 = n
  revert n
  decide +kernel

/-- The second half of the split loop makes none. -/
theorem trips_rest (i : grid0.Coords) : (k0_t2_loop i).trips = 0 := by
  unfold k0_t2_loop
  generalize i 2 = n
  revert n
  decide +kernel

/-- Trip `k` reads the tile `k + 1` places before the diagonal. -/
theorem past_start (i : grid0.Coords) (k : Fin (k0_t1_loop i).trips) :
    k0_off1 i k = ![0, 512 * ((i 2).val - 1 - k.val), 0] := by
  revert k
  unfold k0_off1 k0_t1_loop
  generalize i 2 = n
  revert n
  decide +kernel

/-- The diagonal tile starts at the row tile's own first row. -/
theorem diag_start (i : grid0.Coords) : kernelRun0_A.sl.v21 i = 0#32 := by
  revert i
  decide +kernel

theorem read_last {σ : RefSig} {sp : Space} {S : Shape} {e : EltTy} (v : View σ .tc sp S e) (f : v.ty.Contents (Elt Ideal))
    {off : Fin S.rank → ℕ} (h : off = fun _ => 0) (inb : ∀ a, off a + S.size a ≤ S.size a) (w : S.Idx → Elt Ideal e)
    (L : List (View.Piece (Elt Ideal) S e)) :
    v.read (Elt Ideal) (v.writes (Elt Ideal) f ((⟨Rect.unit off S.size inb, w⟩ : View.Piece (Elt Ideal) S e) :: L)) = w := by
  rw [View.read_writes_eq_canon _ _ _ fun y => ⟨_, List.mem_cons_self, by
    subst h; show y ∈ (Rect.whole S).set; rw [Rect.set_whole]; exact Finset.mem_univ y⟩]
  exact View.canon_cons_unit_zero h inb w L

theorem read_cov_last {σ : RefSig} {sp : Space} {S : Shape} {e : EltTy} (v : View σ .tc sp S e)
    {off : Fin S.rank → ℕ} (h : off = fun _ => 0) (inb : ∀ a, off a + S.size a ≤ S.size a) (w : S.Idx → Elt Ideal e)
    (L : List (View.Piece (Elt Ideal) S e)) :
    v.readCov ((⟨Rect.unit off S.size inb, w⟩ : View.Piece (Elt Ideal) S e) :: L) (Rect.unit off S.size inb).toLoadRect = w := by
  unfold View.readCov
  rw [View.readAt_eq_ld, read_last v _ h inb w L]
  exact View.ld_unit_zero h inb w

/-- What a past trip reads of the keys (or values). -/
abbrev tile (i : grid0.Coords) (k : Fin (k0_t1_loop i).trips) (x : Vec Ideal S1x4096x128 .bf16) : Vec Ideal S1x512x128 .bf16 :=
  View.ld x (Rect.unit (s := S1x4096x128) (k0_off1 i k) S1x512x128.size (k0_off1_inb i k))

section Trip

variable (c : Dev nD) (i : grid0.Coords) (arg3 : Memref sig .tc .vmem S1x512x128 .bf16) (harg3 : arg3.IsWhole)
    (arg4 : Memref sig .tc .vmem S1x512x128 .bf16) (harg4 : arg4.IsWhole) (arg5 : Memref sig .tc .vmem S1x512x128 .bf16)
    (harg5 : arg5.IsWhole) (arg6 : Memref sig .tc .vmem S1x4096x128 .bf16) (harg6 : arg6.IsWhole)
    (arg7 : Memref sig .tc .vmem S1x4096x128 .bf16) (harg7 : arg7.IsWhole) (arg8 : Memref sig .tc .vmem S1x512x128 .bf16)
    (harg8 : arg8.IsWhole) (arg9 : Memref sig .tc .vmem S1024x128 .f32) (harg9 : arg9.IsWhole)
  (qs : FVec Ideal S1024x128 .bf16) (u : FVec Ideal S256x256 .bf16) (w : BitVec 32)
  (x3 x4 : Vec Ideal S1x4096x128 .bf16) (k : Fin (k0_t1_loop i).trips) (acc : FVec Ideal S1024x1 .f32)

theorem key_tile : View.readAt (Elt Ideal) arg6.view (Rect.unit (s := S1x4096x128) (k0_off1 i k) S1x512x128.size (k0_off1_inb i k)).toLoadRect
    (harg6.unread x3) = tile i k x3 := by
  rw [View.readAt_eq_ld, harg6.read_unread]

theorem word_gates : trip_k0_t1.sl.r_1 i arg6 qs (harg6.unread x3) k = k0_pay4 qs (tile i k x3) :=
  congrArg (k0_pay4 qs) (key_tile i arg6 harg6 x3 k)

theorem word_keeps : trip_k0_t1.sl.r_2 i arg6 qs (harg6.unread x3) k = k0_pay5 qs (tile i k x3) :=
  congrArg (k0_pay5 qs) (key_tile i arg6 harg6 x3 k)

theorem word_after : trip_k0_t1.sl.r_3 i arg6 qs u (harg6.unread x3) k = k0_pay8 qs u (tile i k x3) :=
  congrArg (k0_pay8 qs u) (key_tile i arg6 harg6 x3 k)

theorem word_values : trip_k0_t1.sl.r i arg7 (harg7.unread x4) k = k0_pay2 (tile i k x4) :=
  congrArg k0_pay2 (key_tile i arg7 harg7 x4 k)

/-- The lower half of a trip reads the accumulator the upper half left. -/
theorem word_read (f : BufTy.Contents (Elt Ideal) arg9.view.ty) :
    trip_k0_t1.sl.v216 i arg6 arg7 arg9 qs u (harg6.unread x3) (harg7.unread x4) k acc f
      = k0_pay7 qs u acc (tile i k x3) (tile i k x4) (arg9.view.read (Elt Ideal) f) := by
  refine (View.readCov_unit_zero _ zero2 _ _).trans ?_
  rw [key_tile, key_tile, View.readAt_eq_ld, View.ld_unit_zero zero2]

/-- One trip's total. -/
theorem trip_total (f : BufTy.Contents (Elt Ideal) arg9.view.ty) :
    tripR_k0_t1 (F := Ideal) Variants.none c none i arg3 harg3 arg4 harg4 arg5 harg5 arg6 harg6 arg7 harg7 arg8 harg8 arg9 harg9 qs u w (harg6.unread x3) (harg7.unread x4) k acc f
      = k0_pay40 u acc (k0_pay5 qs (tile i k x3)) (k0_pay8 qs u (tile i k x3)) := by
  unfold tripR_k0_t1 trip_k0_t1
  dsimp only
  rw [word_keeps, word_after]

/-- One trip's accumulator, read back. -/
theorem trip_mix (f g : BufTy.Contents (Elt Ideal) arg9.view.ty) (L : List (View.Piece (Elt Ideal) S1024x128 .f32)) :
    arg9.view.read (Elt Ideal) (arg9.view.writes (Elt Ideal) g
        (tripL_k0_t1 (F := Ideal) Variants.none c none i arg3 harg3 arg4 harg4 arg5 harg5 arg6 harg6 arg7 harg7 arg8 harg8 arg9 harg9 qs u w (harg6.unread x3) (harg7.unread x4) k acc f ++ L))
      = k0_pay39 u acc (k0_pay2 (tile i k x4)) (k0_pay4 qs (tile i k x3)) (k0_pay5 qs (tile i k x3))
          (k0_pay8 qs u (tile i k x3))
          (k0_pay7 qs u acc (tile i k x3) (tile i k x4) (arg9.view.read (Elt Ideal) f)) := by
  unfold tripL_k0_t1 trip_k0_t1
  dsimp only
  rw [List.cons_append, read_last _ _ zero2, word_gates, word_keeps, word_after]
  rw [word_values, word_read]

/-- After `n` trips: the total and the accumulator cover the keys from tile `i - n` on. -/
theorem past {z : Fin 1024 → ℕ → ℝ} {V : Fin 128 → ℕ → EReal} (bound : Fin 1024 → ℕ)
    (hT : ∀ r, 512 * (i 2).val ≤ bound r)
    (hold : ∀ k : Fin (k0_t1_loop i).trips, Holds qs (tile i k x3) (tile i k x4) z V (512 * ((i 2).val - 1 - k.val)))
    (G : BufTy.Contents (Elt Ideal) arg9.view.ty) (init : FVec Ideal S1024x1 .f32)
    (hinit : ∀ r, init (ix2 r 0) = ((suffix (z r) (bound r) (512 * (i 2).val) : ℝ) : EReal))
    (hG : ∀ r l, arg9.view.read (Elt Ideal) G (ix2 r l) = mix (z r) (bound r) (V l) (512 * (i 2).val)) :
    ∀ n ≤ (i 2).val,
      (∀ r, (st_k0_t1 (F := Ideal) Variants.none c none i arg3 harg3 arg4 harg4 arg5 harg5 arg6 harg6 arg7 harg7 arg8 harg8 arg9 harg9 qs (k0_pay22 (F := Ideal)) w (harg6.unread x3) (harg7.unread x4) G init n).1 (ix2 r 0)
        = ((suffix (z r) (bound r) (512 * ((i 2).val - n)) : ℝ) : EReal)) ∧
      ∀ r l, arg9.view.read (Elt Ideal) (arg9.view.writes (Elt Ideal) G
        (st_k0_t1 (F := Ideal) Variants.none c none i arg3 harg3 arg4 harg4 arg5 harg5 arg6 harg6 arg7 harg7 arg8 harg8 arg9 harg9 qs (k0_pay22 (F := Ideal)) w (harg6.unread x3) (harg7.unread x4) G init n).2) (ix2 r l)
        = mix (z r) (bound r) (V l) (512 * ((i 2).val - n)) := by
  intro n
  induction n with
  | zero => exact fun _ => ⟨hinit, hG⟩
  | succ n ih =>
    intro hn
    obtain ⟨h1, h2⟩ := ih (by omega)
    have i8 : (i 2).val < 8 := (i 2).isLt
    have e := st_k0_t1_succ (F := Ideal) Variants.none c none i arg3 harg3 arg4 harg4 arg5 harg5 arg6 harg6 arg7 harg7 arg8 harg8 arg9 harg9 qs (k0_pay22 (F := Ideal)) w (harg6.unread x3) (harg7.unread x4) G init
      ⟨n, by rw [trips_past]; omega⟩
    rw [trip_total] at e
    have a1 : 512 * ((i 2).val - n) = 512 * ((i 2).val - 1 - n) + 512 := by omega
    have a2 : 512 * ((i 2).val - (n + 1)) = 512 * ((i 2).val - 1 - n) := by omega
    have hk := hold ⟨n, by rw [trips_past]; omega⟩
    have h1' : ∀ r, _ = ((suffix (z r) (bound r) (512 * ((i 2).val - 1 - n) + 512) : ℝ) : EReal) := fun r => (h1 r).trans (by rw [a1])
    have h2' : ∀ r l, _ = mix (z r) (bound r) (V l) (512 * ((i 2).val - 1 - n) + 512) := fun r l => (h2 r l).trans (by rw [a1])
    have hb : ∀ r, 512 * ((i 2).val - 1 - n) + 512 ≤ bound r := fun r => by have := hT r; omega
    refine ⟨fun r => ?_, fun r l => ?_⟩
    · rw [congrArg Prod.fst e, a2]
      exact past_total hk bound (by dsimp only; omega) hb _ h1' r
    · rw [congrArg Prod.snd e, trip_mix, a2]
      exact past_mix hk bound (by dsimp only; omega) hb _ _ h1' h2' r l

end Trip

/-- The tile a trip reads, at coordinates. -/
theorem tile_at (i : grid0.Coords) (k : Fin (k0_t1_loop i).trips) (x : Vec Ideal S1x4096x128 .bf16) (r : Fin 512) (l : Fin 128)
    (hb : 512 * ((i 2).val - 1 - k.val) + r.val < 4096) :
    tile i k x (ix3 0 r l) = x (ix3 0 ⟨512 * ((i 2).val - 1 - k.val) + r.val, hb⟩ l) := by
  show x ((Rect.unit (s := S1x4096x128) (k0_off1 i k) S1x512x128.size (k0_off1_inb i k)).emb (ix3 0 r l)) = _
  refine congrArg x (funext fun a => Fin.ext ?_)
  show k0_off1 i k a + 1 * ((ix3 0 r l : S1x512x128.Idx) a).val = _
  rw [past_start]
  fin_cases a
  · rfl
  · show 512 * ((i 2).val - 1 - k.val) + 1 * r.val = _
    rw [one_mul]; rfl
  · show 0 + 1 * l.val = _
    rw [one_mul, zero_add]; rfl

/-- The store narrows the block and adds a leading axis. -/
theorem stored_at (w : FVec Ideal S512x128 .bf16) (r : Fin 512) (l : Fin 128) :
    k0_pay1 (F := Ideal) w (ix3 0 r l) = w (ix2 r l) := by
  pointwise [k0_pay1]

section Point

variable (c : Dev nD) (i : grid0.Coords) (arg3 : Memref sig .tc .vmem S1x512x128 .bf16) (harg3 : arg3.IsWhole)
    (arg4 : Memref sig .tc .vmem S1x512x128 .bf16) (harg4 : arg4.IsWhole) (arg5 : Memref sig .tc .vmem S1x512x128 .bf16)
    (harg5 : arg5.IsWhole) (arg6 : Memref sig .tc .vmem S1x4096x128 .bf16) (harg6 : arg6.IsWhole)
    (arg7 : Memref sig .tc .vmem S1x4096x128 .bf16) (harg7 : arg7.IsWhole) (arg8 : Memref sig .tc .vmem S1x512x128 .bf16)
    (harg8 : arg8.IsWhole) (arg9 : Memref sig .tc .vmem S1024x128 .f32) (harg9 : arg9.IsWhole)
  (x0 x1 x2 : Vec Ideal S1x512x128 .bf16) (x3 x4 : Vec Ideal S1x4096x128 .bf16)

theorem word_queries : kernelRun0_A.sl.v10 (F := Ideal) c arg3 harg3 x0 = k0_pay16 x0 := by
  refine Eq.trans (b := k0_pay16 (View.readAt (Elt Ideal) arg3.view (Rect.unit (s := S1x512x128) ![0, 0, 0] S1x512x128.size _).toLoadRect (harg3.unread x0))) rfl ?_
  rw [View.readAt_eq_ld, harg3.read_unread, View.ld_unit_zero zero3]

theorem word_block (arg : Memref sig .tc .vmem S1x512x128 .bf16) (harg : arg.IsWhole) (x : Vec Ideal S1x512x128 .bf16)
    (inb : ∀ a, (![0, 0, 0] : Fin 3 → ℕ) a + S1x512x128.size a ≤ S1x512x128.size a) :
    View.readAt (Elt Ideal) arg.view (Rect.unit (s := S1x512x128) ![0, 0, 0] S1x512x128.size inb).toLoadRect (harg.unread x) = x := by
  rw [View.readAt_eq_ld, harg.read_unread, View.ld_unit_zero zero3]

theorem word_dkeeps : kernelRun0_A.sl.r_3 (F := Ideal) c i arg3 harg3 arg4 harg4 x0 x1 = dlk (k0_pay16 x0) x1 := by
  refine Eq.trans (b := k0_pay28 (kernelRun0_A.sl.v10 c arg3 harg3 x0) (kernelRun0_A.sl.v21 i) k0_pay17 k0_pay18 k0_pay19
    (View.readAt (Elt Ideal) arg4.view (Rect.unit (s := S1x512x128) ![0, 0, 0] S1x512x128.size _).toLoadRect (harg4.unread x1))) rfl ?_
  rw [word_block, word_queries, diag_start]

theorem word_dgates : kernelRun0_A.sl.r_2 (F := Ideal) c arg3 harg3 arg4 harg4 x0 x1 = k0_pay27 (k0_pay16 x0) x1 := by
  refine Eq.trans (b := k0_pay27 (kernelRun0_A.sl.v10 c arg3 harg3 x0)
    (View.readAt (Elt Ideal) arg4.view (Rect.unit (s := S1x512x128) ![0, 0, 0] S1x512x128.size _).toLoadRect (harg4.unread x1))) rfl ?_
  rw [word_block, word_queries]

theorem word_dvalues : kernelRun0_A.sl.r_1 (F := Ideal) c arg5 harg5 x2 = k0_pay25 x2 := by
  refine Eq.trans (b := k0_pay25
    (View.readAt (Elt Ideal) arg5.view (Rect.unit (s := S1x512x128) ![0, 0, 0] S1x512x128.size _).toLoadRect (harg5.unread x2))) rfl ?_
  rw [word_block]

theorem word_dmask : kernelRun0_A.sl.r i = k0_pay20 0#32 k0_pay17 k0_pay18 k0_pay19 := by
  refine Eq.trans (b := k0_pay20 (kernelRun0_A.sl.v21 i) k0_pay17 k0_pay18 k0_pay19) rfl ?_
  rw [diag_start]

theorem word_dtotal : k0_pay36 (F := Ideal) (kernelRun0_A.sl.v123 c i arg3 harg3 arg4 harg4 x0 x1) (kernelRun0_A.sl.v124 c i arg3 harg3 arg4 harg4 x0 x1)
    = k0_pay36 (k0_pay34 (k0_pay21 (F := Ideal)) (k0_pay26 (F := Ideal)) (dlk (k0_pay16 x0) x1)) (k0_pay35 (dlk (k0_pay16 x0) x1)) := by
  rw [← word_dkeeps c i arg3 harg3 arg4 harg4 x0 x1]
  rfl

/-- The accumulator after the diagonal tile. -/
theorem word_dmix (f : BufTy.Contents (Elt Ideal) arg9.view.ty) :
    arg9.view.read (Elt Ideal) (arg9.view.writes (Elt Ideal) f
        (kernelRun0_A.sl.HS0_3 c i arg3 harg3 arg4 harg4 arg5 harg5 arg9 x0 x1 x2))
      = k0_pay33 (k0_pay20 0#32 k0_pay17 k0_pay18 k0_pay19) (k0_pay21 (F := Ideal)) (k0_pay25 x2)
          (k0_pay26 (F := Ideal)) (k0_pay27 (k0_pay16 x0) x1) (dlk (k0_pay16 x0) x1)
          (k0_pay30 (F := Ideal) (k0_pay20 0#32 k0_pay17 k0_pay18 k0_pay19) (k0_pay21 (F := Ideal)) (k0_pay25 x2)
            (k0_pay26 (F := Ideal)) (k0_pay27 (k0_pay16 x0) x1) (dlk (k0_pay16 x0) x1) (k0_pay23 (F := Ideal))) := by
  refine (read_last _ _ zero2 _ _ _).trans ?_
  refine Eq.trans (b := k0_pay33 (kernelRun0_A.sl.r i) (k0_pay21 (F := Ideal)) (kernelRun0_A.sl.r_1 c arg5 harg5 x2)
    (k0_pay26 (F := Ideal)) (kernelRun0_A.sl.r_2 c arg3 harg3 arg4 harg4 x0 x1)
    (kernelRun0_A.sl.r_3 c i arg3 harg3 arg4 harg4 x0 x1)
    (arg9.view.readCov (kernelRun0_A.sl.HS0_2 c i arg3 harg3 arg4 harg4 arg5 harg5 arg9 x0 x1 x2)
      (Rect.unit (s := S1024x128) ![0, 0] S1024x128.size _).toLoadRect)) rfl ?_
  rw [word_dmask, word_dvalues, word_dgates, word_dkeeps]
  refine congrArg _ ((read_cov_last _ zero2 _ _ _).trans ?_)
  refine Eq.trans (b := k0_pay30 (kernelRun0_A.sl.r i) (k0_pay21 (F := Ideal)) (kernelRun0_A.sl.r_1 c arg5 harg5 x2)
    (k0_pay26 (F := Ideal)) (kernelRun0_A.sl.r_2 c arg3 harg3 arg4 harg4 x0 x1)
    (kernelRun0_A.sl.r_3 c i arg3 harg3 arg4 harg4 x0 x1)
    (arg9.view.readCov kernelRun0_A.sl.HS0_1
      (Rect.unit (s := S1024x128) ![0, 0] S1024x128.size _).toLoadRect)) rfl ?_
  rw [word_dmask, word_dvalues, word_dgates, word_dkeeps]
  exact congrArg _ (read_cov_last _ zero2 _ _ _)

/-- ONE GRID POINT: the block the kernel writes, at row `r` of the tile and lane `l`. -/
theorem out_at {z : Fin 1024 → ℕ → ℝ} {V : Fin 128 → ℕ → EReal} (bound : Fin 1024 → ℕ)
    (hT : ∀ r, bound r = 512 * (i 2).val + r.val % 512)
    (hd : Holds (k0_pay16 x0) x1 x2 z V (512 * (i 2).val))
    (hold : ∀ k : Fin (k0_t1_loop i).trips, Holds (k0_pay16 x0) (tile i k x3) (tile i k x4) z V (512 * ((i 2).val - 1 - k.val)))
    (r : Fin 512) (l : Fin 128) :
    out0_A_5 (F := Ideal) c i arg3 harg3 arg4 harg4 arg5 harg5 arg6 harg6 arg7 harg7 arg8 harg8 arg9 harg9 x0 x1 x2 x3 x4 (ix3 0 r l)
      = mix (z ⟨512 * (l.val / 64) + r.val, by omega⟩) (bound ⟨512 * (l.val / 64) + r.val, by omega⟩) (V l) 0 := by
  have i8 : (i 2).val < 8 := (i 2).isLt
  unfold out0_A_5
  rw [View.read_writes_eq_canon _ _ _ (cover0_A_5 c i arg3 harg3 arg4 harg4 arg5 harg5 arg6 harg6 arg7 harg7 arg8 harg8 arg9 harg9 x0 x1 x2 x3 x4)]
  unfold kernelRun0_A
  dsimp only
  rw [View.canon_unit_zero zero3]
  have e := (past c i arg3 harg3 arg4 harg4 arg5 harg5 arg6 harg6 arg7 harg7 arg8 harg8 arg9 harg9 (k0_pay16 x0) (kernelRun0_A.sl.v145 i) x3 x4 bound
    (fun r => by rw [hT]; omega) hold
    (arg9.view.writes (Elt Ideal) arg9.view.junk (kernelRun0_A.sl.HS0_3 c i arg3 harg3 arg4 harg4 arg5 harg5 arg9 x0 x1 x2))
    (k0_pay36 (F := Ideal) (kernelRun0_A.sl.v123 c i arg3 harg3 arg4 harg4 x0 x1) (kernelRun0_A.sl.v124 c i arg3 harg3 arg4 harg4 x0 x1))
    (fun r => by rw [word_dtotal]; exact diag_total hd bound (by omega) hT r)
    (fun r l => by rw [word_dmix]; exact diag_mix hd bound (by omega) hT r l)
    (i 2).val le_rfl).2 ⟨512 * (l.val / 64) + r.val, by omega⟩ l
  rw [Nat.sub_self, Nat.mul_zero] at e
  rw [← e, stored_at]
  refine (picked_at _ r l).trans ?_
  have e2 : (arg9.view.readCov ((st_k0_t2 (F := Ideal) Variants.none c none i arg3 harg3 arg4 harg4 arg5 harg5 arg6 harg6 arg7 harg7 arg8 harg8 arg9 harg9 (kernelRun0_A.sl.v10 c arg3 harg3 x0)
      (k0_pay22 (F := Ideal)) (kernelRun0_A.sl.v145 i) (kernelRun0_A.sl.v150 i) (harg6.unread x3) (harg7.unread x4)
      (arg9.view.writes (Elt Ideal) arg9.view.junk ((st_k0_t1 (F := Ideal) Variants.none c none i arg3 harg3 arg4 harg4 arg5 harg5 arg6 harg6 arg7 harg7 arg8 harg8 arg9 harg9 (kernelRun0_A.sl.v10 c arg3 harg3 x0)
        (k0_pay22 (F := Ideal)) (kernelRun0_A.sl.v145 i) (harg6.unread x3) (harg7.unread x4)
        (arg9.view.writes (Elt Ideal) arg9.view.junk (kernelRun0_A.sl.HS0_3 c i arg3 harg3 arg4 harg4 arg5 harg5 arg9 x0 x1 x2))
        (k0_pay36 (F := Ideal) (kernelRun0_A.sl.v123 c i arg3 harg3 arg4 harg4 x0 x1) (kernelRun0_A.sl.v124 c i arg3 harg3 arg4 harg4 x0 x1)) (k0_t1_loop i).trips).2
        ++ kernelRun0_A.sl.HS0_3 c i arg3 harg3 arg4 harg4 arg5 harg5 arg9 x0 x1 x2))
      (st_k0_t1 (F := Ideal) Variants.none c none i arg3 harg3 arg4 harg4 arg5 harg5 arg6 harg6 arg7 harg7 arg8 harg8 arg9 harg9 (kernelRun0_A.sl.v10 c arg3 harg3 x0)
        (k0_pay22 (F := Ideal)) (kernelRun0_A.sl.v145 i) (harg6.unread x3) (harg7.unread x4)
        (arg9.view.writes (Elt Ideal) arg9.view.junk (kernelRun0_A.sl.HS0_3 c i arg3 harg3 arg4 harg4 arg5 harg5 arg9 x0 x1 x2))
        (k0_pay36 (F := Ideal) (kernelRun0_A.sl.v123 c i arg3 harg3 arg4 harg4 x0 x1) (kernelRun0_A.sl.v124 c i arg3 harg3 arg4 harg4 x0 x1)) (k0_t1_loop i).trips).1
      (k0_t2_loop i).trips).2 ++ ((st_k0_t1 (F := Ideal) Variants.none c none i arg3 harg3 arg4 harg4 arg5 harg5 arg6 harg6 arg7 harg7 arg8 harg8 arg9 harg9 (kernelRun0_A.sl.v10 c arg3 harg3 x0)
        (k0_pay22 (F := Ideal)) (kernelRun0_A.sl.v145 i) (harg6.unread x3) (harg7.unread x4)
        (arg9.view.writes (Elt Ideal) arg9.view.junk (kernelRun0_A.sl.HS0_3 c i arg3 harg3 arg4 harg4 arg5 harg5 arg9 x0 x1 x2))
        (k0_pay36 (F := Ideal) (kernelRun0_A.sl.v123 c i arg3 harg3 arg4 harg4 x0 x1) (kernelRun0_A.sl.v124 c i arg3 harg3 arg4 harg4 x0 x1)) (k0_t1_loop i).trips).2
        ++ kernelRun0_A.sl.HS0_3 c i arg3 harg3 arg4 harg4 arg5 harg5 arg9 x0 x1 x2))
      (Rect.unit (s := S1024x128) ![0, 0] S1024x128.size (by decide)).toLoadRect) =
      arg9.view.read (Elt Ideal) (arg9.view.writes (Elt Ideal) (arg9.view.writes (Elt Ideal) arg9.view.junk (kernelRun0_A.sl.HS0_3 c i arg3 harg3 arg4 harg4 arg5 harg5 arg9 x0 x1 x2))
        (st_k0_t1 (F := Ideal) Variants.none c none i arg3 harg3 arg4 harg4 arg5 harg5 arg6 harg6 arg7 harg7 arg8 harg8 arg9 harg9 (k0_pay16 x0)
        (k0_pay22 (F := Ideal)) (kernelRun0_A.sl.v145 i) (harg6.unread x3) (harg7.unread x4)
        (arg9.view.writes (Elt Ideal) arg9.view.junk (kernelRun0_A.sl.HS0_3 c i arg3 harg3 arg4 harg4 arg5 harg5 arg9 x0 x1 x2))
        (k0_pay36 (F := Ideal) (kernelRun0_A.sl.v123 c i arg3 harg3 arg4 harg4 x0 x1) (kernelRun0_A.sl.v124 c i arg3 harg3 arg4 harg4 x0 x1)) (i 2).val).2) := by
    rw [trips_rest, trips_past, word_queries, ← View.writes_append]
    unfold View.readCov
    rw [View.readAt_eq_ld, View.ld_unit_zero zero2]
    rfl
  exact congrFun e2 _

end Point

end Cert.SbIdeal.Tile

end
-- ==== Proof.StickValue.lean ====
module

public import proofs.«01_k».proof.Proof.StickRun
public import proofs.«01_k».proof.Proof.Gen.SbIdeal.Value

/-! The stick-breaking kernel's result array: at batch `b`, row `R` and lane `L` it is the mix of the values of the
keys before `R`, weighted by head `L / 64`. -/

@[expose] public section

set_option maxRecDepth 16384

noncomputable section

namespace Cert.SbIdeal.Tile

open Cert.SbIdeal Cert.SbIdeal.Gen Cert.Stick Idealize.ShloMosaic Idealize.ShloMosaic.TcCoe Idealize.SL.Sem
open Idealize.ShloMosaic.Pipeline (Dat)

/-- The logit (to base two) of row `R` against key `j` in head `h`. -/
def logit (q k : FVec Ideal S16x4096x512 .bf16) (b : Fin 16) (h : Fin 8) (R j : ℕ) : ℝ :=
  ∑ d : Fin 64, (q (ix3 b ⟨R % 4096, by omega⟩ ⟨64 * h.val + d.val, by omega⟩)).toReal
    * (k (ix3 b ⟨j % 4096, by omega⟩ ⟨64 * h.val + d.val, by omega⟩)).toReal

/-- The value of key `j` at lane `L`. -/
def val (v : FVec Ideal S16x4096x512 .bf16) (b : Fin 16) (L : Fin 512) (j : ℕ) : EReal := v (ix3 b ⟨j % 4096, by omega⟩ L)

/-- The result at batch `b`, row `R`, lane `L`. -/
def spec (q k v : FVec Ideal S16x4096x512 .bf16) (b : Fin 16) (R : Fin 4096) (L : Fin 512) : EReal :=
  mix (logit q k b ⟨L.val / 64, by omega⟩ R.val) R.val (val v b L) 0

/-- A sum over two heads' lanes with one head's lanes kept. -/
theorem sum_head (g : ℕ) (hg : g < 2) (f : Fin 128 → EReal) :
    (∑ x : Fin 128, if x.val / 64 = g then f x else 0) = ∑ d : Fin 64, f ⟨64 * g + d.val, by omega⟩ := by
  rw [← Finset.sum_filter]
  refine (Finset.sum_bij' (fun d _ => (⟨64 * g + d.val, by omega⟩ : Fin 128)) (fun x _ => (⟨x.val % 64, by omega⟩ : Fin 64))
    ?_ ?_ ?_ ?_ ?_).symm
  · intro d _; simp only [Finset.mem_filter, Finset.mem_univ, true_and]; omega
  · intro x _; exact Finset.mem_univ _
  · intro d _; ext; dsimp only; omega
  · intro x hx
    simp only [Finset.mem_filter, Finset.mem_univ, true_and] at hx
    ext; dsimp only; omega
  · intro d _; rfl

section Whole

variable (q k v : FVec Ideal S16x4096x512 .bf16) (hq : ∀ i, q i = ((q i).toReal : EReal)) (hk : ∀ i, k i = ((k i).toReal : EReal))
include hq hk

/-- A pair of blocks that hold the rows' queries and a tile's keys and values gives the tile's facts. -/
theorem holds_of (b : Fin 16) (p : Fin 4) (n a : ℕ) (hn : n < 8) (ha : a + 512 ≤ 4096)
    (x0 x1 x2 : Vec Ideal S1x512x128 .bf16)
    (h0 : ∀ (r : Fin 512) (x : Fin 128), x0 (ix3 0 r x) = q (ix3 b ⟨512 * n + r.val, by omega⟩ ⟨128 * p.val + x.val, by omega⟩))
    (h1 : ∀ (r : Fin 512) (x : Fin 128), x1 (ix3 0 r x) = k (ix3 b ⟨a + r.val, by omega⟩ ⟨128 * p.val + x.val, by omega⟩))
    (h2 : ∀ (r : Fin 512) (x : Fin 128), x2 (ix3 0 r x) = v (ix3 b ⟨a + r.val, by omega⟩ ⟨128 * p.val + x.val, by omega⟩)) :
    Holds (k0_pay16 x0) x1 x2 (fun r : Fin 1024 => logit q k b ⟨2 * p.val + r.val / 512, by omega⟩ (512 * n + r.val % 512))
      (fun l => val v b ⟨128 * p.val + l.val, by omega⟩) a where
  logit := by
    intro r c
    have e : ∀ x : Fin 128, k0_pay16 (F := Ideal) x0 (ix2 r x) * x1 (ix3 0 c x)
        = if x.val / 64 = r.val / 512 then x0 (ix3 0 ⟨r.val % 512, by omega⟩ x) * x1 (ix3 0 c x) else 0 := by
      intro x
      rw [stacked_at]
      split
      · rfl
      · exact zero_mul _
    rw [Finset.sum_congr rfl fun x _ => e x, sum_head (r.val / 512) (by omega) fun x => x0 (ix3 0 ⟨r.val % 512, by omega⟩ x) * x1 (ix3 0 c x)]
    unfold logit
    rw [coe_sum]
    refine Finset.sum_congr rfl fun d _ => ?_
    rw [h0, h1, EReal.coe_mul, ← hq, ← hk]
    refine congrArg₂ (· * ·) (congrArg q ?_) (congrArg k ?_)
    · congr 1
      · ext; dsimp only; omega
      · ext; dsimp only; omega
    · congr 1
      · ext; dsimp only; omega
      · ext; dsimp only; omega
  value := by
    intro l c
    rw [h2]
    unfold val
    congr 2
    ext; dsimp only; omega

end Whole

variable (m : (ℓ : Loc nD τ sig) → Buf (Elt Ideal) ℓ) (c : Dev nD)

theorem idx : ∀ t : Fin cfg0.N,
    win0_0.index t = ![(grid0.coords t 0).val, (grid0.coords t 2).val, (grid0.coords t 1).val]
    ∧ win0_1.index t = ![(grid0.coords t 0).val, (grid0.coords t 2).val, (grid0.coords t 1).val]
    ∧ win0_2.index t = ![(grid0.coords t 0).val, (grid0.coords t 2).val, (grid0.coords t 1).val]
    ∧ win0_3.index t = ![(grid0.coords t 0).val, 0, (grid0.coords t 1).val]
    ∧ win0_4.index t = ![(grid0.coords t 0).val, 0, (grid0.coords t 1).val]
    ∧ win0_5.index t = ![(grid0.coords t 0).val, (grid0.coords t 2).val, (grid0.coords t 1).val] :=
  (by decide +kernel : ∀ t : Fin grid0.N, _)

theorem blk_q (t : Fin cfg0.N) (r : Fin 512) (x : Fin 128) (b : Fin 16) (R : Fin 4096) (L : Fin 512)
    (hb : b.val = (grid0.coords t 0).val) (hR : R.val = 512 * (grid0.coords t 2).val + r.val) (hL : L.val = 128 * (grid0.coords t 1).val + x.val) :
    (show FVec Ideal S1x512x128 .bf16 from iblk m c 0 t) (ix3 0 r x) = m ((c : Thread nD τ).loc main_arg0) (ix3 b R L) := by
  blk_ext [iblk, V, idx t]

theorem blk_kd (t : Fin cfg0.N) (r : Fin 512) (x : Fin 128) (b : Fin 16) (R : Fin 4096) (L : Fin 512)
    (hb : b.val = (grid0.coords t 0).val) (hR : R.val = 512 * (grid0.coords t 2).val + r.val) (hL : L.val = 128 * (grid0.coords t 1).val + x.val) :
    (show FVec Ideal S1x512x128 .bf16 from iblk m c 1 t) (ix3 0 r x) = m ((c : Thread nD τ).loc main_arg1) (ix3 b R L) := by
  blk_ext [iblk, V, idx t]

theorem blk_vd (t : Fin cfg0.N) (r : Fin 512) (x : Fin 128) (b : Fin 16) (R : Fin 4096) (L : Fin 512)
    (hb : b.val = (grid0.coords t 0).val) (hR : R.val = 512 * (grid0.coords t 2).val + r.val) (hL : L.val = 128 * (grid0.coords t 1).val + x.val) :
    (show FVec Ideal S1x512x128 .bf16 from iblk m c 2 t) (ix3 0 r x) = m ((c : Thread nD τ).loc main_arg2) (ix3 b R L) := by
  blk_ext [iblk, V, idx t]

theorem blk_kp (t : Fin cfg0.N) (R : Fin 4096) (x : Fin 128) (b : Fin 16) (L : Fin 512)
    (hb : b.val = (grid0.coords t 0).val) (hL : L.val = 128 * (grid0.coords t 1).val + x.val) :
    (show FVec Ideal S1x4096x128 .bf16 from iblk m c 3 t) (ix3 0 R x) = m ((c : Thread nD τ).loc main_arg1) (ix3 b R L) := by
  blk_ext [iblk, V, idx t]

theorem blk_vp (t : Fin cfg0.N) (R : Fin 4096) (x : Fin 128) (b : Fin 16) (L : Fin 512)
    (hb : b.val = (grid0.coords t 0).val) (hL : L.val = 128 * (grid0.coords t 1).val + x.val) :
    (show FVec Ideal S1x4096x128 .bf16 from iblk m c 4 t) (ix3 0 R x) = m ((c : Thread nD τ).loc main_arg2) (ix3 b R L) := by
  blk_ext [iblk, V, idx t]

/-- What grid point `t` leaves in the output's staging buffer. -/
theorem point (hq : ∀ i, (m ((c : Thread nD τ).loc main_arg0) : FVec Ideal S16x4096x512 .bf16) i
      = (((m ((c : Thread nD τ).loc main_arg0) : FVec Ideal S16x4096x512 .bf16) i).toReal : EReal))
    (hk : ∀ i, (m ((c : Thread nD τ).loc main_arg1) : FVec Ideal S16x4096x512 .bf16) i
      = (((m ((c : Thread nD τ).loc main_arg1) : FVec Ideal S16x4096x512 .bf16) i).toReal : EReal))
    (t : Fin cfg0.N) (r : Fin 512) (l : Fin 128) (b : Fin 16) (R : Fin 4096) (L : Fin 512)
    (hb : b.val = (grid0.coords t 0).val) (hR : R.val = 512 * (grid0.coords t 2).val + r.val) (hL : L.val = 128 * (grid0.coords t 1).val + l.val) :
    outsAt0 (F := Ideal) m c t (ix3 0 r l) = spec (m ((c : Thread nD τ).loc main_arg0)) (m ((c : Thread nD τ).loc main_arg1))
      (m ((c : Thread nD τ).loc main_arg2)) b R L := by
  have i8 : (grid0.coords t 2).val < 8 := (grid0.coords t 2).isLt
  have i4 : (grid0.coords t 1).val < 4 := (grid0.coords t 1).isLt
  unfold outsAt0
  have hd := holds_of (m ((c : Thread nD τ).loc main_arg0)) (m ((c : Thread nD τ).loc main_arg1)) (m ((c : Thread nD τ).loc main_arg2)) hq hk
    b ⟨(grid0.coords t 1).val, i4⟩ (grid0.coords t 2).val (512 * (grid0.coords t 2).val) i8 (by omega)
    (iblk m c 0 t) (iblk m c 1 t) (iblk m c 2 t)
    (fun r x => blk_q m c t r x _ _ _ hb rfl rfl) (fun r x => blk_kd m c t r x _ _ _ hb rfl rfl)
    (fun r x => blk_vd m c t r x _ _ _ hb rfl rfl)
  have hp : ∀ k : Fin (k0_t1_loop (grid0.coords t)).trips, _ := fun k =>
    have hk8 : k.val < (grid0.coords t 2).val := lt_of_lt_of_eq k.isLt (trips_past _)
    holds_of (m ((c : Thread nD τ).loc main_arg0)) (m ((c : Thread nD τ).loc main_arg1)) (m ((c : Thread nD τ).loc main_arg2)) hq hk
    b ⟨(grid0.coords t 1).val, i4⟩ (grid0.coords t 2).val (512 * ((grid0.coords t 2).val - 1 - k.val)) i8 (by omega)
    (iblk m c 0 t) (tile (grid0.coords t) k (iblk m c 3 t)) (tile (grid0.coords t) k (iblk m c 4 t))
    (fun r x => blk_q m c t r x _ _ _ hb rfl rfl)
    (fun r x => (tile_at (grid0.coords t) k _ r x (by omega)).trans (blk_kp m c t _ x _ _ hb rfl))
    (fun r x => (tile_at (grid0.coords t) k _ r x (by omega)).trans (blk_vp m c t _ x _ _ hb rfl))
  refine (out_at c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) (iblk m c 0 t) (iblk m c 1 t) (iblk m c 2 t) (iblk m c 3 t) (iblk m c 4 t)
    (fun r => 512 * (grid0.coords t 2).val + r.val % 512) (fun r => rfl) hd hp r l).trans ?_
  unfold spec
  have e1 : (⟨2 * (grid0.coords t 1).val + (512 * (l.val / 64) + r.val) / 512, by omega⟩ : Fin 8) = ⟨L.val / 64, by omega⟩ := by
    ext; dsimp only; omega
  have e2 : 512 * (grid0.coords t 2).val + (512 * (l.val / 64) + r.val) % 512 = R.val := by omega
  have e3 : (⟨128 * (grid0.coords t 1).val + l.val, by omega⟩ : Fin 512) = L := by ext; exact hL.symm
  dsimp only
  rw [e1, e2, e3]

/-- THE RESULT ARRAY. -/
theorem final (hq : ∀ i, (m ((c : Thread nD τ).loc main_arg0) : FVec Ideal S16x4096x512 .bf16) i
      = (((m ((c : Thread nD τ).loc main_arg0) : FVec Ideal S16x4096x512 .bf16) i).toReal : EReal))
    (hk : ∀ i, (m ((c : Thread nD τ).loc main_arg1) : FVec Ideal S16x4096x512 .bf16) i
      = (((m ((c : Thread nD τ).loc main_arg1) : FVec Ideal S16x4096x512 .bf16) i).toReal : EReal)) :
    (dats m 0 c).arrAt 5 cfg0.N = fun j : S16x4096x512.Idx => spec (m ((c : Thread nD τ).loc main_arg0))
      (m ((c : Thread nD τ).loc main_arg1)) (m ((c : Thread nD τ).loc main_arg2)) (j 0) (j 1) (j 2) := by
  refine (dats m 0 c).arrAt_eq_of_covers 5 _ (by decide +kernel) fun t _ y => ?_
  blk_simp
  rw [after0_5]
  idx_vars y
  obtain rfl : y0 = 0 := by omega
  have h0 : ((((View.whole main_v0).slice (win0_5.rect t)).emb (ix3 0 y1 y2) 0 : Fin 16) : ℕ) = (grid0.coords t 0).val := by
    blk_simp [idx t]
    omega
  have h1 : ((((View.whole main_v0).slice (win0_5.rect t)).emb (ix3 0 y1 y2) 1 : Fin 4096) : ℕ) = 512 * (grid0.coords t 2).val + y1.val := by
    blk_simp [idx t]
    omega
  have h2 : ((((View.whole main_v0).slice (win0_5.rect t)).emb (ix3 0 y1 y2) 2 : Fin 512) : ℕ) = 128 * (grid0.coords t 1).val + y2.val := by
    blk_simp [idx t]
    omega
  exact point m c hq hk t y1 y2 _ _ _ h0 h1 h2

end Cert.SbIdeal.Tile

end
-- ==== Proof.StickRef.lean ====
module

public import proofs.«01_k».proof.Proof.StickValue
public import proofs.«01_k».proof.Proof.Gen.SbRefIdeal.Read
public import Idealize.ShloMosaic.Lib.Pointwise
public import Idealize.ShloMosaic.Lib.WordCmp

/-! The plain stick-breaking attention, read at one index. -/

@[expose] public section

set_option maxRecDepth 16384

noncomputable section

namespace Cert.SbRefIdeal.Stick

open Cert.SbRefIdeal Cert.SbRefIdeal.Gen Cert.SbRefIdeal.Read Cert.Stick Idealize.ShloMosaic Idealize.ShloMosaic.TcCoe Idealize.SL.Sem

theorem foldl_plus {ι : Type} (g : ι → EReal) (l : List ι) : ∀ v : EReal, l.foldl (fun r n => r + g n) v = v + (l.map g).sum := by
  induction l with
  | nil => intro v; simp
  | cons a l ih => intro v; rw [List.foldl_cons, ih, List.map_cons, List.sum_cons, add_assoc]

/-- A window sum of exact numbers is a sum over the window's positions. -/
theorem window_sum {s t u : Shape} {φ : FTy} (window strides lo hi : Fin s.rank → ℕ) (x : FVec Ideal s φ) (init : FVec Ideal u φ)
    (h : s.ReduceWindows window strides lo hi t) (hu : 0 < u.numel) (j : t.Idx) (hinit : init (Shape.Idx.first hu) = (0 : EReal)) :
    (Host.reduceWindowAdd (F := Ideal) window strides lo hi x init h hu j : EReal)
      = ∑ w : (⟨s.rank, window⟩ : Shape).Idx,
          if hin : ∀ a, lo a ≤ (j (a.cast h.1.symm)).val * strides a + (w a).val
              ∧ (j (a.cast h.1.symm)).val * strides a + (w a).val - lo a < s.size a then
            x (fun a => ⟨(j (a.cast h.1.symm)).val * strides a + (w a).val - lo a, (hin a).2⟩) else (0 : EReal) := by
  unfold Host.reduceWindowAdd
  rw [hinit]
  refine (foldl_plus _ _ (0 : EReal)).trans ?_
  rw [zero_add, ← Fin.sum_univ_def]
  exact Fintype.sum_equiv (Shape.rowMajor _).symm _ _ fun n => by
    dsimp only
    split <;> rfl

/-- The reverse running sum at position `s` is the sum over the positions from `s` on. -/
theorem running (x : FVec Ideal S16x8x4096x4096 .f32) (f : ℕ → EReal) (b : Fin 16) (h : Fin 8) (r s : Fin 4096)
    (hx : ∀ j : Fin 4096, x (ix4 b h r j) = f j.val) :
    Host.reduceWindowAdd (F := Ideal) ![1, 1, 1, 4096] ![1, 1, 1, 1] ![0, 0, 0, 0] ![0, 0, 0, 4095] x (val_main_call2_v0 (F := Ideal))
      reduceWindows_S16x8x4096x4096_S16x8x4096x4096_w1s1p0_0_w1s1p0_0_w1s1p0_0_w4096s1p0_4095 h_S_ (ix4 b h r s)
      = ∑ j ∈ Finset.Ico s.val 4096, f j := by
  refine (window_sum _ _ _ _ _ _ _ _ _ ?_).trans ?_
  · show val_main_call2_v0 (F := Ideal) ix0 = (0 : EReal)
    pointwise [val_main_call2_v0, val_main_call2_cst]
  have e : (∑ n : Fin 4096, if s.val + n.val < 4096 then f (s.val + n.val) else 0) = ∑ j ∈ Finset.Ico s.val 4096, f j := by
    rw [← Finset.sum_filter]
    refine Finset.sum_bij' (fun n _ => s.val + n.val) (fun j hj => (⟨j - s.val, by simp at hj; omega⟩ : Fin 4096)) ?_ ?_ ?_ ?_ ?_
    · intro n hn; simp at hn ⊢; omega
    · intro j hj; simp at hj ⊢; omega
    · intro n hn; ext; simp
    · intro j hj; simp at hj ⊢; omega
    · intro n hn; rfl
  rw [← e]
  refine Finset.sum_bij' (fun w _ => (w 3 : Fin 4096)) (fun n _ => (ix4 (0 : Fin 1) (0 : Fin 1) (0 : Fin 1) n)) ?_ ?_ ?_ ?_ ?_
  · intro w _; exact Finset.mem_univ _
  · intro n _; exact Finset.mem_univ _
  · intro w _
    funext a
    fin_cases a
    · exact Subsingleton.elim (α := Fin 1) _ _
    · exact Subsingleton.elim (α := Fin 1) _ _
    · exact Subsingleton.elim (α := Fin 1) _ _
    · rfl
  · intro n _; rfl
  · intro w _
    have w0 : (w 0).val = 0 := by have : (w 0).val < 1 := (w 0).isLt; omega
    have w1 : (w 1).val = 0 := by have : (w 1).val < 1 := (w 1).isLt; omega
    have w2 : (w 2).val = 0 := by have : (w 2).val < 1 := (w 2).isLt; omega
    by_cases hc : s.val + (w 3).val < 4096
    · rw [if_pos hc, dif_pos fun a => by
        fin_cases a
        · show 0 ≤ b.val * 1 + (w 0).val ∧ b.val * 1 + (w 0).val - 0 < 16
          omega
        · show 0 ≤ h.val * 1 + (w 1).val ∧ h.val * 1 + (w 1).val - 0 < 8
          omega
        · show 0 ≤ r.val * 1 + (w 2).val ∧ r.val * 1 + (w 2).val - 0 < 4096
          omega
        · show 0 ≤ s.val * 1 + (w 3).val ∧ s.val * 1 + (w 3).val - 0 < 4096
          omega]
      refine (congrArg x (funext fun a => Fin.ext ?_)).trans (hx ⟨s.val + (w 3).val, hc⟩)
      fin_cases a
      · show b.val * 1 + (w 0).val - 0 = b.val
        omega
      · show h.val * 1 + (w 1).val - 0 = h.val
        omega
      · show r.val * 1 + (w 2).val - 0 = r.val
        omega
      · show s.val * 1 + (w 3).val - 0 = s.val + (w 3).val
        omega
    · rw [if_neg hc, dif_neg fun hin => hc ?_]
      have := (hin 3).2
      change s.val * 1 + (w 3).val - 0 < 4096 at this
      omega

/-- Minus the softplus of a real, as it is printed: the branch for not-a-number is never taken. -/
theorem softplus (x : ℝ) : (-(if (x : EReal) ≠ (x : EReal) then (x : EReal)
      else max (x : EReal) 0 + Ideal.log1p (Ideal.exp (-(FloatOps.absf (φ := .f32) (F := Ideal) (x : EReal) : EReal)))) : EReal)
    = ((-(max x 0 + Real.log (1 + Real.exp (-|x|))) : ℝ) : EReal) := by
  rw [if_neg (fun h => h rfl)]
  have e1 : (FloatOps.absf (φ := .f32) (F := Ideal) (x : EReal) : EReal) = ((|x| : ℝ) : EReal) := by
    show max (x : EReal) (-(x : EReal)) = _
    rw [← EReal.coe_neg, ← coe_max]; rfl
  have hpos : (0:ℝ) < 1 + Real.exp (-|x|) := by positivity
  have e2 : Ideal.log1p ((Real.exp (-|x|) : ℝ) : EReal) = ((Real.log (1 + Real.exp (-|x|)) : ℝ) : EReal) := by
    unfold Ideal.log1p
    rw [show (1 : EReal) + ((Real.exp (-|x|) : ℝ) : EReal) = ((1 + Real.exp (-|x|) : ℝ) : EReal) from by rw [EReal.coe_add]; rfl,
      Ideal.log_coe, if_neg (not_le.mpr hpos)]
  rw [e1, ← EReal.coe_neg, Ideal.exp_coe, e2, EReal.coe_neg, EReal.coe_add, coe_max]
  rfl

theorem log_two : Ideal.log (Ideal.ofBits FTy.f32 1073741824#32) = ((Real.log 2 : ℝ) : EReal) := by
  rw [show Ideal.ofBits FTy.f32 1073741824#32 = ((2 : ℝ) : EReal) from by
    simp [Ideal.ofBits, Ideal.ieee, -EReal.coe_mul]; norm_num, Ideal.log_coe, if_neg (by norm_num)]

section Arrays

open Cert.SbIdeal.Tile (logit val spec)

variable (q k v : FVec Ideal S16x4096x512 .bf16) (hq : ∀ i, q i = ((q i).toReal : EReal)) (hk : ∀ i, k i = ((k i).toReal : EReal))
include hq hk

/-- The natural logit. -/
theorem product (b : Fin 16) (h : Fin 8) (R j : Fin 4096) :
    val_main_v10 (F := Ideal) q k (ix4 b h R j) = ((logit q k b h R.val j.val * Real.log 2 : ℝ) : EReal) := by
  pointwise [val_main_v10, val_main_v7, val_main_v9, val_main_v8, val_main_cst, val_main_v1, val_main_v3, val_main_v0, val_main_v2]
  rw [log_two, EReal.coe_mul]
  unfold logit
  rw [coe_sum]
  refine congrArg₂ (· * ·) (Finset.sum_congr rfl fun d _ => ?_) rfl
  rw [EReal.coe_mul, ← hq, ← hk]
  refine congrArg₂ (· * ·) (congrArg q ?_) (congrArg k ?_)
  · congr 1
    · ext; dsimp only; omega
    · ext; dsimp only; omega
  · congr 1
    · ext; dsimp only; omega
    · ext; dsimp only; omega

omit hq hk in
theorem visible (b : Fin 16) (h : Fin 8) (R j : Fin 4096) :
    val_main_call1_v1 (F := Ideal) (ix4 b h R j) = if j.val < R.val then 1#1 else 0#1 := by
  pointwise [val_main_call1_v1, val_main_v15, val_main_v13, val_main_v14, val_main_v12, val_main_v11, val_main_v6]
  exact Cert.SbIdeal.Tile.slt_nat _ _ (by omega) (by omega)

theorem log_keep (b : Fin 16) (h : Fin 8) (R j : Fin 4096) :
    val_main_v17 (F := Ideal) q k (ix4 b h R j)
      = (((gate (logit q k b h R.val j.val) - logit q k b h R.val j.val) * Real.log 2 : ℝ) : EReal) := by
  pointwise [val_main_v17, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v16, product q k hq hk b h R j]
  rw [neg_neg, keep_log]
  exact softplus _

theorem log_gate (b : Fin 16) (h : Fin 8) (R j : Fin 4096) :
    val_main_v21 (F := Ideal) q k (ix4 b h R j) = ((gate (logit q k b h R.val j.val) * Real.log 2 : ℝ) : EReal) := by
  pointwise [val_main_v21, val_main_call3_v1, val_main_call3_call0_v11, val_main_call3_call0_v10, val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_call0_cst, val_main_call3_v0, product q k hq hk b h R j]
  rw [gate_log, ← EReal.coe_neg]
  exact softplus _

theorem kept (b : Fin 16) (h : Fin 8) (R j : Fin 4096) :
    val_main_v18 (F := Ideal) q k (ix4 b h R j) = ((keep (logit q k b h R.val) R.val j.val * Real.log 2 : ℝ) : EReal) := by
  pointwise [val_main_v18, visible b h R j, log_keep q k hq hk b h R j, val_main_call1_v2, val_main_call1_v0, val_main_cst_0]
  unfold keep
  by_cases hc : j.val < R.val
  · rw [if_pos hc, if_pos hc]
    rfl
  · rw [if_neg hc, if_neg hc]
    rw [zero_mul]
    exact Ideal.ofBits_zero .f32

theorem weighted (b : Fin 16) (h : Fin 8) (R s : Fin 4096) :
    val_main_v24 (F := Ideal) q k (ix4 b h R s) = ((weight (logit q k b h R.val) R.val s.val : ℝ) : EReal) := by
  have er := running (val_main_v18 (F := Ideal) q k) (fun j => ((keep (logit q k b h R.val) R.val j * Real.log 2 : ℝ) : EReal)) b h R s
    (fun j => kept q k hq hk b h R j)
  have ev : val_main_v19 (F := Ideal) q k (ix4 b h R s) = _ := er
  rw [← coe_sum] at ev
  pointwise [val_main_v24, val_main_v23, val_main_v22, val_main_v20, ev, kept q k hq hk b h R s, log_gate q k hq hk b h R s, val_main_call4_v1, val_main_v15, val_main_v13, val_main_v14, val_main_v12, val_main_v11, val_main_v6, val_main_call4_v2, val_main_call4_v0, val_main_cst_1]
  rw [Cert.SbIdeal.Tile.slt_nat _ _ (by omega) (by omega)]
  by_cases hc : s.val < R.val
  · rw [if_pos hc, weight_exp _ _ _ hc]
    rw [← EReal.coe_sub, ← EReal.coe_add, Finset.sum_eq_sum_Ico_succ_bot (by omega : s.val < 4096), add_sub_cancel_left]
    rfl
  · rw [if_neg hc]
    unfold weight
    rw [if_neg hc]
    exact Ideal.ofBits_zero .f32

/-- THE REFERENCE AT AN INDEX. -/
theorem value_at (b : Fin 16) (R : Fin 4096) (L : Fin 512) :
    val_main_v28 (F := Ideal) q k v (ix3 b R L) = spec q k v b R L := by
  pointwise [val_main_v28, val_main_v27, val_main_v26, val_main_v25, val_main_v5, val_main_v4]
  unfold spec mix
  rw [← Finset.range_eq_Ico, ← Fin.sum_univ_eq_sum_range
    (fun s => ((weight (logit q k b ⟨L.val / 64, by omega⟩ R.val) R.val s : ℝ) : EReal) * val v b L s)]
  refine Finset.sum_congr rfl fun s _ => ?_
  rw [weighted q k hq hk, mul_comm]
  unfold val
  congr 3
  ext; dsimp only; omega

end Arrays

end Cert.SbRefIdeal.Stick

end
-- ==== Proof.SbClaim.lean ====
module

public import proofs.«01_k».proof.Defs
public import proofs.«01_k».proof.Proof.StickRef
public import proofs.«01_k».proof.Proof.Gen.Sb.Frame
public import proofs.«01_k».proof.Proof.Gen.Sb
public import proofs.«01_k».proof.Proof.Gen.SbIdeal
public import proofs.«01_k».proof.Proof.Gen.SbRefIdeal
public import proofs.«01_k».proof.Proof.Gen.Pre_finite_qk
public import Idealize.ShloMosaic.Lib.Claim

/-! The claims about the stick-breaking attention call. -/

@[expose] public section

set_option maxRecDepth 16384

noncomputable section

namespace Cert.Proof.Sb

open Idealize.ShloMosaic Idealize.ShloMosaic.TcCoe Idealize.SL.Sem

/-- The kernel, over words: it ends, leaves its arguments as they were and its counters at zero. -/
theorem frame_P : Cert.quiescent_Sb (hSb := Cert.Sb.Gen.facts) :=
  fun m g _ => Cert.Sb.Gen.frame m g

/-- The kernel, over the extended reals, likewise. -/
theorem frame_PI : Cert.quiescent_SbIdeal (hSbIdeal := Cert.SbIdeal.Gen.facts) :=
  fun m g _ => Cert.SbIdeal.Gen.frame m g

/-- The same under the claim's precondition. -/
theorem frame_PI_pre : Cert.quiescent_SbIdeal_pre_finite_qk (hSbIdeal := Cert.SbIdeal.Gen.facts) (hPre_finite_qk := Cert.Pre_finite_qk.Gen.facts) :=
  fun m g _ => frame_PI m g trivial

/-- The reference ends, and leaves its arguments as they were. -/
theorem frame_RI : Cert.quiescent_SbRefIdeal (hSbRefIdeal := Cert.SbRefIdeal.Gen.facts) := by
  intro m g _
  refine (θ_run _ _ _).mono (fun r h => ⟨fun c => (h c).2, sem_eq_zero_of_no_sems rfl _⟩) (Cert.SbRefIdeal.Value.run m g)

/-- The same under the claim's precondition. -/
theorem frame_RI_pre : Cert.quiescent_SbRefIdeal_pre_finite_qk (hSbRefIdeal := Cert.SbRefIdeal.Gen.facts) (hPre_finite_qk := Cert.Pre_finite_qk.Gen.facts) :=
  fun m g _ => frame_RI m g trivial

/-- The ideal kernel differs from the kernel by one name, that of the constant 1/log 2. -/
theorem preserves : Cert.preserves_Sb_SbIdeal :=
  IdealRules.named_const.statement Cert.SbIdeal.κ "log2e" .f32 0x3FB8AA3B#32 _ rfl

/-- A number whose absolute value is below infinity is a real. -/
theorem finite_of (x : EReal) (h : max x (-x) < ⊤) : x = ((x.toReal : ℝ) : EReal) := by
  refine (EReal.coe_toReal ?_ ?_).symm
  · rintro rfl; simp at h
  · rintro rfl; simp at h

/-- Two bits, both set exactly where their conjunction is. -/
theorem both {a b : Bool} (h : IntOp.andi (BitVec.ofBool a) (BitVec.ofBool b) = 1#1) : a = true ∧ b = true := by
  revert h; cases a <;> cases b <;> decide

/-- The word of the largest exponent stands for infinity. -/
theorem top_word : Ideal.ofBits .f32 2139095040#32 = (⊤ : EReal) := by
  simp [Ideal.ofBits, Ideal.ieee]

/-- The precondition says that every query and every key is a real number. -/
theorem finite {q k v : FVec Ideal Cert.SbIdeal.S16x4096x512 .bf16}
    (h : @Cert.Pre_finite_qk.fn Cert.Pre_finite_qk.Gen.facts Ideal _ q k v = fun _ => 1#1) (i : Cert.SbIdeal.S16x4096x512.Idx) :
    q i = ((q i).toReal : EReal) ∧ k i = ((k i).toReal : EReal) := by
  have e := congrFun h i
  pointwise [Cert.Pre_finite_qk.fn] at e
  obtain ⟨hq, hk⟩ := both e
  have hq := of_decide_eq_true hq
  have hk := of_decide_eq_true hk
  rw [top_word] at hq hk
  exact ⟨finite_of _ hq, finite_of _ hk⟩

/-- The kernel's attention is the reference's, over the extended reals, where queries and keys are real numbers. -/
theorem algebraic : Cert.algebraic_SbIdeal_SbRefIdeal_pre_finite_qk (hSbIdeal := Cert.SbIdeal.Gen.facts) (hSbRefIdeal := Cert.SbRefIdeal.Gen.facts) (hPre_finite_qk := Cert.Pre_finite_qk.Gen.facts) := by
  pair_intro
  · run_from Cert.SbIdeal.Value.run_blocks m g
  · run_from Cert.SbRefIdeal.Value.run m' g'
    obtain ⟨h0, h1, h2⟩ := hagree c
    have hq := fun i => (finite (hpre c) i).1
    have hk := fun i => (finite (hpre c) i).2
    rw [Cert.SbRefIdeal.Read.val_main_v28_eq, h0, h1, h2]
    refine Eq.trans ?_ (Cert.SbIdeal.Tile.final m c hq hk).symm
    funext j
    idx_vars j
    exact Cert.SbRefIdeal.Stick.value_at _ _ _ hq hk _ _ _

end Cert.Proof.Sb

end
-- ==== Proof.LayerMath.lean ====
/-
  The rows of the layer's dense parts, over the extended reals.

  `normed x g` is the root-mean-square norm of the row `x` with gains `g`; `hid h a b` is one hidden unit of a gated
  feed-forward part, `silu (h · a) * (h · b)`.
-/
module

public import Idealize.ShloMosaic.PureOps.Ideal
public import Idealize.ShloMosaic.Lib.Pointwise

@[expose] public section

noncomputable section

namespace Cert.Layer

open Idealize.ShloMosaic

/-- The mean square of a row of 1024, and the small constant under the root. -/
def scale (x : Fin 1024 → EReal) : EReal :=
  Ideal.rsqrt (Ideal.div (∑ i, x i * x i) (Ideal.ofBits FTy.f32 1149239296#32) + Ideal.ofBits FTy.f32 897988541#32)

/-- The root-mean-square norm. -/
def normed (x g : Fin 1024 → EReal) (j : Fin 1024) : EReal := x j * scale x * g j

/-- One hidden unit of the gated feed-forward part. -/
def hid (h a b : Fin 1024 → EReal) : EReal :=
  (∑ d, h d * a d) * Ideal.div 1 (1 + Ideal.exp (0 - ∑ d, h d * a d)) * ∑ d, h d * b d

/-- A sum over `q * n` terms, block by block. -/
theorem sum_blocks {N n q : ℕ} (e : N = q * n) (f : Fin N → EReal) :
    ∑ l, f l = ∑ s : Fin q, ∑ k : Fin n, f ⟨s.val * n + k.val, by
      have := s.isLt; have := k.isLt; subst e; calc _ < s.val * n + n := by omega
        _ = (s.val + 1) * n := (Nat.succ_mul _ _).symm
        _ ≤ q * n := Nat.mul_le_mul_right _ (by omega)⟩ := by
  subst e
  rw [← Fintype.sum_prod_type', ← (finProdFinEquiv (m := q) (n := n)).sum_comp]
  refine Finset.sum_congr rfl fun p _ => congrArg f (Fin.ext ?_)
  show p.2.val + n * p.1.val = p.1.val * n + p.2.val
  rw [Nat.mul_comm, Nat.add_comm]

/-- The logarithm of the logistic function. -/
def logSigmoid (x : EReal) : EReal := min x 0 - Ideal.log (1 + Ideal.exp (0 - max x (-x)))

/-- The same, minus the softplus of the negation. -/
theorem neg_softplus (x : EReal) : -(max (-x) 0 + Ideal.log1p (Ideal.exp (-(max (-x) (- -x))))) = logSigmoid x := by
  have hpos (r : ℝ) : (0:ℝ) < 1 + Real.exp r := by positivity
  unfold logSigmoid Ideal.log1p
  rw [neg_neg, max_comm (-x) x, zero_sub]
  have h1 : max (-x) 0 ≠ ⊥ := ne_bot_of_le_ne_bot (by simp) (le_max_right _ _)
  have h2 : Ideal.log (1 + Ideal.exp (-max x (-x))) ≠ ⊥ := by
    induction x using EReal.rec with
    | bot => simp [← EReal.coe_one]
    | top => simp [← EReal.coe_one]
    | coe r =>
      have e : -max (r : EReal) (-(r : EReal)) = ((-max r (-r) : ℝ) : EReal) := by
        rw [EReal.coe_neg, EReal.coe_strictMono.monotone.map_max, EReal.coe_neg]
      rw [e, Ideal.exp_coe, ← EReal.coe_one, ← EReal.coe_add, Ideal.log_coe, if_neg (not_le.mpr (hpos _))]
      exact EReal.coe_ne_bot _
  rw [EReal.neg_add (.inl h1) (.inr h2)]
  congr 1
  rcases le_total x 0 with h | h
  · rw [max_eq_left (EReal.neg_nonneg.mpr h), min_eq_left h, neg_neg]
  · rw [max_eq_right (by simpa using EReal.neg_le_neg_iff.mpr h), min_eq_right h, neg_zero]

end Cert.Layer

end
-- ==== Proof.FfnValue.lean ====
module

public import proofs.«01_k».proof.Proof.LayerMath
public import proofs.«01_k».proof.Proof.Gen.FfnIdeal.Value
public import Idealize.ShloMosaic.Lib.Pipeline.Value
public import Idealize.ShloMosaic.Lib.Pipeline.ValueKit
public import Idealize.ShloMosaic.Lib.Pointwise

/-! The dense feed-forward call's result array: each of its 512-row tiles adds the heads' outputs through the output
projection to the residual, then eleven blocks of 256 hidden units one after the other. -/

@[expose] public section

set_option maxRecDepth 16384

noncomputable section

namespace Cert.FfnIdeal.Rows

open Cert.FfnIdeal Cert.FfnIdeal.Gen Idealize.ShloMosaic Idealize.ShloMosaic.TcCoe Idealize.SL.Sem Cert.Layer
open Idealize.ShloMosaic.Pipeline (Dat)

/-! ## The tile's steps -/

section Steps

variable (hn : FVec Ideal S512x1024 .bf16) (wg wu : Vec Ideal S1024x256 .bf16) (o : Vec Ideal S512x1024 .f32) (wd : Vec Ideal S256x1024 .bf16)
variable (g : Vec Ideal S1x1024 .f32)

/-- One block of hidden units, added to what the tile holds. Each of the kernel's eleven blocks is this step, cut into
expressions in four ways. -/
def block : FVec Ideal S512x1024 .f32 := k0_pay9 hn wg wu o wd

theorem block_0 : k0_pay5 (k0_pay3 o g) (k0_pay4 o g wg) wu o wd = block (k0_pay3 o g) wg wu o wd := rfl
theorem block_1 : k0_pay8 (k0_pay6 o) (k0_pay7 hn wg wu) wd = block hn wg wu o wd := rfl
theorem block_2 : k0_pay9 hn wg wu o wd = block hn wg wu o wd := rfl
theorem block_3 : k0_pay11 hn (k0_pay10 hn wg) wu o wd = block hn wg wu o wd := rfl
theorem block_4 : k0_pay14 (k0_pay12 o) (k0_pay13 hn wg wu) wd = block hn wg wu o wd := rfl
theorem block_5 : k0_pay15 hn wg wu o wd = block hn wg wu o wd := rfl
theorem block_6 : k0_pay17 hn (k0_pay16 hn wg) wu o wd = block hn wg wu o wd := rfl
theorem block_7 : k0_pay20 (k0_pay18 o) (k0_pay19 hn wg wu) wd = block hn wg wu o wd := rfl
theorem block_8 : k0_pay21 hn wg wu o wd = block hn wg wu o wd := rfl
theorem block_9 : k0_pay23 hn (k0_pay22 hn wg) wu o wd = block hn wg wu o wd := rfl
theorem block_10 : k0_pay1 (k0_pay24 o) (k0_pay25 hn wg wu) wd = block hn wg wu o wd := rfl

theorem block_at (r : Fin 512) (j : Fin 1024) : block hn wg wu o wd (ix2 r j)
    = o (ix2 r j) + ∑ f : Fin 256, hid (fun d => hn (ix2 r d)) (fun d => wg (ix2 d f)) (fun d => wu (ix2 d f)) * wd (ix2 f j) := by
  pointwise [block, k0_pay9, hid]

theorem norm_at (r : Fin 512) (j : Fin 1024) : k0_pay3 o g (ix2 r j) = normed (fun d => o (ix2 r d)) (fun d => g (ix2 0 d)) j := by
  pointwise [k0_pay3, normed, scale]

end Steps

/-- The columns of one block. -/
theorem cols_at (X : Vec Ideal S1024x2816 .bf16) (a : ℕ) (h : ∀ x, (![0, a] : Fin 2 → ℕ) x + S1024x256.size x ≤ S1024x2816.size x)
    (d : Fin 1024) (f : Fin 256) (F : Fin 2816) (hF : F.val = a + f.val) :
    View.ld (Val := Elt Ideal) X (Rect.unit ![0, a] ![1024, 256] h) (ix2 d f) = X (ix2 d F) :=
  View.ld_unit_apply_of X _ _ h _ _ fun x => by
    fin_cases x
    · exact (Nat.zero_add _).symm
    · exact hF

/-- The rows of one block. -/
theorem rows_at (X : Vec Ideal S2816x1024 .bf16) (a : ℕ) (h : ∀ x, (![a, 0] : Fin 2 → ℕ) x + S256x1024.size x ≤ S2816x1024.size x)
    (f : Fin 256) (j : Fin 1024) (F : Fin 2816) (hF : F.val = a + f.val) :
    View.ld (Val := Elt Ideal) X (Rect.unit ![a, 0] ![256, 1024] h) (ix2 f j) = X (ix2 F j) :=
  View.ld_unit_apply_of X _ _ h _ _ fun x => by
    fin_cases x
    · exact hF
    · exact (Nat.zero_add _).symm

/-! ## One tile -/

section Tile

variable (x0 : Vec Ideal S512x1024 .f32) (x1 x2 : Vec Ideal S512x512 .bf16) (x3 : Vec Ideal S1024x1024 .bf16) (x4 : Vec Ideal S1x1024 .f32)
variable (x5 x6 : Vec Ideal S1024x2816 .bf16) (x7 : Vec Ideal S2816x1024 .bf16)

/-- The residual with the heads' outputs added. -/
def start : FVec Ideal S512x1024 .f32 :=
  k0_pay2 x0 x1 (View.ld (Val := Elt Ideal) x3 (Rect.unit ![0, 0] ![512, 1024] inb_S1024x1024_S512x1024_0_0)) x2
    (View.ld (Val := Elt Ideal) x3 (Rect.unit ![512, 0] ![512, 1024] inb_S1024x1024_S512x1024_512_0))

theorem inb_cols {n : ℕ} (h : n < 11) (x : Fin 2) : (![0, 256 * n] : Fin 2 → ℕ) x + S1024x256.size x ≤ S1024x2816.size x := by
  fin_cases x
  · show 0 + 1024 ≤ 1024; omega
  · show 256 * n + 256 ≤ 2816; omega

theorem inb_rows {n : ℕ} (h : n < 11) (x : Fin 2) : (![256 * n, 0] : Fin 2 → ℕ) x + S256x1024.size x ≤ S2816x1024.size x := by
  fin_cases x
  · show 256 * n + 256 ≤ 2816; omega
  · show 0 + 1024 ≤ 1024; omega

/-- The tile after `n` blocks of hidden units. -/
def tile : (n : ℕ) → n ≤ 11 → FVec Ideal S512x1024 .f32
  | 0, _ => start x0 x1 x2 x3
  | n + 1, h => block (k0_pay3 (start x0 x1 x2 x3) x4) (View.ld (Val := Elt Ideal) x5 (Rect.unit ![0, 256 * n] ![1024, 256] (inb_cols h)))
      (View.ld (Val := Elt Ideal) x6 (Rect.unit ![0, 256 * n] ![1024, 256] (inb_cols h))) (tile n (by omega))
      (View.ld (Val := Elt Ideal) x7 (Rect.unit ![256 * n, 0] ![256, 1024] (inb_rows h)))

/-- One row of the residual stream after the attention part. -/
def mid (r : Fin 512) (j : Fin 1024) : EReal :=
  x0 (ix2 r j) + ∑ L : Fin 512, x1 (ix2 r L) * x3 (ix2 ⟨L.val, by omega⟩ j) + ∑ L : Fin 512, x2 (ix2 r L) * x3 (ix2 ⟨512 + L.val, by omega⟩ j)

theorem start_at (r : Fin 512) (j : Fin 1024) : start x0 x1 x2 x3 (ix2 r j) = mid x0 x1 x2 x3 r j := by
  have lo : ∀ L : Fin 512, View.ld (Val := Elt Ideal) x3 (Rect.unit ![0, 0] ![512, 1024] inb_S1024x1024_S512x1024_0_0) (ix2 L j)
      = x3 (ix2 ⟨L.val, by omega⟩ j) := fun L => View.ld_unit_apply_of x3 _ _ _ _ _ fun x => by
    fin_cases x <;> exact (Nat.zero_add _).symm
  have hi : ∀ L : Fin 512, View.ld (Val := Elt Ideal) x3 (Rect.unit ![512, 0] ![512, 1024] inb_S1024x1024_S512x1024_512_0) (ix2 L j)
      = x3 (ix2 ⟨512 + L.val, by omega⟩ j) := fun L => View.ld_unit_apply_of x3 _ _ _ _ _ fun x => by
    fin_cases x
    · rfl
    · exact (Nat.zero_add _).symm
  unfold start mid
  generalize View.ld (Val := Elt Ideal) x3 (Rect.unit ![0, 0] ![512, 1024] inb_S1024x1024_S512x1024_0_0) = w at lo
  generalize View.ld (Val := Elt Ideal) x3 (Rect.unit ![512, 0] ![512, 1024] inb_S1024x1024_S512x1024_512_0) = w' at hi
  pointwise [k0_pay2, lo, hi]

/-- A hidden unit's term of the result. -/
def term (r : Fin 512) (j : Fin 1024) (F : Fin 2816) : EReal :=
  hid (normed (mid x0 x1 x2 x3 r) fun d => x4 (ix2 0 d)) (fun d => x5 (ix2 d F)) (fun d => x6 (ix2 d F)) * x7 (ix2 F j)

theorem tile_at (n : ℕ) (h : n ≤ 11) (r : Fin 512) (j : Fin 1024) : tile x0 x1 x2 x3 x4 x5 x6 x7 n h (ix2 r j)
    = mid x0 x1 x2 x3 r j + ∑ s : Fin n, ∑ k : Fin 256, term x0 x1 x2 x3 x4 x5 x6 x7 r j ⟨s.val * 256 + k.val, by omega⟩ := by
  induction n with
  | zero => rw [Fin.sum_univ_zero, add_zero]; exact start_at x0 x1 x2 x3 r j
  | succ n ih =>
    rw [Fin.sum_univ_castSucc, ← add_assoc]
    unfold tile
    rw [block_at, ih]
    refine congrArg₂ (· + ·) rfl (Finset.sum_congr rfl fun k _ => ?_)
    unfold term
    have hF : n * 256 + k.val < 2816 := by omega
    refine congrArg₂ (· * ·) (congr (congr (congrArg hid ?_) ?_) ?_) ?_
    · funext d
      rw [norm_at]
      simp only [start_at]
    · funext d; exact cols_at x5 _ _ d k ⟨n * 256 + k.val, hF⟩ (by dsimp only; omega)
    · funext d; exact cols_at x6 _ _ d k ⟨n * 256 + k.val, hF⟩ (by dsimp only; omega)
    · exact rows_at x7 _ _ k j ⟨n * 256 + k.val, hF⟩ (by dsimp only; omega)

end Tile

variable (m : (ℓ : Loc nD τ sig) → Buf (Elt Ideal) ℓ) (c : Dev nD)

/-- What a grid point leaves in the output's staging buffer is the tile after all eleven blocks. -/
theorem out_tile (t : Fin cfg0.N) : outsAt0 m c t = tile (iblk m c 0 t) (iblk m c 1 t) (iblk m c 2 t) (iblk m c 3 t) (iblk m c 4 t)
    (iblk m c 5 t) (iblk m c 6 t) (iblk m c 7 t) 11 le_rfl := by
  unfold Gen.outsAt0
  frame_out
  rw [block_0, block_1, block_2, block_3, block_4, block_5, block_6, block_7, block_8, block_9, block_10]
  rfl

/-! ## The result array -/

section Spec

variable (x0 : FVec Ideal S65536x1024 .f32) (x1 x2 : FVec Ideal S65536x512 .bf16) (x3 : FVec Ideal S1x1024x1024 .f32) (x4 : FVec Ideal S1x1024 .f32)
variable (x5 x6 : FVec Ideal S1x1024x2816 .f32) (x7 : FVec Ideal S1x2816x1024 .f32)

/-- Row `R` of the residual stream after the attention part: the heads' outputs through the output projection. -/
def resid (R : Fin 65536) (j : Fin 1024) : EReal :=
  x0 (ix2 R j) + ∑ L : Fin 512, x1 (ix2 R L) * x3 (ix3 0 ⟨L.val, by omega⟩ j) + ∑ L : Fin 512, x2 (ix2 R L) * x3 (ix3 0 ⟨512 + L.val, by omega⟩ j)

/-- Row `R` after the dense feed-forward part. -/
def spec (R : Fin 65536) (j : Fin 1024) : EReal :=
  resid x0 x1 x2 x3 R j + ∑ F : Fin 2816, hid (normed (resid x0 x1 x2 x3 R) fun d => x4 (ix2 0 d)) (fun d => x5 (ix3 0 d F)) (fun d => x6 (ix3 0 d F)) * x7 (ix3 0 F j)

end Spec

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![t.val, 0] :=
  (by decide +kernel : ∀ t : Fin grid0.N, _)

theorem w_out : V m c main_v1 = fun i : S1024x1024.Idx => m ((c : Thread nD τ).loc main_arg3) (ix3 0 (i 0) (i 1)) := by
  funext i
  entry_read
  pointwise []

theorem w_gain : V m c main_v3 = fun i : S1x1024.Idx => m ((c : Thread nD τ).loc main_arg4) (ix2 0 (i 1)) := by
  funext i
  entry_read
  pointwise []

theorem w_gate : V m c main_v5 = fun i : S1024x2816.Idx => m ((c : Thread nD τ).loc main_arg5) (ix3 0 (i 0) (i 1)) := by
  funext i
  entry_read
  pointwise []

theorem w_up : V m c main_v7 = fun i : S1024x2816.Idx => m ((c : Thread nD τ).loc main_arg6) (ix3 0 (i 0) (i 1)) := by
  funext i
  entry_read
  pointwise []

theorem w_down : V m c main_v9 = fun i : S2816x1024.Idx => m ((c : Thread nD τ).loc main_arg7) (ix3 0 (i 0) (i 1)) := by
  funext i
  entry_read
  pointwise []

theorem blk_x (t : Fin cfg0.N) (r : Fin 512) (j : Fin 1024) (R : Fin 65536) (hR : R.val = 512 * t.val + r.val) :
    (show FVec Ideal S512x1024 .f32 from iblk m c 0 t) (ix2 r j) = m ((c : Thread nD τ).loc main_arg0) (ix2 R j) := by
  blk_ext [iblk, V, idx t]

theorem blk_sb (t : Fin cfg0.N) (r : Fin 512) (j : Fin 512) (R : Fin 65536) (hR : R.val = 512 * t.val + r.val) :
    (show FVec Ideal S512x512 .bf16 from iblk m c 1 t) (ix2 r j) = m ((c : Thread nD τ).loc main_arg1) (ix2 R j) := by
  blk_ext [iblk, V, idx t]

theorem blk_fox (t : Fin cfg0.N) (r : Fin 512) (j : Fin 512) (R : Fin 65536) (hR : R.val = 512 * t.val + r.val) :
    (show FVec Ideal S512x512 .bf16 from iblk m c 2 t) (ix2 r j) = m ((c : Thread nD τ).loc main_arg2) (ix2 R j) := by
  blk_ext [iblk, V, idx t]

theorem blk_out (t : Fin cfg0.N) (L j : Fin 1024) :
    (show FVec Ideal S1024x1024 .bf16 from iblk m c 3 t) (ix2 L j) = m ((c : Thread nD τ).loc main_arg3) (ix3 0 L j) := by
  refine Eq.trans ?_ (congrFun (w_out m c) (ix2 L j))
  blk_ext [iblk, idx t]

theorem blk_gain (t : Fin cfg0.N) (j : Fin 1024) :
    (show FVec Ideal S1x1024 .f32 from iblk m c 4 t) (ix2 0 j) = m ((c : Thread nD τ).loc main_arg4) (ix2 0 j) := by
  refine Eq.trans ?_ (congrFun (w_gain m c) (ix2 0 j))
  blk_ext [iblk, idx t]

theorem blk_gate (t : Fin cfg0.N) (d : Fin 1024) (F : Fin 2816) :
    (show FVec Ideal S1024x2816 .bf16 from iblk m c 5 t) (ix2 d F) = m ((c : Thread nD τ).loc main_arg5) (ix3 0 d F) := by
  refine Eq.trans ?_ (congrFun (w_gate m c) (ix2 d F))
  blk_ext [iblk, idx t]

theorem blk_up (t : Fin cfg0.N) (d : Fin 1024) (F : Fin 2816) :
    (show FVec Ideal S1024x2816 .bf16 from iblk m c 6 t) (ix2 d F) = m ((c : Thread nD τ).loc main_arg6) (ix3 0 d F) := by
  refine Eq.trans ?_ (congrFun (w_up m c) (ix2 d F))
  blk_ext [iblk, idx t]

theorem blk_down (t : Fin cfg0.N) (F : Fin 2816) (j : Fin 1024) :
    (show FVec Ideal S2816x1024 .bf16 from iblk m c 7 t) (ix2 F j) = m ((c : Thread nD τ).loc main_arg7) (ix3 0 F j) := by
  refine Eq.trans ?_ (congrFun (w_down m c) (ix2 F j))
  blk_ext [iblk, idx t]

/-- What grid point `t` leaves at a row and a column of its tile. -/
theorem point (t : Fin cfg0.N) (r : Fin 512) (j : Fin 1024) (R : Fin 65536) (hR : R.val = 512 * t.val + r.val) :
    outsAt0 m c t (ix2 r j) = spec (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) R j := by
  have hmid : ∀ d, mid (iblk m c 0 t) (iblk m c 1 t) (iblk m c 2 t) (iblk m c 3 t) r d = resid (m ((c : Thread nD τ).loc main_arg0))
      (m ((c : Thread nD τ).loc main_arg1)) (m ((c : Thread nD τ).loc main_arg2)) (m ((c : Thread nD τ).loc main_arg3)) R d := fun d =>
    congrArg₂ (· + ·) (congrArg₂ (· + ·) (blk_x m c t r d R hR)
      (Finset.sum_congr rfl fun L _ => congrArg₂ (· * ·) (blk_sb m c t r L R hR) (blk_out m c t _ d)))
      (Finset.sum_congr rfl fun L _ => congrArg₂ (· * ·) (blk_fox m c t r L R hR) (blk_out m c t _ d))
  rw [out_tile, tile_at, hmid]
  unfold spec
  rw [sum_blocks (q := 11) (n := 256) rfl]
  refine congrArg₂ (· + ·) rfl (Finset.sum_congr rfl fun s _ => Finset.sum_congr rfl fun k _ => ?_)
  unfold term
  exact congrArg₂ (· * ·) (congr (congr (congrArg hid (congrArg₂ normed (funext hmid) (funext fun d => blk_gain m c t d)))
    (funext fun d => blk_gate m c t d _)) (funext fun d => blk_up m c t d _)) (blk_down m c t _ j)

/-- THE RESULT ARRAY. -/
theorem final : (dats m 0 c).arrAt 8 cfg0.N = fun i : S65536x1024.Idx => spec (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (i 0) (i 1) := by
  refine (dats m 0 c).arrAt_eq_of_covers 8 _ (by decide +kernel) fun t _ y => ?_
  blk_simp
  rw [after0_8]
  idx_vars y
  have h0 : ((((View.whole main_v10).slice (win0_8.rect t)).emb (ix2 y0 y1) 0 : Fin 65536) : ℕ) = 512 * t.val + y0.val := by
    blk_simp [idx t]
    omega
  have h1 : (((View.whole main_v10).slice (win0_8.rect t)).emb (ix2 y0 y1) 1 : Fin 1024) = y1 := by
    ext
    blk_simp [idx t]
    try omega
  rw [h1]
  exact point m c t y0 y1 _ h0

end Cert.FfnIdeal.Rows
end
-- ==== Proof.FfnRef.lean ====
module

public import proofs.«01_k».proof.Proof.FfnValue
public import proofs.«01_k».proof.Proof.Gen.FfnRefIdeal.Read
public import Idealize.ShloMosaic.Lib.Pointwise

/-! The plain dense feed-forward part, read at one row and column. -/

@[expose] public section

set_option maxRecDepth 16384

noncomputable section

namespace Cert.FfnRefIdeal.Rows

open Cert.FfnRefIdeal Cert.FfnRefIdeal.Gen Cert.FfnRefIdeal.Read Idealize.ShloMosaic Idealize.ShloMosaic.TcCoe Idealize.SL.Sem Cert.Layer
open Cert.FfnIdeal.Rows (resid spec)

variable (x0 : FVec Ideal S65536x1024 .f32) (x1 x2 : FVec Ideal S65536x512 .bf16) (x3 : FVec Ideal S1x1024x1024 .f32) (x4 : FVec Ideal S1x1024 .f32)
variable (x5 x6 : FVec Ideal S1x1024x2816 .f32) (x7 : FVec Ideal S1x2816x1024 .f32)

/-- The residual stream after the attention part. -/
theorem resid_at (R : Fin 65536) (j : Fin 1024) : val_main_v5 (F := Ideal) x0 x1 x2 x3 (ix2 R j) = resid x0 x1 x2 x3 R j := by
  unfold resid
  rw [add_assoc]
  pointwise [val_main_v5, val_main_v4, val_main_v3, val_main_v2, val_main_v1, val_main_v0]

/-- Its norm. -/
theorem normed_at (R : Fin 65536) (j : Fin 1024) : val_main_v19 (F := Ideal) x0 x1 x2 x3 x4 (ix2 R j)
    = normed (resid x0 x1 x2 x3 R) (fun d => x4 (ix2 0 d)) j := by
  unfold normed scale
  pointwise [val_main_v19, val_main_v18, val_main_v17, val_main_v16, val_main_v15, val_main_v14, val_main_v13, val_main_v12, val_main_cst_1, val_main_v11, val_main_v10, val_main_cst_0, val_main_v9, val_main_v8, val_main_cst, val_main_v7, val_main_v6, resid_at x0 x1 x2 x3]

/-- THE REFERENCE'S RESULT. -/
theorem value_at (R : Fin 65536) (j : Fin 1024) :
    val_main_v28 (F := Ideal) x0 x1 x2 x3 x4 x5 x6 x7 (ix2 R j) = spec x0 x1 x2 x3 x4 x5 x6 x7 R j := by
  unfold spec hid
  simp only [zero_sub]
  pointwise [val_main_v28, val_main_v27, val_main_v26, val_main_v25, val_main_v24, val_main_call0_v5, val_main_call0_v4, val_main_call0_cst_0, val_main_call0_v3, val_main_call0_v2, val_main_call0_cst, val_main_call0_v1, val_main_call0_v0, val_main_v23, val_main_v22, val_main_v21, val_main_v20, resid_at x0 x1 x2 x3, normed_at x0 x1 x2 x3 x4]

end Cert.FfnRefIdeal.Rows
end
-- ==== Proof.FfnClaim.lean ====
module

public import proofs.«01_k».proof.Defs
public import proofs.«01_k».proof.Proof.FfnRef
public import proofs.«01_k».proof.Proof.Gen.Ffn
public import proofs.«01_k».proof.Proof.Gen.Ffn.Frame
public import proofs.«01_k».proof.Proof.Gen.FfnIdeal
public import proofs.«01_k».proof.Proof.Gen.FfnRefIdeal
public import Idealize.ShloMosaic.Lib.Claim

/-! The claims about the call of the output projection and the dense feed-forward part. -/

@[expose] public section

set_option maxRecDepth 16384

noncomputable section

namespace Cert.Proof.Ffn

open Idealize.ShloMosaic Idealize.ShloMosaic.TcCoe Idealize.SL.Sem

/-- The kernel, over words: it ends, leaves its arguments as they were and its counters at zero. -/
theorem frame_P : Cert.quiescent_Ffn (hFfn := Cert.Ffn.Gen.facts) :=
  fun m g _ => Cert.Ffn.Gen.frame m g

/-- The kernel, over the extended reals, likewise. -/
theorem frame_PI : Cert.quiescent_FfnIdeal (hFfnIdeal := Cert.FfnIdeal.Gen.facts) :=
  fun m g _ => Cert.FfnIdeal.Gen.frame m g

/-- The reference ends, and leaves its arguments as they were. -/
theorem frame_RI : Cert.quiescent_FfnRefIdeal (hFfnRefIdeal := Cert.FfnRefIdeal.Gen.facts) := by
  intro m g _
  refine (θ_run _ _ _).mono (fun r h => ⟨fun c => (h c).2, sem_eq_zero_of_no_sems rfl _⟩) (Cert.FfnRefIdeal.Value.run m g)

/-- The ideal kernel is the kernel, word for word. -/
theorem preserves : Cert.preserves_Ffn_FfnIdeal := trivial

/-- The kernel's rows are the reference's, over the extended reals. -/
theorem algebraic : Cert.algebraic_FfnIdeal_FfnRefIdeal (hFfnIdeal := Cert.FfnIdeal.Gen.facts) (hFfnRefIdeal := Cert.FfnRefIdeal.Gen.facts) := by
  pair_intro
  · run_from Cert.FfnIdeal.Value.run_blocks m g
  · run_from Cert.FfnRefIdeal.Value.run m' g'
    obtain ⟨h0, h1, h2, h3, h4, h5, h6, h7⟩ := hagree c
    rw [Cert.FfnRefIdeal.Read.val_main_v28_eq, h0, h1, h2, h3, h4, h5, h6, h7]
    refine Eq.trans ?_ (Cert.FfnIdeal.Rows.final m c).symm
    funext j
    idx_vars j
    exact Cert.FfnRefIdeal.Rows.value_at _ _ _ _ _ _ _ _ _ _

end Cert.Proof.Ffn

end
-- ==== Proof.ExpertsBody.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

/-! One grid point of the experts' call. -/

@[expose] public section

set_option maxRecDepth 16384

noncomputable section

namespace Cert.ExpertsIdeal.Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ExpertsIdeal Cert.ExpertsIdeal.Gen

variable {F : FTy → Type} [FloatOps F]

local notation "𝕄" => MT nD τ sig Unit (Elt F) ℕ (UR sig nD τ) ℕ

/-- The table of the blocks' experts, and the number of blocks in use. -/
abbrev tabE : Memref sig .tc .smem S136 .i32 := Memref.whole main_arg0
abbrev tabN : Memref sig .tc .smem S1 .i32 := Memref.whole main_arg1

/-- A table's contents, and the half of it that the body holds. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The number of blocks in use, as the body loads it. -/
abbrev used (c : Dev nD) (f : TabBuf (F := F) c tabN) : BitVec 32 :=
  View.readAt (Elt F) tabN.view (Rect.unit (s := S1) ![0] S1.size inb_S1_S1_0).toLoadRect f (Shape.Idx.first (numel1_S1.symm ▸ Nat.one_pos))

/-- A load of a whole buffer that holds `x` gives `x`. -/
theorem load_whole {S : Shape} {e : EltTy} (M : Memref sig .tc .vmem S e) (h : M.IsWhole) (x : Vec F S e) {off : Fin S.rank → ℕ}
    (inb : ∀ a, off a + S.size a ≤ S.size a) : M.view.readAt (Elt F) (Rect.unit off S.size inb).toLoadRect (h.unread x) = x :=
  (View.readAt_full M.view _ inb).trans (h.read_unread x)

/-- A load of a part of a buffer that holds `x` gives that part of `x`. -/
theorem load_part {S : Shape} {e : EltTy} (M : Memref sig .tc .vmem S e) (h : M.IsWhole) (x : Vec F S e) (r : Rect S) :
    M.view.readAt (Elt F) r.toLoadRect (h.unread x) = View.ld x r :=
  congrArg (fun g => View.ld g r) (h.read_unread x)

/-- The four row blocks of the step's rows, side by side and rounded: what the first step of a block packs. -/
def packed (x : Vec F S4x1024x256 .f32) : Vec F S1024x1024 .bf16 :=
  View.canon [⟨Rect.unit (s := S1024x1024) ![0, 768] S1024x256.size inb_S1024x1024_S1024x256_0_768, k0_pay4 (View.ld x (Rect.unit (s := S4x1024x256) ![3, 0, 0] S1x1024x256.size inb_S4x1024x256_S1x1024x256_3_0_0))⟩,
    ⟨Rect.unit (s := S1024x1024) ![0, 512] S1024x256.size inb_S1024x1024_S1024x256_0_512, k0_pay3 (View.ld x (Rect.unit (s := S4x1024x256) ![2, 0, 0] S1x1024x256.size inb_S4x1024x256_S1x1024x256_2_0_0))⟩,
    ⟨Rect.unit (s := S1024x1024) ![0, 256] S1024x256.size inb_S1024x1024_S1024x256_0_256, k0_pay2 (View.ld x (Rect.unit (s := S4x1024x256) ![1, 0, 0] S1x1024x256.size inb_S4x1024x256_S1x1024x256_1_0_0))⟩,
    ⟨Rect.unit (s := S1024x1024) ![0, 0] S1024x256.size inb_S1024x1024_S1024x256_0_0, k0_pay1 (View.ld x (Rect.unit (s := S4x1024x256) ![0, 0, 0] S1x1024x256.size inb_S4x1024x256_S1x1024x256_0_0_0))⟩]

/-- A block's sums cut into four column chunks, one above the other: what the last step of a block in use writes. -/
def chunked (a : Vec F S1024x1024 .f32) : Vec F S4x1024x256 .f32 :=
  View.canon [⟨Rect.unit (s := S4x1024x256) ![3, 0, 0] S1x1024x256.size inb_S4x1024x256_S1x1024x256_3_0_0, k0_pay10 a⟩,
    ⟨Rect.unit (s := S4x1024x256) ![2, 0, 0] S1x1024x256.size inb_S4x1024x256_S1x1024x256_2_0_0, k0_pay9 a⟩,
    ⟨Rect.unit (s := S4x1024x256) ![1, 0, 0] S1x1024x256.size inb_S4x1024x256_S1x1024x256_1_0_0, k0_pay8 a⟩,
    ⟨Rect.unit (s := S4x1024x256) ![0, 0, 0] S1x1024x256.size inb_S4x1024x256_S1x1024x256_0_0_0, k0_pay7 a⟩]

/-- The buffers of a step: the four inputs' and the output's, the two scratch buffers, and halves of the two tables. -/
def held (c : Dev nD) (arg4 : Memref sig .tc .vmem S4x1024x256 .f32) (arg5 arg6 : Memref sig .tc .vmem S1x1024x512 .f32) (arg7 : Memref sig .tc .vmem S1x512x1024 .f32)
    (arg8 : Memref sig .tc .vmem S4x1024x256 .f32) (arg9 : Memref sig .tc .vmem S1024x1024 .bf16) (arg10 : Memref sig .tc .vmem S1024x1024 .f32)
    (x0 : Vec F S4x1024x256 .f32) (x1 x2 : Vec F S1x1024x512 .f32) (x3 : Vec F S1x512x1024 .f32) (xt0 : TabBuf (F := F) c tabE) (xt1 : TabBuf (F := F) c tabN)
    (x4 : Vec F S4x1024x256 .f32) (s0 : Vec F S1024x1024 .bf16) (s1 : Vec F S1024x1024 .f32) : sProp 𝕄 :=
  iprop(owns (c : Thread nD τ) arg4 fullShare x0 ∗ owns (c : Thread nD τ) arg5 fullShare x1 ∗ owns (c : Thread nD τ) arg6 fullShare x2 ∗ owns (c : Thread nD τ) arg7 fullShare x3
    ∗ owns (c : Thread nD τ) arg8 fullShare x4 ∗ owns (c : Thread nD τ) arg9 fullShare s0 ∗ owns (c : Thread nD τ) arg10 fullShare s1 ∗ tabPt c tabE xt0 ∗ tabPt c tabN xt1)

/-- Any contents that read as `x` make the buffer hold `x`. -/
theorem holds {S : Shape} {e : EltTy} (c : Dev nD) (M : Memref sig .tc .vmem S e) (x : Vec F S e) (f : Buf (Elt F) (M.view.loc (c : Thread nD τ))) (h : M.view.read (Elt F) f = x) :
    (M.view.loc (c : Thread nD τ) ↦[M.view.set]{fullShare} f : sProp 𝕄) ⊢ iprop(∃ f, ⌜M.view.read (Elt F) f = x⌝ ∗ M.view.loc (c : Thread nD τ) ↦[M.view.set]{fullShare} f) := by
  iintro H
  iexists f; isplitr
  · ipureintro; exact h
  iexact H

/-- What a step does: with the inputs at `x0` … `x3` and the tables at `xt0`, `xt1`, the output block goes from `x4` to
    `y4` and the two scratch buffers from `s0`, `s1` to `r0`, `r1`, whatever the buffers it is handed. -/
def Step (c : Dev nD) (i : grid0.Coords) (x0 : Vec F S4x1024x256 .f32) (x1 x2 : Vec F S1x1024x512 .f32) (x3 : Vec F S1x512x1024 .f32) (xt0 : TabBuf (F := F) c tabE) (xt1 : TabBuf (F := F) c tabN)
    (x4 : Vec F S4x1024x256 .f32) (s0 : Vec F S1024x1024 .bf16) (s1 : Vec F S1024x1024 .f32) (y4 : Vec F S4x1024x256 .f32) (r0 : Vec F S1024x1024 .bf16) (r1 : Vec F S1024x1024 .f32) : Prop :=
  ∀ (arg4 : Memref sig .tc .vmem S4x1024x256 .f32) (harg4 : arg4.IsWhole) (arg5 : Memref sig .tc .vmem S1x1024x512 .f32) (harg5 : arg5.IsWhole) (arg6 : Memref sig .tc .vmem S1x1024x512 .f32) (harg6 : arg6.IsWhole)
    (arg7 : Memref sig .tc .vmem S1x512x1024 .f32) (harg7 : arg7.IsWhole) (arg8 : Memref sig .tc .vmem S4x1024x256 .f32) (harg8 : arg8.IsWhole) (arg9 : Memref sig .tc .vmem S1024x1024 .bf16) (harg9 : arg9.IsWhole)
    (arg10 : Memref sig .tc .vmem S1024x1024 .f32) (harg10 : arg10.IsWhole) (K : PUnit → sProp 𝕄),
    iprop(held c arg4 arg5 arg6 arg7 arg8 arg9 arg10 x0 x1 x2 x3 xt0 xt1 x4 s0 s1 ∗ (held c arg4 arg5 arg6 arg7 arg8 arg9 arg10 x0 x1 x2 x3 xt0 xt1 y4 r0 r1 -∗ K ⟨⟩))
      ⊢ wp frame (wpE (defs₀ (F := F)) Variants.none c none) Set.univ (cc0_moe_experts i tabE (Memref.isWhole_whole _) tabN (Memref.isWhole_whole _) arg4 harg4 arg5 harg5 arg6 harg6 arg7 harg7 arg8 harg8 arg9 harg9 arg10 harg10) K

/-- The first two conditions of a step: the block is in use and this is its first step; the block is in use. -/
abbrev isFirst (i : grid0.Coords) (n : BitVec 32) : Prop :=
  Scalar.cmpi .ne (Scalar.extui (Scalar.andi (Scalar.cmpi .slt (BitVec.ofNat 32 (i 0).val) n) (Scalar.cmpi .eq (BitVec.ofNat 32 (i 1).val) 0#32))) 0#32 = 1#1
abbrev isUsed (i : grid0.Coords) (n : BitVec 32) : Prop :=
  Scalar.cmpi .ne (Scalar.extui (Scalar.cmpi .slt (BitVec.ofNat 32 (i 0).val) n)) 0#32 = 1#1

variable (c : Dev nD) (i : grid0.Coords) (x0 : Vec F S4x1024x256 .f32) (x1 x2 : Vec F S1x1024x512 .f32) (x3 : Vec F S1x512x1024 .f32) (xt0 : TabBuf (F := F) c tabE) (xt1 : TabBuf (F := F) c tabN)
  (x4 : Vec F S4x1024x256 .f32) (s0 : Vec F S1024x1024 .bf16) (s1 : Vec F S1024x1024 .f32)

/-- The first step of a block in use packs the rows and starts the sums. -/
theorem step_first (h1 : isFirst i (used c xt1)) (h2 : isUsed i (used c xt1)) (h3 : ¬k0_cond3 i (used c xt1) = 1#1) (h4 : ¬k0_cond4 i (used c xt1) = 1#1) :
    Step c i x0 x1 x2 x3 xt0 xt1 x4 s0 s1 x4 (packed x0) (k0_pay6 (packed x0) x1 x2 k0_pay5 x3) := by
  unfold Step held
  intro arg4 harg4 arg5 harg5 arg6 harg6 arg7 harg7 arg8 harg8 arg9 harg9 arg10 harg10 K
  simp only [cc0_moe_experts_eq_skeleton]; unfold cc0_moe_experts_skel
  unfold owns
  iintro ⟨⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, HT0, HT1⟩, Hk⟩
  obtain rfl := harg4.eq_unread hf0; obtain rfl := harg5.eq_unread hf1; obtain rfl := harg6.eq_unread hf2; obtain rfl := harg7.eq_unread hf3
  obtain rfl := harg8.eq_unread hf4; obtain rfl := harg9.eq_unread hg0; obtain rfl := harg10.eq_unread hg1
  sl_exec (disch := first | sl_exact h1 | sl_exact h2 | sl_exact h3 | sl_exact h4)
  sl_step
  iapply Hk
  isplitl [H0]; · iapply (holds c arg4 x0 _ (harg4.read_unread _)); iexact H0
  isplitl [H1]; · iapply (holds c arg5 x1 _ (harg5.read_unread _)); iexact H1
  isplitl [H2]; · iapply (holds c arg6 x2 _ (harg6.read_unread _)); iexact H2
  isplitl [H3]; · iapply (holds c arg7 x3 _ (harg7.read_unread _)); iexact H3
  isplitl [H4]; · iapply (holds c arg8 _ _ (harg8.read_unread _)); iexact H4
  isplitl [HS0]
  · iexists _; isplitr; swap; · iexact HS0
    ipureintro
    unfold step_first.sl.HS0_4
    rw [load_part, load_part, load_part, load_part]
    exact View.read_writes_eq_canon _ _ _ (View.cover_of_tiledL _ S1024x256.size (by sl_kernel_rfl))
  isplitl [HS1]
  · iexists _; isplitr; swap; · iexact HS1
    ipureintro
    unfold step_first.sl.v17 step_first.sl.v36 step_first.sl.HS1_1 step_first.sl.HS0_4
    rw [View.read_writes_full, load_part, load_part, load_part, load_part, load_whole, load_whole, load_whole, View.readCov_full]
    exact congrArg (fun s => k0_pay6 s x1 x2 k0_pay5 x3) ((View.readAt_full _ _ _).trans (View.read_writes_eq_canon _ _ _ (View.cover_of_tiledL _ S1024x256.size (by sl_kernel_rfl))))
  isplitl [HT0]; · iexact HT0
  iexact HT1

/-- A later step of a block in use adds one product to the sums. -/
theorem step_middle (h1 : ¬isFirst i (used c xt1)) (h2 : isUsed i (used c xt1)) (h3 : ¬k0_cond3 i (used c xt1) = 1#1) (h4 : ¬k0_cond4 i (used c xt1) = 1#1) :
    Step c i x0 x1 x2 x3 xt0 xt1 x4 s0 s1 x4 s0 (k0_pay6 s0 x1 x2 s1 x3) := by
  unfold Step held
  intro arg4 harg4 arg5 harg5 arg6 harg6 arg7 harg7 arg8 harg8 arg9 harg9 arg10 harg10 K
  simp only [cc0_moe_experts_eq_skeleton]; unfold cc0_moe_experts_skel
  unfold owns
  iintro ⟨⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, HT0, HT1⟩, Hk⟩
  obtain rfl := harg4.eq_unread hf0; obtain rfl := harg5.eq_unread hf1; obtain rfl := harg6.eq_unread hf2; obtain rfl := harg7.eq_unread hf3
  obtain rfl := harg8.eq_unread hf4; obtain rfl := harg9.eq_unread hg0; obtain rfl := harg10.eq_unread hg1
  sl_exec (disch := first | sl_exact h1 | sl_exact h2 | sl_exact h3 | sl_exact h4)
  sl_step
  iapply Hk
  isplitl [H0]; · iapply (holds c arg4 x0 _ (harg4.read_unread _)); iexact H0
  isplitl [H1]; · iapply (holds c arg5 x1 _ (harg5.read_unread _)); iexact H1
  isplitl [H2]; · iapply (holds c arg6 x2 _ (harg6.read_unread _)); iexact H2
  isplitl [H3]; · iapply (holds c arg7 x3 _ (harg7.read_unread _)); iexact H3
  isplitl [H4]; · iapply (holds c arg8 _ _ (harg8.read_unread _)); iexact H4
  isplitl [HS0]; · iapply (holds c arg9 _ _ (harg9.read_unread _)); iexact HS0
  isplitl [HS1]
  · iexists _; isplitr; swap; · iexact HS1
    ipureintro
    rw [View.read_writes_full, load_whole, load_whole, load_whole, load_whole, load_whole]
  isplitl [HT0]; · iexact HT0
  iexact HT1

/-- The last step of a block in use also writes the sums out. -/
theorem step_last (h1 : ¬isFirst i (used c xt1)) (h2 : isUsed i (used c xt1)) (h3 : k0_cond3 i (used c xt1) = 1#1) (h4 : ¬k0_cond4 i (used c xt1) = 1#1) :
    Step c i x0 x1 x2 x3 xt0 xt1 x4 s0 s1 (chunked (k0_pay6 s0 x1 x2 s1 x3)) s0 (k0_pay6 s0 x1 x2 s1 x3) := by
  unfold Step held
  intro arg4 harg4 arg5 harg5 arg6 harg6 arg7 harg7 arg8 harg8 arg9 harg9 arg10 harg10 K
  simp only [cc0_moe_experts_eq_skeleton]; unfold cc0_moe_experts_skel
  unfold owns
  iintro ⟨⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, HT0, HT1⟩, Hk⟩
  obtain rfl := harg4.eq_unread hf0; obtain rfl := harg5.eq_unread hf1; obtain rfl := harg6.eq_unread hf2; obtain rfl := harg7.eq_unread hf3
  obtain rfl := harg8.eq_unread hf4; obtain rfl := harg9.eq_unread hg0; obtain rfl := harg10.eq_unread hg1
  sl_exec (disch := first | sl_exact h1 | sl_exact h2 | sl_exact h3 | sl_exact h4)
  sl_step
  iapply Hk
  isplitl [H0]; · iapply (holds c arg4 x0 _ (harg4.read_unread _)); iexact H0
  isplitl [H1]; · iapply (holds c arg5 x1 _ (harg5.read_unread _)); iexact H1
  isplitl [H2]; · iapply (holds c arg6 x2 _ (harg6.read_unread _)); iexact H2
  isplitl [H3]; · iapply (holds c arg7 x3 _ (harg7.read_unread _)); iexact H3
  isplitl [H4]
  · iexists _; isplitr; swap; · iexact H4
    ipureintro
    unfold step_last.sl.v17 step_last.sl.HS1_1
    rw [View.readCov_full, load_whole, load_whole, load_whole, load_whole, load_whole]
    exact View.read_writes_eq_canon _ _ _ (View.cover_of_tiledL _ S1x1024x256.size (by sl_kernel_rfl))
  isplitl [HS0]; · iapply (holds c arg9 _ _ (harg9.read_unread _)); iexact HS0
  isplitl [HS1]
  · iexists _; isplitr; swap; · iexact HS1
    ipureintro
    unfold step_last.sl.HS1_1
    rw [View.read_writes_full, load_whole, load_whole, load_whole, load_whole, load_whole]
  isplitl [HT0]; · iexact HT0
  iexact HT1

/-- A step of a block not in use changes nothing before the last. -/
theorem step_skip (h1 : ¬isFirst i (used c xt1)) (h2 : ¬isUsed i (used c xt1)) (h3 : ¬k0_cond3 i (used c xt1) = 1#1) (h4 : ¬k0_cond4 i (used c xt1) = 1#1) :
    Step c i x0 x1 x2 x3 xt0 xt1 x4 s0 s1 x4 s0 s1 := by
  unfold Step held
  intro arg4 harg4 arg5 harg5 arg6 harg6 arg7 harg7 arg8 harg8 arg9 harg9 arg10 harg10 K
  simp only [cc0_moe_experts_eq_skeleton]; unfold cc0_moe_experts_skel
  unfold owns
  iintro ⟨⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, HT0, HT1⟩, Hk⟩
  obtain rfl := harg4.eq_unread hf0; obtain rfl := harg5.eq_unread hf1; obtain rfl := harg6.eq_unread hf2; obtain rfl := harg7.eq_unread hf3
  obtain rfl := harg8.eq_unread hf4; obtain rfl := harg9.eq_unread hg0; obtain rfl := harg10.eq_unread hg1
  sl_exec (disch := first | sl_exact h1 | sl_exact h2 | sl_exact h3 | sl_exact h4)
  sl_step
  iapply Hk
  isplitl [H0]; · iapply (holds c arg4 x0 _ (harg4.read_unread _)); iexact H0
  isplitl [H1]; · iapply (holds c arg5 x1 _ (harg5.read_unread _)); iexact H1
  isplitl [H2]; · iapply (holds c arg6 x2 _ (harg6.read_unread _)); iexact H2
  isplitl [H3]; · iapply (holds c arg7 x3 _ (harg7.read_unread _)); iexact H3
  isplitl [H4]; · iapply (holds c arg8 _ _ (harg8.read_unread _)); iexact H4
  isplitl [HS0]; · iapply (holds c arg9 _ _ (harg9.read_unread _)); iexact HS0
  isplitl [HS1]; · iapply (holds c arg10 _ _ (harg10.read_unread _)); iexact HS1
  isplitl [HT0]; · iexact HT0
  iexact HT1

/-- The last step of a block not in use writes zeros. -/
theorem step_clear (h1 : ¬isFirst i (used c xt1)) (h2 : ¬isUsed i (used c xt1)) (h3 : ¬k0_cond3 i (used c xt1) = 1#1) (h4 : k0_cond4 i (used c xt1) = 1#1) :
    Step c i x0 x1 x2 x3 xt0 xt1 x4 s0 s1 k0_pay11 s0 s1 := by
  unfold Step held
  intro arg4 harg4 arg5 harg5 arg6 harg6 arg7 harg7 arg8 harg8 arg9 harg9 arg10 harg10 K
  simp only [cc0_moe_experts_eq_skeleton]; unfold cc0_moe_experts_skel
  unfold owns
  iintro ⟨⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, HT0, HT1⟩, Hk⟩
  obtain rfl := harg4.eq_unread hf0; obtain rfl := harg5.eq_unread hf1; obtain rfl := harg6.eq_unread hf2; obtain rfl := harg7.eq_unread hf3
  obtain rfl := harg8.eq_unread hf4; obtain rfl := harg9.eq_unread hg0; obtain rfl := harg10.eq_unread hg1
  sl_exec (disch := first | sl_exact h1 | sl_exact h2 | sl_exact h3 | sl_exact h4)
  sl_step
  iapply Hk
  isplitl [H0]; · iapply (holds c arg4 x0 _ (harg4.read_unread _)); iexact H0
  isplitl [H1]; · iapply (holds c arg5 x1 _ (harg5.read_unread _)); iexact H1
  isplitl [H2]; · iapply (holds c arg6 x2 _ (harg6.read_unread _)); iexact H2
  isplitl [H3]; · iapply (holds c arg7 x3 _ (harg7.read_unread _)); iexact H3
  isplitl [H4]
  · iexists _; isplitr; swap; · iexact H4
    ipureintro
    exact View.read_writes_full _ _ _ _ _
  isplitl [HS0]; · iapply (holds c arg9 _ _ (harg9.read_unread _)); iexact HS0
  isplitl [HS1]; · iapply (holds c arg10 _ _ (harg10.read_unread _)); iexact HS1
  isplitl [HT0]; · iexact HT0
  iexact HT1

end Cert.ExpertsIdeal.Walk
end
-- ==== Proof.ExpertsRun.lean ====
module

public import proofs.«01_k».proof.Proof.ExpertsBody

/-! The experts' call: its launch, and what its buffers hold from point to point. -/

@[expose] public section

set_option maxRecDepth 16384

noncomputable section

namespace Cert.ExpertsIdeal.Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the call starts: as launched. -/
abbrev V (c : Dev nD) (b : Ref sig .tc) : Buf (Elt F) ((c : Thread nD τ).loc b) := m ((c : Thread nD τ).loc b)

/-- The program is the call alone. -/
theorem starts (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables' contents (there is one device). -/
def tbl : pre0.Contents (Elt F) := fun j => V m (0 : Dev nD) (pre0.ref j)

theorem tbl_eq (c : Dev nD) (j : Fin 2) : V m c (pre0.ref j) = tbl m j := by
  obtain rfl : c = 0 := Subsingleton.elim _ _; rfl

/-- Every block the tables name lies inside its array. -/
abbrev Ok : Prop := ok0 (F := F) (tbl m)

/-- The pipeline at these tables. -/
abbrev adm (hO : Ok m) : (pcfg0 (F := F)).Adm := ⟨tbl m, hO⟩
abbrev pipe (hO : Ok m) : Pipeline.Cfg sig Λ₀ := cfg0 (adm m hO)

/-- The halves of the tables the body is handed, one by one. -/
theorem tables_eq (c : Dev nD) : (Pipeline.ΦT pre0 (tbl m) c : sProp 𝕄) = iprop(tabPt c tabE (tbl m 0) ∗ tabPt c tabN (tbl m 1)) := by
  unfold Pipeline.ΦT Pipeline.prefHeld
  rw [show (Finset.univ : Finset (Fin 2)) = insert (0 : Fin 2) {(1 : Fin 2)} from by decide, bigSep_insert (by decide), bigSep_singleton]
  rfl

/-- Window `w`'s block at point `t`, read off its array. -/
def blk (hO : Ok m) (c : Dev nD) (w : Fin (pipe m hO).W) (t : Fin (pipe m hO).N) : (((pipe m hO).win w).xblock ((pipe m hO).grid.coords t)).Idx → Elt F ((pipe m hO).win w).elt :=
  (((pipe m hO).win w).blk t).view.read (Elt F) (V m c (Pipeline.arrRef spec0 w))

/-- A program has this many points. -/
theorem points (hO : Ok m) : (pipe m hO).N = 952 := N_0

/-- The number of blocks in use. -/
abbrev cnt : BitVec 32 := used (F := F) 0 (tbl m 1)

/-- Block `b` is in use. -/
abbrev inUse (b : ℕ) : Prop := Scalar.cmpi .slt (BitVec.ofNat 32 b) (cnt m) = 1#1

/-- The table's element, as the list of idle points names it, is the number of blocks in use. -/
theorem atD_cnt : (tbl m).atD 1 ![0] = cnt m := by
  unfold Pipeline.Prefetch.Contents.atD
  rw [dif_pos (by decide)]
  exact congrArg (tbl m 1) (funext fun a => Fin.ext (by fin_cases a; rfl))

/-- The coordinates of point `t`: the block `t / 7` and the step `t % 7`. -/
theorem coord0 (t : Fin grid0.N) : (grid0.coords t 0).val = t.val / 7 := by
  have ht : t.val < 952 := Nat.lt_of_lt_of_eq t.isLt N_0
  have e : (grid0.coords t 0).val = t.val / 7 % 136 := Pipeline.Grid.coords_val t 0 (by decide) rfl
  omega
theorem coord1 (t : Fin grid0.N) : (grid0.coords t 1).val = t.val % 7 := by
  have e : (grid0.coords t 1).val = t.val / 1 % 7 := Pipeline.Grid.coords_val t 1 (by decide) rfl
  omega

/-- One bit is 0 or 1. -/
theorem bit_cases (b : BitVec 1) : b = 0#1 ∨ b = 1#1 := by revert b; decide

/-- A step number below 7 as a word is zero, or six, exactly if it is. -/
theorem word_zero (f : ℕ) (h : f < 7) : Scalar.cmpi .eq (BitVec.ofNat 32 f) 0#32 = if f = 0 then 1#1 else 0#1 :=
  (by decide : ∀ f : Fin 7, Scalar.cmpi .eq (BitVec.ofNat 32 f.val) 0#32 = if f.val = 0 then 1#1 else 0#1) ⟨f, h⟩
theorem word_six (f : ℕ) (h : f < 7) : Scalar.cmpi .eq (BitVec.ofNat 32 f) 6#32 = if f = 6 then 1#1 else 0#1 :=
  (by decide : ∀ f : Fin 7, Scalar.cmpi .eq (BitVec.ofNat 32 f.val) 6#32 = if f.val = 6 then 1#1 else 0#1) ⟨f, h⟩

/-- The four conditions of a step, at point `t`. -/
theorem isFirst_iff (t : Fin grid0.N) : isFirst (grid0.coords t) (cnt m) ↔ inUse m (t.val / 7) ∧ t.val % 7 = 0 := by
  unfold isFirst inUse
  rw [coord0, coord1, word_zero _ (Nat.mod_lt _ (by decide))]
  rcases bit_cases (Scalar.cmpi .slt (BitVec.ofNat 32 (t.val / 7)) (cnt m)) with h | h <;> rw [h] <;> by_cases h0 : t.val % 7 = 0 <;> simp only [h0] <;> decide
theorem isUsed_iff (t : Fin grid0.N) : isUsed (grid0.coords t) (cnt m) ↔ inUse m (t.val / 7) := by
  unfold isUsed inUse
  rw [coord0]
  rcases bit_cases (Scalar.cmpi .slt (BitVec.ofNat 32 (t.val / 7)) (cnt m)) with h | h <;> rw [h] <;> decide
theorem cond3_iff (t : Fin grid0.N) : k0_cond3 (grid0.coords t) (cnt m) = 1#1 ↔ inUse m (t.val / 7) ∧ t.val % 7 = 6 := by
  unfold k0_cond3 inUse
  dsimp only
  rw [coord0, coord1, word_six _ (Nat.mod_lt _ (by decide))]
  rcases bit_cases (Scalar.cmpi .slt (BitVec.ofNat 32 (t.val / 7)) (cnt m)) with h | h <;> rw [h] <;> by_cases h0 : t.val % 7 = 6 <;> simp only [h0] <;> decide
theorem cond4_iff (t : Fin grid0.N) : k0_cond4 (grid0.coords t) (cnt m) = 1#1 ↔ ¬inUse m (t.val / 7) ∧ t.val % 7 = 6 := by
  unfold k0_cond4 inUse
  dsimp only
  rw [coord0, coord1, word_six _ (Nat.mod_lt _ (by decide))]
  rcases bit_cases (Scalar.cmpi .slt (BitVec.ofNat 32 (t.val / 7)) (cnt m)) with h | h <;> rw [h] <;> by_cases h0 : t.val % 7 = 6 <;> simp only [h0] <;> decide

/-- The output is idle but at a block's last step. -/
theorem idle_out (hO : Ok m) (t : Fin (pipe m hO).N) : (pipe m hO).idle 4 (grid0.coords t) = decide (t.val % 7 ≠ 6) := by
  show (!(k0_cond3 (grid0.coords t) ((tbl m).atD 1 ![0]) == 1#1) && !(k0_cond4 (grid0.coords t) ((tbl m).atD 1 ![0]) == 1#1)) = _
  rw [atD_cnt, Bool.eq_iff_iff, Bool.and_eq_true, Bool.not_eq_true', Bool.not_eq_true', beq_eq_false_iff_ne, beq_eq_false_iff_ne, Ne, Ne, cond3_iff m t, cond4_iff m t, decide_eq_true_eq]
  tauto

/-- The output block is written back at a block's last step. -/
theorem flush_out (hO : Ok m) (t : Fin (pipe m hO).N) : ((pipe m hO).win 4).flush t = true ↔ t.val % 7 = 6 :=
  (fun t => Pipeline.Window.flushOf_reads cc0_transform_4 reads0_4 hreads0_4 0 (by decide) (by decide) (Pipeline.Window.sep_of_coord cc0_transform_4 0 1 (fun _ => rfl) (by decide)) (P := 7) (m := 6) (by decide) rfl t : ∀ t : Fin grid0.N, Pipeline.Window.flushOf grid0 true cc0_transform_4 t = true ↔ t.val % 7 = 6) t

/-- What a block in use has packed and summed by point `n`: started afresh at a block's first step. -/
def sums (hO : Ok m) (c : Dev nD) : (n : ℕ) → n < (pipe m hO).N → Vec F S1024x1024 .bf16 × Vec F S1024x1024 .f32
  | 0, h => (packed (blk m hO c 0 ⟨0, h⟩), k0_pay6 (packed (blk m hO c 0 ⟨0, h⟩)) (blk m hO c 1 ⟨0, h⟩) (blk m hO c 2 ⟨0, h⟩) k0_pay5 (blk m hO c 3 ⟨0, h⟩))
  | n + 1, h =>
    if (n + 1) % 7 = 0 then
      (packed (blk m hO c 0 ⟨n + 1, h⟩), k0_pay6 (packed (blk m hO c 0 ⟨n + 1, h⟩)) (blk m hO c 1 ⟨n + 1, h⟩) (blk m hO c 2 ⟨n + 1, h⟩) k0_pay5 (blk m hO c 3 ⟨n + 1, h⟩))
    else
      ((sums hO c n (Nat.lt_of_succ_lt h)).1, k0_pay6 (sums hO c n (Nat.lt_of_succ_lt h)).1 (blk m hO c 1 ⟨n + 1, h⟩) (blk m hO c 2 ⟨n + 1, h⟩) (sums hO c n (Nat.lt_of_succ_lt h)).2 (blk m hO c 3 ⟨n + 1, h⟩))

theorem sums_first (hO : Ok m) (c : Dev nD) (t : Fin (pipe m hO).N) (h : t.val % 7 = 0) :
    sums m hO c t.val t.isLt = (packed (blk m hO c 0 t), k0_pay6 (packed (blk m hO c 0 t)) (blk m hO c 1 t) (blk m hO c 2 t) k0_pay5 (blk m hO c 3 t)) := by
  obtain ⟨n, hn⟩ := t
  cases n with
  | zero => rfl
  | succ n => exact if_pos h

theorem sums_later (hO : Ok m) (c : Dev nD) (n : ℕ) (hn : n + 1 < (pipe m hO).N) (h : (n + 1) % 7 ≠ 0) :
    sums m hO c (n + 1) hn = ((sums m hO c n (Nat.lt_of_succ_lt hn)).1, k0_pay6 (sums m hO c n (Nat.lt_of_succ_lt hn)).1 (blk m hO c 1 ⟨n + 1, hn⟩) (blk m hO c 2 ⟨n + 1, hn⟩) (sums m hO c n (Nat.lt_of_succ_lt hn)).2 (blk m hO c 3 ⟨n + 1, hn⟩)) :=
  if_neg h

/-- What the output block holds after a block's last step. -/
def written (hO : Ok m) (c : Dev nD) (t : Fin (pipe m hO).N) : Vec F S4x1024x256 .f32 :=
  if inUse m (t.val / 7) then chunked (sums m hO c t.val t.isLt).2 else k0_pay11

/-- Between two steps of a block in use the scratch buffers hold what the block has packed and summed. -/
def Carried (hO : Ok m) (c : Dev nD) (n : ℕ) (s0 : Vec F S1024x1024 .bf16) (s1 : Vec F S1024x1024 .f32) : Prop :=
  ∀ (k : ℕ) (hk : k < (pipe m hO).N), n = k + 1 → n % 7 ≠ 0 → inUse m (k / 7) → (s0, s1) = sums m hO c k hk

/-- What a point does, given what its scratch buffers hold: the output block is `written` at a block's last step and as it
    was otherwise, and the scratch buffers hold what the next point expects. -/
theorem step_at (hO : Ok m) (t : Fin (pipe m hO).N) (x4 : Vec F S4x1024x256 .f32) (s0 : Vec F S1024x1024 .bf16) (s1 : Vec F S1024x1024 .f32)
    (h : Carried m hO 0 t.val s0 s1) :
    ∃ y4 r0 r1, Step 0 (grid0.coords t) (blk m hO 0 0 t) (blk m hO 0 1 t) (blk m hO 0 2 t) (blk m hO 0 3 t) (tbl m 0) (tbl m 1) x4 s0 s1 y4 r0 r1
      ∧ Carried m hO 0 (t.val + 1) r0 r1 ∧ (t.val % 7 ≠ 6 → y4 = x4) ∧ (t.val % 7 = 6 → y4 = written m hO 0 t) := by
  have carry : ∀ r0 r1, (inUse m (t.val / 7) → (r0, r1) = sums m hO 0 t.val t.isLt) → Carried m hO 0 (t.val + 1) r0 r1 := by
    intro r0 r1 hr k hk e _ hu
    obtain rfl : t.val = k := by omega
    exact hr hu
  by_cases hu : inUse m (t.val / 7)
  · by_cases h0 : t.val % 7 = 0
    · refine ⟨_, _, _, step_first 0 _ _ _ _ _ _ _ _ _ _ ((isFirst_iff m t).2 ⟨hu, h0⟩) ((isUsed_iff m t).2 hu) (fun e => ?_) (fun e => ?_), carry _ _ fun _ => (sums_first m hO 0 t h0).symm, fun _ => rfl, fun e => ?_⟩
      · have := ((cond3_iff m t).1 e).2; omega
      · exact ((cond4_iff m t).1 e).1 hu
      · omega
    · have hs : (s0, k0_pay6 s0 (blk m hO 0 1 t) (blk m hO 0 2 t) s1 (blk m hO 0 3 t)) = sums m hO 0 t.val t.isLt := by
        obtain ⟨n, hn⟩ := t
        cases n with
        | zero => exact absurd rfl h0
        | succ n =>
          have e := h n (Nat.lt_of_succ_lt hn) rfl h0 (by rwa [show n / 7 = (n + 1) / 7 from by have : (n + 1) % 7 ≠ 0 := h0; omega])
          rw [sums_later m hO 0 n hn h0, ← e]
      have hf : ¬isFirst (grid0.coords t) (cnt m) := fun e => h0 ((isFirst_iff m t).1 e).2
      by_cases h6 : t.val % 7 = 6
      · refine ⟨_, _, _, step_last 0 _ _ _ _ _ _ _ _ _ _ hf ((isUsed_iff m t).2 hu) ((cond3_iff m t).2 ⟨hu, h6⟩) (fun e => ((cond4_iff m t).1 e).1 hu), carry _ _ fun _ => hs, fun e => absurd h6 e, fun _ => ?_⟩
        rw [written, if_pos hu, ← hs]
      · exact ⟨_, _, _, step_middle 0 _ _ _ _ _ _ _ _ _ _ hf ((isUsed_iff m t).2 hu) (fun e => h6 ((cond3_iff m t).1 e).2) (fun e => h6 ((cond4_iff m t).1 e).2), carry _ _ fun _ => hs, fun _ => rfl, fun e => absurd e h6⟩
  · have hf : ¬isFirst (grid0.coords t) (cnt m) := fun e => hu ((isFirst_iff m t).1 e).1
    have hn : ¬isUsed (grid0.coords t) (cnt m) := fun e => hu ((isUsed_iff m t).1 e)
    by_cases h6 : t.val % 7 = 6
    · refine ⟨_, _, _, step_clear 0 _ _ _ _ _ _ _ _ _ _ hf hn (fun e => hu ((cond3_iff m t).1 e).1) ((cond4_iff m t).2 ⟨hu, h6⟩), carry _ _ fun e => absurd e hu, fun e => absurd h6 e, fun _ => ?_⟩
      rw [written, if_neg hu]
    · exact ⟨_, _, _, step_skip 0 _ _ _ _ _ _ _ _ _ _ hf hn (fun e => h6 ((cond3_iff m t).1 e).2) (fun e => h6 ((cond4_iff m t).1 e).2), carry _ _ fun e => absurd e hu, fun _ => rfl, fun e => absurd e h6⟩

/-- The scratch buffers, as the body is handed them. -/
abbrev scr0 : Memref sig .tc .vmem S1024x1024 .bf16 := Memref.whole cc0_scratch0
abbrev scr1 : Memref sig .tc .vmem S1024x1024 .f32 := Memref.whole cc0_scratch1

/-- Before point `n`: the scratch buffers at contents that are `Carried`, the generator register, the tables' halves. -/
def Inv (hO : Ok m) (c : Dev nD) (n : ℕ) : sProp 𝕄 :=
  iprop(∃ s0 s1, ⌜Carried m hO c n s0 s1⌝ ∗ owns (c : Thread nD τ) scr0 fullShare s0 ∗ owns (c : Thread nD τ) scr1 fullShare s1
    ∗ (∃ r, prngReg c r) ∗ Pipeline.ΦT pre0 (tbl m) c)

/-- What the launch hands over beside the windows. -/
theorem handed_eq (c : Dev nD) :
    (Pipeline.ΦA spec0 c : sProp 𝕄) = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- The run's data: the arrays as launched; the inputs' buffers at their blocks and the output's at `written` after each point; `Inv` before each. -/
def dats (hO : Ok m) (_ : Fin 1) (c : Dev nD) : Dat τ (Elt F) Unit ℕ (UR sig nD τ) ℕ (pipe m hO) c where
  A w := V m c (Pipeline.arrRef spec0 w)
  after w t := match w with
    | ⟨0, _⟩ => blk m hO c 0 t
    | ⟨1, _⟩ => blk m hO c 1 t
    | ⟨2, _⟩ => blk m hO c 2 t
    | ⟨3, _⟩ => blk m hO c 3 t
    | ⟨4, _⟩ => written m hO c t
  Φ t := Inv m hO c t.val
  q _ := fullShare
  owed _ := 0

theorem arrays_eq (hO : Ok m) (c : Dev nD) (w : Fin (pipe m hO).W) : (dats m hO 0 c).A w = V m c (Pipeline.arrRef spec0 w) := by
  dsimp only [dats]

theorem after_0 (hO : Ok m) (c : Dev nD) (t : Fin (pipe m hO).N) : (dats m hO 0 c).after 0 t = blk m hO c 0 t := by dsimp only [dats]; try rfl
theorem after_1 (hO : Ok m) (c : Dev nD) (t : Fin (pipe m hO).N) : (dats m hO 0 c).after 1 t = blk m hO c 1 t := by dsimp only [dats]; try rfl
theorem after_2 (hO : Ok m) (c : Dev nD) (t : Fin (pipe m hO).N) : (dats m hO 0 c).after 2 t = blk m hO c 2 t := by dsimp only [dats]; try rfl
theorem after_3 (hO : Ok m) (c : Dev nD) (t : Fin (pipe m hO).N) : (dats m hO 0 c).after 3 t = blk m hO c 3 t := by dsimp only [dats]; try rfl
theorem after_4 (hO : Ok m) (c : Dev nD) (t : Fin (pipe m hO).N) : (dats m hO 0 c).after 4 t = written m hO c t := by dsimp only [dats]; try rfl

/-- An input's buffer holds its block at every point, fetched there or not. -/
theorem before_0 (hO : Ok m) (c : Dev nD) (t : Fin (pipe m hO).N) (d) : (dats m hO 0 c).before 0 t d = blk m hO c 0 t :=
  ((dats m hO 0 c).before_in_eq_fetched 0 rfl (fun _ => rfl) (fun _ _ _ => rfl) (fun t => by rw [after_0]; rfl) t d).trans rfl
theorem before_1 (hO : Ok m) (c : Dev nD) (t : Fin (pipe m hO).N) (d) : (dats m hO 0 c).before 1 t d = blk m hO c 1 t :=
  ((dats m hO 0 c).before_in_eq_fetched 1 rfl (fun _ => rfl) (fun _ _ _ => rfl) (fun t => by rw [after_1]; rfl) t d).trans rfl
theorem before_2 (hO : Ok m) (c : Dev nD) (t : Fin (pipe m hO).N) (d) : (dats m hO 0 c).before 2 t d = blk m hO c 2 t :=
  ((dats m hO 0 c).before_in_eq_fetched 2 rfl (fun _ => rfl) (fun _ _ _ => rfl) (fun t => by rw [after_2]; rfl) t d).trans rfl
theorem before_3 (hO : Ok m) (c : Dev nD) (t : Fin (pipe m hO).N) (d) : (dats m hO 0 c).before 3 t d = blk m hO c 3 t :=
  ((dats m hO 0 c).before_in_eq_fetched 3 rfl (fun _ => rfl) (fun _ _ _ => rfl) (fun t => by rw [after_3]; rfl) t d).trans rfl

/-- The staging buffers of point `t`. -/
abbrev st0 (hO : Ok m) (t : Fin (pipe m hO).N) : Memref sig .tc .vmem S4x1024x256 .f32 := spec0_0.stage ((pipe m hO).slots t 0)
abbrev st1 (hO : Ok m) (t : Fin (pipe m hO).N) : Memref sig .tc .vmem S1x1024x512 .f32 := spec0_1.stage ((pipe m hO).slots t 1)
abbrev st2 (hO : Ok m) (t : Fin (pipe m hO).N) : Memref sig .tc .vmem S1x1024x512 .f32 := spec0_2.stage ((pipe m hO).slots t 2)
abbrev st3 (hO : Ok m) (t : Fin (pipe m hO).N) : Memref sig .tc .vmem S1x512x1024 .f32 := spec0_3.stage ((pipe m hO).slots t 3)
abbrev st4 (hO : Ok m) (t : Fin (pipe m hO).N) : Memref sig .tc .vmem S4x1024x256 .f32 := spec0_4.stage ((pipe m hO).slots t 4)

/-- The body at point `t`. -/
abbrev bodyAt (hO : Ok m) (t : Fin (pipe m hO).N) : Prog (TpuEff nD τ sig (Elt F) Λ₀ .tc) PUnit :=
  cc0_moe_experts (grid0.coords t) tabE (Memref.isWhole_whole _) tabN (Memref.isWhole_whole _)
    (st0 m hO t) (hstage0_0 (((pipe m hO).slots t 0).cast nbuf0_0)) (st1 m hO t) (hstage0_1 (((pipe m hO).slots t 1).cast nbuf0_1))
    (st2 m hO t) (hstage0_2 (((pipe m hO).slots t 2).cast nbuf0_2)) (st3 m hO t) (hstage0_3 (((pipe m hO).slots t 3).cast nbuf0_3))
    (st4 m hO t) (hstage0_4 (((pipe m hO).slots t 4).cast nbuf0_4)) scr0 (Memref.isWhole_whole _) scr1 (Memref.isWhole_whole _)

/-- An input's buffer is left at its block. -/
theorem leaves_0 (hO : Ok m) (c : Dev nD) (t : Fin (pipe m hO).N) : (dats m hO 0 c).leavesExact 0 t = owns (c : Thread nD τ) (st0 m hO t) fullShare ((dats m hO 0 c).after 0 t) := by
  unfold Dat.leavesExact; rfl
theorem leaves_1 (hO : Ok m) (c : Dev nD) (t : Fin (pipe m hO).N) : (dats m hO 0 c).leavesExact 1 t = owns (c : Thread nD τ) (st1 m hO t) fullShare ((dats m hO 0 c).after 1 t) := by
  unfold Dat.leavesExact; rfl
theorem leaves_2 (hO : Ok m) (c : Dev nD) (t : Fin (pipe m hO).N) : (dats m hO 0 c).leavesExact 2 t = owns (c : Thread nD τ) (st2 m hO t) fullShare ((dats m hO 0 c).after 2 t) := by
  unfold Dat.leavesExact; rfl
theorem leaves_3 (hO : Ok m) (c : Dev nD) (t : Fin (pipe m hO).N) : (dats m hO 0 c).leavesExact 3 t = owns (c : Thread nD τ) (st3 m hO t) fullShare ((dats m hO 0 c).after 3 t) := by
  unfold Dat.leavesExact; rfl

/-- The body's obligation at point `t`. -/
theorem sound (hO : Ok m) (c : Dev nD) (t : Fin (pipe m hO).N) :
    iprop((dats m hO 0 c).Φ t.castSucc ∗ (dats m hO 0 c).owesAt () t.castSucc
      ∗ (∃ d, owns (c : Thread nD τ) (st0 m hO t) fullShare ((dats m hO 0 c).before 0 t d))
      ∗ (∃ d, owns (c : Thread nD τ) (st1 m hO t) fullShare ((dats m hO 0 c).before 1 t d))
      ∗ (∃ d, owns (c : Thread nD τ) (st2 m hO t) fullShare ((dats m hO 0 c).before 2 t d))
      ∗ (∃ d, owns (c : Thread nD τ) (st3 m hO t) fullShare ((dats m hO 0 c).before 3 t d))
      ∗ (∃ d, owns (c : Thread nD τ) (st4 m hO t) fullShare ((dats m hO 0 c).before 4 t d)))
    ⊢ wp frame (wpE (defs₀ (F := F)) Variants.none c none) Set.univ (bodyAt m hO t) (fun _ =>
      iprop((dats m hO 0 c).Φ t.succ ∗ (dats m hO 0 c).owesAt () t.succ
        ∗ (dats m hO 0 c).leavesExact 0 t ∗ (dats m hO 0 c).leavesExact 1 t ∗ (dats m hO 0 c).leavesExact 2 t
        ∗ (dats m hO 0 c).leavesExact 3 t ∗ (dats m hO 0 c).leavesExact 4 t)) := by
  obtain rfl : c = 0 := Subsingleton.elim _ _
  simp only [before_0, before_1, before_2, before_3]
  rw [show (dats m hO 0 0).owesAt () t.succ = (dats m hO 0 0).owesAt () t.castSucc from rfl,
    show (dats m hO 0 0).Φ t.succ = Inv m hO 0 (t.val + 1) from rfl, show (dats m hO 0 0).Φ t.castSucc = Inv m hO 0 t.val from rfl,
    leaves_0, leaves_1, leaves_2, leaves_3,
    after_0, after_1, after_2, after_3]
  unfold Inv
  rw [tables_eq]
  iintro ⟨⟨%s0, %s1, %hs, HS0, HS1, Hg, HT0, HT1⟩, Ho, ⟨%d0, H0⟩, ⟨%d1, H1⟩, ⟨%d2, H2⟩, ⟨%d3, H3⟩, ⟨%d4, H4⟩⟩
  obtain ⟨y4, r0, r1, hstep, hr, hsame, hlast⟩ := step_at m hO t ((dats m hO 0 0).before 4 t d4) s0 s1 hs
  iapply (hstep _ _ _ _ _ _ _ _ _ _ _ _ _ _ _)
  unfold held
  isplitl [H0 H1 H2 H3 H4 HS0 HS1 HT0 HT1]
  · isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HT0]; · iexact HT0
    iexact HT1
  iintro ⟨H0, H1, H2, H3, H4, HS0, HS1, HT0, HT1⟩
  isplitl [HS0 HS1 Hg HT0 HT1]
  · iexists r0; iexists r1
    isplitr; · ipureintro; exact hr
    isplitl [HS0]; · iexact HS0
    isplitl [HS1]; · iexact HS1
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  by_cases h6 : t.val % 7 = 6
  · rw [show (dats m hO 0 0).leavesExact 4 t = owns ((0 : Dev nD) : Thread nD τ) (st4 m hO t) fullShare ((dats m hO 0 0).after 4 t) from by
      unfold Dat.leavesExact; rw [idle_out m hO t, decide_eq_false (by omega)]; rfl, after_4, ← hlast h6]
    iexact H4
  · obtain rfl := hsame h6
    rw [Dat.leavesExact_idle (dats m hO 0 0) 4 t ((idle_out m hO t).trans (decide_eq_true h6))
      (Bool.eq_false_iff.2 fun e => h6 ((flush_out m hO t).1 e))]
    iexists d4; iexact H4

/-- The body table's row at point `t` is the body there. -/
theorem row (hO : Ok m) (t : Fin (pipe m hO).N) : defs₀ (F := F) .tc (pipe m hO).body ((pipe m hO).bodyArgs t ((pipe m hO).slots t)) = bodyAt m hO t := by
  unfold defs₀; rw [Defs.onTc_tc]

theorem obligation (hO : Ok m) (c : Dev nD) : BodyObligation (dats (F := F) m hO 0 c) (defs₀ (F := F)) Variants.none () Set.univ := fun t => by
  rw [bigSep_W0, bigSep_W0, row m hO]
  exact triple_restated (sound m hO c t) rfl .rfl fun _ => .rfl

/-- Before the first point nothing is known of the scratch buffers, and nothing is needed. -/
theorem enters (hO : Ok m) (c : Dev nD) : iprop(Pipeline.ΦA spec0 c ∗ Pipeline.ΦT pre0 (tbl m) c) ⊢ (dats m hO 0 c).Φ 0 := by
  rw [show (dats m hO 0 c).Φ 0 = Inv m hO c 0 from rfl, handed_eq]
  unfold Inv
  iintro ⟨⟨⟨⟨%s0, HS0⟩, ⟨%s1, HS1⟩⟩, Hg⟩, HT⟩
  iexists s0; iexists s1
  isplitr; · ipureintro; exact fun k _ e => absurd e (by omega)
  isplitl [HS0]; · iexact HS0
  isplitl [HS1]; · iexact HS1
  isplitl [Hg]; · iexact Hg
  iexact HT

theorem exits (hO : Ok m) (c : Dev nD) : (dats m hO 0 c).Φ (Fin.last (pipe m hO).N) ⊢ Pipeline.ΦA spec0 c := by
  rw [show (dats m hO 0 c).Φ (Fin.last (pipe m hO).N) = Inv m hO c (pipe m hO).N from rfl, handed_eq]
  unfold Inv
  iintro ⟨%s0, %s1, %hs, HS0, HS1, Hg, HT⟩
  isplitl [HS0 HS1]
  · isplitl [HS0]
    · iexists s0; iexact HS0
    iexists s1; iexact HS1
  iexact Hg

set_option backward.isDefEq.respectTransparency.types false in
/-- The call runs to the end, its arrays as the run's data say, with no semaphore left up. -/
theorem runs (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := starts m Variants.none) (hA := arrays_eq m hO) (hpf := tbl_eq m)
    (hin := enters m hO) (hout := exits m hO)

/-- The call ends with its arguments unchanged, its result what the run's data say, and no semaphore up. -/
theorem ends (hO : Ok m) : θ_run defs (onTc (τ := τ) (main (F := F))) ⟨m, fun _ => 0, ρ⟩ (fun r => (∀ c : Dev nD,
      r.2.mem ((c.tc : Thread nD τ).loc main_v0) = (dats m hO 0 c).arrAt 4 (pipe m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 4,
      (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (arrays_eq m hO c 0)),
      ((h.1 c).1 1).trans (((dats m hO 0 c).arrAt_in 1 rfl _).trans (arrays_eq m hO c 1)),
      ((h.1 c).1 2).trans (((dats m hO 0 c).arrAt_in 2 rfl _).trans (arrays_eq m hO c 2)),
      ((h.1 c).1 3).trans (((dats m hO 0 c).arrAt_in 3 rfl _).trans (arrays_eq m hO c 3))⟩, h.2⟩) (runs m ρ hO)

end Cert.ExpertsIdeal.Walk
end
-- ==== Proof.ExpertsFrame.lean ====
module

public import proofs.«01_k».proof.Defs
public import proofs.«01_k».proof.Proof.ExpertsRun
public import proofs.«01_k».proof.Proof.Gen.Experts
public import proofs.«01_k».proof.Proof.Gen.Experts.Launch
public import proofs.«01_k».proof.Proof.Gen.Pre_experts_exist
public import Idealize.ShloMosaic.PureOps.BitExact
public import Idealize.ShloMosaic.PureOps.Ideal
public import Idealize.ShloMosaic.Lib.ValueIdx

/-! The experts' call: where its blocks lie, and that it ends leaving its arguments alone. -/

@[expose] public section

set_option maxRecDepth 16384

noncomputable section

namespace Cert.ExpertsIdeal.Walk

open Idealize.ShloMosaic Idealize.ShloMosaic.TcCoe Idealize.SL.Sem
open Cert.ExpertsIdeal Cert.ExpertsIdeal.Gen

variable {F : FTy → Type} [FloatOps F]
variable (m : (ℓ : Loc nD τ sig) → Buf (Elt F) ℓ)

/-- The expert of block `b`, as the table has it. -/
abbrev word (b : Fin 136) : BitVec 32 := tbl m 0 (ValueIdx.ix1 b)

/-- The step whose weights a point reads: its own if its block is in use, the last otherwise. -/
def part (i : grid0.Coords) : ℕ := if inUse m (i 0).val then (i 1).val else 6

theorem part_lt (i : grid0.Coords) : part m i < 7 := by
  unfold part; split
  · exact (i 1).isLt
  · decide

/-- The two words a point loads from the tables. -/
theorem load_expert (i : grid0.Coords) : (tbl m).at 0 (Rect.unit (s := S136) ![(Scalar.indexCast (BitVec.ofNat 32 (i 0).val)).toNat] S1.size (k0_off1_inb i)) numel1_S1 = word m (i 0) := by
  refine congrArg (tbl m 0) (funext fun a => Fin.ext ?_)
  fin_cases a
  have h : (i 0).val < 136 := (i 0).isLt
  show (BitVec.ofNat 32 (i 0).val).toNat + 0 * 1 = (i 0).val
  rw [BitVec.toNat_ofNat]; omega

theorem load_cnt : (tbl m).at 1 (Rect.unit (s := S1) ![0] S1.size inb_S1_S1_0) numel1_S1 = cnt m := rfl

theorem part_eq (i : grid0.Coords) : (Scalar.select (Scalar.cmpi .slt (BitVec.ofNat 32 (i 0).val) (cnt m)) (BitVec.ofNat 32 (i 1).val) 6#32).toNat = part m i := by
  unfold part inUse
  have h : (i 1).val < 7 := (i 1).isLt
  rcases bit_cases (Scalar.cmpi .slt (BitVec.ofNat 32 (i 0).val) (cnt m)) with e | e <;> rw [e]
  · rw [if_neg (by decide)]; rfl
  · rw [if_pos rfl]; show (BitVec.ofNat 32 (i 1).val).toNat = _; rw [BitVec.toNat_ofNat]; omega

/-- The blocks of the weights that a point reads. -/
theorem at_1 (i : grid0.Coords) : cc0_transform_1 k0_off1_inb numel1_S1 inb_S1_S1_0 (tbl m) i = ![(word m (i 0)).toNat, 0, part m i] := by
  unfold cc0_transform_1; dsimp only; rw [load_expert, load_cnt, part_eq]; rfl
theorem at_2 (i : grid0.Coords) : cc0_transform_2 k0_off1_inb numel1_S1 inb_S1_S1_0 (tbl m) i = ![(word m (i 0)).toNat, 0, part m i] := by
  unfold cc0_transform_2; dsimp only; rw [load_expert, load_cnt, part_eq]; rfl
theorem at_3 (i : grid0.Coords) : cc0_transform_3 k0_off1_inb numel1_S1 inb_S1_S1_0 (tbl m) i = ![(word m (i 0)).toNat, part m i, 0] := by
  unfold cc0_transform_3; dsimp only; rw [load_expert, load_cnt, part_eq]; rfl

/-- If every block names one of the eight experts, every block read lies inside its array. -/
theorem ok_of_lt (h : ∀ b, (word m b).toNat < 8) : Ok m := by
  refine ⟨fun i => ⟨fun a => ?_, .inl rfl⟩, fun i => ⟨fun a => ?_, .inl rfl⟩, fun i => ⟨fun a => ?_, .inl rfl⟩⟩
  all_goals
    have hb := h (i 0)
    have hp := part_lt m i
    first | rw [at_1] | rw [at_2] | rw [at_3]
    fin_cases a
  · show ((word m (i 0)).toNat + 1) * 1 ≤ 8; omega
  · show (0 + 1) * 1024 ≤ 1024; omega
  · show (part m i + 1) * 512 ≤ 3584; omega
  · show ((word m (i 0)).toNat + 1) * 1 ≤ 8; omega
  · show (0 + 1) * 1024 ≤ 1024; omega
  · show (part m i + 1) * 512 ≤ 3584; omega
  · show ((word m (i 0)).toNat + 1) * 1 ≤ 8; omega
  · show (part m i + 1) * 512 ≤ 3584; omega
  · show (0 + 1) * 1024 ≤ 1024; omega

end Cert.ExpertsIdeal.Walk

namespace Cert.Proof.Experts

open Idealize.ShloMosaic Idealize.ShloMosaic.TcCoe Idealize.SL.Sem
open Cert.ExpertsIdeal.Walk (word Ok ok_of_lt ends)

/-- The precondition says of every block that its expert is one of the eight. -/
theorem bound {F : FTy → Type} [FloatOps F] (x0 : IVec Cert.Pre_experts_exist.S136 32) (x1 : IVec Cert.Pre_experts_exist.S1 32) (x2 : FVec F Cert.Pre_experts_exist.S4x139264x256 .f32)
    (x3 x4 : FVec F Cert.Pre_experts_exist.S8x1024x3584 .f32) (x5 : FVec F Cert.Pre_experts_exist.S8x3584x1024 .f32)
    (h : Cert.Pre_experts_exist.fn x0 x1 x2 x3 x4 x5 = fun _ => 1#1) (y : Cert.Pre_experts_exist.S136.Idx) : (x0 y).toNat < 8 := by
  have e := congrFun h y
  simp only [Cert.Pre_experts_exist.fn, andi, cmpi, broadcastInDim, constantI, IntOp.cmpi, WordCmp.andi_ofBool, WordCmp.ofBool_eq_one_iff, Bool.and_eq_true] at e
  obtain ⟨hge, hlt⟩ := e
  simp only [BitVec.sle, BitVec.slt, decide_eq_true_eq, BitVec.toInt, BitVec.toNat_ofNat] at hge hlt
  omega

theorem ok_bits (m : (ℓ : Loc Cert.Experts.nD Cert.Experts.τ Cert.Experts.sig) → Buf (Elt Bits) ℓ) (h : Cert.Pre_Experts m) : Ok (F := Bits) m :=
  ok_of_lt (F := Bits) m fun b => bound _ _ _ _ _ _ (h 0) _

theorem ok_ideal (m : (ℓ : Loc Cert.ExpertsIdeal.nD Cert.ExpertsIdeal.τ Cert.ExpertsIdeal.sig) → Buf (Elt Ideal) ℓ) (h : Cert.Pre_ExpertsIdeal m) : Ok (F := Ideal) m :=
  ok_of_lt (F := Ideal) m fun b => bound _ _ _ _ _ _ (h 0) _

/-- The kernel read over words is the ideal kernel's text read over words. -/
theorem same_defs : (Cert.Experts.defs (F := Bits)) = Cert.ExpertsIdeal.defs (F := Bits) := by sl_kernel_rfl

theorem same_main : (Cert.Experts.main (F := Bits)) = Cert.ExpertsIdeal.main (F := Bits) := by sl_kernel_rfl

/-- The kernel, over words: it ends, leaves its arguments as they were and its counters at zero. -/
theorem frame_P : Cert.quiescent_Experts (hExperts := Cert.Experts.Gen.facts) (hPre_experts_exist := Cert.Pre_experts_exist.Gen.facts) := by
  intro m g hm
  rw [same_defs, same_main]
  exact (θ_run _ _ _).mono (fun _ h => ⟨fun c => (h.1 c).2, h.2⟩) (ends (F := Bits) m g (ok_bits m hm))

/-- The kernel, over the extended reals, likewise. -/
theorem frame_PI : Cert.quiescent_ExpertsIdeal (hExpertsIdeal := Cert.ExpertsIdeal.Gen.facts) (hPre_experts_exist := Cert.Pre_experts_exist.Gen.facts) := fun m g hm =>
  (θ_run _ _ _).mono (fun _ h => ⟨fun c => (h.1 c).2, h.2⟩) (ends (F := Ideal) m g (ok_ideal m hm))

end Cert.Proof.Experts

end
-- ==== Proof.ExpertsValue.lean ====
module

public import proofs.«01_k».proof.Proof.LayerMath
public import proofs.«01_k».proof.Proof.ExpertsFrame
public import Idealize.ShloMosaic.Lib.Pipeline.Value
public import Idealize.ShloMosaic.Lib.Pipeline.ValueKit
public import Idealize.ShloMosaic.Lib.Pointwise

/-! The experts' call's result array: a block in use holds its rows through its expert's gated feed-forward part, seven
blocks of 512 hidden units one after the other; a block not in use holds zeros. -/

@[expose] public section

set_option maxRecDepth 16384

noncomputable section

namespace Cert.ExpertsIdeal.Walk

open Cert.ExpertsIdeal Cert.ExpertsIdeal.Gen Idealize.ShloMosaic Idealize.ShloMosaic.TcCoe Idealize.SL.Sem Cert.Layer
open Idealize.ShloMosaic.Pipeline (Dat)

/-! ## One step -/

/-- One block of hidden units, added to the sums. -/
theorem add_at (h : FVec Ideal S1024x1024 .bf16) (wg wu : Vec Ideal S1x1024x512 .f32) (o : Vec Ideal S1024x1024 .f32) (wd : Vec Ideal S1x512x1024 .f32) (r j : Fin 1024) :
    k0_pay6 h wg wu o wd (ix2 r j)
      = o (ix2 r j) + ∑ f : Fin 512, hid (fun d => h (ix2 r d)) (fun d => wg (ix3 0 d f)) (fun d => wu (ix3 0 d f)) * wd (ix3 0 f j) := by
  pointwise [k0_pay6, hid]

theorem zero_at (r j : Fin 1024) : k0_pay5 (F := Ideal) (ix2 r j) = 0 := by
  pointwise [k0_pay5]

/-- A chunk of the rows, packed. -/
theorem chunk_at (x : Vec Ideal S4x1024x256 .f32) {q : ℕ} (h : ∀ a, (![q, 0, 0] : Fin 3 → ℕ) a + S1x1024x256.size a ≤ S4x1024x256.size a) (z : S1024x256.Idx)
    (Q : Fin 4) (k : Fin 256) (hQ : Q.val = q) (r : Fin 1024) (hr : r.val = (z 0).val) (hk : k.val = (z 1).val) :
    k0_pay1 (View.ld (Val := Elt Ideal) x (Rect.unit (s := S4x1024x256) ![q, 0, 0] S1x1024x256.size h)) z = x (ix3 Q r k) := by
  have e : ∀ i j, View.ld (Val := Elt Ideal) x (Rect.unit (s := S4x1024x256) ![q, 0, 0] S1x1024x256.size h) (ix3 0 i j) = x (ix3 Q i j) := fun i j =>
    View.ld_unit_apply_of x _ _ _ _ _ fun a => by
      fin_cases a
      · exact hQ
      · exact (Nat.zero_add _).symm
      · exact (Nat.zero_add _).symm
  generalize View.ld (Val := Elt Ideal) x (Rect.unit (s := S4x1024x256) ![q, 0, 0] S1x1024x256.size h) = w at e
  idx_vars z
  obtain rfl : r = z0 := Fin.ext hr
  obtain rfl : k = z1 := Fin.ext hk
  pointwise [k0_pay1, e]

/-- The packed rows, column by column. -/
theorem packed_at (x : Vec Ideal S4x1024x256 .f32) (r d : Fin 1024) :
    packed x (ix2 r d) = x (ix3 ⟨d.val / 256, by omega⟩ r ⟨d.val % 256, by omega⟩) := by
  unfold packed
  canon_tiles z h
  all_goals
    refine chunk_at x _ z _ _ ?_ _ ?_ ?_
    all_goals simp at *
    all_goals omega

/-- The chunks of the sums, element by element. -/
theorem chunked_at (a : Vec Ideal S1024x1024 .f32) (q : Fin 4) (r : Fin 1024) (k : Fin 256) :
    chunked a (ix3 q r k) = a (ix2 r ⟨256 * q.val + k.val, by omega⟩) := by
  unfold chunked
  canon_tiles z h
  all_goals
    idx_vars z
    obtain rfl : r = z1 := Fin.ext h1
    pointwise [k0_pay7, k0_pay8, k0_pay9, k0_pay10]
    exact congrArg (fun K => a (ix2 r K)) (Fin.ext (by dsimp only; omega))

/-! ## The blocks -/

variable (m : (ℓ : Loc nD τ sig) → Buf (Elt Ideal) ℓ) (hO : Ok m) (c : Dev nD)

/-- A block's number is small enough to be its own word. -/
theorem toNat_block (t : Fin (pipe m hO).N) : (BitVec.ofNat 32 (t.val / 7)).toNat = t.val / 7 := by
  have ht : t.val < 952 := Nat.lt_of_lt_of_eq t.isLt (points m hO)
  rw [BitVec.toNat_ofNat]; omega

/-- Where each window lies at point `t`. -/
theorem index_0 (t : Fin (pipe m hO).N) : ((pipe m hO).win 0).index t = ![0, t.val / 7, 0] := by
  show cc0_transform_0 (grid0.coords t) = _
  unfold cc0_transform_0; dsimp only; rw [coord0, toNat_block m hO t]; rfl
theorem index_1 (t : Fin (pipe m hO).N) : ((pipe m hO).win 1).index t = ![(word m (grid0.coords t 0)).toNat, 0, part m (grid0.coords t)] := at_1 m _
theorem index_2 (t : Fin (pipe m hO).N) : ((pipe m hO).win 2).index t = ![(word m (grid0.coords t 0)).toNat, 0, part m (grid0.coords t)] := at_2 m _
theorem index_3 (t : Fin (pipe m hO).N) : ((pipe m hO).win 3).index t = ![(word m (grid0.coords t 0)).toNat, part m (grid0.coords t), 0] := at_3 m _

theorem blk_0 (t : Fin (pipe m hO).N) (q : Fin 4) (r : Fin 1024) (k : Fin 256) (R : Fin 139264) (hR : R.val = 1024 * (t.val / 7) + r.val) :
    (show FVec Ideal S4x1024x256 .f32 from blk m hO c 0 t) (ix3 q r k) = m ((c : Thread nD τ).loc main_arg2) (ix3 q R k) := by
  blk_ext [blk, V, index_0 m hO t]

theorem blk_1 (t : Fin (pipe m hO).N) (d : Fin 1024) (k : Fin 512) (e : Fin 8) (he : e.val = (word m (grid0.coords t 0)).toNat) (K : Fin 3584) (hK : K.val = 512 * part m (grid0.coords t) + k.val) :
    (show FVec Ideal S1x1024x512 .f32 from blk m hO c 1 t) (ix3 0 d k) = m ((c : Thread nD τ).loc main_arg3) (ix3 e d K) := by
  blk_ext [blk, V, index_1 m hO t]

theorem index_4 (t : Fin (pipe m hO).N) : ((pipe m hO).win 4).index t = ![0, t.val / 7, 0] := by
  show cc0_transform_4 (grid0.coords t) = _
  unfold cc0_transform_4; dsimp only; rw [coord0, toNat_block m hO t]; rfl

theorem blk_2 (t : Fin (pipe m hO).N) (d : Fin 1024) (k : Fin 512) (e : Fin 8) (he : e.val = (word m (grid0.coords t 0)).toNat) (K : Fin 3584) (hK : K.val = 512 * part m (grid0.coords t) + k.val) :
    (show FVec Ideal S1x1024x512 .f32 from blk m hO c 2 t) (ix3 0 d k) = m ((c : Thread nD τ).loc main_arg4) (ix3 e d K) := by
  blk_ext [blk, V, index_2 m hO t]

theorem blk_3 (t : Fin (pipe m hO).N) (k : Fin 512) (j : Fin 1024) (e : Fin 8) (he : e.val = (word m (grid0.coords t 0)).toNat) (K : Fin 3584) (hK : K.val = 512 * part m (grid0.coords t) + k.val) :
    (show FVec Ideal S1x512x1024 .f32 from blk m hO c 3 t) (ix3 0 k j) = m ((c : Thread nD τ).loc main_arg5) (ix3 e K j) := by
  blk_ext [blk, V, index_3 m hO t]

/-! ## The result array -/

/-- The expert a word names. -/
def expert (w : BitVec 32) : Fin 8 := ⟨min w.toNat 7, by omega⟩

theorem expert_val {w : BitVec 32} (h : w.toNat < 8) : (expert w).val = w.toNat := by
  show min w.toNat 7 = _; omega

section Spec

variable (x : FVec Ideal S4x139264x256 .f32) (wg wu : FVec Ideal S8x1024x3584 .f32) (wd : FVec Ideal S8x3584x1024 .f32)

/-- A row of the slots, its four chunks side by side. -/
def slot (R : Fin 139264) (d : Fin 1024) : EReal := x (ix3 ⟨d.val / 256, by omega⟩ R ⟨d.val % 256, by omega⟩)

/-- Hidden unit `K` of expert `e`, at row `R`: its term of column `j` of the result. -/
def term (e : Fin 8) (R : Fin 139264) (j : Fin 1024) (K : Fin 3584) : EReal :=
  hid (slot x R) (fun d => wg (ix3 e d K)) (fun d => wu (ix3 e d K)) * wd (ix3 e K j)

/-- The result: in a block in use, row `R` through the gated feed-forward part of the block's expert; zero elsewhere. -/
def spec (be : IVec S136 32) (nv : IVec S1 32) (q : Fin 4) (R : Fin 139264) (k : Fin 256) : EReal :=
  if Scalar.cmpi .slt (BitVec.ofNat 32 (R.val / 1024)) (nv (ix1 0)) = 1#1 then
    ∑ K : Fin 3584, term x wg wu wd (expert (be (ix1 ⟨R.val / 1024, by omega⟩))) R ⟨256 * q.val + k.val, by omega⟩ K
  else 0

end Spec

/-- Core `c`'s hidden unit's term, from the arrays as launched. -/
abbrev unit (e : Fin 8) (R : Fin 139264) (j : Fin 1024) (K : Fin 3584) : EReal :=
  term (m ((c : Thread nD τ).loc main_arg2)) (m ((c : Thread nD τ).loc main_arg3)) (m ((c : Thread nD τ).loc main_arg4)) (m ((c : Thread nD τ).loc main_arg5)) e R j K

/-- The whole result on core `c`, from the arrays as launched. -/
def result : FVec Ideal S4x139264x256 .f32 := fun i => spec (m ((c : Thread nD τ).loc main_arg2)) (m ((c : Thread nD τ).loc main_arg3)) (m ((c : Thread nD τ).loc main_arg4)) (m ((c : Thread nD τ).loc main_arg5))
  (m ((c : Thread nD τ).loc main_arg0)) (m ((c : Thread nD τ).loc main_arg1)) (i 0) (i 1) (i 2)

variable (hW : ∀ b, (word m b).toNat < 8)
include hW

/-- One step's addition at row `r` of block `b`, in use: the terms of the step's 512 hidden units. -/
theorem add_terms (t : Fin (pipe m hO).N) (b f : ℕ) (hb : t.val / 7 = b) (hf : t.val % 7 = f) (hu : inUse m b) (B : Fin 136) (hB : B.val = b) (r j : Fin 1024)
    (R : Fin 139264) (hR : R.val = 1024 * b + r.val) (h : FVec Ideal S1024x1024 .bf16) (hh : ∀ d, h (ix2 r d) = slot (m ((c : Thread nD τ).loc main_arg2)) R d) (o : Vec Ideal S1024x1024 .f32) :
    k0_pay6 h (blk m hO c 1 t) (blk m hO c 2 t) o (blk m hO c 3 t) (ix2 r j)
      = o (ix2 r j) + ∑ k : Fin 512, unit m c (expert (word m B)) R j ⟨f * 512 + k.val, by omega⟩ := by
  have hi : grid0.coords t 0 = B := Fin.ext ((coord0 t).trans (hb.trans hB.symm))
  have hp : part m (grid0.coords t) = f := by
    unfold part
    rw [coord0, hb, if_pos hu, coord1]; exact hf
  have he : (expert (word m B)).val = (word m (grid0.coords t 0)).toNat := by rw [hi]; exact expert_val (hW B)
  refine (add_at h _ _ o _ r j).trans (congrArg₂ (· + ·) rfl (Finset.sum_congr rfl fun k _ => ?_))
  have hK : f * 512 + k.val = 512 * part m (grid0.coords t) + k.val := by rw [hp]; omega
  exact congrArg₂ (· * ·) (congr (congr (congrArg hid (funext hh)) (funext fun d => blk_1 m hO c t d k _ he _ hK)) (funext fun d => blk_2 m hO c t d k _ he _ hK)) (blk_3 m hO c t k j _ he _ hK)

/-- What a block in use has packed and summed after its step `f`. -/
theorem sums_at (b : ℕ) (hu : inUse m b) (B : Fin 136) (hB : B.val = b) (r : Fin 1024) (R : Fin 139264) (hR : R.val = 1024 * b + r.val) (f : ℕ) (hf : f < 7) (hn : 7 * b + f < (pipe m hO).N) :
    (∀ d, (sums m hO c (7 * b + f) hn).1 (ix2 r d) = slot (m ((c : Thread nD τ).loc main_arg2)) R d)
    ∧ ∀ j, (sums m hO c (7 * b + f) hn).2 (ix2 r j) = ∑ s : Fin (f + 1), ∑ k : Fin 512, unit m c (expert (word m B)) R j ⟨s.val * 512 + k.val, by omega⟩ := by
  induction f with
  | zero =>
    have hp : ∀ d, packed (blk m hO c 0 ⟨7 * b + 0, hn⟩) (ix2 r d) = slot (m ((c : Thread nD τ).loc main_arg2)) R d := fun d =>
      (packed_at _ r d).trans (blk_0 m hO c ⟨7 * b + 0, hn⟩ _ r _ R (by dsimp only; omega))
    have step := sums_first m hO c ⟨7 * b + 0, hn⟩ (by dsimp only; omega)
    dsimp only at step
    rw [step]
    dsimp only
    refine ⟨hp, fun j => ?_⟩
    rw [Fin.sum_univ_one]
    refine (add_terms m hO c hW ⟨7 * b + 0, hn⟩ b 0 (by dsimp only; omega) (by dsimp only; omega) hu B hB r j R hR _ hp _).trans ?_
    rw [zero_at, zero_add]; rfl
  | succ f ih =>
    obtain ⟨hp, hs⟩ := ih (by omega) (Nat.lt_of_succ_lt hn)
    have step := sums_later m hO c (7 * b + f) hn (by omega)
    show (∀ d, (sums m hO c (7 * b + f + 1) hn).1 (ix2 r d) = _) ∧ ∀ j, (sums m hO c (7 * b + f + 1) hn).2 (ix2 r j) = _
    rw [step]
    refine ⟨hp, fun j => ?_⟩
    rw [Fin.sum_univ_castSucc]
    refine (add_terms m hO c hW ⟨7 * b + f + 1, hn⟩ b (f + 1) (by dsimp only; omega) (by dsimp only; omega) hu B hB r j R hR _ hp _).trans ?_
    rw [hs]; rfl

/-- What a block's last step writes. -/
theorem written_at (hc : c = 0) (t : Fin (pipe m hO).N) (h6 : t.val % 7 = 6) (q : Fin 4) (r : Fin 1024) (k : Fin 256) (R : Fin 139264) (hR : R.val = 1024 * (t.val / 7) + r.val) :
    written m hO c t (ix3 q r k) = spec (m ((c : Thread nD τ).loc main_arg2)) (m ((c : Thread nD τ).loc main_arg3)) (m ((c : Thread nD τ).loc main_arg4)) (m ((c : Thread nD τ).loc main_arg5))
      (m ((c : Thread nD τ).loc main_arg0)) (m ((c : Thread nD τ).loc main_arg1)) q R k := by
  subst hc
  have ht : t.val < 952 := Nat.lt_of_lt_of_eq t.isLt (points m hO)
  have hb : R.val / 1024 = t.val / 7 := by omega
  unfold written spec
  have hB : (⟨R.val / 1024, by omega⟩ : Fin 136) = ⟨t.val / 7, by omega⟩ := Fin.ext hb
  have hv : cnt m = m ((Dev.tc 0).loc main_arg1) (ix1 0) := by
    refine congrArg (m ((Dev.tc 0).loc main_arg1)) (funext fun a => Fin.ext ?_)
    fin_cases a; rfl
  rw [hB, hb, ← hv]
  by_cases hu : inUse m (t.val / 7)
  · refine (congrFun (if_pos hu) _).trans (Eq.trans ?_ (if_pos hu).symm)
    rw [chunked_at]
    have e : 7 * (t.val / 7) + 6 = t.val := by omega
    have := (sums_at m hO 0 hW (t.val / 7) hu ⟨t.val / 7, by omega⟩ rfl r R hR 6 (by omega) (by omega)).2 ⟨256 * q.val + k.val, by omega⟩
    simp only [e] at this
    rw [this, sum_blocks (q := 7) (n := 512) rfl]
    rfl
  · refine (congrFun (if_neg hu) _).trans (Eq.trans ?_ (if_neg hu).symm)
    pointwise [k0_pay11]

/-- The blocks written back cover the result array. -/
theorem covers : ((pipe m hO).win 4).Covers := by
  refine ⟨fun a => ?_, fun β => ?_⟩
  · match a with
    | ⟨0, _⟩ => exact Nat.zero_lt_succ 3
    | ⟨1, _⟩ => exact Nat.zero_lt_succ 1023
    | ⟨2, _⟩ => exact Nat.zero_lt_succ 255
  · have h0 : (β (0 : Fin 3)).val < 1 := Nat.lt_of_lt_of_eq (β (0 : Fin 3)).isLt (show (4 + 4 - 1) / 4 = 1 from rfl)
    have h1 : (β (1 : Fin 3)).val < 136 := Nat.lt_of_lt_of_eq (β (1 : Fin 3)).isLt (show (139264 + 1024 - 1) / 1024 = 136 from rfl)
    have h2 : (β (2 : Fin 3)).val < 1 := Nat.lt_of_lt_of_eq (β (2 : Fin 3)).isLt (show (256 + 256 - 1) / 256 = 1 from rfl)
    refine ⟨⟨7 * (β (1 : Fin 3)).val + 6, Nat.lt_of_lt_of_eq (by omega) (points m hO).symm⟩, (flush_out m hO _).2 (by dsimp only; omega), fun a => ⟨?_, .inl rfl⟩⟩
    rw [index_4]
    fin_cases a
    · show 0 = (β (0 : Fin 3)).val; omega
    · show (7 * (β (1 : Fin 3)).val + 6) / 7 = (β (1 : Fin 3)).val; omega
    · show 0 = (β (2 : Fin 3)).val; omega

/-- THE RESULT ARRAY. -/
theorem final : (dats m hO 0 c).arrAt 4 (pipe m hO).N = result m c := by
  refine (dats m hO 0 c).arrAt_eq_of_covers 4 _ (covers m hO hW) fun t hf y => ?_
  rw [after_4]
  blk_simp
  have h6 : t.val % 7 = 6 := (flush_out m hO t).1 hf
  have key : ∀ y : S4x1024x256.Idx, ∀ q R k, q = y 0 → R.val = 1024 * (t.val / 7) + (y 1).val → k = y 2 → written m hO c t y = spec (m ((c : Thread nD τ).loc main_arg2)) (m ((c : Thread nD τ).loc main_arg3)) (m ((c : Thread nD τ).loc main_arg4)) (m ((c : Thread nD τ).loc main_arg5))
      (m ((c : Thread nD τ).loc main_arg0)) (m ((c : Thread nD τ).loc main_arg1)) q R k := fun y q R k hq hR hk => by
    idx_vars y
    subst hq hk
    exact written_at m hO c hW (Subsingleton.elim _ _) t h6 _ _ _ R hR
  refine key y _ _ _ ?_ ?_ ?_
  · ext; blk_simp [index_4 m hO t]; try omega
  · blk_simp [index_4 m hO t]; try omega
  · ext; blk_simp [index_4 m hO t]; try omega

end Cert.ExpertsIdeal.Walk
end
-- ==== Proof.ExpertsRef.lean ====
module

public import proofs.«01_k».proof.Proof.ExpertsValue
public import proofs.«01_k».proof.Proof.Gen.ExpertsRefIdeal.Read
public import Idealize.ShloMosaic.Lib.Pointwise

/-! The experts written plainly, read at one chunk, row and column. -/

@[expose] public section

set_option maxRecDepth 16384

noncomputable section

namespace Cert.ExpertsRefIdeal.Walk

open Cert.ExpertsRefIdeal Cert.ExpertsRefIdeal.Gen Cert.ExpertsRefIdeal.Read Idealize.ShloMosaic Idealize.ShloMosaic.TcCoe Idealize.SL.Sem Cert.Layer
open Cert.ExpertsIdeal.Walk (expert expert_val slot term spec)

/-! ## One matrix per block, looked up in a stack of eight -/

section Pick

variable {α : Type} {A B : ℕ}

/-- The numbers of a lookup `w[ids]` of whole `A` by `B` matrices. -/
abbrev pickDims (wf : GatherDims.WF ⟨3, ![8, A, B]⟩ ⟨2, ![136, 1]⟩ ⟨3, ![136, A, B]⟩ [1, 2] [0] [] [0] [] 1 ![1, A, B]) :
    GatherDims ⟨3, ![8, A, B]⟩ ⟨2, ![136, 1]⟩ ⟨3, ![136, A, B]⟩ :=
  { offsetDims := [1, 2], collapsedSliceDims := [0], operandBatchingDims := [], startIndicesBatchingDims := [], startIndexMap := [0], indexVectorDim := 1, sliceSizes := ![1, A, B], wf }

/-- Matrix `b` of the lookup is the one block `b`'s word names. -/
theorem pick_at (wf) (w : (⟨3, ![8, A, B]⟩ : Shape).Idx → α) (ids : IVec ⟨2, ![136, 1]⟩ 32) (b : Fin 136) (e : Fin 8) (he : (ids (ix2 b 0)).toNat = e.val) (i : Fin A) (j : Fin B) :
    Host.gather (pickDims wf) w ids (ix3 b i j) = w (ix3 e i j) := by
  refine congrArg w (funext fun a => Fin.ext ?_)
  match a with
  | ⟨0, _⟩ =>
    have hs : (pickDims wf).siIdx (ix3 b i j) ⟨0, Nat.one_pos⟩ = ix2 b 0 := funext fun y => Fin.ext (match y with
      | ⟨0, _⟩ => rfl
      | ⟨1, _⟩ => rfl)
    have hw : (ids (ix2 b 0)).toInt = (e.val : ℤ) := by
      rw [BitVec.toInt_eq_toNat_of_lt (by have := e.isLt; omega), he]
    show min (ids ((pickDims wf).siIdx (ix3 b i j) ⟨0, Nat.one_pos⟩)).toInt.toNat 7 + 0 + 0 = e.val
    rw [hs, hw]
    have := e.isLt
    omega
  | ⟨1, _⟩ => exact Nat.zero_add _
  | ⟨2, _⟩ => exact Nat.zero_add _

end Pick

variable (x0 : IVec S136 32) (x1 : IVec S1 32) (x2 : FVec Ideal S4x139264x256 .f32) (x3 x4 : FVec Ideal S8x1024x3584 .f32) (x5 : FVec Ideal S8x3584x1024 .f32)

/-- Row `r` of block `b` is row `1024 b + r` of the slots. -/
theorem slot_at (b : Fin 136) (r d : Fin 1024) (R : Fin 139264) (hR : R.val = b.val * 1024 + r.val) :
    val_main_v1 (F := Ideal) x2 (ix3 b r d) = slot x2 R d := by
  obtain rfl : R = ⟨b.val * 1024 + r.val, by clear hR; omega⟩ := Fin.ext hR
  unfold slot
  pointwise [val_main_v1, val_main_v0]

/-- The number of blocks in use. -/
theorem count_at (i : S_.Idx) : val_main_v30 (F := Ideal) x1 i = x1 (ix1 0) :=
  shapeCast_apply x1 shapeCasts_S1_S_ i (ix1 0) (Fin.val_eq_of_eq (Subsingleton.elim (α := Fin 1) _ _))

/-- A block is used where its number is below the count. -/
theorem used_at (b : Fin 136) (r d : Fin 1024) : val_main_call1_v1 (F := Ideal) x1 (ix3 b r d) = Scalar.cmpi .slt (BitVec.ofNat 32 b.val) (x1 (ix1 0)) := by
  rw [val_main_call1_v1_apply, val_main_v32_apply, val_main_v31_apply, val_main_v29_apply, val_main_v28_apply, count_at]
  rfl

variable (h : ∀ y, (x0 y).toNat < 8)
include h

/-- An index that is not negative is itself. -/
theorem same (z : BitVec 32) (y : S136.Idx) : Scalar.select (IntOp.cmpi .slt (x0 y) 0#32) z (x0 y) = x0 y := by
  have hy := h y
  have e : IntOp.cmpi .slt (x0 y) 0#32 = 0#1 := by
    have : (x0 y).slt 0#32 = false := by
      rw [BitVec.slt, BitVec.toInt_eq_toNat_of_lt (by omega)]
      exact decide_eq_false (by show ¬((x0 y).toNat : ℤ) < 0; omega)
    show BitVec.ofBool ((x0 y).slt 0#32) = _
    rw [this]; rfl
  rw [e]; rfl

/-- The word a lookup reads for block `b` names the block's expert. -/
theorem named (z : BitVec 32) (b : Fin 136) : (Scalar.select (IntOp.cmpi .slt (x0 (idx_main_v7 (ix2 b 0))) 0#32) z (x0 (idx_main_v7 (ix2 b 0)))).toNat = (expert (x0 (ix1 b))).val := by
  have e : idx_main_v7 (ix2 b 0) = ix1 b := funext fun a => match a with
    | ⟨0, _⟩ => rfl
  rw [e, same x0 h, expert_val (h _)]

/-- The three lookups: block `b`'s gate, up and down weights are its expert's. -/
theorem gate_at (b : Fin 136) (i : Fin 1024) (j : Fin 3584) : val_main_v8 (F := Ideal) x0 x3 (ix3 b i j) = x3 (ix3 (expert (x0 (ix1 b))) i j) :=
  pick_at _ x3 _ b _ (by rw [val_main_v7_apply]; exact named x0 h _ b) i j

theorem up_at (b : Fin 136) (i : Fin 1024) (j : Fin 3584) : val_main_v15 (F := Ideal) x0 x4 (ix3 b i j) = x4 (ix3 (expert (x0 (ix1 b))) i j) :=
  pick_at _ x4 _ b _ (by rw [val_main_v14_apply]; exact named x0 h _ b) i j

theorem down_at (b : Fin 136) (i : Fin 3584) (j : Fin 1024) : val_main_v22 (F := Ideal) x0 x5 (ix3 b i j) = x5 (ix3 (expert (x0 (ix1 b))) i j) :=
  pick_at _ x5 _ b _ (by rw [val_main_v21_apply]; exact named x0 h _ b) i j

/-- Hidden unit `K` of block `b`'s expert at row `r`. -/
theorem hidden_at (b : Fin 136) (r : Fin 1024) (K : Fin 3584) (R : Fin 139264) (hR : R.val = b.val * 1024 + r.val) : val_main_v26 (F := Ideal) x0 x2 x3 x4 (ix3 b r K)
    = hid (slot x2 R) (fun d => x3 (ix3 (expert (x0 (ix1 b))) d K)) (fun d => x4 (ix3 (expert (x0 (ix1 b))) d K)) := by
  unfold hid
  simp only [zero_sub, ← slot_at x2 b r _ R hR, ← gate_at x0 x3 h, ← up_at x0 x4 h]
  pointwise [val_main_v26, val_main_v25, val_main_v24, val_main_call0_v5, val_main_call0_v4, val_main_call0_cst_0, val_main_call0_v3, val_main_call0_v2, val_main_call0_cst, val_main_call0_v1, val_main_call0_v0, val_main_v23]

/-- THE REFERENCE'S RESULT. -/
theorem value_at (q : Fin 4) (R : Fin 139264) (k : Fin 256) : val_main_v35 (F := Ideal) x0 x1 x2 x3 x4 x5 (ix3 q R k) = spec x2 x3 x4 x5 x0 x1 q R k := by
  have hi : idx_main_v34 (idx_main_v35 (ix3 q R k)) = ix3 (⟨R.val / 1024, by omega⟩ : Fin 136) (⟨R.val % 1024, by omega⟩ : Fin 1024) (⟨256 * q.val + k.val, by omega⟩ : Fin 1024) := by
    funext a
    refine Fin.ext ?_
    match a with
    | ⟨0, _⟩ => show ((R.val * 4 + q.val) * 256 + k.val) / 1048576 = R.val / 1024; omega
    | ⟨1, _⟩ => show ((R.val * 4 + q.val) * 256 + k.val) / 1024 % 1024 = R.val % 1024; omega
    | ⟨2, _⟩ => show ((R.val * 4 + q.val) * 256 + k.val) % 1024 = 256 * q.val + k.val; omega
  rw [val_main_v35_apply, val_main_v34_apply, hi, val_main_v33_apply, used_at]
  unfold spec Scalar.select
  refine if_congr Iff.rfl ?_ ?_
  · unfold term
    simp only [← hidden_at x0 x2 x3 x4 h ⟨R.val / 1024, by omega⟩ ⟨R.val % 1024, by omega⟩ _ R (by dsimp only; omega), ← down_at x0 x5 h]
    pointwise [val_main_v27]
  · rw [val_main_call1_v2_apply, val_main_call1_v0_apply]
    pointwise [val_main_cst]

end Cert.ExpertsRefIdeal.Walk
end
-- ==== Proof.ExpertsClaim.lean ====
module

public import proofs.«01_k».proof.Defs
public import proofs.«01_k».proof.Proof.ExpertsFrame
public import proofs.«01_k».proof.Proof.ExpertsRef
public import proofs.«01_k».proof.Proof.Gen.ExpertsRefIdeal
public import Idealize.ShloMosaic.Lib.Claim

/-! The claims about the experts' call: the reference's run, and the two results' equality. -/

@[expose] public section

set_option maxRecDepth 16384

noncomputable section

namespace Cert.Proof.Experts

open Idealize.ShloMosaic Idealize.ShloMosaic.TcCoe Idealize.SL.Sem

/-- The reference ends, and leaves its arguments as they were. -/
theorem frame_RI : Cert.quiescent_ExpertsRefIdeal (hExpertsRefIdeal := Cert.ExpertsRefIdeal.Gen.facts) (hPre_experts_exist := Cert.Pre_experts_exist.Gen.facts) := by
  intro m g _
  refine (θ_run _ _ _).mono (fun r h => ⟨fun c => (h c).2, sem_eq_zero_of_no_sems rfl _⟩) (Cert.ExpertsRefIdeal.Value.run m g)

/-- The ideal kernel is the kernel, word for word. -/
theorem preserves : Cert.preserves_Experts_ExpertsIdeal := trivial

/-- The kernel ends with its result array holding `result`. -/
theorem kernel_ends (m : (ℓ : Loc Cert.ExpertsIdeal.nD Cert.ExpertsIdeal.τ Cert.ExpertsIdeal.sig) → Buf (Elt Ideal) ℓ) (g : Dev Cert.ExpertsIdeal.nD → PrngReg) (hpre : Cert.Pre_ExpertsIdeal m) :
    θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
      r.2.mem ((c.tc : Thread Cert.ExpertsIdeal.nD Cert.ExpertsIdeal.τ).loc Cert.ExpertsIdeal.main_v0) = Cert.ExpertsIdeal.Walk.result m c
      ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)) :=
  have hW : ∀ b, (Cert.ExpertsIdeal.Walk.word m b).toNat < 8 := fun b => bound _ _ _ _ _ _ (hpre 0) _
  (θ_run _ _ _).mono (fun _ h c => ⟨((h.1 c).1).trans (Cert.ExpertsIdeal.Walk.final m (ok_ideal m hpre) c hW), (h.1 c).2⟩) (Cert.ExpertsIdeal.Walk.ends (F := Ideal) m g (ok_ideal m hpre))

/-- Where every block names an expert, the kernel's result is the reference's, over the extended reals. -/
theorem algebraic : Cert.algebraic_ExpertsIdeal_ExpertsRefIdeal (hExpertsIdeal := Cert.ExpertsIdeal.Gen.facts) (hExpertsRefIdeal := Cert.ExpertsRefIdeal.Gen.facts)
    (hPre_experts_exist := Cert.Pre_experts_exist.Gen.facts) := by
  pair_intro
  · run_from kernel_ends m g hpre
  · run_from Cert.ExpertsRefIdeal.Value.run m' g'
    refine (Cert.ExpertsRefIdeal.Read.val_main_v35_eq _ _ _ _ _ _).trans ?_
    funext j
    idx_vars j
    exact Cert.ExpertsRefIdeal.Walk.value_at _ _ _ _ _ _ (fun y => bound _ _ _ _ _ _ (hpre c) y) _ _ _

end Cert.Proof.Experts

end
-- ==== Proof.ProjValue.lean ====
module

public import proofs.«01_k».proof.Proof.LayerMath
public import proofs.«01_k».proof.Proof.Gen.ProjIdeal.Frame
public import Idealize.ShloMosaic.Lib.Pipeline.Value
public import Idealize.ShloMosaic.Lib.Pipeline.ValueKit
public import Idealize.ShloMosaic.Lib.Pointwise
public import Idealize.ShloMosaic.Lib.Routing.OpsSet

/-! The first projection's eleven result arrays: each of its 512-row tiles multiplies the rows' norms with six column
blocks of the weights, and with the forget gates' columns. -/

@[expose] public section

set_option maxRecDepth 16384

noncomputable section

namespace Cert.ProjIdeal.Rows

open Cert.ProjIdeal Cert.ProjIdeal.Gen Idealize.ShloMosaic Idealize.ShloMosaic.TcCoe Idealize.SL.Sem Cert.Layer
open Idealize.ShloMosaic.Pipeline (Dat)

/-! ## The tile's steps -/

section Steps

variable (hn : FVec Ideal S512x1024 .bf16) (w : Vec Ideal S1024x512 .bf16) (x : Vec Ideal S512x1024 .f32) (g : Vec Ideal S1x1024 .f32)
variable (wf : Vec Ideal S1024x128 .bf16) (b : Vec Ideal S1x8 .f32)

theorem norm_at (r : Fin 512) (j : Fin 1024) : k0_pay2 x g (ix2 r j) = normed (fun d => x (ix2 r d)) (fun d => g (ix2 0 d)) j := by
  pointwise [k0_pay2, normed, scale]

/-- One block of 512 columns, in bf16. -/
theorem flat_at (r : Fin 512) (j : Fin 512) : k0_pay14 hn w (ix2 r j) = ∑ d : Fin 1024, hn (ix2 r d) * w (ix2 d j) := by
  pointwise [k0_pay14, k0_pay12]

/-- One block of 512 columns, as eight heads of 64. -/
theorem heads_at (r : Fin 512) (h : Fin 8) (e : Fin 64) : k0_pay13 hn w (ix3 r h e)
    = ∑ d : Fin 1024, hn (ix2 r d) * w (ix2 d ⟨h.val * 64 + e.val, by omega⟩) := by
  pointwise [k0_pay13, k0_pay12]

/-- One block of 512 columns, in bf16 and with the queries' factor. -/
theorem query_at (r : Fin 512) (j : Fin 512) : k0_pay11 hn w (ix2 r j)
    = (∑ d : Fin 1024, hn (ix2 r d) * w (ix2 d j)) * (((Real.log 256)⁻¹ : ℝ) : EReal) := by
  pointwise [k0_pay11]
  rw [IdealRules.named_const.ideal_named_scalar Cert.ProjIdeal.κ "qscale" _ (((Real.log 256)⁻¹ : ℝ) : EReal) rfl]

/-- The forget gates. -/
theorem gate_at (r : Fin 512) (h : Fin 8) : k0_pay1 hn wf b (ix2 r h)
    = logSigmoid (∑ d : Fin 1024, hn (ix2 r d) * wf (ix2 d ⟨h.val, by omega⟩) + b (ix2 0 h)) := by
  pointwise [k0_pay1, logSigmoid]
  rfl

end Steps

theorem inb_cols {a : ℕ} (h : a + 512 ≤ 3072) (x : Fin 2) : (![0, a] : Fin 2 → ℕ) x + S1024x512.size x ≤ S1024x3072.size x := by
  fin_cases x
  · show 0 + 1024 ≤ 1024; omega
  · exact h

/-- The 512 columns of the weights that start at column `a`. -/
def cols (X : Vec Ideal S1024x3072 .bf16) (a : ℕ) (h : a + 512 ≤ 3072) : Vec Ideal S1024x512 .bf16 :=
  View.ld (Val := Elt Ideal) X (Rect.unit ![0, a] ![1024, 512] (inb_cols h))

theorem cols_at (X : Vec Ideal S1024x3072 .bf16) (a : ℕ) (h : a + 512 ≤ 3072) (d : Fin 1024) (f : Fin 512) :
    cols X a h (ix2 d f) = X (ix2 d ⟨a + f.val, by omega⟩) :=
  View.ld_unit_apply_of X _ _ (inb_cols h) _ _ fun x => by
    fin_cases x
    · exact (Nat.zero_add _).symm
    · rfl

/-! ## The weights of the forget gates -/

/-- Eight columns written over the first eight of 128: one of the eight, read back. -/
theorem placed (x : S1024x128.Idx → EReal) (idx : IVec S1 32) (u : S1024x8.Idx → EReal) (hi : (idx (ix1 (0 : Fin 1))).toInt = 0) (d : Fin 1024) (h : Fin 8) :
    Host.scatter scatter_S1024x128_S1_S1024x8_01_n_1_0 (fun _ b => b) x idx u (ix2 d ⟨h.val, by omega⟩) = u (ix2 d h) := by
  have start0 : ∀ j : S1024x8.Idx, scatter_S1024x128_S1_S1024x8_01_n_1_0.start j idx 0 = 0 := fun j => rfl
  have start1 : ∀ j : S1024x8.Idx, scatter_S1024x128_S1_S1024x8_01_n_1_0.start j idx 1 = 0 := fun j => by
    refine Eq.trans ?_ hi
    refine congrArg (fun y => (idx y).toInt) (funext fun y => ?_)
    match y with
    | ⟨0, _⟩ => exact Subsingleton.elim (α := Fin 1) _ _
  have win0 : ∀ j : S1024x8.Idx, scatter_S1024x128_S1_S1024x8_01_n_1_0.window j 0 = (j 0).val := fun j => rfl
  have win1 : ∀ j : S1024x8.Idx, scatter_S1024x128_S1_S1024x8_01_n_1_0.window j 1 = (j 1).val := fun j => rfl
  have lands : ∀ j : S1024x8.Idx, scatter_S1024x128_S1_S1024x8_01_n_1_0.resultIdx? j idx = some (ix2 d ⟨h.val, by omega⟩) ↔ j = ix2 d h := fun j => by
    idx_vars j
    refine (Routing.resultIdx?_ix2 _ _ _ d (⟨h.val, by omega⟩ : Fin 128)).trans ?_
    rw [start0, start1, win0, win1]
    constructor
    · rintro ⟨e0, e1⟩
      congr 1
      · exact Fin.ext (by simpa using e0)
      · exact Fin.ext (by simpa using e1)
    · intro e
      have e0 : j0 = d := congrFun e 0
      have e1 : j1 = h := congrFun e 1
      subst e0 e1
      constructor <;> simp
  exact Routing.scatter_set_hit _ x idx u _ _ (fun j hj => congrArg u ((lands j).1 hj)) _ ((lands _).2 rfl)

/-! ## The result arrays -/

section Spec

variable {N : ℕ} (X : Fin N → Fin 1024 → EReal) (g : FVec Ideal S1x1024 .f32) (w : FVec Ideal S1x1024x3080 .f32) (b : FVec Ideal S1x8 .f32)

/-- The norm of row `R` against column `C` of the weights. -/
def proj (R : Fin N) (C : Fin 3080) : EReal := ∑ d, normed (X R) (fun d => g (ix2 0 d)) d * w (ix3 0 d C)

/-- The 512 columns from column `a`. -/
def flat (a : ℕ) (ha : a + 512 ≤ 3072) : FVec Ideal (⟨2, ![N, 512]⟩ : Shape) .bf16 := fun i =>
  proj X g w (i 0) ⟨a + (i 1).val, by have : (i 1).val < 512 := (i 1).isLt; omega⟩

/-- The same, with the queries' factor. -/
def query (a : ℕ) (ha : a + 512 ≤ 3072) : FVec Ideal (⟨2, ![N, 512]⟩ : Shape) .bf16 := fun i => flat X g w a ha i * (((Real.log 256)⁻¹ : ℝ) : EReal)

/-- The same columns, as eight heads of 64. -/
def heads (a : ℕ) (ha : a + 512 ≤ 3072) : FVec Ideal (⟨3, ![N, 8, 64]⟩ : Shape) .f32 := fun i =>
  proj X g w (i 0) ⟨a + ((i 1).val * 64 + (i 2).val), by have : (i 1).val < 8 := (i 1).isLt; have : (i 2).val < 64 := (i 2).isLt; omega⟩

/-- The logarithms of the forget gates. -/
def gates : FVec Ideal (⟨2, ![N, 8]⟩ : Shape) .f32 := fun i =>
  logSigmoid (proj X g w (i 0) ⟨3072 + (i 1).val, by have : (i 1).val < 8 := (i 1).isLt; omega⟩ + b (ix2 0 (i 1)))

/-- A tile's blocks, as far as its row `r` needs them: row `R` of all rows, the gains, the weights and the biases. -/
structure Reads (xb : Vec Ideal S512x1024 .f32) (gb : Vec Ideal S1x1024 .f32) (wb : Vec Ideal S1024x3072 .bf16) (fb : Vec Ideal S1024x128 .bf16)
    (bb : Vec Ideal S1x8 .f32) (r : Fin 512) (R : Fin N) : Prop where
  row : ∀ d : Fin 1024, xb (ix2 r d) = X R d
  gain : ∀ d : Fin 1024, gb (ix2 0 d) = g (ix2 0 d)
  weight : ∀ (d : Fin 1024) (C : Fin 3072), wb (ix2 d C) = w (ix3 0 d ⟨C.val, by omega⟩)
  gate : ∀ (d : Fin 1024) (h : Fin 8), fb (ix2 d ⟨h.val, by omega⟩) = w (ix3 0 d ⟨3072 + h.val, by omega⟩)
  bias : ∀ h : Fin 8, bb (ix2 0 h) = b (ix2 0 h)

end Spec

section Points

variable {N : ℕ} {X : Fin N → Fin 1024 → EReal} {g : FVec Ideal S1x1024 .f32} {w : FVec Ideal S1x1024x3080 .f32} {b : FVec Ideal S1x8 .f32}
variable {xb : Vec Ideal S512x1024 .f32} {gb : Vec Ideal S1x1024 .f32} {wb : Vec Ideal S1024x3072 .bf16} {fb : Vec Ideal S1024x128 .bf16}
variable {bb : Vec Ideal S1x8 .f32} {r : Fin 512} {R : Fin N} (B : Reads X g w b xb gb wb fb bb r R)
include B

theorem norms_at (d : Fin 1024) : k0_pay2 xb gb (ix2 r d) = normed (X R) (fun d => g (ix2 0 d)) d := by
  rw [norm_at]
  exact congrFun (congrArg₂ normed (funext B.row) (funext B.gain)) d

/-- One column of the tile's products. -/
theorem sum_at (a : ℕ) (h : a + 512 ≤ 3072) (f : Fin 512) : ∑ d : Fin 1024, k0_pay2 xb gb (ix2 r d) * cols wb a h (ix2 d f)
    = proj X g w R ⟨a + f.val, by omega⟩ := by
  unfold proj
  refine Finset.sum_congr rfl fun d _ => congrArg₂ (· * ·) (norms_at B d) ?_
  rw [cols_at]
  exact B.weight d _

theorem flat_point (a : ℕ) (h : a + 512 ≤ 3072) (j : Fin 512) : k0_pay14 (k0_pay2 xb gb) (cols wb a h) (ix2 r j) = flat X g w a h (ix2 R j) :=
  (flat_at _ _ r j).trans (sum_at B a h j)

theorem query_point (a : ℕ) (h : a + 512 ≤ 3072) (j : Fin 512) : k0_pay11 (k0_pay2 xb gb) (cols wb a h) (ix2 r j) = query X g w a h (ix2 R j) :=
  (query_at _ _ r j).trans (congrArg (· * _) (sum_at B a h j))

theorem heads_point (a : ℕ) (h : a + 512 ≤ 3072) (k : Fin 8) (e : Fin 64) : k0_pay13 (k0_pay2 xb gb) (cols wb a h) (ix3 r k e)
    = heads X g w a h (ix3 R k e) :=
  (heads_at _ _ r k e).trans (sum_at B a h _)

theorem gates_point (k : Fin 8) : k0_pay1 (k0_pay2 xb gb) fb bb (ix2 r k) = gates X g w b (ix2 R k) := by
  rw [gate_at]
  refine congrArg logSigmoid (congrArg₂ (· + ·) ?_ (B.bias k))
  exact Finset.sum_congr rfl fun d _ => congrArg₂ (· * ·) (norms_at B d) (B.gate d k)

end Points

/-- Row `R` of all the prompt's rows. -/
def row (x : FVec Ideal S16x4096x1024 .f32) (R : Fin 65536) (d : Fin 1024) : EReal := x (ix3 ⟨R.val / 4096, by omega⟩ ⟨R.val % 4096, Nat.mod_lt _ (by omega)⟩ d)

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0, 0]
    ∧ win0_7.index t = ![t.val, 0, 0] ∧ win0_8.index t = ![t.val, 0] ∧ win0_9.index t = ![t.val, 0, 0] ∧ win0_10.index t = ![t.val, 0, 0]
    ∧ win0_11.index t = ![t.val, 0] ∧ win0_12.index t = ![t.val, 0] ∧ win0_13.index t = ![t.val, 0] ∧ win0_14.index t = ![t.val, 0]
    ∧ win0_15.index t = ![t.val, 0] :=
  (by decide +kernel : ∀ t : Fin grid0.N, _)

theorem x_in : V m c main_v5 = fun i : S65536x1024.Idx => row (m ((c : Thread nD τ).loc main_arg0)) (i 0) (i 1) := by
  funext i
  entry_read
  unfold row
  pointwise []

theorem gain_in : V m c main_v7 = fun i : S1x1024.Idx => m ((c : Thread nD τ).loc main_arg1) (ix2 0 (i 1)) := by
  funext i
  entry_read
  pointwise []

theorem w_in : V m c main_v10 = fun i : S1024x3072.Idx => m ((c : Thread nD τ).loc main_arg2)
    (ix3 0 (i 0) ⟨(i 1).val, by have : (i 1).val < 3072 := (i 1).isLt; omega⟩) := by
  funext i
  entry_read
  pointwise []

theorem gate_in (d : Fin 1024) (h : Fin 8) : (show FVec Ideal S1024x128 .bf16 from V m c main_v11) (ix2 d ⟨h.val, by omega⟩)
    = m ((c : Thread nD τ).loc main_arg2) (ix3 0 d ⟨3072 + h.val, by omega⟩) := by
  entry_read
  dsimp only
  show FloatOps.truncf (F := Ideal) (φ := .f32) .bf16 bitsLt_bf16_f32 (Host.scatter scatter_S1024x128_S1_S1024x8_01_n_1_0 (fun _ b => b) _ _ _ (ix2 d ⟨h.val, by omega⟩)) = _
  rw [placed]
  · pointwise []
  · rfl

theorem bias_in : V m c main_v13 = fun i : S1x8.Idx => m ((c : Thread nD τ).loc main_arg3) (ix2 0 (i 1)) := by
  funext i
  entry_read
  pointwise []

theorem blk_x (t : Fin cfg0.N) (r : Fin 512) (j : Fin 1024) (R : Fin 65536) (hR : R.val = 512 * t.val + r.val) :
    (show FVec Ideal S512x1024 .f32 from iblk m c 0 t) (ix2 r j) = row (m ((c : Thread nD τ).loc main_arg0)) R j := by
  refine Eq.trans ?_ (congrFun (x_in m c) (ix2 R j))
  blk_ext [iblk, idx t]

theorem blk_gain (t : Fin cfg0.N) (j : Fin 1024) :
    (show FVec Ideal S1x1024 .f32 from iblk m c 1 t) (ix2 0 j) = m ((c : Thread nD τ).loc main_arg1) (ix2 0 j) := by
  refine Eq.trans ?_ (congrFun (gain_in m c) (ix2 0 j))
  blk_ext [iblk, idx t]

theorem blk_w (t : Fin cfg0.N) (d : Fin 1024) (C : Fin 3072) :
    (show FVec Ideal S1024x3072 .bf16 from iblk m c 2 t) (ix2 d C) = m ((c : Thread nD τ).loc main_arg2) (ix3 0 d ⟨C.val, by omega⟩) := by
  refine Eq.trans ?_ (congrFun (w_in m c) (ix2 d C))
  blk_ext [iblk, idx t]

theorem blk_gate (t : Fin cfg0.N) (d : Fin 1024) (h : Fin 8) : (show FVec Ideal S1024x128 .bf16 from iblk m c 3 t) (ix2 d ⟨h.val, by omega⟩)
    = m ((c : Thread nD τ).loc main_arg2) (ix3 0 d ⟨3072 + h.val, by omega⟩) := by
  refine Eq.trans ?_ (gate_in m c d h)
  blk_ext [iblk, idx t]

theorem blk_bias (t : Fin cfg0.N) (h : Fin 8) :
    (show FVec Ideal S1x8 .f32 from iblk m c 4 t) (ix2 0 h) = m ((c : Thread nD τ).loc main_arg3) (ix2 0 h) := by
  refine Eq.trans ?_ (congrFun (bias_in m c) (ix2 0 h))
  blk_ext [iblk, idx t]

/-! ## What a grid point leaves -/

/-- The tile's results, in the kernel's order. -/
theorem outs (t : Fin cfg0.N) :
    (dats m 0 c).after 5 t = k0_pay11 (k0_pay2 (iblk m c 0 t) (iblk m c 1 t)) (cols (iblk m c 2 t) 0 (by omega))
    ∧ (dats m 0 c).after 6 t = k0_pay13 (k0_pay2 (iblk m c 0 t) (iblk m c 1 t)) (cols (iblk m c 2 t) 512 (by omega))
    ∧ (dats m 0 c).after 7 t = k0_pay13 (k0_pay2 (iblk m c 0 t) (iblk m c 1 t)) (cols (iblk m c 2 t) 1024 (by omega))
    ∧ (dats m 0 c).after 8 t = k0_pay11 (k0_pay2 (iblk m c 0 t) (iblk m c 1 t)) (cols (iblk m c 2 t) 1536 (by omega))
    ∧ (dats m 0 c).after 9 t = k0_pay13 (k0_pay2 (iblk m c 0 t) (iblk m c 1 t)) (cols (iblk m c 2 t) 2048 (by omega))
    ∧ (dats m 0 c).after 10 t = k0_pay13 (k0_pay2 (iblk m c 0 t) (iblk m c 1 t)) (cols (iblk m c 2 t) 2560 (by omega))
    ∧ (dats m 0 c).after 11 t = k0_pay14 (k0_pay2 (iblk m c 0 t) (iblk m c 1 t)) (cols (iblk m c 2 t) 512 (by omega))
    ∧ (dats m 0 c).after 12 t = k0_pay14 (k0_pay2 (iblk m c 0 t) (iblk m c 1 t)) (cols (iblk m c 2 t) 1024 (by omega))
    ∧ (dats m 0 c).after 13 t = k0_pay14 (k0_pay2 (iblk m c 0 t) (iblk m c 1 t)) (cols (iblk m c 2 t) 2048 (by omega))
    ∧ (dats m 0 c).after 14 t = k0_pay14 (k0_pay2 (iblk m c 0 t) (iblk m c 1 t)) (cols (iblk m c 2 t) 2560 (by omega))
    ∧ (dats m 0 c).after 15 t = k0_pay1 (k0_pay2 (iblk m c 0 t) (iblk m c 1 t)) (iblk m c 3 t) (iblk m c 4 t) := by
  rw [after0_5, after0_6, after0_7, after0_8, after0_9, after0_10, after0_11, after0_12, after0_13, after0_14, after0_15]
  unfold out0_5 out0_6 out0_7 out0_8 out0_9 out0_10 out0_11 out0_12 out0_13 out0_14 out0_15 k0_pay18 k0_pay19
  refine ⟨?_, ?_, ?_, ?_, ?_, ?_, ?_, ?_, ?_, ?_, ?_⟩ <;> (frame_out <;> rfl)

theorem reads (t : Fin cfg0.N) (r : Fin 512) (R : Fin 65536) (hR : R.val = 512 * t.val + r.val) :
    Reads (row (m ((c : Thread nD τ).loc main_arg0))) (m ((c : Thread nD τ).loc main_arg1)) (m ((c : Thread nD τ).loc main_arg2)) (m ((c : Thread nD τ).loc main_arg3))
      (iblk m c 0 t) (iblk m c 1 t) (iblk m c 2 t) (iblk m c 3 t) (iblk m c 4 t) r R :=
  ⟨fun d => blk_x m c t r d R hR, blk_gain m c t, blk_w m c t, blk_gate m c t, blk_bias m c t⟩

set_option maxHeartbeats 1000000 in
/-- THE RESULT ARRAYS, in the kernel's order. -/
theorem final : (dats m 0 c).arrAt 5 cfg0.N = query (row (m ((c : Thread nD τ).loc main_arg0))) (m ((c : Thread nD τ).loc main_arg1)) (m ((c : Thread nD τ).loc main_arg2)) 0 (by omega)
    ∧ (dats m 0 c).arrAt 6 cfg0.N = heads (row (m ((c : Thread nD τ).loc main_arg0))) (m ((c : Thread nD τ).loc main_arg1)) (m ((c : Thread nD τ).loc main_arg2)) 512 (by omega)
    ∧ (dats m 0 c).arrAt 7 cfg0.N = heads (row (m ((c : Thread nD τ).loc main_arg0))) (m ((c : Thread nD τ).loc main_arg1)) (m ((c : Thread nD τ).loc main_arg2)) 1024 (by omega)
    ∧ (dats m 0 c).arrAt 8 cfg0.N = query (row (m ((c : Thread nD τ).loc main_arg0))) (m ((c : Thread nD τ).loc main_arg1)) (m ((c : Thread nD τ).loc main_arg2)) 1536 (by omega)
    ∧ (dats m 0 c).arrAt 9 cfg0.N = heads (row (m ((c : Thread nD τ).loc main_arg0))) (m ((c : Thread nD τ).loc main_arg1)) (m ((c : Thread nD τ).loc main_arg2)) 2048 (by omega)
    ∧ (dats m 0 c).arrAt 10 cfg0.N = heads (row (m ((c : Thread nD τ).loc main_arg0))) (m ((c : Thread nD τ).loc main_arg1)) (m ((c : Thread nD τ).loc main_arg2)) 2560 (by omega)
    ∧ (dats m 0 c).arrAt 11 cfg0.N = flat (row (m ((c : Thread nD τ).loc main_arg0))) (m ((c : Thread nD τ).loc main_arg1)) (m ((c : Thread nD τ).loc main_arg2)) 512 (by omega)
    ∧ (dats m 0 c).arrAt 12 cfg0.N = flat (row (m ((c : Thread nD τ).loc main_arg0))) (m ((c : Thread nD τ).loc main_arg1)) (m ((c : Thread nD τ).loc main_arg2)) 1024 (by omega)
    ∧ (dats m 0 c).arrAt 13 cfg0.N = flat (row (m ((c : Thread nD τ).loc main_arg0))) (m ((c : Thread nD τ).loc main_arg1)) (m ((c : Thread nD τ).loc main_arg2)) 2048 (by omega)
    ∧ (dats m 0 c).arrAt 14 cfg0.N = flat (row (m ((c : Thread nD τ).loc main_arg0))) (m ((c : Thread nD τ).loc main_arg1)) (m ((c : Thread nD τ).loc main_arg2)) 2560 (by omega)
    ∧ (dats m 0 c).arrAt 15 cfg0.N = gates (row (m ((c : Thread nD τ).loc main_arg0))) (m ((c : Thread nD τ).loc main_arg1)) (m ((c : Thread nD τ).loc main_arg2)) (m ((c : Thread nD τ).loc main_arg3)) := by
  refine ⟨?_, ?_, ?_, ?_, ?_, ?_, ?_, ?_, ?_, ?_, ?_⟩
  all_goals
    refine (dats m 0 c).arrAt_eq_of_covers _ _ (by decide +kernel) fun t _ y => ?_
    obtain ⟨o5, o6, o7, o8, o9, o10, o11, o12, o13, o14, o15⟩ := outs m c t
    have ht : t.val < 128 := t.isLt
    blk_simp
    simp only [o5, o6, o7, o8, o9, o10, o11, o12, o13, o14, o15]
    idx_vars y
    have hR : 512 * t.val + y0.val < 65536 := by omega
    first
      | refine (flat_point (reads m c t y0 ⟨_, hR⟩ rfl) _ _ y1).trans (congrArg _ ?_)
      | refine (query_point (reads m c t y0 ⟨_, hR⟩ rfl) _ _ y1).trans (congrArg _ ?_)
      | refine (heads_point (reads m c t y0 ⟨_, hR⟩ rfl) _ _ y1 y2).trans (congrArg _ ?_)
      | refine (gates_point (reads m c t y0 ⟨_, hR⟩ rfl) y1).trans (congrArg _ ?_)
    funext a
    fin_cases a <;> (ext; blk_simp [idx t]; first | (show 512 * t.val + y0.val = t.val * 512 + y0.val; omega) | rfl)

end Cert.ProjIdeal.Rows
end
-- ==== Proof.ProjRef.lean ====
module

public import proofs.«01_k».proof.Proof.ProjValue
public import proofs.«01_k».proof.Proof.Gen.ProjRefIdeal.Read
public import Idealize.ShloMosaic.Lib.Pointwise

/-! The plain first projection, read at one row and column of each of its results. -/

@[expose] public section

set_option maxRecDepth 16384

noncomputable section

namespace Cert.ProjRefIdeal.Rows

open Cert.ProjRefIdeal Cert.ProjRefIdeal.Gen Cert.ProjRefIdeal.Read Idealize.ShloMosaic Idealize.ShloMosaic.TcCoe Idealize.SL.Sem Cert.Layer
open Cert.ProjIdeal.Rows (row proj flat query heads gates)

variable (x : FVec Ideal S16x4096x1024 .f32) (g : FVec Ideal S1x1024 .f32) (w : FVec Ideal S1x1024x3080 .f32) (b : FVec Ideal S1x8 .f32)

/-- The queries' factor: `1 / 8` over the logarithm of two. -/
theorem factor : Ideal.div (Ideal.ofBits FTy.f32 0x3E000000#32) (Ideal.log (Ideal.ofBits FTy.f32 0x40000000#32)) = (((Real.log 256)⁻¹ : ℝ) : EReal) := by
  have e2 : Ideal.ofBits FTy.f32 0x40000000#32 = ((2 : ℝ) : EReal) := by
    simp [Ideal.ofBits, Ideal.ieee, -EReal.coe_mul]; norm_num
  have e8 : Ideal.ofBits FTy.f32 0x3E000000#32 = ((8⁻¹ : ℝ) : EReal) := by
    simp [Ideal.ofBits, Ideal.ieee, -EReal.coe_mul]; norm_num
  have hl : Real.log 2 ≠ 0 := (Real.log_pos (by norm_num)).ne'
  rw [e2, e8, Ideal.log_coe, if_neg (by norm_num), show (256 : ℝ) = 2 ^ 8 by norm_num, Real.log_pow]
  rw [Ideal.div_coe]
  · rw [← EReal.coe_mul]
    refine congrArg _ ?_
    push_cast
    field_simp
  · exact hl

/-- A row's norm. -/
theorem normed_at (s : Fin 16) (r : Fin 4096) (j : Fin 1024) : val_main_v13 (F := Ideal) x g (ix3 s r j)
    = normed (fun d => x (ix3 s r d)) (fun d => g (ix2 0 d)) j := by
  unfold normed scale
  pointwise [val_main_v13, val_main_v12, val_main_v11, val_main_v10, val_main_v9, val_main_v8, val_main_v7, val_main_v6, val_main_cst_1, val_main_v5, val_main_v4, val_main_cst_0, val_main_v3, val_main_v2, val_main_cst, val_main_v1, val_main_v0]

/-- Its product with one column of the weights. -/
theorem proj_at (s : Fin 16) (r : Fin 4096) (C : Fin 3080) (R : Fin 65536) (hR : R.val = 4096 * s.val + r.val) :
    val_main_v15 (F := Ideal) x g w (ix3 s r C) = proj (row x) g w R C := by
  have e : row x R = fun d => x (ix3 s r d) := by
    unfold row
    funext d
    congr 2
    · ext; show R.val / 4096 = s.val; omega
    · ext; show R.val % 4096 = r.val; omega
  unfold proj
  rw [e]
  pointwise [val_main_v15, val_main_v14, normed_at x g]

/-- The six column blocks, and the forget gates' columns. -/
theorem slices (s : Fin 16) (r : Fin 4096) (R : Fin 65536) (hR : R.val = 4096 * s.val + r.val) (j : Fin 512) :
    val_main_v16 (F := Ideal) x g w (ix3 s r j) = proj (row x) g w R ⟨0 + j.val, by omega⟩
    ∧ val_main_v17 (F := Ideal) x g w (ix3 s r j) = proj (row x) g w R ⟨512 + j.val, by omega⟩
    ∧ val_main_v18 (F := Ideal) x g w (ix3 s r j) = proj (row x) g w R ⟨1024 + j.val, by omega⟩
    ∧ val_main_v19 (F := Ideal) x g w (ix3 s r j) = proj (row x) g w R ⟨1536 + j.val, by omega⟩
    ∧ val_main_v20 (F := Ideal) x g w (ix3 s r j) = proj (row x) g w R ⟨2048 + j.val, by omega⟩
    ∧ val_main_v21 (F := Ideal) x g w (ix3 s r j) = proj (row x) g w R ⟨2560 + j.val, by omega⟩ := by
  refine ⟨?_, ?_, ?_, ?_, ?_, ?_⟩ <;> (rw [← proj_at x g w s r _ R hR]; pointwise [val_main_v16, val_main_v17, val_main_v18, val_main_v19, val_main_v20, val_main_v21])

/-- The keys and values, in bf16. -/
theorem flats : val_main_v45 (F := Ideal) x g w = flat (row x) g w 512 (by omega) ∧ val_main_v47 (F := Ideal) x g w = flat (row x) g w 1024 (by omega)
    ∧ val_main_v49 (F := Ideal) x g w = flat (row x) g w 2048 (by omega) ∧ val_main_v51 (F := Ideal) x g w = flat (row x) g w 2560 (by omega) := by
  refine ⟨?_, ?_, ?_, ?_⟩
  all_goals
    funext i
    idx_vars i
    obtain ⟨s0, s1, s2, s3, s4, s5⟩ := slices x g w ⟨i0.val / 4096, by omega⟩ ⟨i0.val % 4096, Nat.mod_lt _ (by omega)⟩ i0 (by dsimp only; omega) i1
    unfold flat
    pointwise [val_main_v45, val_main_v47, val_main_v49, val_main_v51, val_main_v44, val_main_v46, val_main_v48, val_main_v50]
    first | exact s1 | exact s2 | exact s4 | exact s5

/-- The queries, times their factor. -/
theorem queries : val_main_v33 (F := Ideal) x g w = query (row x) g w 0 (by omega) ∧ val_main_v41 (F := Ideal) x g w = query (row x) g w 1536 (by omega) := by
  refine ⟨?_, ?_⟩
  all_goals
    funext i
    idx_vars i
    obtain ⟨s0, s1, s2, s3, s4, s5⟩ := slices x g w ⟨i0.val / 4096, by omega⟩ ⟨i0.val % 4096, Nat.mod_lt _ (by omega)⟩ i0 (by dsimp only; omega) i1
    unfold query flat
    rw [← factor]
    pointwise [val_main_v33, val_main_v32, val_main_v31, val_main_v30, val_main_v29, val_main_v28, val_main_cst_2, val_main_cst_3,
      val_main_v41, val_main_v40, val_main_v39, val_main_v38, val_main_v37, val_main_v36, val_main_cst_4, val_main_cst_5]
    first | exact congrArg (· * _) (s0.trans (congrArg (proj (row x) g w i0) (Fin.ext (Nat.zero_add _)))) | exact congrArg (· * _) s3

/-- The keys and values in f32, as heads. -/
theorem headed : val_main_v34 (F := Ideal) x g w = heads (row x) g w 512 (by omega) ∧ val_main_v35 (F := Ideal) x g w = heads (row x) g w 1024 (by omega)
    ∧ val_main_v42 (F := Ideal) x g w = heads (row x) g w 2048 (by omega) ∧ val_main_v43 (F := Ideal) x g w = heads (row x) g w 2560 (by omega) := by
  refine ⟨?_, ?_, ?_, ?_⟩
  all_goals
    funext i
    idx_vars i
    obtain ⟨s0, s1, s2, s3, s4, s5⟩ := slices x g w ⟨i0.val / 4096, by omega⟩ ⟨i0.val % 4096, Nat.mod_lt _ (by omega)⟩ i0 (by dsimp only; omega) ⟨i1.val * 64 + i2.val, by omega⟩
    unfold heads
    pointwise [val_main_v34, val_main_v35, val_main_v42, val_main_v43]
    first | exact s1 | exact s2 | exact s4 | exact s5

/-- The logarithms of the forget gates. -/
theorem gated : val_main_v52 (F := Ideal) x g w b = gates (row x) g w b := by
  funext i
  idx_vars i
  have e := proj_at x g w ⟨i0.val / 4096, by omega⟩ ⟨i0.val % 4096, Nat.mod_lt _ (by omega)⟩ ⟨3072 + i1.val, by omega⟩ i0 (by dsimp only; omega)
  unfold gates
  pointwise [val_main_v52, val_main_v27, val_main_call0_v1, val_main_call0_v0, val_main_call0_call0_v11, val_main_call0_call0_v10, val_main_call0_call0_v9,
    val_main_call0_call0_v8, val_main_call0_call0_v7, val_main_call0_call0_v6, val_main_call0_call0_v5, val_main_call0_call0_v4, val_main_call0_call0_v3,
    val_main_call0_call0_v2, val_main_call0_call0_v1, val_main_call0_call0_v0, val_main_call0_call0_cst, val_main_v26, val_main_v25, val_main_v24, val_main_v23, val_main_v22]
  refine (congrArg (- ·) (if_neg (fun h => h rfl))).trans ?_
  rw [e]
  exact neg_softplus _

end Cert.ProjRefIdeal.Rows
end
-- ==== Proof.ProjClaim.lean ====
module

public import proofs.«01_k».proof.Defs
public import proofs.«01_k».proof.Proof.Gen.Proj.Frame
public import proofs.«01_k».proof.Proof.ProjRef
public import proofs.«01_k».proof.Proof.Gen.ProjRefIdeal
public import Idealize.ShloMosaic.Lib.Claim

/-! The claims about the first projection's call: the runs, and the eleven results' equality. -/

@[expose] public section

set_option maxRecDepth 16384

noncomputable section

namespace Cert.Proof.Proj

open Idealize.ShloMosaic Idealize.ShloMosaic.TcCoe Idealize.SL.Sem
open Cert.ProjIdeal.Rows (query heads flat gates row)

/-- The kernel ends, and leaves its arguments as they were. -/
theorem frame_P : Cert.quiescent_Proj (hProj := Cert.Proj.Gen.facts) := fun m g _ => Cert.Proj.Gen.frame m g

/-- The ideal kernel ends, and leaves its arguments as they were. -/
theorem frame_PI : Cert.quiescent_ProjIdeal (hProjIdeal := Cert.ProjIdeal.Gen.facts) := fun m g _ => Cert.ProjIdeal.Gen.frame m g

/-- The reference ends, and leaves its arguments as they were. -/
theorem frame_RI : Cert.quiescent_ProjRefIdeal (hProjRefIdeal := Cert.ProjRefIdeal.Gen.facts) := by
  intro m g _
  refine (θ_run _ _ _).mono (fun r h => ⟨fun c => (h c).2.2.2.2.2.2.2.2.2.2.2, sem_eq_zero_of_no_sems rfl _⟩) (Cert.ProjRefIdeal.Value.run m g)

/-- The queries' factor is the f32 nearest to one over the logarithm of 256. -/
theorem preserves : Cert.preserves_Proj_ProjIdeal := IdealRules.named_const.statement Cert.ProjIdeal.κ "qscale" .f32 0x3E38AA3B#32 _ rfl

/-- The kernel ends with its result arrays holding the projection's columns: two blocks of queries, the keys and values as heads and as rows, and the gates. -/
theorem kernel_ends (m : (ℓ : Loc Cert.ProjIdeal.nD Cert.ProjIdeal.τ Cert.ProjIdeal.sig) → Buf (Elt Ideal) ℓ) (g : Dev Cert.ProjIdeal.nD → PrngReg) :
    θ_run (Cert.ProjIdeal.defs (F := Ideal)) (onTc (τ := Cert.ProjIdeal.τ) (Cert.ProjIdeal.main (F := Ideal))) ⟨m, fun _ => 0, g⟩ (fun r => ∀ c : Dev Cert.ProjIdeal.nD,
      r.2.mem ((c.tc : Thread Cert.ProjIdeal.nD Cert.ProjIdeal.τ).loc Cert.ProjIdeal.main_v14_0) = query (row (m ((c.tc : Thread Cert.ProjIdeal.nD Cert.ProjIdeal.τ).loc Cert.ProjIdeal.main_arg0))) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) 0 (by omega)
      ∧ r.2.mem ((c.tc : Thread Cert.ProjIdeal.nD Cert.ProjIdeal.τ).loc Cert.ProjIdeal.main_v14_1) = heads (row (m ((c.tc : Thread Cert.ProjIdeal.nD Cert.ProjIdeal.τ).loc Cert.ProjIdeal.main_arg0))) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) 512 (by omega)
      ∧ r.2.mem ((c.tc : Thread Cert.ProjIdeal.nD Cert.ProjIdeal.τ).loc Cert.ProjIdeal.main_v14_2) = heads (row (m ((c.tc : Thread Cert.ProjIdeal.nD Cert.ProjIdeal.τ).loc Cert.ProjIdeal.main_arg0))) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) 1024 (by omega)
      ∧ r.2.mem ((c.tc : Thread Cert.ProjIdeal.nD Cert.ProjIdeal.τ).loc Cert.ProjIdeal.main_v14_3) = query (row (m ((c.tc : Thread Cert.ProjIdeal.nD Cert.ProjIdeal.τ).loc Cert.ProjIdeal.main_arg0))) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) 1536 (by omega)
      ∧ r.2.mem ((c.tc : Thread Cert.ProjIdeal.nD Cert.ProjIdeal.τ).loc Cert.ProjIdeal.main_v14_4) = heads (row (m ((c.tc : Thread Cert.ProjIdeal.nD Cert.ProjIdeal.τ).loc Cert.ProjIdeal.main_arg0))) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) 2048 (by omega)
      ∧ r.2.mem ((c.tc : Thread Cert.ProjIdeal.nD Cert.ProjIdeal.τ).loc Cert.ProjIdeal.main_v14_5) = heads (row (m ((c.tc : Thread Cert.ProjIdeal.nD Cert.ProjIdeal.τ).loc Cert.ProjIdeal.main_arg0))) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) 2560 (by omega)
      ∧ r.2.mem ((c.tc : Thread Cert.ProjIdeal.nD Cert.ProjIdeal.τ).loc Cert.ProjIdeal.main_v14_6) = flat (row (m ((c.tc : Thread Cert.ProjIdeal.nD Cert.ProjIdeal.τ).loc Cert.ProjIdeal.main_arg0))) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) 512 (by omega)
      ∧ r.2.mem ((c.tc : Thread Cert.ProjIdeal.nD Cert.ProjIdeal.τ).loc Cert.ProjIdeal.main_v14_7) = flat (row (m ((c.tc : Thread Cert.ProjIdeal.nD Cert.ProjIdeal.τ).loc Cert.ProjIdeal.main_arg0))) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) 1024 (by omega)
      ∧ r.2.mem ((c.tc : Thread Cert.ProjIdeal.nD Cert.ProjIdeal.τ).loc Cert.ProjIdeal.main_v14_8) = flat (row (m ((c.tc : Thread Cert.ProjIdeal.nD Cert.ProjIdeal.τ).loc Cert.ProjIdeal.main_arg0))) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) 2048 (by omega)
      ∧ r.2.mem ((c.tc : Thread Cert.ProjIdeal.nD Cert.ProjIdeal.τ).loc Cert.ProjIdeal.main_v14_9) = flat (row (m ((c.tc : Thread Cert.ProjIdeal.nD Cert.ProjIdeal.τ).loc Cert.ProjIdeal.main_arg0))) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) 2560 (by omega)
      ∧ r.2.mem ((c.tc : Thread Cert.ProjIdeal.nD Cert.ProjIdeal.τ).loc Cert.ProjIdeal.main_v14_10) = gates (row (m ((c.tc : Thread Cert.ProjIdeal.nD Cert.ProjIdeal.τ).loc Cert.ProjIdeal.main_arg0))) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3))
      ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)) :=
  (θ_run _ _ _).mono (fun _ h c => by
    obtain ⟨e0, e1, e2, e3, e4, e5, e6, e7, e8, e9, e10⟩ := Cert.ProjIdeal.Rows.final m c
    exact ⟨((h c).1 5).trans e0, ((h c).1 6).trans e1, ((h c).1 7).trans e2, ((h c).1 8).trans e3, ((h c).1 9).trans e4, ((h c).1 10).trans e5,
      ((h c).1 11).trans e6, ((h c).1 12).trans e7, ((h c).1 13).trans e8, ((h c).1 14).trans e9, ((h c).1 15).trans e10,
      ((h c).2 Cert.ProjIdeal.main_arg0 (Pipeline.mem_restRefs_of Cert.ProjIdeal.main_arg0 (by decide) (by decide))).trans (Cert.ProjIdeal.Gen.V_main_arg0 m c),
      ((h c).2 Cert.ProjIdeal.main_arg1 (Pipeline.mem_restRefs_of Cert.ProjIdeal.main_arg1 (by decide) (by decide))).trans (Cert.ProjIdeal.Gen.V_main_arg1 m c),
      ((h c).2 Cert.ProjIdeal.main_arg2 (Pipeline.mem_restRefs_of Cert.ProjIdeal.main_arg2 (by decide) (by decide))).trans (Cert.ProjIdeal.Gen.V_main_arg2 m c),
      ((h c).2 Cert.ProjIdeal.main_arg3 (Pipeline.mem_restRefs_of Cert.ProjIdeal.main_arg3 (by decide) (by decide))).trans (Cert.ProjIdeal.Gen.V_main_arg3 m c)⟩)
    (Cert.ProjIdeal.Gen.run_main m g)

/-- The kernel's eleven results are the reference's, over the extended reals. -/
theorem algebraic : Cert.algebraic_ProjIdeal_ProjRefIdeal (hProjIdeal := Cert.ProjIdeal.Gen.facts) (hProjRefIdeal := Cert.ProjRefIdeal.Gen.facts) := by
  pair_intro
  · run_from kernel_ends m g
  · run_from Cert.ProjRefIdeal.Value.run m' g'
    · exact (Cert.ProjRefIdeal.Read.val_main_v33_eq _ _ _).trans (Cert.ProjRefIdeal.Rows.queries _ _ _).1
    · exact (Cert.ProjRefIdeal.Read.val_main_v34_eq _ _ _).trans (Cert.ProjRefIdeal.Rows.headed _ _ _).1
    · exact (Cert.ProjRefIdeal.Read.val_main_v35_eq _ _ _).trans (Cert.ProjRefIdeal.Rows.headed _ _ _).2.1
    · exact (Cert.ProjRefIdeal.Read.val_main_v41_eq _ _ _).trans (Cert.ProjRefIdeal.Rows.queries _ _ _).2
    · exact (Cert.ProjRefIdeal.Read.val_main_v42_eq _ _ _).trans (Cert.ProjRefIdeal.Rows.headed _ _ _).2.2.1
    · exact (Cert.ProjRefIdeal.Read.val_main_v43_eq _ _ _).trans (Cert.ProjRefIdeal.Rows.headed _ _ _).2.2.2
    · exact (Cert.ProjRefIdeal.Read.val_main_v45_eq _ _ _).trans (Cert.ProjRefIdeal.Rows.flats _ _ _).1
    · exact (Cert.ProjRefIdeal.Read.val_main_v47_eq _ _ _).trans (Cert.ProjRefIdeal.Rows.flats _ _ _).2.1
    · exact (Cert.ProjRefIdeal.Read.val_main_v49_eq _ _ _).trans (Cert.ProjRefIdeal.Rows.flats _ _ _).2.2.1
    · exact (Cert.ProjRefIdeal.Read.val_main_v51_eq _ _ _).trans (Cert.ProjRefIdeal.Rows.flats _ _ _).2.2.2
    · refine ((Cert.ProjRefIdeal.Read.val_main_v52_eq m' c).trans (Cert.ProjRefIdeal.Rows.gated _ _ _ _)).trans ?_
      rw [(hagree c).1, (hagree c).2.1, (hagree c).2.2.1, (hagree c).2.2.2]

end Cert.Proof.Proj

end
-- ==== Proof.ProjCValue.lean ====
module

public import proofs.«01_k».proof.Proof.LayerMath
public import proofs.«01_k».proof.Proof.Gen.ProjCIdeal.Frame
public import Idealize.ShloMosaic.Lib.Pipeline.Value
public import Idealize.ShloMosaic.Lib.Pipeline.ValueKit
public import Idealize.ShloMosaic.Lib.Pointwise

/-! Layer 1's projection: its five result arrays. Each of its 512-row tiles multiplies the rows' norms with the columns of
the queries, of the keys and of the values. -/

@[expose] public section

set_option maxRecDepth 16384

noncomputable section

namespace Cert.ProjCIdeal.Rows

open Cert.ProjCIdeal Cert.ProjCIdeal.Gen Idealize.ShloMosaic Idealize.ShloMosaic.TcCoe Idealize.SL.Sem Cert.Layer
open Idealize.ShloMosaic.Pipeline (Dat)

/-! ## The result arrays -/

section Spec

variable {N : ℕ} (x : FVec Ideal (⟨2, ![N, 1024]⟩ : Shape) .f32) (g : FVec Ideal S1x1024 .f32) (w : FVec Ideal S1x1024x1280 .f32)

/-- The norm of row `R` against column `C` of the weights. -/
def proj (R : Fin N) (C : Fin 1280) : EReal := ∑ d, normed (fun d => x (ix2 R d)) (fun d => g (ix2 0 d)) d * w (ix3 0 d C)

/-- The queries, an eighth of the first 1024 columns. -/
def query : FVec Ideal (⟨2, ![N, 1024]⟩ : Shape) .bf16 := fun i =>
  proj x g w (i 0) ⟨(i 1).val, by have : (i 1).val < 1024 := (i 1).isLt; omega⟩ * Ideal.ofBits FTy.f32 0x3E000000#32

/-- The 128 columns from column `a`. -/
def part (a : ℕ) (ha : a + 128 ≤ 1280) : FVec Ideal (⟨2, ![N, 128]⟩ : Shape) .f32 := fun i =>
  proj x g w (i 0) ⟨a + (i 1).val, by have : (i 1).val < 128 := (i 1).isLt; omega⟩

/-- A tile's blocks, as far as its row `r` needs them: row `R` of all rows, the gains and the weights. -/
structure Reads (xb : Vec Ideal S512x1024 .f32) (gb : Vec Ideal S1x1024 .f32) (wb : Vec Ideal S1024x1280 .bf16) (r : Fin 512) (R : Fin N) : Prop where
  row : ∀ d : Fin 1024, xb (ix2 r d) = x (ix2 R d)
  gain : ∀ d : Fin 1024, gb (ix2 0 d) = g (ix2 0 d)
  weight : ∀ (d : Fin 1024) (C : Fin 1280), wb (ix2 d C) = w (ix3 0 d C)

end Spec

/-! ## The tile's steps -/

theorem norm_at (x : Vec Ideal S512x1024 .f32) (g : Vec Ideal S1x1024 .f32) (r : Fin 512) (j : Fin 1024) :
    k0_pay2 x g (ix2 r j) = normed (fun d => x (ix2 r d)) (fun d => g (ix2 0 d)) j := by
  pointwise [k0_pay2, normed, scale]

theorem query_at (x : Vec Ideal S512x1024 .f32) (g : Vec Ideal S1x1024 .f32) (w : Vec Ideal S1024x1024 .bf16) (r : Fin 512) (j : Fin 1024) :
    k0_pay3 x g w (ix2 r j) = (∑ d, normed (fun d => x (ix2 r d)) (fun d => g (ix2 0 d)) d * w (ix2 d j)) * Ideal.ofBits FTy.f32 0x3E000000#32 := by
  pointwise [k0_pay3, norm_at]

theorem part_at (x : Vec Ideal S512x1024 .f32) (g : Vec Ideal S1x1024 .f32) (w : Vec Ideal S1024x128 .bf16) (r : Fin 512) (j : Fin 128) :
    k0_pay4 x g w (ix2 r j) = ∑ d, normed (fun d => x (ix2 r d)) (fun d => g (ix2 0 d)) d * w (ix2 d j) := by
  pointwise [k0_pay4, norm_at]

theorem inb_cols {a n : ℕ} (h : a + n ≤ 1280) (x : Fin 2) : (![0, a] : Fin 2 → ℕ) x + (![1024, n] : Fin 2 → ℕ) x ≤ S1024x1280.size x := by
  fin_cases x
  · show 0 + 1024 ≤ 1024; omega
  · exact h

/-- The `n` columns of the weights that start at column `a`. -/
def cols (X : Vec Ideal S1024x1280 .bf16) (a n : ℕ) (h : a + n ≤ 1280) : Vec Ideal (⟨2, ![1024, n]⟩ : Shape) .bf16 :=
  View.ld (Val := Elt Ideal) X (Rect.unit ![0, a] ![1024, n] (inb_cols h))

theorem cols_at (X : Vec Ideal S1024x1280 .bf16) (a n : ℕ) (h : a + n ≤ 1280) (d : Fin 1024) (f : Fin n) :
    cols X a n h (ix2 d f) = X (ix2 d ⟨a + f.val, by omega⟩) :=
  View.ld_unit_apply_of X _ _ (inb_cols h) _ _ fun x => by
    fin_cases x
    · exact (Nat.zero_add _).symm
    · rfl

section Points

variable {N : ℕ} {x : FVec Ideal (⟨2, ![N, 1024]⟩ : Shape) .f32} {g : FVec Ideal S1x1024 .f32} {w : FVec Ideal S1x1024x1280 .f32}
variable {xb : Vec Ideal S512x1024 .f32} {gb : Vec Ideal S1x1024 .f32} {wb : Vec Ideal S1024x1280 .bf16} {r : Fin 512} {R : Fin N}
variable (B : Reads x g w xb gb wb r R)
include B

/-- One column of the tile's products. -/
theorem sum_at (a n : ℕ) (h : a + n ≤ 1280) (f : Fin n) :
    ∑ d, normed (fun d => xb (ix2 r d)) (fun d => gb (ix2 0 d)) d * cols wb a n h (ix2 d f) = proj x g w R ⟨a + f.val, by omega⟩ := by
  unfold proj
  refine Finset.sum_congr rfl fun d _ => congrArg₂ (· * ·) ?_ ?_
  · exact congrFun (congrArg₂ normed (funext B.row) (funext B.gain)) d
  · rw [cols_at]
    exact B.weight d _

theorem query_point (j : Fin 1024) : k0_pay3 xb gb (cols wb 0 1024 (by omega)) (ix2 r j) = query x g w (ix2 R j) :=
  (query_at _ _ _ r j).trans (congrArg (· * _) ((sum_at B 0 1024 (by omega) j).trans (congrArg (proj _ _ _ R) (Fin.ext (Nat.zero_add _)))))

theorem part_point (a : ℕ) (h : a + 128 ≤ 1280) (j : Fin 128) : k0_pay4 xb gb (cols wb a 128 h) (ix2 r j) = part x g w a h (ix2 R j) :=
  (part_at _ _ _ r j).trans (sum_at B a 128 h j)

end Points

variable (m : (ℓ : Loc nD τ sig) → Buf (Elt Ideal) ℓ) (c : Dev nD)

/-! ## What a tile reads -/

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem gain_in : V m c main_v1 = fun i : S1x1024.Idx => m ((c : Thread nD τ).loc main_arg1) (ix2 0 (i 1)) := by
  funext i
  entry_read
  pointwise []

theorem w_in : V m c main_v3 = fun i : S1024x1280.Idx => m ((c : Thread nD τ).loc main_arg2) (ix3 0 (i 0) (i 1)) := by
  funext i
  entry_read
  pointwise []

theorem blk_x (t : Fin cfg0.N) (r : Fin 512) (j : Fin 1024) (R : Fin 65536) (hR : R.val = 512 * t.val + r.val) :
    (show FVec Ideal S512x1024 .f32 from iblk m c 0 t) (ix2 r j) = m ((c : Thread nD τ).loc main_arg0) (ix2 R j) := by
  refine Eq.trans ?_ (congrFun (V_main_arg0 m c) (ix2 R j))
  blk_ext [iblk, idx t]

theorem blk_gain (t : Fin cfg0.N) (j : Fin 1024) :
    (show FVec Ideal S1x1024 .f32 from iblk m c 1 t) (ix2 0 j) = m ((c : Thread nD τ).loc main_arg1) (ix2 0 j) := by
  refine Eq.trans ?_ (congrFun (gain_in m c) (ix2 0 j))
  blk_ext [iblk, idx t]

theorem blk_w (t : Fin cfg0.N) (d : Fin 1024) (C : Fin 1280) :
    (show FVec Ideal S1024x1280 .bf16 from iblk m c 2 t) (ix2 d C) = m ((c : Thread nD τ).loc main_arg2) (ix3 0 d C) := by
  refine Eq.trans ?_ (congrFun (w_in m c) (ix2 d C))
  blk_ext [iblk, idx t]

theorem reads (t : Fin cfg0.N) (r : Fin 512) (R : Fin 65536) (hR : R.val = 512 * t.val + r.val) :
    Reads (m ((c : Thread nD τ).loc main_arg0)) (m ((c : Thread nD τ).loc main_arg1)) (m ((c : Thread nD τ).loc main_arg2)) (iblk m c 0 t) (iblk m c 1 t) (iblk m c 2 t) r R :=
  ⟨fun d => blk_x m c t r d R hR, blk_gain m c t, blk_w m c t⟩

/-! ## What a tile leaves -/

/-- The tile's results, in the kernel's order. -/
theorem outs (t : Fin cfg0.N) :
    (dats m 0 c).after 3 t = k0_pay3 (iblk m c 0 t) (iblk m c 1 t) (cols (iblk m c 2 t) 0 1024 (by omega))
    ∧ (dats m 0 c).after 4 t = k0_pay4 (iblk m c 0 t) (iblk m c 1 t) (cols (iblk m c 2 t) 1024 128 (by omega))
    ∧ (dats m 0 c).after 5 t = k0_pay4 (iblk m c 0 t) (iblk m c 1 t) (cols (iblk m c 2 t) 1152 128 (by omega))
    ∧ (dats m 0 c).after 6 t = k0_pay4 (iblk m c 0 t) (iblk m c 1 t) (cols (iblk m c 2 t) 1024 128 (by omega))
    ∧ (dats m 0 c).after 7 t = k0_pay4 (iblk m c 0 t) (iblk m c 1 t) (cols (iblk m c 2 t) 1152 128 (by omega)) := by
  rw [after0_3, after0_4, after0_5, after0_6, after0_7]
  unfold out0_3 out0_4 out0_5 out0_6 out0_7
  refine ⟨?_, ?_, ?_, ?_, ?_⟩ <;> (frame_out; rfl)

/-- THE RESULT ARRAYS, in the kernel's order. -/
theorem final : (dats m 0 c).arrAt 3 cfg0.N = query (m ((c : Thread nD τ).loc main_arg0)) (m ((c : Thread nD τ).loc main_arg1)) (m ((c : Thread nD τ).loc main_arg2))
    ∧ (dats m 0 c).arrAt 4 cfg0.N = part (m ((c : Thread nD τ).loc main_arg0)) (m ((c : Thread nD τ).loc main_arg1)) (m ((c : Thread nD τ).loc main_arg2)) 1024 (by omega)
    ∧ (dats m 0 c).arrAt 5 cfg0.N = part (m ((c : Thread nD τ).loc main_arg0)) (m ((c : Thread nD τ).loc main_arg1)) (m ((c : Thread nD τ).loc main_arg2)) 1152 (by omega)
    ∧ (dats m 0 c).arrAt 6 cfg0.N = part (m ((c : Thread nD τ).loc main_arg0)) (m ((c : Thread nD τ).loc main_arg1)) (m ((c : Thread nD τ).loc main_arg2)) 1024 (by omega)
    ∧ (dats m 0 c).arrAt 7 cfg0.N = part (m ((c : Thread nD τ).loc main_arg0)) (m ((c : Thread nD τ).loc main_arg1)) (m ((c : Thread nD τ).loc main_arg2)) 1152 (by omega) := by
  refine ⟨?_, ?_, ?_, ?_, ?_⟩
  all_goals
    refine (dats m 0 c).arrAt_eq_of_covers _ _ (by decide +kernel) fun t _ y => ?_
    obtain ⟨o3, o4, o5, o6, o7⟩ := outs m c t
    have ht : t.val < 128 := t.isLt
    blk_simp
    simp only [o3, o4, o5, o6, o7]
    idx_vars y
    have hR : 512 * t.val + y0.val < 65536 := by omega
    first
      | refine (part_point (reads m c t y0 ⟨_, hR⟩ rfl) _ _ y1).trans (congrArg _ ?_)
      | refine (query_point (reads m c t y0 ⟨_, hR⟩ rfl) y1).trans (congrArg _ ?_)
    funext a
    fin_cases a <;> (ext; blk_simp [idx t]; first | (show 512 * t.val + y0.val = t.val * 512 + y0.val; omega) | rfl)

end Cert.ProjCIdeal.Rows
end
-- ==== Proof.ProjCRef.lean ====
module

public import proofs.«01_k».proof.Proof.ProjCValue
public import proofs.«01_k».proof.Proof.Gen.ProjCRefIdeal.Read
public import Idealize.ShloMosaic.Lib.Pointwise

/-! The plain projection of layer 1, read at one row and column of each of its results. -/

@[expose] public section

set_option maxRecDepth 16384

noncomputable section

namespace Cert.ProjCRefIdeal.Rows

open Cert.ProjCRefIdeal Cert.ProjCRefIdeal.Gen Cert.ProjCRefIdeal.Read Idealize.ShloMosaic Idealize.ShloMosaic.TcCoe Idealize.SL.Sem Cert.Layer
open Cert.ProjCIdeal.Rows (proj query part)

variable (x : FVec Ideal S65536x1024 .f32) (g : FVec Ideal S1x1024 .f32) (w : FVec Ideal S1x1024x1280 .f32)

/-- A row's norm. -/
theorem normed_at (r : Fin 65536) (j : Fin 1024) : val_main_v13 (F := Ideal) x g (ix2 r j)
    = normed (fun d => x (ix2 r d)) (fun d => g (ix2 0 d)) j := by
  unfold normed scale
  pointwise [val_main_v13, val_main_v12, val_main_v11, val_main_v10, val_main_v9, val_main_v8, val_main_v7, val_main_v6, val_main_cst_1, val_main_v5, val_main_v4, val_main_cst_0, val_main_v3, val_main_v2, val_main_cst, val_main_v1, val_main_v0]

/-- Its product with one column of the weights. -/
theorem proj_at (r : Fin 65536) (C : Fin 1280) : val_main_v15 (F := Ideal) x g w (ix2 r C) = proj x g w r C := by
  unfold proj
  pointwise [val_main_v15, val_main_v14, normed_at x g]

/-- The queries. -/
theorem queries : val_main_v21 (F := Ideal) x g w = query x g w := by
  funext i
  idx_vars i
  unfold query
  pointwise [val_main_v21, val_main_v20, val_main_v19, val_main_cst_2, val_main_v16, proj_at x g w]

/-- The keys and the values, in f32 and in bf16. -/
theorem parts : val_main_v17 (F := Ideal) x g w = part x g w 1024 (by omega) ∧ val_main_v18 (F := Ideal) x g w = part x g w 1152 (by omega)
    ∧ val_main_v22 (F := Ideal) x g w = part x g w 1024 (by omega) ∧ val_main_v23 (F := Ideal) x g w = part x g w 1152 (by omega) := by
  refine ⟨?_, ?_, ?_, ?_⟩
  all_goals
    funext i
    idx_vars i
    unfold part
    pointwise [val_main_v17, val_main_v18, val_main_v22, val_main_v23, proj_at x g w]

end Cert.ProjCRefIdeal.Rows
end
-- ==== Proof.ProjCClaim.lean ====
module

public import proofs.«01_k».proof.Defs
public import proofs.«01_k».proof.Proof.Gen.ProjC.Frame
public import proofs.«01_k».proof.Proof.ProjCRef
public import proofs.«01_k».proof.Proof.Gen.ProjCRefIdeal
public import Idealize.ShloMosaic.Lib.Claim

/-! The claims about layer 1's projection: the runs, and the five results' equality. -/

@[expose] public section

set_option maxRecDepth 16384

noncomputable section

namespace Cert.Proof.ProjC

open Idealize.ShloMosaic Idealize.ShloMosaic.TcCoe Idealize.SL.Sem
open Cert.ProjCIdeal.Rows (query part)

/-- The kernel ends, and leaves its arguments as they were. -/
theorem frame_P : Cert.quiescent_ProjC (hProjC := Cert.ProjC.Gen.facts) := fun m g _ => Cert.ProjC.Gen.frame m g

/-- The ideal kernel ends, and leaves its arguments as they were. -/
theorem frame_PI : Cert.quiescent_ProjCIdeal (hProjCIdeal := Cert.ProjCIdeal.Gen.facts) := fun m g _ => Cert.ProjCIdeal.Gen.frame m g

/-- The reference ends, and leaves its arguments as they were. -/
theorem frame_RI : Cert.quiescent_ProjCRefIdeal (hProjCRefIdeal := Cert.ProjCRefIdeal.Gen.facts) := by
  intro m g _
  refine (θ_run _ _ _).mono (fun r h => ⟨fun c => (h c).2.2.2.2.2, sem_eq_zero_of_no_sems rfl _⟩) (Cert.ProjCRefIdeal.Value.run m g)

/-- The ideal kernel is the kernel, word for word. -/
theorem preserves : Cert.preserves_ProjC_ProjCIdeal := trivial

/-- The kernel ends with its result arrays holding the queries, and the keys and values twice. -/
theorem kernel_ends (m : (ℓ : Loc Cert.ProjCIdeal.nD Cert.ProjCIdeal.τ Cert.ProjCIdeal.sig) → Buf (Elt Ideal) ℓ) (g : Dev Cert.ProjCIdeal.nD → PrngReg) :
    θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
      r.2.mem ((c.tc : Thread Cert.ProjCIdeal.nD Cert.ProjCIdeal.τ).loc Cert.ProjCIdeal.main_v4_0) = query (m ((c.tc : Thread Cert.ProjCIdeal.nD Cert.ProjCIdeal.τ).loc Cert.ProjCIdeal.main_arg0)) (m ((c.tc : Thread Cert.ProjCIdeal.nD Cert.ProjCIdeal.τ).loc Cert.ProjCIdeal.main_arg1)) (m ((c.tc : Thread Cert.ProjCIdeal.nD Cert.ProjCIdeal.τ).loc Cert.ProjCIdeal.main_arg2))
      ∧ r.2.mem ((c.tc : Thread Cert.ProjCIdeal.nD Cert.ProjCIdeal.τ).loc Cert.ProjCIdeal.main_v4_1) = part (m ((c.tc : Thread Cert.ProjCIdeal.nD Cert.ProjCIdeal.τ).loc Cert.ProjCIdeal.main_arg0)) (m ((c.tc : Thread Cert.ProjCIdeal.nD Cert.ProjCIdeal.τ).loc Cert.ProjCIdeal.main_arg1)) (m ((c.tc : Thread Cert.ProjCIdeal.nD Cert.ProjCIdeal.τ).loc Cert.ProjCIdeal.main_arg2)) 1024 (by omega)
      ∧ r.2.mem ((c.tc : Thread Cert.ProjCIdeal.nD Cert.ProjCIdeal.τ).loc Cert.ProjCIdeal.main_v4_2) = part (m ((c.tc : Thread Cert.ProjCIdeal.nD Cert.ProjCIdeal.τ).loc Cert.ProjCIdeal.main_arg0)) (m ((c.tc : Thread Cert.ProjCIdeal.nD Cert.ProjCIdeal.τ).loc Cert.ProjCIdeal.main_arg1)) (m ((c.tc : Thread Cert.ProjCIdeal.nD Cert.ProjCIdeal.τ).loc Cert.ProjCIdeal.main_arg2)) 1152 (by omega)
      ∧ r.2.mem ((c.tc : Thread Cert.ProjCIdeal.nD Cert.ProjCIdeal.τ).loc Cert.ProjCIdeal.main_v4_3) = part (m ((c.tc : Thread Cert.ProjCIdeal.nD Cert.ProjCIdeal.τ).loc Cert.ProjCIdeal.main_arg0)) (m ((c.tc : Thread Cert.ProjCIdeal.nD Cert.ProjCIdeal.τ).loc Cert.ProjCIdeal.main_arg1)) (m ((c.tc : Thread Cert.ProjCIdeal.nD Cert.ProjCIdeal.τ).loc Cert.ProjCIdeal.main_arg2)) 1024 (by omega)
      ∧ r.2.mem ((c.tc : Thread Cert.ProjCIdeal.nD Cert.ProjCIdeal.τ).loc Cert.ProjCIdeal.main_v4_4) = part (m ((c.tc : Thread Cert.ProjCIdeal.nD Cert.ProjCIdeal.τ).loc Cert.ProjCIdeal.main_arg0)) (m ((c.tc : Thread Cert.ProjCIdeal.nD Cert.ProjCIdeal.τ).loc Cert.ProjCIdeal.main_arg1)) (m ((c.tc : Thread Cert.ProjCIdeal.nD Cert.ProjCIdeal.τ).loc Cert.ProjCIdeal.main_arg2)) 1152 (by omega)
      ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
      ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2)) :=
  (θ_run _ _ _).mono (fun _ h c => by
    obtain ⟨e0, e1, e2, e3, e4⟩ := Cert.ProjCIdeal.Rows.final m c
    exact ⟨((h c).1 3).trans e0, ((h c).1 4).trans e1, ((h c).1 5).trans e2, ((h c).1 6).trans e3, ((h c).1 7).trans e4,
      ((h c).1 0).trans (((Cert.ProjCIdeal.Gen.dats m 0 c).arrAt_in 0 rfl _).trans ((Cert.ProjCIdeal.Gen.A_eq m c 0).trans (Cert.ProjCIdeal.Gen.V_main_arg0 m c))),
      ((h c).2 Cert.ProjCIdeal.main_arg1 (Pipeline.mem_restRefs_of Cert.ProjCIdeal.main_arg1 (by decide) (by decide))).trans (Cert.ProjCIdeal.Gen.V_main_arg1 m c),
      ((h c).2 Cert.ProjCIdeal.main_arg2 (Pipeline.mem_restRefs_of Cert.ProjCIdeal.main_arg2 (by decide) (by decide))).trans (Cert.ProjCIdeal.Gen.V_main_arg2 m c)⟩)
    (Cert.ProjCIdeal.Gen.run_main m g)

/-- The kernel's five results are the reference's, over the extended reals. -/
theorem algebraic : Cert.algebraic_ProjCIdeal_ProjCRefIdeal (hProjCIdeal := Cert.ProjCIdeal.Gen.facts) (hProjCRefIdeal := Cert.ProjCRefIdeal.Gen.facts) := by
  pair_intro
  · run_from kernel_ends m g
  · run_from Cert.ProjCRefIdeal.Value.run m' g'
    · exact (Cert.ProjCRefIdeal.Read.val_main_v21_eq _ _ _).trans (Cert.ProjCRefIdeal.Rows.queries _ _ _)
    · exact (Cert.ProjCRefIdeal.Read.val_main_v17_eq _ _ _).trans (Cert.ProjCRefIdeal.Rows.parts _ _ _).1
    · exact (Cert.ProjCRefIdeal.Read.val_main_v18_eq _ _ _).trans (Cert.ProjCRefIdeal.Rows.parts _ _ _).2.1
    · exact (Cert.ProjCRefIdeal.Read.val_main_v22_eq _ _ _).trans (Cert.ProjCRefIdeal.Rows.parts _ _ _).2.2.1
    · exact (Cert.ProjCRefIdeal.Read.val_main_v23_eq _ _ _).trans (Cert.ProjCRefIdeal.Rows.parts _ _ _).2.2.2

end Cert.Proof.ProjC

end
-- ==== Proof.FoxMath.lean ====
/-
  The arithmetic of the running softmax for ONE query row, on the real line and in the extended reals.

  The logits are a function `s` of the key position, in base 2. `mixed s μ v S` sums the values of the keys in `S`, each
  weighted by two to the power of its logit less `μ`; with all values one it is the weights' total. `absorb` states how a
  block of keys enters such a sum when `μ` moves; `quotient` that the sum over the total does not depend on `μ`;
  `softmax_exp` that each weight is the one the exponential in base e gives, whatever is added to all logits.
-/
module

public import Idealize.ShloMosaic.PureOps.Ideal
public import proofs.«01_k».proof.Proof.StickMath

@[expose] public section

noncomputable section

namespace Cert.Fox

open Idealize.ShloMosaic Cert.Stick

/-- The sum of the values of the keys in `S`, key `j` weighted by `2 ^ (s j - μ)`. -/
def mixed (s : ℕ → ℝ) (μ : ℝ) (v : ℕ → EReal) (S : Finset ℕ) : EReal := ∑ j ∈ S, (((2 : ℝ) ^ (s j - μ) : ℝ) : EReal) * v j

/-- Key `j`'s attention weight among the keys in `S`. -/
def share (s : ℕ → ℝ) (S : Finset ℕ) (j : ℕ) : ℝ := (2 : ℝ) ^ s j / ∑ i ∈ S, (2 : ℝ) ^ s i

/-- A factor that is a nonnegative real goes into a sum. -/
theorem mul_sum_of_nonneg {ι : Type} (x : ℝ) (hx : 0 ≤ x) (S : Finset ι) (f : ι → EReal) :
    (x : EReal) * ∑ j ∈ S, f j = ∑ j ∈ S, (x : EReal) * f j := by
  classical
  induction S using Finset.induction_on with
  | empty => simp
  | insert a S ha ih =>
    rw [Finset.sum_insert ha, Finset.sum_insert ha, EReal.left_distrib_of_nonneg_of_ne_top (EReal.coe_nonneg.mpr hx) (EReal.coe_ne_top x), ih]

/-- Moving the reference point scales the sum. -/
theorem mixed_move (s : ℕ → ℝ) (μ ν : ℝ) (v : ℕ → EReal) (S : Finset ℕ) :
    Ideal.exp2 ((μ : EReal) - (ν : EReal)) * mixed s μ v S = mixed s ν v S := by
  rw [← EReal.coe_sub, Ideal.exp2_coe]
  unfold mixed
  refine (mul_sum_of_nonneg (Real.rpow 2 (μ - ν)) (Real.rpow_nonneg (by norm_num) _) _ _).trans ?_
  refine Finset.sum_congr rfl fun j _ => ?_
  rw [← mul_assoc, ← EReal.coe_mul]
  refine congrArg (fun x : ℝ => (x : EReal) * v j) ?_
  show (2 : ℝ) ^ (μ - ν) * (2 : ℝ) ^ (s j - μ) = _
  rw [← Real.rpow_add (by norm_num)]
  congr 1; ring

/-- A sum over an interval of 512 positions as a sum over `Fin 512`. -/
theorem sum_Ico_512 {M : Type} [AddCommMonoid M] (f : ℕ → M) (a : ℕ) :
    ∑ j ∈ Finset.Ico a (a + 512), f j = ∑ k : Fin 512, f (a + k.val) := by
  rw [Finset.sum_Ico_eq_sum_range, Nat.add_sub_cancel_left, Finset.sum_range]

/-- A block of 512 keys enters the sum. -/
theorem absorb (s : ℕ → ℝ) (μ ν : ℝ) (v : ℕ → EReal) (S : Finset ℕ) (a : ℕ) (hd : Disjoint S (Finset.Ico a (a + 512))) :
    Ideal.exp2 ((μ : EReal) - (ν : EReal)) * mixed s μ v S
      + ∑ c : Fin 512, Ideal.exp2 (((s (a + c.val) : ℝ) : EReal) - (ν : EReal)) * v (a + c.val)
      = mixed s ν v (S ∪ Finset.Ico a (a + 512)) := by
  rw [mixed_move]
  unfold mixed
  rw [Finset.sum_union hd, sum_Ico_512 (fun j => (((2 : ℝ) ^ (s j - ν) : ℝ) : EReal) * v j) a]
  refine congrArg₂ (· + ·) rfl (Finset.sum_congr rfl fun c _ => ?_)
  rw [← EReal.coe_sub, Ideal.exp2_coe]
  rfl

/-- The first block, of which the row sees the keys up to position `R`. -/
theorem first (s : ℕ → ℝ) (ν : ℝ) (v : ℕ → EReal) (a R : ℕ) (hR : R < a + 512) :
    (∑ c : Fin 512, Ideal.exp2 ((if a + c.val ≤ R then ((s (a + c.val) : ℝ) : EReal) else ⊥) - (ν : EReal)) * v (a + c.val))
      = mixed s ν v (Finset.Ico a (R + 1)) := by
  have e : Finset.Ico a (R + 1) = (Finset.Ico a (a + 512)).filter (· ≤ R) := by
    ext j; simp only [Finset.mem_filter, Finset.mem_Ico]; omega
  unfold mixed
  rw [e, Finset.sum_filter, sum_Ico_512 (fun j => if j ≤ R then (((2 : ℝ) ^ (s j - ν) : ℝ) : EReal) * v j else 0) a]
  refine Finset.sum_congr rfl fun c _ => ?_
  by_cases h : a + c.val ≤ R
  · rw [if_pos h, if_pos h, ← EReal.coe_sub, Ideal.exp2_coe]; rfl
  · rw [if_neg h, if_neg h, EReal.bot_sub]
    exact zero_mul _

/-- The weights' total is a real. -/
theorem mixed_one (s : ℕ → ℝ) (μ : ℝ) (S : Finset ℕ) :
    mixed s μ (fun _ => 1) S = ((∑ j ∈ S, (2 : ℝ) ^ (s j - μ) : ℝ) : EReal) := by
  unfold mixed
  rw [coe_sum]
  exact Finset.sum_congr rfl fun j _ => mul_one _

/-- The sum over the total: the reference point cancels. -/
theorem quotient (s : ℕ → ℝ) (μ : ℝ) (v : ℕ → EReal) (S : Finset ℕ) (hS : S.Nonempty) :
    Ideal.div (mixed s μ v S) (mixed s μ (fun _ => 1) S) = ∑ j ∈ S, ((share s S j : ℝ) : EReal) * v j := by
  have hp : ∀ x : ℝ, (0 : ℝ) < 2 ^ x := fun x => Real.rpow_pos_of_pos (by norm_num) x
  have hl : (0 : ℝ) < ∑ j ∈ S, (2 : ℝ) ^ (s j - μ) := Finset.sum_pos (fun j _ => hp _) hS
  have hs : (0 : ℝ) < ∑ j ∈ S, (2 : ℝ) ^ s j := Finset.sum_pos (fun j _ => hp _) hS
  have e : (∑ j ∈ S, (2 : ℝ) ^ (s j - μ)) = (∑ j ∈ S, (2 : ℝ) ^ s j) / 2 ^ μ := by
    rw [Finset.sum_div]
    exact Finset.sum_congr rfl fun j _ => Real.rpow_sub (by norm_num) _ _
  rw [mixed_one]
  unfold Ideal.div
  rw [if_neg (EReal.coe_ne_zero.mpr hl.ne'), ← EReal.coe_inv, mul_comm]
  unfold mixed
  rw [mul_sum_of_nonneg _ (inv_nonneg.mpr hl.le)]
  refine Finset.sum_congr rfl fun j _ => ?_
  rw [← mul_assoc, ← EReal.coe_mul]
  refine congrArg (fun x : ℝ => (x : EReal) * v j) ?_
  unfold share
  rw [e, Real.rpow_sub (by norm_num)]
  have := hp μ
  field_simp

/-- The weights in base e, with `k` added to every logit and `M` taken off. -/
theorem softmax_exp (s : ℕ → ℝ) (k M : ℝ) (S : Finset ℕ) (j : ℕ) :
    Real.exp ((s j + k) * Real.log 2 - M) / ∑ i ∈ S, Real.exp ((s i + k) * Real.log 2 - M) = share s S j := by
  have e : ∀ i, Real.exp ((s i + k) * Real.log 2 - M) = (2 : ℝ) ^ s i * Real.exp (k * Real.log 2 - M) := fun i => by
    rw [Real.rpow_def_of_pos (by norm_num), ← Real.exp_add]; congr 1; ring
  unfold share
  rw [e, Finset.sum_congr rfl fun i _ => e i, ← Finset.sum_mul, mul_div_mul_right _ _ (Real.exp_pos _).ne']

/-- The largest of some extended reals below ⊤, one of them a real, is a real. -/
theorem max_real {ι : Type} (S : Finset ι) (f : ι → EReal) (i : ι) (hi : i ∈ S) (hr : f i ≠ ⊥) (ht : ∀ j ∈ S, f j ≠ ⊤) :
    ∃ μ : ℝ, S.fold max ⊥ f = (μ : EReal) := by
  have h1 : ⊥ < S.fold max ⊥ f := (Finset.lt_fold_max _).mpr (Or.inr ⟨i, hi, bot_lt_iff_ne_bot.mpr hr⟩)
  have h2 : S.fold max ⊥ f < ⊤ := (Finset.fold_max_lt _).mpr ⟨bot_lt_top, fun j hj => lt_top_iff_ne_top.mpr (ht j hj)⟩
  exact ⟨(S.fold max ⊥ f).toReal, (EReal.coe_toReal h2.ne h1.ne').symm⟩

end Cert.Fox

end
-- ==== Proof.FoxTile.lean ====
module

public import proofs.«01_k».proof.Proof.Gen.FoxIdeal.Skeleton
public import proofs.«01_k».proof.Proof.FoxMath
public import proofs.«01_k».proof.Proof.StickTile
public import Idealize.ShloMosaic.Lib.Pointwise
public import Idealize.ShloMosaic.Lib.WordCmp

/-! What one 512-key tile does to the running softmax of the forgetting kernel: the largest logit so far, the weights'
total and the accumulated mix, for the diagonal tile and for a past one. -/

@[expose] public section

set_option maxRecDepth 16384

noncomputable section

namespace Cert.FoxIdeal.Tile

open Cert.FoxIdeal Cert.FoxIdeal.Gen Cert.Fox Idealize.ShloMosaic Idealize.ShloMosaic.TcCoe Idealize.SL.Sem

/-- Comparing two small naturals as words. -/
theorem sle_nat (a b : ℕ) (ha : a < 2 ^ 31) (hb : b < 2 ^ 31) :
    IntOp.cmpi CmpIPredicate.sle (BitVec.ofNat 32 a) (BitVec.ofNat 32 b) = if a ≤ b then 1#1 else 0#1 := by
  rw [WordCmp.cmpi_sle_ofNat ha hb]
  by_cases h : a ≤ b <;> simp [h]

/-- The mask's constant stands for −∞. -/
theorem mask_bot : (Named.named (F := Ideal) κ "mask" 0xF149F2CA#32 : Ideal .f32) = (⊥ : EReal) :=
  IdealRules.named_const.ideal_named_scalar Cert.FoxIdeal.κ "mask" _ (⊥ : EReal) rfl

/-- The word a maximum starts from stands for −∞. -/
theorem bot_word : Ideal.ofBits .f32 4286578688#32 = (⊥ : EReal) := by
  simp [Ideal.ofBits, Ideal.ieee]

/-- The output picks, per lane, the row of that lane's head: the mix over the weights' total. -/
theorem picked_at (w : FVec Ideal S1024x1 .f32) (acc : Vec Ideal S1024x128 .f32) (r : Fin 512) (l : Fin 128) :
    k0_pay1 (F := Ideal) (k0_pay33 w acc) (ix3 0 r l)
      = Ideal.div (acc (ix2 ⟨512 * (l.val / 64) + r.val, by omega⟩ l)) (w (ix2 ⟨512 * (l.val / 64) + r.val, by omega⟩ 0)) := by
  pointwise [k0_pay1, k0_pay33]
  have e1 : IntOp.cmpi CmpIPredicate.slt (BitVec.ofNat 32 l.val) 64#32 = if l.val / 64 = 0 then 1#1 else 0#1 := by
    rw [Cert.SbIdeal.Tile.slt_nat _ 64 (by omega) (by omega)]
    exact if_congr (by omega) rfl rfl
  rw [e1]
  have hx : l.val / 64 = 0 ∨ l.val / 64 = 1 := by omega
  rcases hx with h | h
  · rw [if_pos h]
    refine congrArg (fun a => Ideal.div (acc (ix2 a l)) (w (ix2 a 0))) (Fin.ext ?_)
    show r.val = 512 * (l.val / 64) + r.val
    omega
  · rw [if_neg (by omega)]
    refine congrArg (fun a => Ideal.div (acc (ix2 a l)) (w (ix2 a 0))) (Fin.ext ?_)
    show 512 + r.val = 512 * (l.val / 64) + r.val
    omega

/-- The two halves of the stacked rows each take their own head's bias. -/
theorem two_heads (s : Fin 1024 → EReal) (f : Fin 2 → EReal) (r : Fin 1024) :
    (if h : r.val < 512 then s r - f 0 else s ⟨512 + (r.val - 512), by omega⟩ - f 1) = s r - f ⟨r.val / 512, by omega⟩ := by
  by_cases hr : r.val < 512
  · rw [dif_pos hr]
    exact congrArg (fun g => s r - f g) (Fin.ext (by show 0 = r.val / 512; omega))
  · rw [dif_neg hr]
    exact congrArg₂ (fun q g => s q - f g) (Fin.ext (by show 512 + (r.val - 512) = r.val; omega))
      (Fin.ext (by show 1 = r.val / 512; omega))

/-- What one tile of 512 keys holds: the logits of the 1024 stacked rows, less the keys' biases, are `z`, the values `V`,
    the keys starting at position `a`. -/
structure Holds (qs : FVec Ideal S1024x128 .bf16) (k v : Vec Ideal S1x512x128 .bf16) (ck : Fin 2 → Fin 512 → EReal)
    (z : Fin 1024 → ℕ → ℝ) (V : Fin 128 → ℕ → EReal) (a : ℕ) : Prop where
  logit : ∀ (r : Fin 1024) (c : Fin 512), (∑ x : Fin 128, qs (ix2 r x) * k (ix3 0 c x)) - ck ⟨r.val / 512, by omega⟩ c
    = ((z r (a + c.val) : ℝ) : EReal)
  value : ∀ (l : Fin 128) (c : Fin 512), v (ix3 0 c l) = V l (a + c.val)

/-- The running softmax after the keys in `S`: some reference point, the weights' total and the mix about it. -/
def Running (z : Fin 1024 → ℕ → ℝ) (V : Fin 128 → ℕ → EReal) (S : Fin 1024 → Finset ℕ) (m l : FVec Ideal S1024x1 .f32)
    (acc : Vec Ideal S1024x128 .f32) : Prop :=
  ∃ μ : Fin 1024 → ℝ, (∀ r, m (ix2 r 0) = ((μ r : ℝ) : EReal)) ∧ (∀ r, l (ix2 r 0) = mixed (z r) (μ r) (fun _ => 1) (S r))
    ∧ ∀ r x, acc (ix2 r x) = mixed (z r) (μ r) (V x) (S r)

variable {qs : FVec Ideal S1024x128 .bf16} {k v : Vec Ideal S1x512x128 .bf16} {z : Fin 1024 → ℕ → ℝ}
  {V : Fin 128 → ℕ → EReal} {a : ℕ}

section Past

variable {ck : Vec Ideal S1x1x1x2x512 .f32} (h : Holds qs k v (fun g c => ck (ix5 0 0 0 g c)) z V a)
include h

/-- A past tile's logits. -/
theorem past_logits (r : Fin 1024) (c : Fin 512) : k0_pay2 (F := Ideal) qs k ck (ix2 r c) = ((z r (a + c.val) : ℝ) : EReal) := by
  pointwise [k0_pay2]
  exact (two_heads (fun r => ∑ x : Fin 128, qs (ix2 r x) * k (ix3 0 c x)) (fun g => ck (ix5 0 0 0 g c)) r).trans (h.logit r c)

/-- A past tile's largest logit is a real. -/
theorem past_max (m : FVec Ideal S1024x1 .f32) (μ : Fin 1024 → ℝ) (hm : ∀ r, m (ix2 r 0) = ((μ r : ℝ) : EReal)) :
    ∃ ν : Fin 1024 → ℝ, ∀ r, k0_pay3 (F := Ideal) qs m k ck (ix2 r 0) = ((ν r : ℝ) : EReal) := by
  suffices hr : ∀ r, ∃ x : ℝ, k0_pay3 (F := Ideal) qs m k ck (ix2 r 0) = (x : EReal) from Classical.axiomOfChoice hr
  intro r
  pointwise [k0_pay3]
  rw [bot_word, hm]
  obtain ⟨x, hx⟩ := max_real Finset.univ (fun c : Fin 512 => k0_pay2 (F := Ideal) qs k ck (ix2 r c)) 0 (Finset.mem_univ _)
    (by rw [past_logits h]; exact EReal.coe_ne_bot _) (fun c _ => by rw [past_logits h]; exact EReal.coe_ne_top _)
  exact ⟨max (μ r) x, by rw [hx, Cert.Stick.coe_max]⟩

/-- PAST TILE: its keys enter the running softmax. -/
theorem past_step (S : Fin 1024 → Finset ℕ) (hd : ∀ r, Disjoint (S r) (Finset.Ico a (a + 512))) (m l : FVec Ideal S1024x1 .f32)
    (acc : Vec Ideal S1024x128 .f32) (hs : Running z V S m l acc) :
    Running z V (fun r => S r ∪ Finset.Ico a (a + 512)) (k0_pay3 (F := Ideal) qs m k ck)
      (k0_pay31 (k0_pay7 qs m l k ck) (k0_pay8 qs m k ck)) (k0_pay6 qs m k v ck acc) := by
  obtain ⟨μ, hm, hl, ha⟩ := hs
  obtain ⟨ν, hν⟩ := past_max h m μ hm
  refine ⟨ν, hν, fun r => ?_, fun r x => ?_⟩
  · pointwise [k0_pay31, k0_pay7, k0_pay8, k0_pay4, k0_pay5]
    rw [hm, hl, hν, ← absorb (z r) (μ r) (ν r) (fun _ => 1) (S r) a (hd r)]
    refine congrArg₂ (· + ·) rfl (Finset.sum_congr rfl fun c _ => ?_)
    rw [past_logits h, mul_one]
    rfl
  · pointwise [k0_pay6, k0_pay4, k0_pay5]
    rw [hm, ha, hν, ← absorb (z r) (μ r) (ν r) (V x) (S r) a (hd r)]
    refine congrArg₂ (· + ·) rfl (Finset.sum_congr rfl fun c _ => ?_)
    rw [past_logits h, h.value]
    rfl

end Past

section Diagonal

/-! The diagonal tile, the first one taken: it starts from −∞, a zero total and a zero accumulator. -/

variable {ck : Vec Ideal S1x1x2x512 .f32} (h : Holds qs k v (fun g c => ck (ix4 0 0 g c)) z V a)
include h

omit h in
/-- The diagonal tile's mask: a key not after the row. -/
theorem mask_at (r : Fin 1024) (c : Fin 512) : IntOp.cmpi CmpIPredicate.sle (BitVec.ofNat 32 c.val)
    (IntOp.addi 0#32 (Scalar.select (k0_pay18 (ix2 r c)) (k0_pay19 (ix2 r c)) (k0_pay17 (ix2 r c))))
      = if c.val ≤ r.val % 512 then 1#1 else 0#1 := by
  pointwise [k0_pay17, k0_pay18, k0_pay19]
  rw [Cert.SbIdeal.Tile.row_word r]
  exact sle_nat _ _ (by omega) (by omega)

/-- The diagonal tile's logits, −∞ for a key after the row. -/
theorem diag_logits (r : Fin 1024) (c : Fin 512) : k0_pay24 (F := Ideal) qs 0#32 k0_pay17 k0_pay18 k0_pay19 k ck (ix2 r c)
    = if a + c.val ≤ a + r.val % 512 then ((z r (a + c.val) : ℝ) : EReal) else ⊥ := by
  pointwise [k0_pay24]
  by_cases hc : c.val ≤ r.val % 512
  · refine (congrArg₂ (fun w b => Scalar.select w _ b) ((mask_at r c).trans (if_pos hc)) mask_bot).trans ?_
    refine Eq.trans ?_ (if_pos (by omega)).symm
    exact (two_heads (fun r => ∑ x : Fin 128, qs (ix2 r x) * k (ix3 0 c x)) (fun g => ck (ix4 0 0 g c)) r).trans (h.logit r c)
  · refine (congrArg₂ (fun w b => Scalar.select w _ b) ((mask_at r c).trans (if_neg hc)) mask_bot).trans ?_
    exact (if_neg (by omega)).symm

/-- The diagonal tile's largest logits. -/
abbrev dtop (qs : FVec Ideal S1024x128 .bf16) (k : Vec Ideal S1x512x128 .bf16) (ck : Vec Ideal S1x1x2x512 .f32) : FVec Ideal S1024x1 .f32 :=
  k0_pay25 (F := Ideal) qs 0#32 k0_pay17 k0_pay18 k0_pay19 k ck
/-- Its rescaling of the (empty) earlier state. -/
abbrev dscale (qs : FVec Ideal S1024x128 .bf16) (k : Vec Ideal S1x512x128 .bf16) (ck : Vec Ideal S1x1x2x512 .f32) : FVec Ideal S1024x1 .f32 :=
  k0_pay26 (F := Ideal) qs 0#32 k0_pay17 k0_pay18 k0_pay19 k ck
/-- Its weights. -/
abbrev dweights (qs : FVec Ideal S1024x128 .bf16) (k : Vec Ideal S1x512x128 .bf16) (ck : Vec Ideal S1x1x2x512 .f32) : FVec Ideal S1024x512 .f32 :=
  k0_pay27 (F := Ideal) qs 0#32 k0_pay17 k0_pay18 k0_pay19 k ck

/-- The diagonal tile's largest logit is a real: the row sees itself. -/
theorem diag_max : ∃ ν : Fin 1024 → ℝ, ∀ r, dtop qs k ck (ix2 r 0) = ((ν r : ℝ) : EReal) := by
  suffices hr : ∀ r, ∃ x : ℝ, dtop qs k ck (ix2 r 0) = (x : EReal) from Classical.axiomOfChoice hr
  intro r
  pointwise [dtop, k0_pay25, k0_pay21]
  rw [bot_word, mask_bot]
  obtain ⟨x, hx⟩ := max_real Finset.univ
    (fun c : Fin 512 => k0_pay24 (F := Ideal) qs 0#32 k0_pay17 k0_pay18 k0_pay19 k ck (ix2 r c)) 0 (Finset.mem_univ _)
    (by rw [diag_logits h, if_pos (by show a + 0 ≤ _; omega)]; exact EReal.coe_ne_bot _)
    (fun c _ => by
      rw [diag_logits h]
      split
      · exact EReal.coe_ne_top _
      · exact bot_ne_top)
  exact ⟨x, by rw [hx]; exact max_eq_right bot_le⟩

/-- DIAGONAL TILE: the running softmax after the keys it shows. -/
theorem diag_step : Running z V (fun r => Finset.Ico a (a + r.val % 512 + 1)) (dtop qs k ck)
    (k0_pay30 (k0_pay22 (F := Ideal)) (dscale qs k ck) (dweights qs k ck))
    (k0_pay29 (k0_pay23 v) (dweights qs k ck) (k0_pay20 (F := Ideal)) (k0_pay28 qs 0#32 k0_pay17 k0_pay18 k0_pay19 k ck)) := by
  obtain ⟨ν, hν⟩ := diag_max h
  have hν' := hν
  unfold dtop at hν'
  refine ⟨ν, hν, fun r => ?_, fun r x => ?_⟩
  · pointwise [dscale, dweights, k0_pay30, k0_pay22, k0_pay26, k0_pay27]
    rw [hν', ← first (z r) (ν r) (fun _ => 1) a (a + r.val % 512) (by omega), mul_zero, zero_add]
    refine Finset.sum_congr rfl fun c _ => ?_
    rw [diag_logits h, mul_one]
    rfl
  · pointwise [dweights, k0_pay29, k0_pay28, k0_pay23, k0_pay20, k0_pay26, k0_pay27]
    rw [hν', ← first (z r) (ν r) (V x) a (a + r.val % 512) (by omega), mul_zero, zero_add]
    refine Finset.sum_congr rfl fun c _ => ?_
    rw [diag_logits h, h.value]
    rfl

end Diagonal

end Cert.FoxIdeal.Tile

end
-- ==== Proof.FoxRun.lean ====
module

public import proofs.«01_k».proof.Proof.Gen.FoxIdeal.Frame
public import proofs.«01_k».proof.Proof.FoxTile
public import proofs.«01_k».proof.Proof.StickRun
public import Idealize.ShloMosaic.Lib.Pipeline.Value
public import Idealize.ShloMosaic.Lib.Pipeline.ValueKit

/-! One grid point of the forgetting kernel: the diagonal tile, then the loop over the past tiles from the first on. The
loop's state is the running softmax: the largest logit, the weights' total and the accumulated mix. -/

@[expose] public section

set_option maxRecDepth 16384

noncomputable section

namespace Cert.FoxIdeal.Tile

open Cert.FoxIdeal Cert.FoxIdeal.Gen Cert.Fox Idealize.ShloMosaic Idealize.ShloMosaic.TcCoe Idealize.SL.Sem
open Cert.SbIdeal.Tile (zero2 zero3 read_last read_cov_last)

theorem zero4 : (![0, 0, 0, 0] : Fin 4 → ℕ) = fun _ => 0 := by funext a; fin_cases a <;> rfl

/-- The past loop of row tile `n` makes `n` trips. -/
theorem trips_past (i : grid0.Coords) : (k0_t1_loop i).trips = (i 2).val := by
  unfold k0_t1_loop
  generalize i 2 = n
  revert n
  decide +kernel

/-- The second half of the split loop makes none. -/
theorem trips_rest (i : grid0.Coords) : (k0_t2_loop i).trips = 0 := by
  unfold k0_t2_loop
  generalize i 2 = n
  revert n
  decide +kernel

/-- Trip `k` reads tile `k`. -/
theorem past_start (i : grid0.Coords) (k : Fin (k0_t1_loop i).trips) :
    k0_off1 i k = ![0, 512 * k.val, 0] ∧ k0_off2 i k = ![0, 0, k.val, 0, 0] := by
  revert k
  unfold k0_off1 k0_off2 k0_t1_loop
  generalize i 2 = n
  revert n
  decide +kernel

/-- The diagonal tile starts at the row tile's own first row. -/
theorem diag_start (i : grid0.Coords) : kernelRun0_A.sl.v21 i = 0#32 := by
  revert i
  decide +kernel

/-- What a past trip reads of the keys (or values). -/
abbrev tile (i : grid0.Coords) (k : Fin (k0_t1_loop i).trips) (x : Vec Ideal S1x4096x128 .bf16) : Vec Ideal S1x512x128 .bf16 :=
  View.ld x (Rect.unit (s := S1x4096x128) (k0_off1 i k) S1x512x128.size (k0_off1_inb i k))

/-- What a past trip reads of the biases. -/
abbrev bias (i : grid0.Coords) (k : Fin (k0_t1_loop i).trips) (x : Vec Ideal S1x1x8x2x512 .f32) : Vec Ideal S1x1x1x2x512 .f32 :=
  View.ld x (Rect.unit (s := S1x1x8x2x512) (k0_off2 i k) S1x1x1x2x512.size (k0_off2_inb i k))

section Trip

variable (c : Dev nD) (i : grid0.Coords) (arg3 : Memref sig .tc .vmem S1x512x128 .bf16) (harg3 : arg3.IsWhole)
    (arg4 : Memref sig .tc .vmem S1x512x128 .bf16) (harg4 : arg4.IsWhole) (arg5 : Memref sig .tc .vmem S1x512x128 .bf16)
    (harg5 : arg5.IsWhole) (arg6 : Memref sig .tc .vmem S1x4096x128 .bf16) (harg6 : arg6.IsWhole)
    (arg7 : Memref sig .tc .vmem S1x4096x128 .bf16) (harg7 : arg7.IsWhole) (arg8 : Memref sig .tc .vmem S1x1x2x512 .f32)
    (harg8 : arg8.IsWhole) (arg9 : Memref sig .tc .vmem S1x1x8x2x512 .f32) (harg9 : arg9.IsWhole)
    (arg10 : Memref sig .tc .vmem S1x512x128 .bf16) (harg10 : arg10.IsWhole)
    (arg11 : Memref sig .tc .vmem S1024x128 .f32) (harg11 : arg11.IsWhole)
    (x3 x4 : Vec Ideal S1x4096x128 .bf16) (x6 : Vec Ideal S1x1x8x2x512 .f32)
    (w : BitVec 32) (qs : FVec Ideal S1024x128 .bf16) (v48 : FVec Ideal S1024x1 .f32) (v53 : FVec Ideal S512x128 .bf16)
    (v69 v71 : FVec Ideal S1024x1 .f32) (v74 : FVec Ideal S1024x512 .f32) (v75 : Vec Ideal S1024x128 .f32) (v76 : FVec Ideal S1024x128 .f32)
    (k : Fin (k0_t1_loop i).trips) (acc : FVec Ideal S1024x1 .f32 × FVec Ideal S1024x1 .f32)

theorem key_tile : View.readAt (Elt Ideal) arg6.view (Rect.unit (s := S1x4096x128) (k0_off1 i k) S1x512x128.size (k0_off1_inb i k)).toLoadRect
    (harg6.unread x3) = tile i k x3 := by
  rw [View.readAt_eq_ld, harg6.read_unread]

theorem bias_tile : View.readAt (Elt Ideal) arg9.view (Rect.unit (s := S1x1x8x2x512) (k0_off2 i k) S1x1x1x2x512.size (k0_off2_inb i k)).toLoadRect
    (harg9.unread x6) = bias i k x6 := by
  rw [View.readAt_eq_ld, harg9.read_unread]

/-- One trip's largest logit and total. -/
theorem trip_carry (f : BufTy.Contents (Elt Ideal) arg11.view.ty) :
    tripR_k0_t1 (F := Ideal) Variants.none c none i arg3 harg3 arg4 harg4 arg5 harg5 arg6 harg6 arg7 harg7 arg8 harg8 arg9 harg9 arg10 harg10 arg11 harg11 w qs v48 v53 v69 v71 v74 v75 v76 (harg6.unread x3) (harg7.unread x4) (harg9.unread x6) k acc f
      = (k0_pay3 qs acc.1 (tile i k x3) (bias i k x6),
          k0_pay31 (k0_pay7 qs acc.1 acc.2 (tile i k x3) (bias i k x6)) (k0_pay8 qs acc.1 (tile i k x3) (bias i k x6))) := by
  rw [← key_tile i arg6 harg6 x3 k, ← bias_tile i arg9 harg9 x6 k]
  unfold tripR_k0_t1 trip_k0_t1
  rfl

/-- One trip's accumulator, read back. -/
theorem trip_mix (f g : BufTy.Contents (Elt Ideal) arg11.view.ty) (L : List (View.Piece (Elt Ideal) S1024x128 .f32)) :
    arg11.view.read (Elt Ideal) (arg11.view.writes (Elt Ideal) g
        (tripL_k0_t1 (F := Ideal) Variants.none c none i arg3 harg3 arg4 harg4 arg5 harg5 arg6 harg6 arg7 harg7 arg8 harg8 arg9 harg9 arg10 harg10 arg11 harg11 w qs v48 v53 v69 v71 v74 v75 v76 (harg6.unread x3) (harg7.unread x4) (harg9.unread x6) k acc f ++ L))
      = k0_pay6 qs acc.1 (tile i k x3) (tile i k x4) (bias i k x6) (arg11.view.read (Elt Ideal) f) := by
  have e : View.readAt (Elt Ideal) arg11.view (Rect.unit (s := S1024x128) ![0, 0] S1024x128.size inb_S1024x128_S1024x128_0_0).toLoadRect f
      = arg11.view.read (Elt Ideal) f := by
    rw [View.readAt_eq_ld, View.ld_unit_zero zero2]
  rw [← key_tile i arg6 harg6 x3 k, ← key_tile i arg7 harg7 x4 k, ← bias_tile i arg9 harg9 x6 k, ← e]
  unfold tripL_k0_t1 trip_k0_t1
  dsimp only
  rw [List.cons_append, read_last _ _ zero2]
  rfl

/-- After `n` trips the first `n` tiles' keys are in the running softmax. -/
theorem past {z : Fin 1024 → ℕ → ℝ} {V : Fin 128 → ℕ → EReal} (S : Fin 1024 → Finset ℕ) (hS : ∀ r, ∀ j ∈ S r, 512 * (i 2).val ≤ j)
    (hold : ∀ k : Fin (k0_t1_loop i).trips,
      Holds qs (tile i k x3) (tile i k x4) (fun g c => bias i k x6 (ix5 0 0 0 g c)) z V (512 * k.val))
    (G : BufTy.Contents (Elt Ideal) arg11.view.ty) (init : FVec Ideal S1024x1 .f32 × FVec Ideal S1024x1 .f32)
    (h0 : Running z V S init.1 init.2 (arg11.view.read (Elt Ideal) G)) :
    ∀ n ≤ (i 2).val, Running z V (fun r => S r ∪ Finset.range (512 * n))
      (st_k0_t1 (F := Ideal) Variants.none c none i arg3 harg3 arg4 harg4 arg5 harg5 arg6 harg6 arg7 harg7 arg8 harg8 arg9 harg9 arg10 harg10 arg11 harg11 w qs v48 v53 v69 v71 v74 v75 v76 (harg6.unread x3) (harg7.unread x4) (harg9.unread x6) G init n).1.1
      (st_k0_t1 (F := Ideal) Variants.none c none i arg3 harg3 arg4 harg4 arg5 harg5 arg6 harg6 arg7 harg7 arg8 harg8 arg9 harg9 arg10 harg10 arg11 harg11 w qs v48 v53 v69 v71 v74 v75 v76 (harg6.unread x3) (harg7.unread x4) (harg9.unread x6) G init n).1.2
      (arg11.view.read (Elt Ideal) (arg11.view.writes (Elt Ideal) G
        (st_k0_t1 (F := Ideal) Variants.none c none i arg3 harg3 arg4 harg4 arg5 harg5 arg6 harg6 arg7 harg7 arg8 harg8 arg9 harg9 arg10 harg10 arg11 harg11 w qs v48 v53 v69 v71 v74 v75 v76 (harg6.unread x3) (harg7.unread x4) (harg9.unread x6) G init n).2)) := by
  intro n
  induction n with
  | zero =>
    intro _
    have e : (fun r => S r ∪ Finset.range (512 * 0)) = S := by funext r; simp
    rw [e]
    exact h0
  | succ n ih =>
    intro hn
    have h1 := ih (by omega)
    have e := st_k0_t1_succ (F := Ideal) Variants.none c none i arg3 harg3 arg4 harg4 arg5 harg5 arg6 harg6 arg7 harg7 arg8 harg8 arg9 harg9 arg10 harg10 arg11 harg11 w qs v48 v53 v69 v71 v74 v75 v76 (harg6.unread x3) (harg7.unread x4) (harg9.unread x6) G init
      ⟨n, by rw [trips_past]; omega⟩
    rw [trip_carry] at e
    have hk := hold ⟨n, by rw [trips_past]; omega⟩
    have es : (fun r => S r ∪ Finset.range (512 * (n + 1))) = fun r => (S r ∪ Finset.range (512 * n)) ∪ Finset.Ico (512 * n) (512 * n + 512) := by
      funext r
      rw [Finset.union_assoc]
      refine congrArg (S r ∪ ·) ?_
      ext j
      simp only [Finset.mem_union, Finset.mem_range, Finset.mem_Ico]
      omega
    rw [congrArg (fun p => p.1.1) e, congrArg (fun p => p.1.2) e, congrArg Prod.snd e, trip_mix, es]
    refine past_step hk _ (fun r => Finset.disjoint_left.mpr fun j hj hj' => ?_) _ _ _ h1
    have := hS r j
    simp only [Finset.mem_union, Finset.mem_range, Finset.mem_Ico] at hj hj'
    rcases hj with hj | hj
    · have := this hj; omega
    · omega

end Trip

/-- The tile of keys (or values) a trip reads, at coordinates. -/
theorem tile_at (i : grid0.Coords) (k : Fin (k0_t1_loop i).trips) (x : Vec Ideal S1x4096x128 .bf16) (r : Fin 512) (l : Fin 128)
    (hb : 512 * k.val + r.val < 4096) : tile i k x (ix3 0 r l) = x (ix3 0 ⟨512 * k.val + r.val, hb⟩ l) := by
  show x ((Rect.unit (s := S1x4096x128) (k0_off1 i k) S1x512x128.size (k0_off1_inb i k)).emb (ix3 0 r l)) = _
  refine congrArg x (funext fun a => Fin.ext ?_)
  show k0_off1 i k a + 1 * ((ix3 0 r l : S1x512x128.Idx) a).val = _
  rw [(past_start i k).1]
  fin_cases a
  · rfl
  · show 512 * k.val + 1 * r.val = _
    rw [one_mul]; rfl
  · show 0 + 1 * l.val = _
    rw [one_mul, zero_add]; rfl

/-- The tile of biases a trip reads, at coordinates. -/
theorem bias_at (i : grid0.Coords) (k : Fin (k0_t1_loop i).trips) (x : Vec Ideal S1x1x8x2x512 .f32) (g : Fin 2) (c : Fin 512)
    (hb : k.val < 8) : bias i k x (ix5 0 0 0 g c) = x (ix5 0 0 ⟨k.val, hb⟩ g c) := by
  show x ((Rect.unit (s := S1x1x8x2x512) (k0_off2 i k) S1x1x1x2x512.size (k0_off2_inb i k)).emb (ix5 0 0 0 g c)) = _
  refine congrArg x (funext fun a => Fin.ext ?_)
  show k0_off2 i k a + 1 * ((ix5 0 0 0 g c : S1x1x1x2x512.Idx) a).val = _
  rw [(past_start i k).2]
  fin_cases a
  · rfl
  · rfl
  · rfl
  · show 0 + 1 * g.val = _
    rw [one_mul, zero_add]; rfl
  · show 0 + 1 * c.val = _
    rw [one_mul, zero_add]; rfl

section Point

variable (c : Dev nD) (i : grid0.Coords) (arg3 : Memref sig .tc .vmem S1x512x128 .bf16) (harg3 : arg3.IsWhole)
    (arg4 : Memref sig .tc .vmem S1x512x128 .bf16) (harg4 : arg4.IsWhole) (arg5 : Memref sig .tc .vmem S1x512x128 .bf16)
    (harg5 : arg5.IsWhole) (arg6 : Memref sig .tc .vmem S1x4096x128 .bf16) (harg6 : arg6.IsWhole)
    (arg7 : Memref sig .tc .vmem S1x4096x128 .bf16) (harg7 : arg7.IsWhole) (arg8 : Memref sig .tc .vmem S1x1x2x512 .f32)
    (harg8 : arg8.IsWhole) (arg9 : Memref sig .tc .vmem S1x1x8x2x512 .f32) (harg9 : arg9.IsWhole)
    (arg10 : Memref sig .tc .vmem S1x512x128 .bf16) (harg10 : arg10.IsWhole)
    (arg11 : Memref sig .tc .vmem S1024x128 .f32) (harg11 : arg11.IsWhole)
    (x0 x1 x2 : Vec Ideal S1x512x128 .bf16) (x3 x4 : Vec Ideal S1x4096x128 .bf16) (x5 : Vec Ideal S1x1x2x512 .f32)
    (x6 : Vec Ideal S1x1x8x2x512 .f32)

theorem word_block (arg : Memref sig .tc .vmem S1x512x128 .bf16) (harg : arg.IsWhole) (x : Vec Ideal S1x512x128 .bf16)
    (inb : ∀ a, (![0, 0, 0] : Fin 3 → ℕ) a + S1x512x128.size a ≤ S1x512x128.size a) :
    View.readAt (Elt Ideal) arg.view (Rect.unit (s := S1x512x128) ![0, 0, 0] S1x512x128.size inb).toLoadRect (harg.unread x) = x := by
  rw [View.readAt_eq_ld, harg.read_unread, View.ld_unit_zero zero3]

theorem word_bias (inb : ∀ a, (![0, 0, 0, 0] : Fin 4 → ℕ) a + S1x1x2x512.size a ≤ S1x1x2x512.size a) :
    View.readAt (Elt Ideal) arg8.view (Rect.unit (s := S1x1x2x512) ![0, 0, 0, 0] S1x1x2x512.size inb).toLoadRect (harg8.unread x5) = x5 := by
  rw [View.readAt_eq_ld, harg8.read_unread, View.ld_unit_zero zero4]

theorem word_queries : kernelRun0_A.sl.r (F := Ideal) c arg3 harg3 x0 = k0_pay16 x0 := by
  unfold kernelRun0_A.sl.r
  rw [word_block]

theorem word_dvalues : kernelRun0_A.sl.r_1 (F := Ideal) c arg5 harg5 x2 = k0_pay23 x2 := by
  unfold kernelRun0_A.sl.r_1
  rw [word_block]

theorem word_dtop : kernelRun0_A.sl.r_2 (F := Ideal) c i arg3 harg3 arg4 harg4 arg8 harg8 x0 x1 x5 = dtop (k0_pay16 x0) x1 x5 := by
  unfold kernelRun0_A.sl.r_2
  rw [word_block, word_bias, word_queries, diag_start]

theorem word_dscale : kernelRun0_A.sl.r_3 (F := Ideal) c i arg3 harg3 arg4 harg4 arg8 harg8 x0 x1 x5 = dscale (k0_pay16 x0) x1 x5 := by
  unfold kernelRun0_A.sl.r_3
  rw [word_block, word_bias, word_queries, diag_start]

theorem word_dweights : kernelRun0_A.sl.r_4 (F := Ideal) c i arg3 harg3 arg4 harg4 arg8 harg8 x0 x1 x5 = dweights (k0_pay16 x0) x1 x5 := by
  unfold kernelRun0_A.sl.r_4
  rw [word_block, word_bias, word_queries, diag_start]

theorem word_dspread : kernelRun0_A.sl.r_5 (F := Ideal) c i arg3 harg3 arg4 harg4 arg8 harg8 x0 x1 x5
    = k0_pay28 (k0_pay16 x0) 0#32 k0_pay17 k0_pay18 k0_pay19 x1 x5 := by
  unfold kernelRun0_A.sl.r_5
  rw [word_block, word_bias, word_queries, diag_start]

theorem word_dzero : kernelRun0_A.sl.v75 (F := Ideal) c arg11 = k0_pay20 (F := Ideal) :=
  read_cov_last _ zero2 _ _ _

/-- The accumulator after the diagonal tile. -/
theorem word_dmix (f : BufTy.Contents (Elt Ideal) arg11.view.ty) :
    arg11.view.read (Elt Ideal) (arg11.view.writes (Elt Ideal) f
        (kernelRun0_A.sl.HS0_2 c i arg3 harg3 arg4 harg4 arg5 harg5 arg8 harg8 arg11 x0 x1 x2 x5))
      = k0_pay29 (k0_pay23 x2) (dweights (k0_pay16 x0) x1 x5) (k0_pay20 (F := Ideal))
          (k0_pay28 (k0_pay16 x0) 0#32 k0_pay17 k0_pay18 k0_pay19 x1 x5) := by
  rw [← word_dzero c arg11, ← word_dvalues c arg5 harg5 x2, ← word_dweights c i arg3 harg3 arg4 harg4 arg8 harg8 x0 x1 x5,
    ← word_dspread c i arg3 harg3 arg4 harg4 arg8 harg8 x0 x1 x5]
  exact read_last _ _ zero2 _ _ _

/-- The loop's state after `n` trips, from the diagonal tile's. -/
abbrev state (n : ℕ) : (FVec Ideal S1024x1 .f32 × FVec Ideal S1024x1 .f32) × List (View.Piece (Elt Ideal) S1024x128 .f32) :=
  st_k0_t1 (F := Ideal) Variants.none c none i arg3 harg3 arg4 harg4 arg5 harg5 arg6 harg6 arg7 harg7 arg8 harg8 arg9 harg9 arg10 harg10 arg11 harg11
    (BitVec.ofNat 32 (i 2).val) (kernelRun0_A.sl.r c arg3 harg3 x0) (k0_pay22 (F := Ideal)) (kernelRun0_A.sl.r_1 c arg5 harg5 x2)
    (kernelRun0_A.sl.r_2 c i arg3 harg3 arg4 harg4 arg8 harg8 x0 x1 x5) (kernelRun0_A.sl.r_3 c i arg3 harg3 arg4 harg4 arg8 harg8 x0 x1 x5)
    (kernelRun0_A.sl.r_4 c i arg3 harg3 arg4 harg4 arg8 harg8 x0 x1 x5) (kernelRun0_A.sl.v75 c arg11)
    (kernelRun0_A.sl.r_5 c i arg3 harg3 arg4 harg4 arg8 harg8 x0 x1 x5) (harg6.unread x3) (harg7.unread x4) (harg9.unread x6)
    (arg11.view.writes (Elt Ideal) arg11.view.junk (kernelRun0_A.sl.HS0_2 c i arg3 harg3 arg4 harg4 arg5 harg5 arg8 harg8 arg11 x0 x1 x2 x5))
    (kernelRun0_A.sl.r_2 c i arg3 harg3 arg4 harg4 arg8 harg8 x0 x1 x5,
      k0_pay30 (k0_pay22 (F := Ideal)) (kernelRun0_A.sl.r_3 c i arg3 harg3 arg4 harg4 arg8 harg8 x0 x1 x5)
        (kernelRun0_A.sl.r_4 c i arg3 harg3 arg4 harg4 arg8 harg8 x0 x1 x5)) n

/-- What is stored: the loop's mix over its total. -/
theorem word_last :
    kernelRun0_A.sl.r_6 (F := Ideal) c i arg3 harg3 arg4 harg4 arg5 harg5 arg6 harg6 arg7 harg7 arg8 harg8 arg9 harg9 arg10 harg10 arg11 harg11 x0 x1 x2 x3 x4 x5 x6
      = k0_pay33 (state c i arg3 harg3 arg4 harg4 arg5 harg5 arg6 harg6 arg7 harg7 arg8 harg8 arg9 harg9 arg10 harg10 arg11 harg11 x0 x1 x2 x3 x4 x5 x6 (i 2).val).1.2
          (arg11.view.read (Elt Ideal) (arg11.view.writes (Elt Ideal)
            (arg11.view.writes (Elt Ideal) arg11.view.junk (kernelRun0_A.sl.HS0_2 c i arg3 harg3 arg4 harg4 arg5 harg5 arg8 harg8 arg11 x0 x1 x2 x5))
            (state c i arg3 harg3 arg4 harg4 arg5 harg5 arg6 harg6 arg7 harg7 arg8 harg8 arg9 harg9 arg10 harg10 arg11 harg11 x0 x1 x2 x3 x4 x5 x6 (i 2).val).2)) := by
  have t1 : Scf.trips (k0_t1_loop i).lb (k0_t1_loop i).ub (k0_t1_loop i).st = (i 2).val := trips_past i
  have t2 : Scf.trips (k0_t2_loop i).lb (k0_t2_loop i).ub (k0_t2_loop i).st = 0 := trips_rest i
  unfold kernelRun0_A.sl.r_6 kernelRun0_A.sl.v114
  rw [t1, t2, ← View.writes_append]
  unfold View.readCov
  rw [View.readAt_eq_ld, View.ld_unit_zero zero2]
  rfl

/-- ONE GRID POINT: the block the kernel writes, at row `r` of the tile and lane `l`. -/
theorem out_at {z : Fin 1024 → ℕ → ℝ} {V : Fin 128 → ℕ → EReal}
    (hd : Holds (k0_pay16 x0) x1 x2 (fun g c => x5 (ix4 0 0 g c)) z V (512 * (i 2).val))
    (hold : ∀ k : Fin (k0_t1_loop i).trips,
      Holds (k0_pay16 x0) (tile i k x3) (tile i k x4) (fun g c => bias i k x6 (ix5 0 0 0 g c)) z V (512 * k.val))
    (r : Fin 512) (l : Fin 128) (n : ℕ) (hn : n = 512 * (i 2).val + r.val + 1) :
    out0_A_7 (F := Ideal) c i arg3 harg3 arg4 harg4 arg5 harg5 arg6 harg6 arg7 harg7 arg8 harg8 arg9 harg9 arg10 harg10 arg11 harg11 x0 x1 x2 x3 x4 x5 x6 (ix3 0 r l)
      = ∑ j ∈ Finset.range n, ((share (z ⟨512 * (l.val / 64) + r.val, by omega⟩) (Finset.range n) j : ℝ) : EReal) * V l j := by
  unfold out0_A_7
  rw [View.read_writes_eq_canon _ _ _ (cover0_A_7 c i arg3 harg3 arg4 harg4 arg5 harg5 arg6 harg6 arg7 harg7 arg8 harg8 arg9 harg9 arg10 harg10 arg11 harg11 x0 x1 x2 x3 x4 x5 x6)]
  unfold kernelRun0_A
  dsimp only
  rw [View.canon_unit_zero zero3, word_last]
  have h0 := diag_step hd
  rw [← word_dtop c i arg3 harg3 arg4 harg4 arg8 harg8 x0 x1 x5, ← word_dscale c i arg3 harg3 arg4 harg4 arg8 harg8 x0 x1 x5,
    ← word_dmix c i arg3 harg3 arg4 harg4 arg5 harg5 arg8 harg8 arg11 x0 x1 x2 x5 arg11.view.junk,
    ← word_dweights c i arg3 harg3 arg4 harg4 arg8 harg8 x0 x1 x5] at h0
  obtain ⟨μ, -, hl, ha⟩ := past c i arg3 harg3 arg4 harg4 arg5 harg5 arg6 harg6 arg7 harg7 arg8 harg8 arg9 harg9 arg10 harg10 arg11 harg11 x3 x4 x6 _ (kernelRun0_A.sl.r c arg3 harg3 x0) (k0_pay22 (F := Ideal)) (kernelRun0_A.sl.r_1 c arg5 harg5 x2)
    (kernelRun0_A.sl.r_2 c i arg3 harg3 arg4 harg4 arg8 harg8 x0 x1 x5) (kernelRun0_A.sl.r_3 c i arg3 harg3 arg4 harg4 arg8 harg8 x0 x1 x5)
    (kernelRun0_A.sl.r_4 c i arg3 harg3 arg4 harg4 arg8 harg8 x0 x1 x5) (kernelRun0_A.sl.v75 c arg11)
    (kernelRun0_A.sl.r_5 c i arg3 harg3 arg4 harg4 arg8 harg8 x0 x1 x5) _
    (fun r j hj => (Finset.mem_Ico.mp hj).1) (by rw [word_queries]; exact hold) _ (_, _) h0 (i 2).val le_rfl
  refine (picked_at _ _ r l).trans ?_
  refine (congrArg₂ Ideal.div (ha _ _) (hl _)).trans ((quotient _ _ _ _ ⟨512 * (i 2).val, ?_⟩).trans ?_)
  · simp
  · have es : Finset.Ico (512 * (i 2).val) (512 * (i 2).val + (512 * (l.val / 64) + r.val) % 512 + 1) ∪ Finset.range (512 * (i 2).val)
        = Finset.range n := by
      ext j
      simp only [Finset.mem_union, Finset.mem_range, Finset.mem_Ico]
      omega
    dsimp only
    rw [es]

end Point

end Cert.FoxIdeal.Tile

end
-- ==== Proof.FoxValue.lean ====
module

public import proofs.«01_k».proof.Proof.FoxRun
public import proofs.«01_k».proof.Proof.StickValue
public import proofs.«01_k».proof.Proof.Gen.FoxIdeal.Value
public import Idealize.ShloMosaic.Lib.Pointwise

/-! The forgetting kernel's result array: at batch `b`, row `R` and lane `L` it is the softmax mix of the values of the
keys up to `R`, weighted by head `L / 64`. -/

@[expose] public section

set_option maxRecDepth 16384

noncomputable section

namespace Cert.FoxIdeal.Tile

open Cert.FoxIdeal Cert.FoxIdeal.Gen Cert.Fox Idealize.ShloMosaic Idealize.ShloMosaic.TcCoe Idealize.SL.Sem
open Idealize.ShloMosaic.Pipeline (Dat)
open Cert.SbIdeal.Tile (sum_head val)

/-- The logit (to base two) of row `R` against key `j` in head `h`, the row's own bias left out. -/
def logit (q k : FVec Ideal S16x4096x512 .bf16) (c : FVec Ideal S16x4096x8 .f32) (b : Fin 16) (h : Fin 8) (R j : ℕ) : ℝ :=
  Cert.SbIdeal.Tile.logit q k b h R j - (c (ix3 b ⟨j % 4096, by omega⟩ h)).toReal

/-- The result at batch `b`, row `R`, lane `L`. -/
def spec (q k v : FVec Ideal S16x4096x512 .bf16) (c : FVec Ideal S16x4096x8 .f32) (b : Fin 16) (R : Fin 4096) (L : Fin 512) : EReal :=
  ∑ j ∈ Finset.range (R.val + 1), ((share (logit q k c b ⟨L.val / 64, by omega⟩ R.val) (Finset.range (R.val + 1)) j : ℝ) : EReal) * val v b L j

section Whole

variable (q k v : FVec Ideal S16x4096x512 .bf16) (c : FVec Ideal S16x4096x8 .f32) (hq : ∀ i, q i = ((q i).toReal : EReal))
    (hk : ∀ i, k i = ((k i).toReal : EReal)) (hc : ∀ i, c i = ((c i).toReal : EReal))
include hq hk hc

/-- Blocks that hold the rows' queries and a tile's keys, values and biases give the tile's facts. -/
theorem holds_of (b : Fin 16) (p : Fin 4) (n a : ℕ) (hn : n < 8) (ha : a + 512 ≤ 4096)
    (x0 x1 x2 : Vec Ideal S1x512x128 .bf16) (ck : Fin 2 → Fin 512 → EReal)
    (h0 : ∀ (r : Fin 512) (x : Fin 128), x0 (ix3 0 r x) = q (ix3 b ⟨512 * n + r.val, by omega⟩ ⟨128 * p.val + x.val, by omega⟩))
    (h1 : ∀ (r : Fin 512) (x : Fin 128), x1 (ix3 0 r x) = k (ix3 b ⟨a + r.val, by omega⟩ ⟨128 * p.val + x.val, by omega⟩))
    (h2 : ∀ (r : Fin 512) (x : Fin 128), x2 (ix3 0 r x) = v (ix3 b ⟨a + r.val, by omega⟩ ⟨128 * p.val + x.val, by omega⟩))
    (h3 : ∀ (g : Fin 2) (x : Fin 512), ck g x = c (ix3 b ⟨a + x.val, by omega⟩ ⟨2 * p.val + g.val, by omega⟩)) :
    Holds (k0_pay16 x0) x1 x2 ck (fun r : Fin 1024 => logit q k c b ⟨2 * p.val + r.val / 512, by omega⟩ (512 * n + r.val % 512))
      (fun l => val v b ⟨128 * p.val + l.val, by omega⟩) a where
  logit := by
    intro r x
    have e := (Cert.SbIdeal.Tile.holds_of q k v hq hk b p n a hn ha x0 x1 x2 h0 h1 h2).logit r x
    unfold logit
    rw [EReal.coe_sub, ← hc, h3]
    refine congrArg₂ (· - ·) e (congrArg c ?_)
    congr 1
    ext; dsimp only; omega
  value := (Cert.SbIdeal.Tile.holds_of q k v hq hk b p n a hn ha x0 x1 x2 h0 h1 h2).value

end Whole

variable (m : (ℓ : Loc nD τ sig) → Buf (Elt Ideal) ℓ) (c : Dev nD)

theorem idx : ∀ t : Fin cfg0.N,
    win0_0.index t = ![(grid0.coords t 0).val, (grid0.coords t 2).val, (grid0.coords t 1).val]
    ∧ win0_1.index t = ![(grid0.coords t 0).val, (grid0.coords t 2).val, (grid0.coords t 1).val]
    ∧ win0_2.index t = ![(grid0.coords t 0).val, (grid0.coords t 2).val, (grid0.coords t 1).val]
    ∧ win0_3.index t = ![(grid0.coords t 0).val, 0, (grid0.coords t 1).val]
    ∧ win0_4.index t = ![(grid0.coords t 0).val, 0, (grid0.coords t 1).val]
    ∧ win0_5.index t = ![(grid0.coords t 0).val, (grid0.coords t 1).val, 0, (grid0.coords t 2).val]
    ∧ win0_6.index t = ![(grid0.coords t 0).val, (grid0.coords t 1).val, 0, 0, 0]
    ∧ win0_7.index t = ![(grid0.coords t 0).val, (grid0.coords t 2).val, (grid0.coords t 1).val] :=
  (by decide +kernel : ∀ t : Fin grid0.N, _)

/-- The biases as the diagonal tile's window finds them: by batch, head pair, head and row. -/
theorem bias_rows : V m c main_v1 = fun i : S16x4x2x4096.Idx =>
    m ((c : Thread nD τ).loc main_arg3) (ix3 (i 0) (i 3) ⟨(i 1).val * 2 + (i 2).val, by
      have h1 : (i 1).val < 4 := (i 1).isLt
      have h2 : (i 2).val < 2 := (i 2).isLt
      omega⟩) := by
  funext i
  entry_read
  pointwise []

/-- The biases as the past tiles' window finds them: by batch, head pair, tile, head and row of the tile. -/
theorem bias_tiles : V m c main_v3 = fun i : S16x4x8x2x512.Idx =>
    m ((c : Thread nD τ).loc main_arg3) (ix3 (i 0) ⟨(i 2).val * 512 + (i 4).val, by
      have h1 : (i 2).val < 8 := (i 2).isLt
      have h2 : (i 4).val < 512 := (i 4).isLt
      omega⟩ ⟨(i 1).val * 2 + (i 3).val, by
      have h1 : (i 1).val < 4 := (i 1).isLt
      have h2 : (i 3).val < 2 := (i 3).isLt
      omega⟩) := by
  funext i
  entry_read
  pointwise []

theorem blk_q (t : Fin cfg0.N) (r : Fin 512) (x : Fin 128) (b : Fin 16) (R : Fin 4096) (L : Fin 512)
    (hb : b.val = (grid0.coords t 0).val) (hR : R.val = 512 * (grid0.coords t 2).val + r.val) (hL : L.val = 128 * (grid0.coords t 1).val + x.val) :
    (show FVec Ideal S1x512x128 .bf16 from iblk m c 0 t) (ix3 0 r x) = m ((c : Thread nD τ).loc main_arg0) (ix3 b R L) := by
  blk_ext [iblk, V, idx t]

theorem blk_kd (t : Fin cfg0.N) (r : Fin 512) (x : Fin 128) (b : Fin 16) (R : Fin 4096) (L : Fin 512)
    (hb : b.val = (grid0.coords t 0).val) (hR : R.val = 512 * (grid0.coords t 2).val + r.val) (hL : L.val = 128 * (grid0.coords t 1).val + x.val) :
    (show FVec Ideal S1x512x128 .bf16 from iblk m c 1 t) (ix3 0 r x) = m ((c : Thread nD τ).loc main_arg1) (ix3 b R L) := by
  blk_ext [iblk, V, idx t]

theorem blk_vd (t : Fin cfg0.N) (r : Fin 512) (x : Fin 128) (b : Fin 16) (R : Fin 4096) (L : Fin 512)
    (hb : b.val = (grid0.coords t 0).val) (hR : R.val = 512 * (grid0.coords t 2).val + r.val) (hL : L.val = 128 * (grid0.coords t 1).val + x.val) :
    (show FVec Ideal S1x512x128 .bf16 from iblk m c 2 t) (ix3 0 r x) = m ((c : Thread nD τ).loc main_arg2) (ix3 b R L) := by
  blk_ext [iblk, V, idx t]

theorem blk_kp (t : Fin cfg0.N) (R : Fin 4096) (x : Fin 128) (b : Fin 16) (L : Fin 512)
    (hb : b.val = (grid0.coords t 0).val) (hL : L.val = 128 * (grid0.coords t 1).val + x.val) :
    (show FVec Ideal S1x4096x128 .bf16 from iblk m c 3 t) (ix3 0 R x) = m ((c : Thread nD τ).loc main_arg1) (ix3 b R L) := by
  blk_ext [iblk, V, idx t]

theorem blk_vp (t : Fin cfg0.N) (R : Fin 4096) (x : Fin 128) (b : Fin 16) (L : Fin 512)
    (hb : b.val = (grid0.coords t 0).val) (hL : L.val = 128 * (grid0.coords t 1).val + x.val) :
    (show FVec Ideal S1x4096x128 .bf16 from iblk m c 4 t) (ix3 0 R x) = m ((c : Thread nD τ).loc main_arg2) (ix3 b R L) := by
  blk_ext [iblk, V, idx t]

theorem blk_ckd (t : Fin cfg0.N) (g : Fin 2) (x : Fin 512) (b : Fin 16) (R : Fin 4096) (h : Fin 8)
    (hb : b.val = (grid0.coords t 0).val) (hR : R.val = 512 * (grid0.coords t 2).val + x.val) (hh : h.val = 2 * (grid0.coords t 1).val + g.val) :
    (show FVec Ideal S1x1x2x512 .f32 from iblk m c 5 t) (ix4 0 0 g x) = m ((c : Thread nD τ).loc main_arg3) (ix3 b R h) := by
  have i4 : (grid0.coords t 1).val < 4 := (grid0.coords t 1).isLt
  refine Eq.trans ?_ ((congrFun (bias_rows m c) (ix4 b ⟨(grid0.coords t 1).val, i4⟩ g R)).trans ?_)
  · blk_ext [iblk, idx t]
  · refine congrArg _ ?_
    dsimp only
    congr 1
    ext; exact (by omega : (grid0.coords t 1).val * 2 + g.val = h.val)

theorem blk_ckp (t : Fin cfg0.N) (n : Fin 8) (g : Fin 2) (x : Fin 512) (b : Fin 16) (R : Fin 4096) (h : Fin 8)
    (hb : b.val = (grid0.coords t 0).val) (hR : R.val = 512 * n.val + x.val) (hh : h.val = 2 * (grid0.coords t 1).val + g.val) :
    (show FVec Ideal S1x1x8x2x512 .f32 from iblk m c 6 t) (ix5 0 0 n g x) = m ((c : Thread nD τ).loc main_arg3) (ix3 b R h) := by
  have i4 : (grid0.coords t 1).val < 4 := (grid0.coords t 1).isLt
  refine Eq.trans ?_ ((congrFun (bias_tiles m c) (ix5 b ⟨(grid0.coords t 1).val, i4⟩ n g x)).trans ?_)
  · blk_ext [iblk, idx t]
  · refine congrArg _ ?_
    dsimp only
    congr 1
    · ext; exact (by omega : n.val * 512 + x.val = R.val)
    · ext; exact (by omega : (grid0.coords t 1).val * 2 + g.val = h.val)

section Args

variable (hq : ∀ i, (m ((c : Thread nD τ).loc main_arg0) : FVec Ideal S16x4096x512 .bf16) i
      = (((m ((c : Thread nD τ).loc main_arg0) : FVec Ideal S16x4096x512 .bf16) i).toReal : EReal))
    (hk : ∀ i, (m ((c : Thread nD τ).loc main_arg1) : FVec Ideal S16x4096x512 .bf16) i
      = (((m ((c : Thread nD τ).loc main_arg1) : FVec Ideal S16x4096x512 .bf16) i).toReal : EReal))
    (hc : ∀ i, (m ((c : Thread nD τ).loc main_arg3) : FVec Ideal S16x4096x8 .f32) i
      = (((m ((c : Thread nD τ).loc main_arg3) : FVec Ideal S16x4096x8 .f32) i).toReal : EReal))
include hq hk hc

/-- What grid point `t` leaves in the output's staging buffer. -/
theorem point (t : Fin cfg0.N) (r : Fin 512) (l : Fin 128) (b : Fin 16) (R : Fin 4096) (L : Fin 512)
    (hb : b.val = (grid0.coords t 0).val) (hR : R.val = 512 * (grid0.coords t 2).val + r.val) (hL : L.val = 128 * (grid0.coords t 1).val + l.val) :
    outsAt0 (F := Ideal) m c t (ix3 0 r l) = spec (m ((c : Thread nD τ).loc main_arg0)) (m ((c : Thread nD τ).loc main_arg1))
      (m ((c : Thread nD τ).loc main_arg2)) (m ((c : Thread nD τ).loc main_arg3)) b R L := by
  have i8 : (grid0.coords t 2).val < 8 := (grid0.coords t 2).isLt
  have i4 : (grid0.coords t 1).val < 4 := (grid0.coords t 1).isLt
  unfold outsAt0
  have hd := holds_of (m ((c : Thread nD τ).loc main_arg0)) (m ((c : Thread nD τ).loc main_arg1)) (m ((c : Thread nD τ).loc main_arg2))
    (m ((c : Thread nD τ).loc main_arg3)) hq hk hc b ⟨(grid0.coords t 1).val, i4⟩ (grid0.coords t 2).val (512 * (grid0.coords t 2).val) i8 (by omega)
    (iblk m c 0 t) (iblk m c 1 t) (iblk m c 2 t) (fun g x => (show FVec Ideal S1x1x2x512 .f32 from iblk m c 5 t) (ix4 0 0 g x))
    (fun r x => blk_q m c t r x _ _ _ hb rfl rfl) (fun r x => blk_kd m c t r x _ _ _ hb rfl rfl)
    (fun r x => blk_vd m c t r x _ _ _ hb rfl rfl) (fun g x => blk_ckd m c t g x _ _ _ hb rfl rfl)
  have hp : ∀ k : Fin (k0_t1_loop (grid0.coords t)).trips, _ := fun k =>
    have hk8 : k.val < (grid0.coords t 2).val := lt_of_lt_of_eq k.isLt (trips_past _)
    holds_of (m ((c : Thread nD τ).loc main_arg0)) (m ((c : Thread nD τ).loc main_arg1)) (m ((c : Thread nD τ).loc main_arg2))
    (m ((c : Thread nD τ).loc main_arg3)) hq hk hc b ⟨(grid0.coords t 1).val, i4⟩ (grid0.coords t 2).val (512 * k.val) i8 (by omega)
    (iblk m c 0 t) (tile (grid0.coords t) k (iblk m c 3 t)) (tile (grid0.coords t) k (iblk m c 4 t))
    (fun g x => bias (grid0.coords t) k (iblk m c 6 t) (ix5 0 0 0 g x))
    (fun r x => blk_q m c t r x _ _ _ hb rfl rfl)
    (fun r x => (tile_at (grid0.coords t) k _ r x (by omega)).trans (blk_kp m c t _ x _ _ hb rfl))
    (fun r x => (tile_at (grid0.coords t) k _ r x (by omega)).trans (blk_vp m c t _ x _ _ hb rfl))
    (fun g x => (bias_at (grid0.coords t) k _ g x (by omega)).trans (blk_ckp m c t _ g x _ _ _ hb rfl rfl))
  refine (out_at c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) (iblk m c 0 t) (iblk m c 1 t) (iblk m c 2 t)
    (iblk m c 3 t) (iblk m c 4 t) (iblk m c 5 t) (iblk m c 6 t) hd hp r l (R.val + 1) (by omega)).trans ?_
  unfold spec
  have e1 : (⟨2 * (grid0.coords t 1).val + (512 * (l.val / 64) + r.val) / 512, by omega⟩ : Fin 8) = ⟨L.val / 64, by omega⟩ := by
    ext; dsimp only; omega
  have e2 : 512 * (grid0.coords t 2).val + (512 * (l.val / 64) + r.val) % 512 = R.val := by omega
  have e3 : (⟨128 * (grid0.coords t 1).val + l.val, by omega⟩ : Fin 512) = L := by ext; exact hL.symm
  dsimp only
  rw [e1, e2, e3]

/-- THE RESULT ARRAY. -/
theorem final : (dats m 0 c).arrAt 7 cfg0.N = fun j : S16x4096x512.Idx => spec (m ((c : Thread nD τ).loc main_arg0))
      (m ((c : Thread nD τ).loc main_arg1)) (m ((c : Thread nD τ).loc main_arg2)) (m ((c : Thread nD τ).loc main_arg3)) (j 0) (j 1) (j 2) := by
  refine (dats m 0 c).arrAt_eq_of_covers 7 _ (by decide +kernel) fun t _ y => ?_
  blk_simp
  rw [after0_7]
  idx_vars y
  obtain rfl : y0 = 0 := by omega
  have h0 : ((((View.whole main_v4).slice (win0_7.rect t)).emb (ix3 0 y1 y2) 0 : Fin 16) : ℕ) = (grid0.coords t 0).val := by
    blk_simp [idx t]
    omega
  have h1 : ((((View.whole main_v4).slice (win0_7.rect t)).emb (ix3 0 y1 y2) 1 : Fin 4096) : ℕ) = 512 * (grid0.coords t 2).val + y1.val := by
    blk_simp [idx t]
    omega
  have h2 : ((((View.whole main_v4).slice (win0_7.rect t)).emb (ix3 0 y1 y2) 2 : Fin 512) : ℕ) = 128 * (grid0.coords t 1).val + y2.val := by
    blk_simp [idx t]
    omega
  exact point m c hq hk hc t y1 y2 _ _ _ h0 h1 h2

end Args

end Cert.FoxIdeal.Tile

end
-- ==== Proof.FoxRef.lean ====
module

public import proofs.«01_k».proof.Proof.FoxValue
public import proofs.«01_k».proof.Proof.StickRef
public import proofs.«01_k».proof.Proof.Gen.FoxRefIdeal.Read
public import Idealize.ShloMosaic.Lib.Pointwise
public import Idealize.ShloMosaic.Lib.WordCmp

/-! The plain forgetting attention, read at one index. -/

@[expose] public section

set_option maxRecDepth 16384

noncomputable section

namespace Cert.FoxRefIdeal.Soft

open Cert.FoxRefIdeal Cert.FoxRefIdeal.Gen Cert.FoxRefIdeal.Read Cert.Fox Idealize.ShloMosaic Idealize.ShloMosaic.TcCoe Idealize.SL.Sem
open Cert.Stick (coe_sum)
open Cert.SbRefIdeal.Stick (log_two)
open Cert.FoxIdeal.Tile (logit spec sle_nat bot_word)
open Cert.SbIdeal.Tile (val)

/-- A sum over all keys of terms that vanish past row `R` is the sum over the keys up to `R`. -/
theorem sum_upto (R : Fin 4096) (f : ℕ → EReal) :
    (∑ j : Fin 4096, if j.val ≤ R.val then f j.val else 0) = ∑ j ∈ Finset.range (R.val + 1), f j := by
  rw [Fin.sum_univ_eq_sum_range (fun j => if j ≤ R.val then f j else 0) 4096, ← Finset.sum_filter]
  refine Finset.sum_congr ?_ fun _ _ => rfl
  ext j
  simp only [Finset.mem_filter, Finset.mem_range]
  omega

/-- One number per batch, head and row, repeated for every key. -/
theorem spread (Y : FVec Ideal S16x8x4096 .f32) (b : Fin 16) (h : Fin 8) (R j : Fin 4096) :
    broadcastInDim S16x8x4096x4096 ![0, 1, 2, 3] bcast_S16x8x4096x1_S16x8x4096x4096_0_1_2_3
        (broadcastInDim S16x8x4096x1 ![0, 1, 2] bcast_S16x8x4096_S16x8x4096x1_0_1_2 Y) (ix4 b h R j) = Y (ix3 b h R) := by
  pointwise []

/-- The maximum with −∞ changes nothing. -/
theorem least (Y : FVec Ideal S16x8x4096 .f32) (M : ℝ) (b : Fin 16) (h : Fin 8) (R : Fin 4096) (hM : Y (ix3 b h R) = (M : EReal)) :
    maximumf (val_main_v26 (F := Ideal)) Y (ix3 b h R) = (M : EReal) := by
  pointwise [hM, val_main_v26, val_main_cst_2]
  rw [bot_word]
  exact max_eq_right bot_le

section Arrays

variable (q k v : FVec Ideal S16x4096x512 .bf16) (c : FVec Ideal S16x4096x8 .f32) (hq : ∀ i, q i = ((q i).toReal : EReal))
    (hk : ∀ i, k i = ((k i).toReal : EReal)) (hc : ∀ i, c i = ((c i).toReal : EReal))
include hq hk hc

/-- The natural logit, the row's own bias with it. -/
theorem product (b : Fin 16) (h : Fin 8) (R j : Fin 4096) :
    val_main_v23 (F := Ideal) q k c (ix4 b h R j)
      = (((logit q k c b h R.val j.val + (c (ix3 b R h)).toReal) * Real.log 2 : ℝ) : EReal) := by
  pointwise [val_main_v23, val_main_v15, val_main_v11, val_main_v7, val_main_v10, val_main_v9, val_main_v8, val_main_v14, val_main_v13, val_main_v12, val_main_v22, val_main_v21, val_main_cst, val_main_v1, val_main_v3, val_main_v0, val_main_v2]
  rw [log_two, EReal.coe_mul]
  refine congrArg₂ (· * ·) ?_ rfl
  unfold logit Cert.SbIdeal.Tile.logit
  rw [show ∀ x y z : ℝ, x - y + z = x + z - y from fun x y z => by ring, EReal.coe_sub, EReal.coe_add, ← hc, ← hc, coe_sum]
  refine congrArg₂ (· - ·) (congrArg₂ (· + ·) (Finset.sum_congr rfl fun d _ => ?_) rfl) (congrArg c ?_)
  · rw [EReal.coe_mul, ← hq, ← hk]
    refine congrArg₂ (· * ·) (congrArg q ?_) (congrArg k ?_)
    · congr 1
      · ext; dsimp only; omega
      · ext; dsimp only; omega
    · congr 1
      · ext; dsimp only; omega
      · ext; dsimp only; omega
  · congr 1
    ext; dsimp only; omega

/-- The masked logit. -/
theorem masked (b : Fin 16) (h : Fin 8) (R j : Fin 4096) :
    val_main_v24 (F := Ideal) q k c (ix4 b h R j)
      = if j.val ≤ R.val then (((logit q k c b h R.val j.val + (c (ix3 b R h)).toReal) * Real.log 2 : ℝ) : EReal) else ⊥ := by
  pointwise [val_main_v24, product q k c hq hk hc b h R j, val_main_call0_v1, val_main_v20, val_main_v18, val_main_v16, val_main_v19, val_main_v17, val_main_v6, val_main_call0_v2, val_main_call0_v0, val_main_cst_0]
  rw [sle_nat _ _ (by omega) (by omega)]
  by_cases hj : j.val ≤ R.val
  · rw [if_pos hj, if_pos hj]; rfl
  · rw [if_neg hj, if_neg hj]; exact bot_word

/-- The row's largest logit is a real number. -/
theorem top_real (b : Fin 16) (h : Fin 8) (R : Fin 4096) :
    ∃ M : ℝ, val_main_v25 (F := Ideal) q k c (ix3 b h R) = (M : EReal) := by
  have e : val_main_v25 (F := Ideal) q k c (ix3 b h R) = (Finset.univ.filter fun i : S16x8x4096x4096.Idx =>
      reducesTo_S16x8x4096x4096_S16x8x4096_d3.drop i = ix3 b h R).fold max ⊥ (val_main_v24 (F := Ideal) q k c) := by
    rw [← bot_word]
    exact Host.reduce_eq_fold (max : EReal → EReal → EReal) (val_main_v24 (F := Ideal) q k c) (val_main_cst_1 (F := Ideal)) _ h_S_ _
  rw [e]
  refine max_real _ _ (ix4 b h R R) ?_ ?_ fun i _ => ?_
  · refine Finset.mem_filter.mpr ⟨Finset.mem_univ _, ?_⟩
    funext a
    fin_cases a <;> rfl
  · rw [masked q k c hq hk hc, if_pos le_rfl]
    exact EReal.coe_ne_bot _
  · idx_vars i
    rw [masked q k c hq hk hc]
    split
    · exact EReal.coe_ne_top _
    · exact bot_ne_top

omit hq hk hc in
theorem top_spread (b : Fin 16) (h : Fin 8) (R : Fin 4096) (M : ℝ) (hM : val_main_v25 (F := Ideal) q k c (ix3 b h R) = (M : EReal)) (j : Fin 4096) :
    val_main_v29 (F := Ideal) q k c (ix4 b h R j) = (M : EReal) := by
  unfold val_main_v29 val_main_v28 val_main_v27
  exact (spread (maximumf (val_main_v26 (F := Ideal)) (val_main_v25 (F := Ideal) q k c)) b h R j).trans (least _ M b h R hM)

/-- The exponential of a masked logit over the row's largest. -/
theorem raised (b : Fin 16) (h : Fin 8) (R : Fin 4096) (M : ℝ) (hM : val_main_v25 (F := Ideal) q k c (ix3 b h R) = (M : EReal)) (j : Fin 4096) :
    val_main_v31 (F := Ideal) q k c (ix4 b h R j)
      = if j.val ≤ R.val then ((Real.exp ((logit q k c b h R.val j.val + (c (ix3 b R h)).toReal) * Real.log 2 - M) : ℝ) : EReal) else 0 := by
  have hz := masked q k c hq hk hc b h R j
  have hd := top_spread q k c b h R M hM j
  unfold val_main_v31 val_main_v30
  generalize val_main_v24 (F := Ideal) q k c = Z at hz ⊢
  generalize val_main_v29 (F := Ideal) q k c = D at hd ⊢
  pointwise [hz, hd]
  by_cases hj : j.val ≤ R.val
  · rw [if_pos hj, if_pos hj, ← EReal.coe_sub, Ideal.exp_coe]
  · rw [if_neg hj, if_neg hj, EReal.bot_sub, Ideal.exp_bot]

/-- The row's total. -/
theorem total (b : Fin 16) (h : Fin 8) (R : Fin 4096) (M : ℝ) (hM : val_main_v25 (F := Ideal) q k c (ix3 b h R) = (M : EReal)) :
    val_main_v32 (F := Ideal) q k c (ix3 b h R)
      = ((∑ i ∈ Finset.range (R.val + 1), Real.exp ((logit q k c b h R.val i + (c (ix3 b R h)).toReal) * Real.log 2 - M) : ℝ) : EReal) := by
  have e := raised q k c hq hk hc b h R M hM
  refine (val_main_v32_apply q k c (ix3 b h R)).trans ?_
  generalize val_main_v31 (F := Ideal) q k c = E at e ⊢
  have e' : ∀ j : Fin 4096, E (idx_main_v32 (ix3 b h R) j)
      = if j.val ≤ R.val then (fun i : ℕ => ((Real.exp ((logit q k c b h R.val i + (c (ix3 b R h)).toReal) * Real.log 2 - M) : ℝ) : EReal)) j.val else 0 :=
    fun j => (congrArg E (funext fun a => by fin_cases a <;> rfl)).trans (e j)
  refine (congrArg₂ (· + ·) (Ideal.ofBits_zero .f32) ((Finset.sum_congr rfl fun j _ => e' j).trans (sum_upto R
    fun i : ℕ => ((Real.exp ((logit q k c b h R.val i + (c (ix3 b R h)).toReal) * Real.log 2 - M) : ℝ) : EReal)))).trans ?_
  rw [coe_sum]
  exact zero_add _

/-- The softmax's weights. -/
theorem weighted (b : Fin 16) (h : Fin 8) (R j : Fin 4096) :
    val_main_v35 (F := Ideal) q k c (ix4 b h R j)
      = if j.val ≤ R.val then ((share (logit q k c b h R.val) (Finset.range (R.val + 1)) j.val : ℝ) : EReal) else 0 := by
  obtain ⟨M, hM⟩ := top_real q k c hq hk hc b h R
  have hp : (0 : ℝ) < ∑ i ∈ Finset.range (R.val + 1), Real.exp ((logit q k c b h R.val i + (c (ix3 b R h)).toReal) * Real.log 2 - M) :=
    Finset.sum_pos (fun _ _ => Real.exp_pos _) ⟨0, by simp⟩
  have e := raised q k c hq hk hc b h R M hM j
  have t := total q k c hq hk hc b h R M hM
  unfold val_main_v35 val_main_v34 val_main_v33
  generalize val_main_v31 (F := Ideal) q k c = E at e ⊢
  generalize val_main_v32 (F := Ideal) q k c = T at t ⊢
  pointwise [e, t]
  rw [Ideal.div_coe hp.ne']
  by_cases hj : j.val ≤ R.val
  · rw [if_pos hj, if_pos hj, ← EReal.coe_mul, ← div_eq_mul_one_div, softmax_exp]
  · rw [if_neg hj, if_neg hj]
    exact zero_mul _

/-- THE REFERENCE AT AN INDEX. -/
theorem value_at (b : Fin 16) (R : Fin 4096) (L : Fin 512) :
    val_main_v39 (F := Ideal) q k v c (ix3 b R L) = spec q k v c b R L := by
  pointwise [val_main_v39, val_main_v38, val_main_v37, val_main_v36, val_main_v5, val_main_v4]
  unfold spec
  rw [← sum_upto R (fun s => ((share (logit q k c b ⟨L.val / 64, by omega⟩ R.val) (Finset.range (R.val + 1)) s : ℝ) : EReal) * val v b L s)]
  refine Finset.sum_congr rfl fun s _ => ?_
  rw [weighted q k c hq hk hc, mul_comm]
  by_cases hs : s.val ≤ R.val
  · rw [if_pos hs, if_pos hs]
    unfold val
    congr 3
    ext; dsimp only; omega
  · rw [if_neg hs, if_neg hs]
    exact zero_mul _

end Arrays

end Cert.FoxRefIdeal.Soft

end
-- ==== Proof.FoxClaim.lean ====
module

public import proofs.«01_k».proof.Defs
public import proofs.«01_k».proof.Proof.FoxRef
public import proofs.«01_k».proof.Proof.SbClaim
public import proofs.«01_k».proof.Proof.Gen.Fox.Frame
public import proofs.«01_k».proof.Proof.Gen.Fox
public import proofs.«01_k».proof.Proof.Gen.FoxIdeal
public import proofs.«01_k».proof.Proof.Gen.FoxRefIdeal
public import proofs.«01_k».proof.Proof.Gen.Pre_finite_qkc
public import Idealize.ShloMosaic.Lib.Claim

/-! The claims about the forgetting attention call. -/

@[expose] public section

set_option maxRecDepth 16384

noncomputable section

namespace Cert.Proof.Fox

open Idealize.ShloMosaic Idealize.ShloMosaic.TcCoe Idealize.SL.Sem

/-- The kernel, over words: it ends, leaves its arguments as they were and its counters at zero. -/
theorem frame_P : Cert.quiescent_Fox (hFox := Cert.Fox.Gen.facts) :=
  fun m g _ => Cert.Fox.Gen.frame m g

/-- The kernel, over the extended reals, likewise. -/
theorem frame_PI : Cert.quiescent_FoxIdeal (hFoxIdeal := Cert.FoxIdeal.Gen.facts) :=
  fun m g _ => Cert.FoxIdeal.Gen.frame m g

/-- The same under the claim's precondition. -/
theorem frame_PI_pre : Cert.quiescent_FoxIdeal_pre_finite_qkc (hFoxIdeal := Cert.FoxIdeal.Gen.facts) (hPre_finite_qkc := Cert.Pre_finite_qkc.Gen.facts) :=
  fun m g _ => frame_PI m g trivial

/-- The reference ends, and leaves its arguments as they were. -/
theorem frame_RI : Cert.quiescent_FoxRefIdeal (hFoxRefIdeal := Cert.FoxRefIdeal.Gen.facts) := by
  intro m g _
  refine (θ_run _ _ _).mono (fun r h => ⟨fun c => (h c).2, sem_eq_zero_of_no_sems rfl _⟩) (Cert.FoxRefIdeal.Value.run m g)

/-- The same under the claim's precondition. -/
theorem frame_RI_pre : Cert.quiescent_FoxRefIdeal_pre_finite_qkc (hFoxRefIdeal := Cert.FoxRefIdeal.Gen.facts) (hPre_finite_qkc := Cert.Pre_finite_qkc.Gen.facts) :=
  fun m g _ => frame_RI m g trivial

/-- The ideal kernel differs from the kernel by one name, that of the mask's number, which stands for −∞. -/
theorem preserves : Cert.preserves_Fox_FoxIdeal :=
  IdealRules.named_const.statement Cert.FoxIdeal.κ "mask" .f32 0xF149F2CA#32 _ rfl

/-- The first half of the precondition says that every query and every key is a real number. -/
theorem finite {q k v : FVec Ideal Cert.FoxIdeal.S16x4096x512 .bf16} {c : FVec Ideal Cert.FoxIdeal.S16x4096x8 .f32}
    (h : (@Cert.Pre_finite_qkc.fn Cert.Pre_finite_qkc.Gen.facts Ideal _ q k v c).1 = fun _ => 1#1) (i : Cert.FoxIdeal.S16x4096x512.Idx) :
    q i = ((q i).toReal : EReal) ∧ k i = ((k i).toReal : EReal) := by
  have e := congrFun h i
  pointwise [Cert.Pre_finite_qkc.fn] at e
  obtain ⟨hq, hk⟩ := Sb.both e
  have hq := of_decide_eq_true hq
  have hk := of_decide_eq_true hk
  rw [Sb.top_word] at hq hk
  exact ⟨Sb.finite_of _ hq, Sb.finite_of _ hk⟩

/-- The other half says that every bias is a real number. -/
theorem finite_bias {q k v : FVec Ideal Cert.FoxIdeal.S16x4096x512 .bf16} {c : FVec Ideal Cert.FoxIdeal.S16x4096x8 .f32}
    (h : (@Cert.Pre_finite_qkc.fn Cert.Pre_finite_qkc.Gen.facts Ideal _ q k v c).2 = fun _ => 1#1) (i : Cert.FoxIdeal.S16x4096x8.Idx) :
    c i = ((c i).toReal : EReal) := by
  have e := congrFun h i
  pointwise [Cert.Pre_finite_qkc.fn] at e
  have bit : ∀ x : Bool, BitVec.ofBool x = 1#1 → x = true := by decide
  have hc := of_decide_eq_true (bit _ e)
  rw [Sb.top_word] at hc
  exact Sb.finite_of _ hc

/-- The kernel's attention is the reference's, over the extended reals, where queries, keys and biases are real numbers. -/
theorem algebraic : Cert.algebraic_FoxIdeal_FoxRefIdeal_pre_finite_qkc (hFoxIdeal := Cert.FoxIdeal.Gen.facts) (hFoxRefIdeal := Cert.FoxRefIdeal.Gen.facts) (hPre_finite_qkc := Cert.Pre_finite_qkc.Gen.facts) := by
  pair_intro
  · run_from Cert.FoxIdeal.Value.run_blocks m g
  · run_from Cert.FoxRefIdeal.Value.run m' g'
    obtain ⟨h0, h1, h2, h3⟩ := hagree c
    have hq := fun i => (finite (hpre c).1 i).1
    have hk := fun i => (finite (hpre c).1 i).2
    have hc := finite_bias (hpre c).2
    rw [Cert.FoxRefIdeal.Read.val_main_v39_eq, h0, h1, h2, h3]
    refine Eq.trans ?_ (Cert.FoxIdeal.Tile.final m c hq hk hc).symm
    funext j
    idx_vars j
    exact Cert.FoxRefIdeal.Soft.value_at _ _ _ _ hq hk hc _ _ _

end Cert.Proof.Fox

end
-- ==== Proof.CombineValue.lean ====
module

public import proofs.«01_k».proof.Proof.LayerMath
public import proofs.«01_k».proof.Proof.Gen.CombineIdeal.Value
public import Idealize.ShloMosaic.Lib.Pipeline.Value
public import Idealize.ShloMosaic.Lib.Pipeline.ValueKit
public import Idealize.ShloMosaic.Lib.Pointwise

/-! The combination's result array: every row is the norm of the residual stream plus its two experts' rows, each times
its gate. -/

@[expose] public section

set_option maxRecDepth 16384

noncomputable section

namespace Cert.CombineIdeal.Rows

open Cert.CombineIdeal Cert.CombineIdeal.Gen Idealize.ShloMosaic Idealize.ShloMosaic.TcCoe Idealize.SL.Sem Cert.Layer
open Idealize.ShloMosaic.Pipeline (Dat)

/-! ## The tile -/

/-- Chunk `q` of four, loaded from a tile. -/
theorem load_at (x : Vec Ideal S4x1024x256 .f32) (q : Fin 4) (h : ∀ a, (![q.val, 0, 0] : Fin 3 → ℕ) a + S1x1024x256.size a ≤ S4x1024x256.size a) (r : Fin 1024) (k : Fin 256) :
    View.ld (Val := Elt Ideal) x (Rect.unit (s := S4x1024x256) ![q.val, 0, 0] S1x1024x256.size h) (ix3 0 r k) = x (ix3 q r k) :=
  View.ld_unit_apply_of x _ _ _ _ _ fun a => by
    fin_cases a
    · rfl
    · exact (Nat.zero_add _).symm
    · exact (Nat.zero_add _).symm

/-- Four chunks side by side, read at a column. -/
theorem joined (x : Vec Ideal S4x1024x256 .f32) (a : Fin 4 → Vec Ideal S1x1024x256 .f32) (e : ∀ q r k, a q (ix3 0 r k) = x (ix3 q r k)) (r j : Fin 1024) :
    (if h : j.val < 256 then a 0 (ix3 0 r ⟨j.val, h⟩) else if h : j.val - 256 < 256 then a 1 (ix3 0 r ⟨j.val - 256, h⟩)
      else if h : j.val - 256 - 256 < 256 then a 2 (ix3 0 r ⟨j.val - 256 - 256, h⟩) else a 3 (ix3 0 r ⟨j.val - 256 - 256 - 256, by omega⟩))
      = x (ix3 ⟨j.val / 256, by omega⟩ r ⟨j.val % 256, by omega⟩) := by
  have pick : ∀ (q : Fin 4) (k : Fin 256), j.val = 256 * q.val + k.val → a q (ix3 0 r k) = x (ix3 ⟨j.val / 256, by omega⟩ r ⟨j.val % 256, by omega⟩) := fun q k h => by
    have hq : q.val = j.val / 256 := by omega
    have hk : k.val = j.val % 256 := by omega
    exact (e q r k).trans (congrArg₂ (fun q k => x (ix3 q r k)) (Fin.ext hq) (Fin.ext hk))
  split_ifs
  · exact pick 0 _ (by dsimp; omega)
  · exact pick 1 _ (by dsimp; omega)
  · exact pick 2 _ (by dsimp; omega)
  · exact pick 3 _ (by dsimp; omega)

section Tile

variable (x y : Vec Ideal S4x1024x256 .f32) (v : Vec Ideal S1024x1024 .f32) (g : Vec Ideal S1024x128 .f32)

/-- Row `r` of the residual stream with its two experts' rows. -/
def mixed (r : Fin 1024) (j : Fin 1024) : EReal :=
  v (ix2 r j) + (x (ix3 ⟨j.val / 256, by omega⟩ r ⟨j.val % 256, by omega⟩) * g (ix2 r 2) + y (ix3 ⟨j.val / 256, by omega⟩ r ⟨j.val % 256, by omega⟩) * g (ix2 r 3))

/-- A tile's chunks, as the body loads them. -/
def chunks (x : Vec Ideal S4x1024x256 .f32) : Fin 4 → Vec Ideal S1x1024x256 .f32
  | 0 => View.ld x r0_2
  | 1 => View.ld x r0_3
  | 2 => View.ld x r0_4
  | 3 => View.ld x r0_5

theorem chunks_at (x : Vec Ideal S4x1024x256 .f32) (q : Fin 4) (r : Fin 1024) (k : Fin 256) : chunks x q (ix3 0 r k) = x (ix3 q r k) :=
  match q with
  | 0 => load_at x 0 inb_S4x1024x256_S1x1024x256_0_0_0 r k
  | 1 => load_at x 1 inb_S4x1024x256_S1x1024x256_1_0_0 r k
  | 2 => load_at x 2 inb_S4x1024x256_S1x1024x256_2_0_0 r k
  | 3 => load_at x 3 inb_S4x1024x256_S1x1024x256_3_0_0 r k

theorem mixed_at (r j : Fin 1024) :
    k0_pay2 g v (chunks x 0) (chunks x 1) (chunks x 2) (chunks x 3) (chunks y 0) (chunks y 1) (chunks y 2) (chunks y 3) (ix2 r j) = mixed x y v g r j := by
  unfold mixed
  rw [← joined x (chunks x) (chunks_at x), ← joined y (chunks y) (chunks_at y)]
  generalize chunks x = a
  generalize chunks y = b
  pointwise [k0_pay2]

/-- The norm of the tile's rows. -/
theorem norm_at (h : FVec Ideal S1024x1024 .f32) (w : Vec Ideal S1x1024 .f32) (r j : Fin 1024) :
    k0_pay1 h w (ix2 r j) = normed (fun d => h (ix2 r d)) (fun d => w (ix2 0 d)) j := by
  pointwise [k0_pay1, normed, scale]

end Tile

/-! ## The result array -/

section Spec

variable {N M : ℕ} (hM : M = N + N) (x0 : FVec Ideal (⟨3, ![4, M, 256]⟩ : Shape) .f32) (x1 : FVec Ideal (⟨2, ![N, 1024]⟩ : Shape) .f32)
variable (x2 : FVec Ideal (⟨2, ![N, 128]⟩ : Shape) .f32) (x3 : FVec Ideal S1024 .f32)

/-- Token `R`'s residual stream with its two experts' rows, each times its gate. -/
def stream (R : Fin N) (j : Fin 1024) : EReal :=
  x1 (ix2 R j) + (x0 (ix3 ⟨j.val / 256, by omega⟩ ⟨R.val, by omega⟩ ⟨j.val % 256, by omega⟩) * x2 (ix2 R 2)
    + x0 (ix3 ⟨j.val / 256, by omega⟩ ⟨N + R.val, by omega⟩ ⟨j.val % 256, by omega⟩) * x2 (ix2 R 3))

/-- Its norm. -/
def spec (R : Fin N) (j : Fin 1024) : EReal := normed (stream hM x0 x1 x2 R) (fun d => x3 (ix1 d)) j

/-- A tile's blocks, as far as its row `r` needs them: token `R`'s two experts' rows, residual stream and gates, and the gains. -/
structure Reads (a b : Vec Ideal S4x1024x256 .f32) (xb : Vec Ideal S1024x1024 .f32) (rb : Vec Ideal S1024x128 .f32) (gb : Vec Ideal S1x1024 .f32)
    (r : Fin 1024) (R : Fin N) : Prop where
  first : ∀ (q : Fin 4) (k : Fin 256), a (ix3 q r k) = x0 (ix3 q ⟨R.val, by omega⟩ k)
  second : ∀ (q : Fin 4) (k : Fin 256), b (ix3 q r k) = x0 (ix3 q ⟨N + R.val, by omega⟩ k)
  row : ∀ d : Fin 1024, xb (ix2 r d) = x1 (ix2 R d)
  gate : ∀ l : Fin 128, rb (ix2 r l) = x2 (ix2 R l)
  gain : ∀ d : Fin 1024, gb (ix2 0 d) = x3 (ix1 d)

/-- What a tile's blocks make of row `r`. -/
theorem tile_at {a b : Vec Ideal S4x1024x256 .f32} {xb : Vec Ideal S1024x1024 .f32} {rb : Vec Ideal S1024x128 .f32} {gb : Vec Ideal S1x1024 .f32}
    {r : Fin 1024} {R : Fin N} (B : Reads hM x0 x1 x2 x3 a b xb rb gb r R) (j : Fin 1024) :
    k0_pay1 (k0_pay2 rb xb (chunks a 0) (chunks a 1) (chunks a 2) (chunks a 3) (chunks b 0) (chunks b 1) (chunks b 2) (chunks b 3)) gb (ix2 r j)
      = spec hM x0 x1 x2 x3 R j := by
  refine (norm_at _ _ r j).trans (congrFun (congrArg₂ normed (funext fun d => (mixed_at _ _ _ _ r d).trans ?_) (funext B.gain)) j)
  exact congrArg₂ (· + ·) (B.row d) (congrArg₂ (· + ·) (congrArg₂ (· * ·) (B.first _ _) (B.gate 2)) (congrArg₂ (· * ·) (B.second _ _) (B.gate 3)))

end Spec

variable (m : (ℓ : Loc nD τ sig) → Buf (Elt Ideal) ℓ) (c : Dev nD)

theorem idx : ∀ t : Fin cfg0.N, win0_0.index t = ![0, t.val, 0] ∧ win0_1.index t = ![0, t.val + 64, 0] ∧ win0_2.index t = ![t.val, 0]
    ∧ win0_3.index t = ![t.val, 0] ∧ win0_4.index t = ![0, 0] ∧ win0_5.index t = ![t.val, 0] :=
  (by decide +kernel : ∀ t : Fin grid0.N, _)

theorem gain_in : V m c main_v0 = fun i : S1x1024.Idx => m ((c : Thread nD τ).loc main_arg3) (ix1 (i 1)) := by
  funext i
  entry_read
  pointwise []

theorem blk_first (t : Fin cfg0.N) (q : Fin 4) (r : Fin 1024) (k : Fin 256) (R : Fin 131072) (hR : R.val = 1024 * t.val + r.val) :
    (show FVec Ideal S4x1024x256 .f32 from iblk m c 0 t) (ix3 q r k) = m ((c : Thread nD τ).loc main_arg0) (ix3 q R k) := by
  blk_ext [iblk, V, idx t]

theorem blk_second (t : Fin cfg0.N) (q : Fin 4) (r : Fin 1024) (k : Fin 256) (R : Fin 131072) (hR : R.val = 65536 + (1024 * t.val + r.val)) :
    (show FVec Ideal S4x1024x256 .f32 from iblk m c 1 t) (ix3 q r k) = m ((c : Thread nD τ).loc main_arg0) (ix3 q R k) := by
  blk_ext [iblk, V, idx t]

theorem blk_x (t : Fin cfg0.N) (r j : Fin 1024) (R : Fin 65536) (hR : R.val = 1024 * t.val + r.val) :
    (show FVec Ideal S1024x1024 .f32 from iblk m c 2 t) (ix2 r j) = m ((c : Thread nD τ).loc main_arg1) (ix2 R j) := by
  blk_ext [iblk, V, idx t]

theorem blk_gate (t : Fin cfg0.N) (r : Fin 1024) (j : Fin 128) (R : Fin 65536) (hR : R.val = 1024 * t.val + r.val) :
    (show FVec Ideal S1024x128 .f32 from iblk m c 3 t) (ix2 r j) = m ((c : Thread nD τ).loc main_arg2) (ix2 R j) := by
  blk_ext [iblk, V, idx t]

theorem blk_gain (t : Fin cfg0.N) (j : Fin 1024) :
    (show FVec Ideal S1x1024 .f32 from iblk m c 4 t) (ix2 0 j) = m ((c : Thread nD τ).loc main_arg3) (ix1 j) := by
  refine Eq.trans ?_ (congrFun (gain_in m c) (ix2 0 j))
  blk_ext [iblk, idx t]

/-- What a grid point leaves, from its blocks. -/
theorem out_tile (t : Fin cfg0.N) : (dats m 0 c).after 5 t
    = k0_pay1 (k0_pay2 (iblk m c 3 t) (iblk m c 2 t) (chunks (iblk m c 0 t) 0) (chunks (iblk m c 0 t) 1) (chunks (iblk m c 0 t) 2) (chunks (iblk m c 0 t) 3)
      (chunks (iblk m c 1 t) 0) (chunks (iblk m c 1 t) 1) (chunks (iblk m c 1 t) 2) (chunks (iblk m c 1 t) 3)) (iblk m c 4 t) := by
  rw [after0_5]
  unfold out0_5
  frame_out
  rfl

/-- What grid point `t` leaves at a row and a column of its tile. -/
theorem point (t : Fin cfg0.N) (r j : Fin 1024) (R : Fin 65536) (hR : R.val = 1024 * t.val + r.val) :
    (show FVec Ideal S1024x1024 .f32 from (dats m 0 c).after 5 t) (ix2 r j) = spec (N := 65536) (M := 131072) rfl (m ((c : Thread nD τ).loc main_arg0)) (m ((c : Thread nD τ).loc main_arg1))
      (m ((c : Thread nD τ).loc main_arg2)) (m ((c : Thread nD τ).loc main_arg3)) R j := by
  exact (congrFun (out_tile m c t) (ix2 r j)).trans (tile_at _ _ _ _ _ ⟨fun q k => blk_first m c t q r k ⟨R.val, by omega⟩ hR,
    fun q k => blk_second m c t q r k ⟨65536 + R.val, by omega⟩ (by dsimp only; omega), fun d => blk_x m c t r d R hR, fun l => blk_gate m c t r l R hR,
    blk_gain m c t⟩ j)

/-- THE RESULT ARRAY. -/
theorem final : (dats m 0 c).arrAt 5 cfg0.N = fun i : S65536x1024.Idx => spec (N := 65536) (M := 131072) rfl (m ((c : Thread nD τ).loc main_arg0)) (m ((c : Thread nD τ).loc main_arg1))
      (m ((c : Thread nD τ).loc main_arg2)) (m ((c : Thread nD τ).loc main_arg3)) (i 0) (i 1) := by
  refine (dats m 0 c).arrAt_eq_of_covers 5 _ (by decide +kernel) fun t _ y => ?_
  blk_simp
  idx_vars y
  have h0 : ((((View.whole main_v1).slice (win0_5.rect t)).emb (ix2 y0 y1) 0 : Fin 65536) : ℕ) = 1024 * t.val + y0.val := by
    blk_simp [idx t]
    omega
  have h1 : (((View.whole main_v1).slice (win0_5.rect t)).emb (ix2 y0 y1) 1 : Fin 1024) = y1 := by
    ext
    blk_simp [idx t]
    try omega
  rw [h1]
  exact point m c t y0 y1 _ h0

end Cert.CombineIdeal.Rows
end
-- ==== Proof.CombineRef.lean ====
module

public import proofs.«01_k».proof.Proof.CombineValue
public import proofs.«01_k».proof.Proof.Gen.CombineRefIdeal.Read
public import Idealize.ShloMosaic.Lib.Pointwise

/-! The plain combination, read at one row and column. -/

@[expose] public section

set_option maxRecDepth 16384

noncomputable section

namespace Cert.CombineRefIdeal.Rows

open Cert.CombineRefIdeal Cert.CombineRefIdeal.Gen Cert.CombineRefIdeal.Read Idealize.ShloMosaic Idealize.ShloMosaic.TcCoe Idealize.SL.Sem Cert.Layer
open Cert.CombineIdeal.Rows (stream spec)

variable (x0 : FVec Ideal S4x131072x256 .f32) (x1 : FVec Ideal S65536x1024 .f32) (x2 : FVec Ideal S65536x128 .f32) (x3 : FVec Ideal S1024 .f32)

/-- The first or second expert's row of token `R`, from the four chunks. -/
theorem pair_at (s : Fin 2) (R : Fin 65536) (j : Fin 1024) : val_main_v1 (F := Ideal) x0 (ix3 s R j)
    = x0 (ix3 ⟨j.val / 256, by omega⟩ ⟨s.val * 65536 + R.val, by omega⟩ ⟨j.val % 256, by omega⟩) := by
  pointwise [val_main_v1, val_main_v0]

/-- The residual stream with the two experts' rows. -/
theorem stream_at (R : Fin 65536) (j : Fin 1024) : val_main_v8 (F := Ideal) x0 x1 x2 (ix2 R j) = stream (N := 65536) (M := 131072) rfl x0 x1 x2 R j := by
  unfold stream
  pointwise [val_main_v8, val_main_v7, val_main_cst, val_main_v6, val_main_v5, val_main_v4, val_main_v3, val_main_v2, pair_at x0]
  rw [Fin.sum_univ_two]
  refine congrArg (x1 (ix2 R j) + ·) (congrArg₂ (· + ·) (congrArg₂ (· * ·) (congrArg x0 ?_) rfl) (congrArg₂ (· * ·) (congrArg x0 ?_) rfl))
  · exact congrArg (fun r => ix3 _ r _) (Fin.ext (by show 0 * 65536 + R.val = R.val; omega))
  · exact congrArg (fun r => ix3 _ r _) (Fin.ext (by show 1 * 65536 + R.val = 65536 + R.val; omega))

/-- THE REFERENCE'S RESULT. -/
theorem value_at (R : Fin 65536) (j : Fin 1024) : val_main_v21 (F := Ideal) x0 x1 x2 x3 (ix2 R j) = spec (N := 65536) (M := 131072) rfl x0 x1 x2 x3 R j := by
  unfold spec normed scale
  pointwise [val_main_v21, val_main_v20, val_main_v19, val_main_v18, val_main_v17, val_main_v16, val_main_v15, val_main_v14, val_main_cst_2, val_main_v13, val_main_v12, val_main_cst_1, val_main_v11, val_main_v10, val_main_cst_0, val_main_v9, stream_at x0 x1 x2]

end Cert.CombineRefIdeal.Rows
end
-- ==== Proof.CombineClaim.lean ====
module

public import proofs.«01_k».proof.Defs
public import proofs.«01_k».proof.Proof.CombineRef
public import proofs.«01_k».proof.Proof.Gen.Combine
public import proofs.«01_k».proof.Proof.Gen.Combine.Frame
public import proofs.«01_k».proof.Proof.Gen.CombineIdeal
public import proofs.«01_k».proof.Proof.Gen.CombineRefIdeal
public import Idealize.ShloMosaic.Lib.Claim

/-! The claims about the call that combines the experts and norms the rows. -/

@[expose] public section

set_option maxRecDepth 16384

noncomputable section

namespace Cert.Proof.Combine

open Idealize.ShloMosaic Idealize.ShloMosaic.TcCoe Idealize.SL.Sem

/-- The kernel, over words: it ends, leaves its arguments as they were and its counters at zero. -/
theorem frame_P : Cert.quiescent_Combine (hCombine := Cert.Combine.Gen.facts) :=
  fun m g _ => Cert.Combine.Gen.frame m g

/-- The kernel, over the extended reals, likewise. -/
theorem frame_PI : Cert.quiescent_CombineIdeal (hCombineIdeal := Cert.CombineIdeal.Gen.facts) :=
  fun m g _ => Cert.CombineIdeal.Gen.frame m g

/-- The reference ends, and leaves its arguments as they were. -/
theorem frame_RI : Cert.quiescent_CombineRefIdeal (hCombineRefIdeal := Cert.CombineRefIdeal.Gen.facts) := by
  intro m g _
  refine (θ_run _ _ _).mono (fun r h => ⟨fun c => (h c).2, sem_eq_zero_of_no_sems rfl _⟩) (Cert.CombineRefIdeal.Value.run m g)

/-- The ideal kernel is the kernel, word for word. -/
theorem preserves : Cert.preserves_Combine_CombineIdeal := trivial

/-- The kernel's rows are the reference's, over the extended reals. -/
theorem algebraic : Cert.algebraic_CombineIdeal_CombineRefIdeal (hCombineIdeal := Cert.CombineIdeal.Gen.facts) (hCombineRefIdeal := Cert.CombineRefIdeal.Gen.facts) := by
  pair_intro
  · run_from Cert.CombineIdeal.Value.run_blocks m g
  · run_from Cert.CombineRefIdeal.Value.run m' g'
    rw [Cert.CombineRefIdeal.Read.val_main_v21_eq]
    refine Eq.trans ?_ (Cert.CombineIdeal.Rows.final m c).symm
    funext j
    idx_vars j
    exact Cert.CombineRefIdeal.Rows.value_at _ _ _ _ _ _

end Cert.Proof.Combine

end
-- ==== Proof.CombineSValue.lean ====
module

public import proofs.«01_k».proof.Proof.CombineValue
public import proofs.«01_k».proof.Proof.Gen.CombineSIdeal.Value
public import Idealize.ShloMosaic.Lib.Pipeline.Value
public import Idealize.ShloMosaic.Lib.Pipeline.ValueKit
public import Idealize.ShloMosaic.Lib.Pointwise

/-! The combination of the sample's experts: its one tile is the prompt's, over the sample's tokens. -/

@[expose] public section

set_option maxRecDepth 16384

noncomputable section

namespace Cert.CombineSIdeal.Rows

open Cert.CombineSIdeal Cert.CombineSIdeal.Gen Idealize.ShloMosaic Idealize.ShloMosaic.TcCoe Idealize.SL.Sem Cert.Layer
open Idealize.ShloMosaic.Pipeline (Dat)
open Cert.CombineIdeal.Rows (chunks spec tile_at)

variable (m : (ℓ : Loc nD τ sig) → Buf (Elt Ideal) ℓ) (c : Dev nD)

theorem idx : ∀ t : Fin cfg0.N, win0_0.index t = ![0, t.val, 0] ∧ win0_1.index t = ![0, t.val + 1, 0] ∧ win0_2.index t = ![t.val, 0]
    ∧ win0_3.index t = ![t.val, 0] ∧ win0_4.index t = ![0, 0] ∧ win0_5.index t = ![t.val, 0] :=
  (by decide +kernel : ∀ t : Fin grid0.N, _)

theorem gain_in : V m c main_v0 = fun i : S1x1024.Idx => m ((c : Thread nD τ).loc main_arg3) (ix1 (i 1)) := by
  funext i
  entry_read
  pointwise []

theorem blk_first (t : Fin cfg0.N) (q : Fin 4) (r : Fin 1024) (k : Fin 256) (R : Fin 2048) (hR : R.val = 1024 * t.val + r.val) :
    (show FVec Ideal S4x1024x256 .f32 from iblk m c 0 t) (ix3 q r k) = m ((c : Thread nD τ).loc main_arg0) (ix3 q R k) := by
  blk_ext [iblk, V, idx t]

theorem blk_second (t : Fin cfg0.N) (q : Fin 4) (r : Fin 1024) (k : Fin 256) (R : Fin 2048) (hR : R.val = 1024 + (1024 * t.val + r.val)) :
    (show FVec Ideal S4x1024x256 .f32 from iblk m c 1 t) (ix3 q r k) = m ((c : Thread nD τ).loc main_arg0) (ix3 q R k) := by
  blk_ext [iblk, V, idx t]

theorem blk_x (t : Fin cfg0.N) (r j : Fin 1024) (R : Fin 1024) (hR : R.val = 1024 * t.val + r.val) :
    (show FVec Ideal S1024x1024 .f32 from iblk m c 2 t) (ix2 r j) = m ((c : Thread nD τ).loc main_arg1) (ix2 R j) := by
  blk_ext [iblk, V, idx t]

theorem blk_gate (t : Fin cfg0.N) (r : Fin 1024) (j : Fin 128) (R : Fin 1024) (hR : R.val = 1024 * t.val + r.val) :
    (show FVec Ideal S1024x128 .f32 from iblk m c 3 t) (ix2 r j) = m ((c : Thread nD τ).loc main_arg2) (ix2 R j) := by
  blk_ext [iblk, V, idx t]

theorem blk_gain (t : Fin cfg0.N) (j : Fin 1024) :
    (show FVec Ideal S1x1024 .f32 from iblk m c 4 t) (ix2 0 j) = m ((c : Thread nD τ).loc main_arg3) (ix1 j) := by
  refine Eq.trans ?_ (congrFun (gain_in m c) (ix2 0 j))
  blk_ext [iblk, idx t]

/-- What a grid point leaves, from its blocks. -/
theorem out_tile (t : Fin cfg0.N) : (dats m 0 c).after 5 t
    = k0_pay1 (k0_pay2 (iblk m c 3 t) (iblk m c 2 t) (chunks (iblk m c 0 t) 0) (chunks (iblk m c 0 t) 1) (chunks (iblk m c 0 t) 2) (chunks (iblk m c 0 t) 3)
      (chunks (iblk m c 1 t) 0) (chunks (iblk m c 1 t) 1) (chunks (iblk m c 1 t) 2) (chunks (iblk m c 1 t) 3)) (iblk m c 4 t) := by
  rw [after0_5]
  unfold out0_5
  frame_out
  rfl

/-- What grid point `t` leaves at a row and a column of its tile. -/
theorem point (t : Fin cfg0.N) (r j : Fin 1024) (R : Fin 1024) (hR : R.val = 1024 * t.val + r.val) :
    (show FVec Ideal S1024x1024 .f32 from (dats m 0 c).after 5 t) (ix2 r j) = spec (N := 1024) (M := 2048) rfl (m ((c : Thread nD τ).loc main_arg0)) (m ((c : Thread nD τ).loc main_arg1))
      (m ((c : Thread nD τ).loc main_arg2)) (m ((c : Thread nD τ).loc main_arg3)) R j := by
  exact (congrFun (out_tile m c t) (ix2 r j)).trans (tile_at _ _ _ _ _ ⟨fun q k => blk_first m c t q r k ⟨R.val, by omega⟩ hR,
    fun q k => blk_second m c t q r k ⟨1024 + R.val, by omega⟩ (by dsimp only; omega), fun d => blk_x m c t r d R hR, fun l => blk_gate m c t r l R hR,
    blk_gain m c t⟩ j)

/-- THE RESULT ARRAY. -/
theorem final : (dats m 0 c).arrAt 5 cfg0.N = fun i : S1024x1024.Idx => spec (N := 1024) (M := 2048) rfl (m ((c : Thread nD τ).loc main_arg0)) (m ((c : Thread nD τ).loc main_arg1))
      (m ((c : Thread nD τ).loc main_arg2)) (m ((c : Thread nD τ).loc main_arg3)) (i 0) (i 1) := by
  refine (dats m 0 c).arrAt_eq_of_covers 5 _ (by decide +kernel) fun t _ y => ?_
  blk_simp
  idx_vars y
  have h0 : ((((View.whole main_v1).slice (win0_5.rect t)).emb (ix2 y0 y1) 0 : Fin 1024) : ℕ) = 1024 * t.val + y0.val := by
    blk_simp [idx t]
    omega
  have h1 : (((View.whole main_v1).slice (win0_5.rect t)).emb (ix2 y0 y1) 1 : Fin 1024) = y1 := by
    ext
    blk_simp [idx t]
    try omega
  rw [h1]
  exact point m c t y0 y1 _ h0

end Cert.CombineSIdeal.Rows
end
-- ==== Proof.CombineSRef.lean ====
module

public import proofs.«01_k».proof.Proof.CombineSValue
public import proofs.«01_k».proof.Proof.Gen.CombineSRefIdeal.Read
public import Idealize.ShloMosaic.Lib.Pointwise

/-! The plain combination of the sample's experts, read at one row and column. -/

@[expose] public section

set_option maxRecDepth 16384

noncomputable section

namespace Cert.CombineSRefIdeal.Rows

open Cert.CombineSRefIdeal Cert.CombineSRefIdeal.Gen Cert.CombineSRefIdeal.Read Idealize.ShloMosaic Idealize.ShloMosaic.TcCoe Idealize.SL.Sem Cert.Layer
open Cert.CombineIdeal.Rows (stream spec)

variable (x0 : FVec Ideal S4x2048x256 .f32) (x1 : FVec Ideal S1024x1024 .f32) (x2 : FVec Ideal S1024x128 .f32) (x3 : FVec Ideal S1024 .f32)

/-- The first or second expert's row of token `R`, from the four chunks. -/
theorem pair_at (s : Fin 2) (R : Fin 1024) (j : Fin 1024) : val_main_v1 (F := Ideal) x0 (ix3 s R j)
    = x0 (ix3 ⟨j.val / 256, by omega⟩ ⟨s.val * 1024 + R.val, by omega⟩ ⟨j.val % 256, by omega⟩) := by
  pointwise [val_main_v1, val_main_v0]

/-- The residual stream with the two experts' rows. -/
theorem stream_at (R : Fin 1024) (j : Fin 1024) : val_main_v8 (F := Ideal) x0 x1 x2 (ix2 R j) = stream (N := 1024) (M := 2048) rfl x0 x1 x2 R j := by
  unfold stream
  pointwise [val_main_v8, val_main_v7, val_main_cst, val_main_v6, val_main_v5, val_main_v4, val_main_v3, val_main_v2, pair_at x0]
  rw [Fin.sum_univ_two]
  refine congrArg (x1 (ix2 R j) + ·) (congrArg₂ (· + ·) (congrArg₂ (· * ·) (congrArg x0 ?_) rfl) (congrArg₂ (· * ·) (congrArg x0 ?_) rfl))
  · exact congrArg (fun r => ix3 _ r _) (Fin.ext (by show 0 * 1024 + R.val = R.val; omega))
  · exact congrArg (fun r => ix3 _ r _) (Fin.ext (by show 1 * 1024 + R.val = 1024 + R.val; omega))

/-- THE REFERENCE'S RESULT. -/
theorem value_at (R : Fin 1024) (j : Fin 1024) : val_main_v21 (F := Ideal) x0 x1 x2 x3 (ix2 R j) = spec (N := 1024) (M := 2048) rfl x0 x1 x2 x3 R j := by
  unfold spec normed scale
  pointwise [val_main_v21, val_main_v20, val_main_v19, val_main_v18, val_main_v17, val_main_v16, val_main_v15, val_main_v14, val_main_cst_2, val_main_v13, val_main_v12, val_main_cst_1, val_main_v11, val_main_v10, val_main_cst_0, val_main_v9, stream_at x0 x1 x2]

end Cert.CombineSRefIdeal.Rows
end
-- ==== Proof.CombineSClaim.lean ====
module

public import proofs.«01_k».proof.Defs
public import proofs.«01_k».proof.Proof.CombineSRef
public import proofs.«01_k».proof.Proof.Gen.CombineS
public import proofs.«01_k».proof.Proof.Gen.CombineS.Frame
public import proofs.«01_k».proof.Proof.Gen.CombineSIdeal
public import proofs.«01_k».proof.Proof.Gen.CombineSRefIdeal
public import Idealize.ShloMosaic.Lib.Claim

/-! The claims about the call that combines the sample's experts and norms the rows. -/

@[expose] public section

set_option maxRecDepth 16384

noncomputable section

namespace Cert.Proof.CombineS

open Idealize.ShloMosaic Idealize.ShloMosaic.TcCoe Idealize.SL.Sem

/-- The kernel, over words: it ends, leaves its arguments as they were and its counters at zero. -/
theorem frame_P : Cert.quiescent_CombineS (hCombineS := Cert.CombineS.Gen.facts) :=
  fun m g _ => Cert.CombineS.Gen.frame m g

/-- The kernel, over the extended reals, likewise. -/
theorem frame_PI : Cert.quiescent_CombineSIdeal (hCombineSIdeal := Cert.CombineSIdeal.Gen.facts) :=
  fun m g _ => Cert.CombineSIdeal.Gen.frame m g

/-- The reference ends, and leaves its arguments as they were. -/
theorem frame_RI : Cert.quiescent_CombineSRefIdeal (hCombineSRefIdeal := Cert.CombineSRefIdeal.Gen.facts) := by
  intro m g _
  refine (θ_run _ _ _).mono (fun r h => ⟨fun c => (h c).2, sem_eq_zero_of_no_sems rfl _⟩) (Cert.CombineSRefIdeal.Value.run m g)

/-- The ideal kernel is the kernel, word for word. -/
theorem preserves : Cert.preserves_CombineS_CombineSIdeal := trivial

/-- The kernel's rows are the reference's, over the extended reals. -/
theorem algebraic : Cert.algebraic_CombineSIdeal_CombineSRefIdeal (hCombineSIdeal := Cert.CombineSIdeal.Gen.facts) (hCombineSRefIdeal := Cert.CombineSRefIdeal.Gen.facts) := by
  pair_intro
  · run_from Cert.CombineSIdeal.Value.run_blocks m g
  · run_from Cert.CombineSRefIdeal.Value.run m' g'
    rw [Cert.CombineSRefIdeal.Read.val_main_v21_eq]
    refine Eq.trans ?_ (Cert.CombineSIdeal.Rows.final m c).symm
    funext j
    idx_vars j
    exact Cert.CombineSRefIdeal.Rows.value_at _ _ _ _ _ _

end Cert.Proof.CombineS

end
-- ==== Proof.ProjSValue.lean ====
module

public import proofs.«01_k».proof.Proof.ProjValue
public import proofs.«01_k».proof.Proof.Gen.ProjSIdeal.Frame
public import Idealize.ShloMosaic.Lib.Pipeline.Value
public import Idealize.ShloMosaic.Lib.Pipeline.ValueKit
public import Idealize.ShloMosaic.Lib.Pointwise

/-! The first projection of the sample: its keys, values and forget gates. A tile is the prompt's, over the sample's rows. -/

@[expose] public section

set_option maxRecDepth 16384

noncomputable section

namespace Cert.ProjSIdeal.Rows

open Cert.ProjSIdeal Cert.ProjSIdeal.Gen Idealize.ShloMosaic Idealize.ShloMosaic.TcCoe Idealize.SL.Sem Cert.Layer
open Idealize.ShloMosaic.Pipeline (Dat)
open Cert.ProjIdeal.Rows (cols heads gates Reads heads_point gates_point placed)

/-- Row `R` of all the sample's rows. -/
def row (x : FVec Ideal S16x64x1024 .f32) (R : Fin 1024) (d : Fin 1024) : EReal := x (ix3 ⟨R.val / 64, by omega⟩ ⟨R.val % 64, Nat.mod_lt _ (by omega)⟩ d)

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0, 0]
    ∧ win0_7.index t = ![t.val, 0, 0] ∧ win0_8.index t = ![t.val, 0] ∧ win0_9.index t = ![t.val, 0, 0] ∧ win0_10.index t = ![t.val, 0, 0]
    ∧ win0_11.index t = ![t.val, 0] ∧ win0_12.index t = ![t.val, 0] ∧ win0_13.index t = ![t.val, 0] ∧ win0_14.index t = ![t.val, 0]
    ∧ win0_15.index t = ![t.val, 0] :=
  (by decide +kernel : ∀ t : Fin grid0.N, _)

theorem x_in : V m c main_v5 = fun i : S1024x1024.Idx => row (m ((c : Thread nD τ).loc main_arg0)) (i 0) (i 1) := by
  funext i
  entry_read
  unfold row
  pointwise []

theorem gain_in : V m c main_v7 = fun i : S1x1024.Idx => m ((c : Thread nD τ).loc main_arg1) (ix2 0 (i 1)) := by
  funext i
  entry_read
  pointwise []

theorem w_in : V m c main_v10 = fun i : S1024x3072.Idx => m ((c : Thread nD τ).loc main_arg2)
    (ix3 0 (i 0) ⟨(i 1).val, by have : (i 1).val < 3072 := (i 1).isLt; omega⟩) := by
  funext i
  entry_read
  pointwise []

theorem gate_in (d : Fin 1024) (h : Fin 8) : (show FVec Ideal S1024x128 .bf16 from V m c main_v11) (ix2 d ⟨h.val, by omega⟩)
    = m ((c : Thread nD τ).loc main_arg2) (ix3 0 d ⟨3072 + h.val, by omega⟩) := by
  entry_read
  dsimp only
  show FloatOps.truncf (F := Ideal) (φ := .f32) .bf16 bitsLt_bf16_f32 (Host.scatter Cert.ProjIdeal.scatter_S1024x128_S1_S1024x8_01_n_1_0 (fun _ b => b) _ _ _ (ix2 d ⟨h.val, by omega⟩)) = _
  rw [placed]
  · pointwise []
  · rfl

theorem bias_in : V m c main_v13 = fun i : S1x8.Idx => m ((c : Thread nD τ).loc main_arg3) (ix2 0 (i 1)) := by
  funext i
  entry_read
  pointwise []

theorem blk_x (t : Fin cfg0.N) (r : Fin 512) (j : Fin 1024) (R : Fin 1024) (hR : R.val = 512 * t.val + r.val) :
    (show FVec Ideal S512x1024 .f32 from iblk m c 0 t) (ix2 r j) = row (m ((c : Thread nD τ).loc main_arg0)) R j := by
  refine Eq.trans ?_ (congrFun (x_in m c) (ix2 R j))
  blk_ext [iblk, idx t]

theorem blk_gain (t : Fin cfg0.N) (j : Fin 1024) :
    (show FVec Ideal S1x1024 .f32 from iblk m c 1 t) (ix2 0 j) = m ((c : Thread nD τ).loc main_arg1) (ix2 0 j) := by
  refine Eq.trans ?_ (congrFun (gain_in m c) (ix2 0 j))
  blk_ext [iblk, idx t]

theorem blk_w (t : Fin cfg0.N) (d : Fin 1024) (C : Fin 3072) :
    (show FVec Ideal S1024x3072 .bf16 from iblk m c 2 t) (ix2 d C) = m ((c : Thread nD τ).loc main_arg2) (ix3 0 d ⟨C.val, by omega⟩) := by
  refine Eq.trans ?_ (congrFun (w_in m c) (ix2 d C))
  blk_ext [iblk, idx t]

theorem blk_gate (t : Fin cfg0.N) (d : Fin 1024) (h : Fin 8) : (show FVec Ideal S1024x128 .bf16 from iblk m c 3 t) (ix2 d ⟨h.val, by omega⟩)
    = m ((c : Thread nD τ).loc main_arg2) (ix3 0 d ⟨3072 + h.val, by omega⟩) := by
  refine Eq.trans ?_ (gate_in m c d h)
  blk_ext [iblk, idx t]

theorem blk_bias (t : Fin cfg0.N) (h : Fin 8) :
    (show FVec Ideal S1x8 .f32 from iblk m c 4 t) (ix2 0 h) = m ((c : Thread nD τ).loc main_arg3) (ix2 0 h) := by
  refine Eq.trans ?_ (congrFun (bias_in m c) (ix2 0 h))
  blk_ext [iblk, idx t]

theorem reads (t : Fin cfg0.N) (r : Fin 512) (R : Fin 1024) (hR : R.val = 512 * t.val + r.val) :
    Reads (row (m ((c : Thread nD τ).loc main_arg0))) (m ((c : Thread nD τ).loc main_arg1)) (m ((c : Thread nD τ).loc main_arg2)) (m ((c : Thread nD τ).loc main_arg3)) (iblk m c 0 t) (iblk m c 1 t) (iblk m c 2 t) (iblk m c 3 t) (iblk m c 4 t) r R :=
  ⟨fun d => blk_x m c t r d R hR, blk_gain m c t, blk_w m c t, blk_gate m c t, blk_bias m c t⟩

/-- The tile's keys, values and gates. -/
theorem outs (t : Fin cfg0.N) :
    (dats m 0 c).after 6 t = k0_pay13 (k0_pay2 (iblk m c 0 t) (iblk m c 1 t)) (cols (iblk m c 2 t) 512 (by omega))
    ∧ (dats m 0 c).after 7 t = k0_pay13 (k0_pay2 (iblk m c 0 t) (iblk m c 1 t)) (cols (iblk m c 2 t) 1024 (by omega))
    ∧ (dats m 0 c).after 9 t = k0_pay13 (k0_pay2 (iblk m c 0 t) (iblk m c 1 t)) (cols (iblk m c 2 t) 2048 (by omega))
    ∧ (dats m 0 c).after 10 t = k0_pay13 (k0_pay2 (iblk m c 0 t) (iblk m c 1 t)) (cols (iblk m c 2 t) 2560 (by omega))
    ∧ (dats m 0 c).after 15 t = k0_pay1 (k0_pay2 (iblk m c 0 t) (iblk m c 1 t)) (iblk m c 3 t) (iblk m c 4 t) := by
  rw [after0_6, after0_7, after0_9, after0_10, after0_15]
  unfold out0_6 out0_7 out0_9 out0_10 out0_15 k0_pay18 k0_pay19
  refine ⟨?_, ?_, ?_, ?_, ?_⟩ <;> (frame_out <;> rfl)

set_option maxHeartbeats 1000000 in
/-- THE RESULT ARRAYS, in the kernel's order. -/
theorem final : (dats m 0 c).arrAt 6 cfg0.N = heads (row (m ((c : Thread nD τ).loc main_arg0))) (m ((c : Thread nD τ).loc main_arg1)) (m ((c : Thread nD τ).loc main_arg2)) 512 (by omega)
    ∧ (dats m 0 c).arrAt 7 cfg0.N = heads (row (m ((c : Thread nD τ).loc main_arg0))) (m ((c : Thread nD τ).loc main_arg1)) (m ((c : Thread nD τ).loc main_arg2)) 1024 (by omega)
    ∧ (dats m 0 c).arrAt 9 cfg0.N = heads (row (m ((c : Thread nD τ).loc main_arg0))) (m ((c : Thread nD τ).loc main_arg1)) (m ((c : Thread nD τ).loc main_arg2)) 2048 (by omega)
    ∧ (dats m 0 c).arrAt 10 cfg0.N = heads (row (m ((c : Thread nD τ).loc main_arg0))) (m ((c : Thread nD τ).loc main_arg1)) (m ((c : Thread nD τ).loc main_arg2)) 2560 (by omega)
    ∧ (dats m 0 c).arrAt 15 cfg0.N = gates (row (m ((c : Thread nD τ).loc main_arg0))) (m ((c : Thread nD τ).loc main_arg1)) (m ((c : Thread nD τ).loc main_arg2)) (m ((c : Thread nD τ).loc main_arg3)) := by
  refine ⟨?_, ?_, ?_, ?_, ?_⟩
  all_goals
    refine (dats m 0 c).arrAt_eq_of_covers _ _ (by decide +kernel) fun t _ y => ?_
    obtain ⟨o6, o7, o9, o10, o15⟩ := outs m c t
    have ht : t.val < 2 := t.isLt
    blk_simp
    simp only [o6, o7, o9, o10, o15]
    idx_vars y
    have hR : 512 * t.val + y0.val < 1024 := by omega
    first
      | refine (heads_point (reads m c t y0 ⟨_, hR⟩ rfl) _ _ y1 y2).trans (congrArg _ ?_)
      | refine (gates_point (reads m c t y0 ⟨_, hR⟩ rfl) y1).trans (congrArg _ ?_)
    funext a
    fin_cases a <;> (ext; blk_simp [idx t]; first | (show 512 * t.val + y0.val = t.val * 512 + y0.val; omega) | rfl)

end Cert.ProjSIdeal.Rows
end
-- ==== Proof.ProjSRef.lean ====
module

public import proofs.«01_k».proof.Proof.ProjSValue
public import proofs.«01_k».proof.Proof.Gen.ProjSRefIdeal.Read
public import Idealize.ShloMosaic.Lib.Pointwise

/-! The plain first projection of the sample, read at one row and column of each of its results. -/

@[expose] public section

set_option maxRecDepth 16384

noncomputable section

namespace Cert.ProjSRefIdeal.Rows

open Cert.ProjSRefIdeal Cert.ProjSRefIdeal.Gen Cert.ProjSRefIdeal.Read Idealize.ShloMosaic Idealize.ShloMosaic.TcCoe Idealize.SL.Sem Cert.Layer
open Cert.ProjIdeal.Rows (proj heads gates)
open Cert.ProjSIdeal.Rows (row)

variable (x : FVec Ideal S16x64x1024 .f32) (g : FVec Ideal S1x1024 .f32) (w : FVec Ideal S1x1024x3080 .f32) (b : FVec Ideal S1x8 .f32)

/-- A row's norm. -/
theorem normed_at (s : Fin 16) (r : Fin 64) (j : Fin 1024) : val_main_v13 (F := Ideal) x g (ix3 s r j)
    = normed (fun d => x (ix3 s r d)) (fun d => g (ix2 0 d)) j := by
  unfold normed scale
  pointwise [val_main_v13, val_main_v12, val_main_v11, val_main_v10, val_main_v9, val_main_v8, val_main_v7, val_main_v6, val_main_cst_1, val_main_v5, val_main_v4, val_main_cst_0, val_main_v3, val_main_v2, val_main_cst, val_main_v1, val_main_v0]

/-- Its product with one column of the weights. -/
theorem proj_at (s : Fin 16) (r : Fin 64) (C : Fin 3080) (R : Fin 1024) (hR : R.val = 64 * s.val + r.val) :
    val_main_v15 (F := Ideal) x g w (ix3 s r C) = proj (row x) g w R C := by
  have e : row x R = fun d => x (ix3 s r d) := by
    unfold row
    funext d
    congr 2
    · ext; show R.val / 64 = s.val; omega
    · ext; show R.val % 64 = r.val; omega
  unfold proj
  rw [e]
  pointwise [val_main_v15, val_main_v14, normed_at x g]

/-- The keys and values, as heads. -/
theorem headed : val_main_v28 (F := Ideal) x g w = heads (row x) g w 512 (by omega) ∧ val_main_v29 (F := Ideal) x g w = heads (row x) g w 1024 (by omega)
    ∧ val_main_v30 (F := Ideal) x g w = heads (row x) g w 2048 (by omega) ∧ val_main_v31 (F := Ideal) x g w = heads (row x) g w 2560 (by omega) := by
  refine ⟨?_, ?_, ?_, ?_⟩
  all_goals
    funext i
    idx_vars i
    have e (C : Fin 3080) := proj_at x g w ⟨i0.val / 64, by omega⟩ ⟨i0.val % 64, Nat.mod_lt _ (by omega)⟩ C i0 (by dsimp only; omega)
    unfold heads
    pointwise [val_main_v28, val_main_v29, val_main_v30, val_main_v31, val_main_v17, val_main_v18, val_main_v20, val_main_v21]
    exact e _

/-- The logarithms of the forget gates. -/
theorem gated : val_main_v32 (F := Ideal) x g w b = gates (row x) g w b := by
  funext i
  idx_vars i
  have e := proj_at x g w ⟨i0.val / 64, by omega⟩ ⟨i0.val % 64, Nat.mod_lt _ (by omega)⟩ ⟨3072 + i1.val, by omega⟩ i0 (by dsimp only; omega)
  unfold gates
  pointwise [val_main_v32, val_main_v27, val_main_call0_v1, val_main_call0_v0, val_main_call0_call0_v11, val_main_call0_call0_v10, val_main_call0_call0_v9,
    val_main_call0_call0_v8, val_main_call0_call0_v7, val_main_call0_call0_v6, val_main_call0_call0_v5, val_main_call0_call0_v4, val_main_call0_call0_v3,
    val_main_call0_call0_v2, val_main_call0_call0_v1, val_main_call0_call0_v0, val_main_call0_call0_cst, val_main_v26, val_main_v25, val_main_v24, val_main_v23, val_main_v22]
  refine (congrArg (- ·) (if_neg (fun h => h rfl))).trans ?_
  rw [e]
  exact neg_softplus _

end Cert.ProjSRefIdeal.Rows
end
-- ==== Proof.ProjSClaim.lean ====
module

public import proofs.«01_k».proof.Defs
public import proofs.«01_k».proof.Proof.Gen.ProjS.Frame
public import proofs.«01_k».proof.Proof.ProjSRef
public import proofs.«01_k».proof.Proof.Gen.ProjSRefIdeal
public import Idealize.ShloMosaic.Lib.Claim

/-! The claims about the first projection's call of the sample: the runs, and the five results' equality. -/

@[expose] public section

set_option maxRecDepth 16384

noncomputable section

namespace Cert.Proof.ProjS

open Idealize.ShloMosaic Idealize.ShloMosaic.TcCoe Idealize.SL.Sem
open Cert.ProjIdeal.Rows (heads gates)
open Cert.ProjSIdeal.Rows (row)

/-- The kernel ends, and leaves its arguments as they were. -/
theorem frame_P : Cert.quiescent_ProjS (hProjS := Cert.ProjS.Gen.facts) := fun m g _ => Cert.ProjS.Gen.frame m g

/-- The ideal kernel ends, and leaves its arguments as they were. -/
theorem frame_PI : Cert.quiescent_ProjSIdeal (hProjSIdeal := Cert.ProjSIdeal.Gen.facts) := fun m g _ => Cert.ProjSIdeal.Gen.frame m g

/-- The reference ends, and leaves its arguments as they were. -/
theorem frame_RI : Cert.quiescent_ProjSRefIdeal (hProjSRefIdeal := Cert.ProjSRefIdeal.Gen.facts) := by
  intro m g _
  refine (θ_run _ _ _).mono (fun r h => ⟨fun c => (h c).2.2.2.2.2, sem_eq_zero_of_no_sems rfl _⟩) (Cert.ProjSRefIdeal.Value.run m g)

/-- The queries' factor is the f32 nearest to one over the logarithm of 256. -/
theorem preserves : Cert.preserves_ProjS_ProjSIdeal := IdealRules.named_const.statement Cert.ProjSIdeal.κ "qscale" .f32 0x3E38AA3B#32 _ rfl

/-- The kernel ends with its result arrays holding the projection's columns: the keys and values as heads, and the gates. -/
theorem kernel_ends (m : (ℓ : Loc Cert.ProjSIdeal.nD Cert.ProjSIdeal.τ Cert.ProjSIdeal.sig) → Buf (Elt Ideal) ℓ) (g : Dev Cert.ProjSIdeal.nD → PrngReg) :
    θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
      r.2.mem ((c.tc : Thread Cert.ProjSIdeal.nD Cert.ProjSIdeal.τ).loc Cert.ProjSIdeal.main_v14_1) = heads (row (m ((c.tc : Thread Cert.ProjSIdeal.nD Cert.ProjSIdeal.τ).loc Cert.ProjSIdeal.main_arg0))) (m ((c.tc : Thread Cert.ProjSIdeal.nD Cert.ProjSIdeal.τ).loc Cert.ProjSIdeal.main_arg1)) (m ((c.tc : Thread Cert.ProjSIdeal.nD Cert.ProjSIdeal.τ).loc Cert.ProjSIdeal.main_arg2)) 512 (by omega)
      ∧ r.2.mem ((c.tc : Thread Cert.ProjSIdeal.nD Cert.ProjSIdeal.τ).loc Cert.ProjSIdeal.main_v14_2) = heads (row (m ((c.tc : Thread Cert.ProjSIdeal.nD Cert.ProjSIdeal.τ).loc Cert.ProjSIdeal.main_arg0))) (m ((c.tc : Thread Cert.ProjSIdeal.nD Cert.ProjSIdeal.τ).loc Cert.ProjSIdeal.main_arg1)) (m ((c.tc : Thread Cert.ProjSIdeal.nD Cert.ProjSIdeal.τ).loc Cert.ProjSIdeal.main_arg2)) 1024 (by omega)
      ∧ r.2.mem ((c.tc : Thread Cert.ProjSIdeal.nD Cert.ProjSIdeal.τ).loc Cert.ProjSIdeal.main_v14_4) = heads (row (m ((c.tc : Thread Cert.ProjSIdeal.nD Cert.ProjSIdeal.τ).loc Cert.ProjSIdeal.main_arg0))) (m ((c.tc : Thread Cert.ProjSIdeal.nD Cert.ProjSIdeal.τ).loc Cert.ProjSIdeal.main_arg1)) (m ((c.tc : Thread Cert.ProjSIdeal.nD Cert.ProjSIdeal.τ).loc Cert.ProjSIdeal.main_arg2)) 2048 (by omega)
      ∧ r.2.mem ((c.tc : Thread Cert.ProjSIdeal.nD Cert.ProjSIdeal.τ).loc Cert.ProjSIdeal.main_v14_5) = heads (row (m ((c.tc : Thread Cert.ProjSIdeal.nD Cert.ProjSIdeal.τ).loc Cert.ProjSIdeal.main_arg0))) (m ((c.tc : Thread Cert.ProjSIdeal.nD Cert.ProjSIdeal.τ).loc Cert.ProjSIdeal.main_arg1)) (m ((c.tc : Thread Cert.ProjSIdeal.nD Cert.ProjSIdeal.τ).loc Cert.ProjSIdeal.main_arg2)) 2560 (by omega)
      ∧ r.2.mem ((c.tc : Thread Cert.ProjSIdeal.nD Cert.ProjSIdeal.τ).loc Cert.ProjSIdeal.main_v14_10) = gates (row (m ((c.tc : Thread Cert.ProjSIdeal.nD Cert.ProjSIdeal.τ).loc Cert.ProjSIdeal.main_arg0))) (m ((c.tc : Thread Cert.ProjSIdeal.nD Cert.ProjSIdeal.τ).loc Cert.ProjSIdeal.main_arg1)) (m ((c.tc : Thread Cert.ProjSIdeal.nD Cert.ProjSIdeal.τ).loc Cert.ProjSIdeal.main_arg2)) (m ((c.tc : Thread Cert.ProjSIdeal.nD Cert.ProjSIdeal.τ).loc Cert.ProjSIdeal.main_arg3))
      ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)) :=
  (θ_run _ _ _).mono (fun _ h c => by
    obtain ⟨e1, e2, e4, e5, e10⟩ := Cert.ProjSIdeal.Rows.final m c
    exact ⟨((h c).1 6).trans e1, ((h c).1 7).trans e2, ((h c).1 9).trans e4, ((h c).1 10).trans e5, ((h c).1 15).trans e10,
      ((h c).2 Cert.ProjSIdeal.main_arg0 (Pipeline.mem_restRefs_of Cert.ProjSIdeal.main_arg0 (by decide) (by decide))).trans (Cert.ProjSIdeal.Gen.V_main_arg0 m c),
      ((h c).2 Cert.ProjSIdeal.main_arg1 (Pipeline.mem_restRefs_of Cert.ProjSIdeal.main_arg1 (by decide) (by decide))).trans (Cert.ProjSIdeal.Gen.V_main_arg1 m c),
      ((h c).2 Cert.ProjSIdeal.main_arg2 (Pipeline.mem_restRefs_of Cert.ProjSIdeal.main_arg2 (by decide) (by decide))).trans (Cert.ProjSIdeal.Gen.V_main_arg2 m c),
      ((h c).2 Cert.ProjSIdeal.main_arg3 (Pipeline.mem_restRefs_of Cert.ProjSIdeal.main_arg3 (by decide) (by decide))).trans (Cert.ProjSIdeal.Gen.V_main_arg3 m c)⟩)
    (Cert.ProjSIdeal.Gen.run_main m g)

/-- The kernel's five results are the reference's, over the extended reals. -/
theorem algebraic : Cert.algebraic_ProjSIdeal_ProjSRefIdeal (hProjSIdeal := Cert.ProjSIdeal.Gen.facts) (hProjSRefIdeal := Cert.ProjSRefIdeal.Gen.facts) := by
  pair_intro
  · run_from kernel_ends m g
  · run_from Cert.ProjSRefIdeal.Value.run m' g'
    · exact (Cert.ProjSRefIdeal.Read.val_main_v28_eq _ _ _).trans (Cert.ProjSRefIdeal.Rows.headed _ _ _).1
    · exact (Cert.ProjSRefIdeal.Read.val_main_v29_eq _ _ _).trans (Cert.ProjSRefIdeal.Rows.headed _ _ _).2.1
    · exact (Cert.ProjSRefIdeal.Read.val_main_v30_eq _ _ _).trans (Cert.ProjSRefIdeal.Rows.headed _ _ _).2.2.1
    · exact (Cert.ProjSRefIdeal.Read.val_main_v31_eq _ _ _).trans (Cert.ProjSRefIdeal.Rows.headed _ _ _).2.2.2
    · refine ((Cert.ProjSRefIdeal.Read.val_main_v32_eq m' c).trans (Cert.ProjSRefIdeal.Rows.gated _ _ _ _)).trans ?_
      rw [(hagree c).1, (hagree c).2.1, (hagree c).2.2.1, (hagree c).2.2.2]

end Cert.Proof.ProjS

end
-- ==== Proof.ProjCSValue.lean ====
module

public import proofs.«01_k».proof.Proof.ProjCValue
public import proofs.«01_k».proof.Proof.Gen.ProjCSIdeal.Frame
public import Idealize.ShloMosaic.Lib.Pipeline.Value
public import Idealize.ShloMosaic.Lib.Pipeline.ValueKit
public import Idealize.ShloMosaic.Lib.Pointwise

/-! Layer 1's projection of the sample: its keys and values. A tile is the prompt's, over the sample's rows. -/

@[expose] public section

set_option maxRecDepth 16384

noncomputable section

namespace Cert.ProjCSIdeal.Rows

open Cert.ProjCSIdeal Cert.ProjCSIdeal.Gen Idealize.ShloMosaic Idealize.ShloMosaic.TcCoe Idealize.SL.Sem Cert.Layer
open Idealize.ShloMosaic.Pipeline (Dat)
open Cert.ProjCIdeal.Rows (cols part Reads part_point)

variable (m : (ℓ : Loc nD τ sig) → Buf (Elt Ideal) ℓ) (c : Dev nD)

/-! ## What a tile reads -/

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem gain_in : V m c main_v1 = fun i : S1x1024.Idx => m ((c : Thread nD τ).loc main_arg1) (ix2 0 (i 1)) := by
  funext i
  entry_read
  pointwise []

theorem w_in : V m c main_v3 = fun i : S1024x1280.Idx => m ((c : Thread nD τ).loc main_arg2) (ix3 0 (i 0) (i 1)) := by
  funext i
  entry_read
  pointwise []

theorem blk_x (t : Fin cfg0.N) (r : Fin 512) (j : Fin 1024) (R : Fin 1024) (hR : R.val = 512 * t.val + r.val) :
    (show FVec Ideal S512x1024 .f32 from iblk m c 0 t) (ix2 r j) = m ((c : Thread nD τ).loc main_arg0) (ix2 R j) := by
  refine Eq.trans ?_ (congrFun (V_main_arg0 m c) (ix2 R j))
  blk_ext [iblk, idx t]

theorem blk_gain (t : Fin cfg0.N) (j : Fin 1024) :
    (show FVec Ideal S1x1024 .f32 from iblk m c 1 t) (ix2 0 j) = m ((c : Thread nD τ).loc main_arg1) (ix2 0 j) := by
  refine Eq.trans ?_ (congrFun (gain_in m c) (ix2 0 j))
  blk_ext [iblk, idx t]

theorem blk_w (t : Fin cfg0.N) (d : Fin 1024) (C : Fin 1280) :
    (show FVec Ideal S1024x1280 .bf16 from iblk m c 2 t) (ix2 d C) = m ((c : Thread nD τ).loc main_arg2) (ix3 0 d C) := by
  refine Eq.trans ?_ (congrFun (w_in m c) (ix2 d C))
  blk_ext [iblk, idx t]

theorem reads (t : Fin cfg0.N) (r : Fin 512) (R : Fin 1024) (hR : R.val = 512 * t.val + r.val) :
    Reads (N := 1024) (m ((c : Thread nD τ).loc main_arg0)) (m ((c : Thread nD τ).loc main_arg1)) (m ((c : Thread nD τ).loc main_arg2)) (iblk m c 0 t) (iblk m c 1 t) (iblk m c 2 t) r R :=
  ⟨fun d => blk_x m c t r d R hR, blk_gain m c t, blk_w m c t⟩

/-- The tile's keys and values. -/
theorem outs (t : Fin cfg0.N) :
    (dats m 0 c).after 4 t = k0_pay4 (iblk m c 0 t) (iblk m c 1 t) (cols (iblk m c 2 t) 1024 128 (by omega))
    ∧ (dats m 0 c).after 5 t = k0_pay4 (iblk m c 0 t) (iblk m c 1 t) (cols (iblk m c 2 t) 1152 128 (by omega)) := by
  rw [after0_4, after0_5]
  unfold out0_4 out0_5
  refine ⟨?_, ?_⟩ <;> (frame_out; rfl)

/-- THE RESULT ARRAYS, in the kernel's order. -/
theorem final : (dats m 0 c).arrAt 4 cfg0.N = part (N := 1024) (m ((c : Thread nD τ).loc main_arg0)) (m ((c : Thread nD τ).loc main_arg1)) (m ((c : Thread nD τ).loc main_arg2)) 1024 (by omega)
    ∧ (dats m 0 c).arrAt 5 cfg0.N = part (N := 1024) (m ((c : Thread nD τ).loc main_arg0)) (m ((c : Thread nD τ).loc main_arg1)) (m ((c : Thread nD τ).loc main_arg2)) 1152 (by omega) := by
  refine ⟨?_, ?_⟩
  all_goals
    refine (dats m 0 c).arrAt_eq_of_covers _ _ (by decide +kernel) fun t _ y => ?_
    obtain ⟨o4, o5⟩ := outs m c t
    have ht : t.val < 2 := t.isLt
    blk_simp
    simp only [o4, o5]
    idx_vars y
    have hR : 512 * t.val + y0.val < 1024 := by omega
    refine (part_point (reads m c t y0 ⟨_, hR⟩ rfl) _ _ y1).trans (congrArg _ ?_)
    funext a
    fin_cases a <;> (ext; blk_simp [idx t]; first | (show 512 * t.val + y0.val = t.val * 512 + y0.val; omega) | rfl)

end Cert.ProjCSIdeal.Rows
end
-- ==== Proof.ProjCSRef.lean ====
module

public import proofs.«01_k».proof.Proof.ProjCSValue
public import proofs.«01_k».proof.Proof.Gen.ProjCSRefIdeal.Read
public import Idealize.ShloMosaic.Lib.Pointwise

/-! The plain projection of layer 1 over the sample, read at one row and column of each of its results. -/

@[expose] public section

set_option maxRecDepth 16384

noncomputable section

namespace Cert.ProjCSRefIdeal.Rows

open Cert.ProjCSRefIdeal Cert.ProjCSRefIdeal.Gen Cert.ProjCSRefIdeal.Read Idealize.ShloMosaic Idealize.ShloMosaic.TcCoe Idealize.SL.Sem Cert.Layer
open Cert.ProjCIdeal.Rows (proj part)

variable (x : FVec Ideal S1024x1024 .f32) (g : FVec Ideal S1x1024 .f32) (w : FVec Ideal S1x1024x1280 .f32)

/-- A row's norm. -/
theorem normed_at (r : Fin 1024) (j : Fin 1024) : val_main_v13 (F := Ideal) x g (ix2 r j)
    = normed (fun d => x (ix2 r d)) (fun d => g (ix2 0 d)) j := by
  unfold normed scale
  pointwise [val_main_v13, val_main_v12, val_main_v11, val_main_v10, val_main_v9, val_main_v8, val_main_v7, val_main_v6, val_main_cst_1, val_main_v5, val_main_v4, val_main_cst_0, val_main_v3, val_main_v2, val_main_cst, val_main_v1, val_main_v0]

/-- Its product with one column of the weights. -/
theorem proj_at (r : Fin 1024) (C : Fin 1280) : val_main_v15 (F := Ideal) x g w (ix2 r C) = proj x g w r C := by
  unfold proj
  pointwise [val_main_v15, val_main_v14, normed_at x g]

/-- The keys and the values. -/
theorem parts : val_main_v17 (F := Ideal) x g w = part x g w 1024 (by omega) ∧ val_main_v18 (F := Ideal) x g w = part x g w 1152 (by omega) := by
  refine ⟨?_, ?_⟩
  all_goals
    funext i
    idx_vars i
    unfold part
    pointwise [val_main_v17, val_main_v18, proj_at x g w]

end Cert.ProjCSRefIdeal.Rows
end
-- ==== Proof.ProjCSClaim.lean ====
module

public import proofs.«01_k».proof.Defs
public import proofs.«01_k».proof.Proof.Gen.ProjCS.Frame
public import proofs.«01_k».proof.Proof.ProjCSRef
public import proofs.«01_k».proof.Proof.Gen.ProjCSRefIdeal
public import Idealize.ShloMosaic.Lib.Claim

/-! The claims about layer 1's projection of the sample: the runs, and the two results' equality. -/

@[expose] public section

set_option maxRecDepth 16384

noncomputable section

namespace Cert.Proof.ProjCS

open Idealize.ShloMosaic Idealize.ShloMosaic.TcCoe Idealize.SL.Sem
open Cert.ProjCIdeal.Rows (part)

/-- The kernel ends, and leaves its arguments as they were. -/
theorem frame_P : Cert.quiescent_ProjCS (hProjCS := Cert.ProjCS.Gen.facts) := fun m g _ => Cert.ProjCS.Gen.frame m g

/-- The ideal kernel ends, and leaves its arguments as they were. -/
theorem frame_PI : Cert.quiescent_ProjCSIdeal (hProjCSIdeal := Cert.ProjCSIdeal.Gen.facts) := fun m g _ => Cert.ProjCSIdeal.Gen.frame m g

/-- The reference ends, and leaves its arguments as they were. -/
theorem frame_RI : Cert.quiescent_ProjCSRefIdeal (hProjCSRefIdeal := Cert.ProjCSRefIdeal.Gen.facts) := by
  intro m g _
  refine (θ_run _ _ _).mono (fun r h => ⟨fun c => (h c).2.2, sem_eq_zero_of_no_sems rfl _⟩) (Cert.ProjCSRefIdeal.Value.run m g)

/-- The ideal kernel is the kernel, word for word. -/
theorem preserves : Cert.preserves_ProjCS_ProjCSIdeal := trivial

/-- The kernel ends with its result arrays holding the keys and the values. -/
theorem kernel_ends (m : (ℓ : Loc Cert.ProjCSIdeal.nD Cert.ProjCSIdeal.τ Cert.ProjCSIdeal.sig) → Buf (Elt Ideal) ℓ) (g : Dev Cert.ProjCSIdeal.nD → PrngReg) :
    θ_run (Cert.ProjCSIdeal.defs (F := Ideal)) (onTc (τ := Cert.ProjCSIdeal.τ) (Cert.ProjCSIdeal.main (F := Ideal))) ⟨m, fun _ => 0, g⟩ (fun r => ∀ c : Dev Cert.ProjCSIdeal.nD,
      r.2.mem ((c.tc : Thread Cert.ProjCSIdeal.nD Cert.ProjCSIdeal.τ).loc Cert.ProjCSIdeal.main_v4_1) = part (N := 1024) (m ((c.tc : Thread Cert.ProjCSIdeal.nD Cert.ProjCSIdeal.τ).loc Cert.ProjCSIdeal.main_arg0)) (m ((c.tc : Thread Cert.ProjCSIdeal.nD Cert.ProjCSIdeal.τ).loc Cert.ProjCSIdeal.main_arg1)) (m ((c.tc : Thread Cert.ProjCSIdeal.nD Cert.ProjCSIdeal.τ).loc Cert.ProjCSIdeal.main_arg2)) 1024 (by omega)
      ∧ r.2.mem ((c.tc : Thread Cert.ProjCSIdeal.nD Cert.ProjCSIdeal.τ).loc Cert.ProjCSIdeal.main_v4_2) = part (N := 1024) (m ((c.tc : Thread Cert.ProjCSIdeal.nD Cert.ProjCSIdeal.τ).loc Cert.ProjCSIdeal.main_arg0)) (m ((c.tc : Thread Cert.ProjCSIdeal.nD Cert.ProjCSIdeal.τ).loc Cert.ProjCSIdeal.main_arg1)) (m ((c.tc : Thread Cert.ProjCSIdeal.nD Cert.ProjCSIdeal.τ).loc Cert.ProjCSIdeal.main_arg2)) 1152 (by omega)
      ∧ r.2.mem ((c.tc : Thread Cert.ProjCSIdeal.nD Cert.ProjCSIdeal.τ).loc Cert.ProjCSIdeal.main_arg0) = m ((c.tc : Thread Cert.ProjCSIdeal.nD Cert.ProjCSIdeal.τ).loc Cert.ProjCSIdeal.main_arg0)
      ∧ r.2.mem ((c.tc : Thread Cert.ProjCSIdeal.nD Cert.ProjCSIdeal.τ).loc Cert.ProjCSIdeal.main_arg1) = m ((c.tc : Thread Cert.ProjCSIdeal.nD Cert.ProjCSIdeal.τ).loc Cert.ProjCSIdeal.main_arg1)
      ∧ r.2.mem ((c.tc : Thread Cert.ProjCSIdeal.nD Cert.ProjCSIdeal.τ).loc Cert.ProjCSIdeal.main_arg2) = m ((c.tc : Thread Cert.ProjCSIdeal.nD Cert.ProjCSIdeal.τ).loc Cert.ProjCSIdeal.main_arg2)) :=
  (θ_run _ _ _).mono (fun _ h c => by
    obtain ⟨e1, e2⟩ := Cert.ProjCSIdeal.Rows.final m c
    exact ⟨((h c).1 4).trans e1, ((h c).1 5).trans e2,
      ((h c).1 0).trans (((Cert.ProjCSIdeal.Gen.dats m 0 c).arrAt_in 0 rfl _).trans ((Cert.ProjCSIdeal.Gen.A_eq m c 0).trans (Cert.ProjCSIdeal.Gen.V_main_arg0 m c))),
      ((h c).2 Cert.ProjCSIdeal.main_arg1 (Pipeline.mem_restRefs_of Cert.ProjCSIdeal.main_arg1 (by decide) (by decide))).trans (Cert.ProjCSIdeal.Gen.V_main_arg1 m c),
      ((h c).2 Cert.ProjCSIdeal.main_arg2 (Pipeline.mem_restRefs_of Cert.ProjCSIdeal.main_arg2 (by decide) (by decide))).trans (Cert.ProjCSIdeal.Gen.V_main_arg2 m c)⟩)
    (Cert.ProjCSIdeal.Gen.run_main m g)

/-- The kernel's two results are the reference's, over the extended reals. -/
theorem algebraic : Cert.algebraic_ProjCSIdeal_ProjCSRefIdeal (hProjCSIdeal := Cert.ProjCSIdeal.Gen.facts) (hProjCSRefIdeal := Cert.ProjCSRefIdeal.Gen.facts) := by
  pair_intro
  · run_from kernel_ends m g
  · run_from Cert.ProjCSRefIdeal.Value.run m' g'
    · exact (Cert.ProjCSRefIdeal.Read.val_main_v17_eq _ _ _).trans (Cert.ProjCSRefIdeal.Rows.parts _ _ _).1
    · exact (Cert.ProjCSRefIdeal.Read.val_main_v18_eq _ _ _).trans (Cert.ProjCSRefIdeal.Rows.parts _ _ _).2

end Cert.Proof.ProjCS

end
-- ==== Proof.RouteValue.lean ====
module

public import proofs.«01_k».proof.Proof.LayerMath
public import proofs.«01_k».proof.Proof.Gen.RouteIdeal.Frame
public import Idealize.ShloMosaic.Lib.Pipeline.Value
public import Idealize.ShloMosaic.Lib.Pipeline.ValueKit
public import Idealize.ShloMosaic.Lib.Pointwise

/-! Layer 1's output projection, the part of the routing call whose results are claimed. Each of its 512-row tiles adds the
attention's rows, multiplied with the weights, to the stream, and takes the norms of the sums. -/

@[expose] public section

set_option maxRecDepth 16384

noncomputable section

namespace Cert.RouteIdeal.Rows

open Cert.RouteIdeal Cert.RouteIdeal.Gen Idealize.ShloMosaic Idealize.ShloMosaic.TcCoe Idealize.SL.Sem Cert.Layer
open Idealize.ShloMosaic.Pipeline (Dat)

/-! ## The result arrays -/

section Spec

variable {N : ℕ} (x : FVec Ideal (⟨2, ![N, 1024]⟩ : Shape) .f32) (o : FVec Ideal (⟨2, ![N, 1024]⟩ : Shape) .bf16) (w : FVec Ideal S1x1024x1024 .f32) (g : FVec Ideal S1x1024 .f32)

/-- Row `R` of the stream behind the attention. -/
def row (R : Fin N) (j : Fin 1024) : EReal := x (ix2 R j) + ∑ d : Fin 1024, o (ix2 R d) * w (ix3 0 d j)

/-- The stream behind the attention. -/
def stream : FVec Ideal (⟨2, ![N, 1024]⟩ : Shape) .f32 := fun i => row x o w (i 0) (i 1)

/-- The norms of its rows, in four blocks of columns. -/
def norms : FVec Ideal (⟨3, ![4, N, 256]⟩ : Shape) .f32 := fun i =>
  normed (row x o w (i 1)) (fun d => g (ix2 0 d))
    ⟨256 * (i 0).val + (i 2).val, by have : (i 0).val < 4 := (i 0).isLt; have : (i 2).val < 256 := (i 2).isLt; omega⟩

/-- A tile's blocks, as far as its row `r` needs them: row `R` of the stream and of the attention, the weights and the gains. -/
structure Reads (xb : Vec Ideal S512x1024 .f32) (ob : Vec Ideal S512x1024 .bf16) (wb : Vec Ideal S1024x1024 .bf16) (gb : Vec Ideal S1x1024 .f32) (r : Fin 512) (R : Fin N) : Prop where
  old : ∀ d : Fin 1024, xb (ix2 r d) = x (ix2 R d)
  attention : ∀ d : Fin 1024, ob (ix2 r d) = o (ix2 R d)
  weight : ∀ d j : Fin 1024, wb (ix2 d j) = w (ix3 0 d j)
  gain : ∀ d : Fin 1024, gb (ix2 0 d) = g (ix2 0 d)

end Spec

/-! ## One tile -/

section Tile

variable (xb : Vec Ideal S512x1024 .f32) (ob : Vec Ideal S512x1024 .bf16) (wb : Vec Ideal S1024x1024 .bf16) (gb : Vec Ideal S1x1024 .f32)

theorem sum_at (r : Fin 512) (j : Fin 1024) : k0_pay2 xb ob wb (ix2 r j) = xb (ix2 r j) + ∑ d : Fin 1024, ob (ix2 r d) * wb (ix2 d j) := by
  pointwise [k0_pay2]

theorem norm_at (r : Fin 512) (j : Fin 1024) : k0_pay3 xb ob wb gb (ix2 r j) = normed (fun d => k0_pay2 xb ob wb (ix2 r d)) (fun d => gb (ix2 0 d)) j := by
  unfold normed scale
  unfold k0_pay3
  generalize k0_pay2 xb ob wb = s
  pointwise []

/-- The norms as the tile stores them: four blocks of columns. -/
def blocks : Vec Ideal S4x512x256 .f32 :=
  View.canon [⟨r0_6, k0_pay7 (k0_pay3 xb ob wb gb)⟩, ⟨r0_5, k0_pay6 xb ob wb gb⟩, ⟨r0_4, k0_pay5 xb ob wb gb⟩, ⟨r0_3, k0_pay4 xb ob wb gb⟩]

theorem blocks_at (q : Fin 4) (r : Fin 512) (k : Fin 256) : blocks xb ob wb gb (ix3 q r k) = k0_pay3 xb ob wb gb (ix2 r ⟨256 * q.val + k.val, by omega⟩) := by
  unfold blocks k0_pay4 k0_pay5 k0_pay6
  generalize k0_pay3 xb ob wb gb = a
  canon_tiles z h
  all_goals
    idx_vars z
    obtain rfl : r = z1 := Fin.ext h1
    pointwise [k0_pay7]
    exact congrArg (fun K => a (ix2 r K)) (Fin.ext (by dsimp only; omega))

end Tile

section Points

variable {N : ℕ} {x : FVec Ideal (⟨2, ![N, 1024]⟩ : Shape) .f32} {o : FVec Ideal (⟨2, ![N, 1024]⟩ : Shape) .bf16} {w : FVec Ideal S1x1024x1024 .f32} {g : FVec Ideal S1x1024 .f32}
variable {xb : Vec Ideal S512x1024 .f32} {ob : Vec Ideal S512x1024 .bf16} {wb : Vec Ideal S1024x1024 .bf16} {gb : Vec Ideal S1x1024 .f32} {r : Fin 512} {R : Fin N}
variable (B : Reads x o w g xb ob wb gb r R)
include B

theorem stream_point (j : Fin 1024) : k0_pay2 xb ob wb (ix2 r j) = stream x o w (ix2 R j) :=
  (sum_at xb ob wb r j).trans (congrArg₂ (· + ·) (B.old j) (Finset.sum_congr rfl fun d _ => congrArg₂ (· * ·) (B.attention d) (B.weight d j)))

theorem norms_point (q : Fin 4) (k : Fin 256) : blocks xb ob wb gb (ix3 q r k) = norms x o w g (ix3 q R k) :=
  (blocks_at xb ob wb gb q r k).trans ((norm_at xb ob wb gb r _).trans
    (congrFun (congrArg₂ normed (funext (stream_point B)) (funext B.gain)) _))

end Points

variable (m : (ℓ : Loc nD τ sig) → Buf (Elt Ideal) ℓ) (c : Dev nD)

/-! ## What a tile reads -/

theorem idx : ∀ t : Fin cfg0.N, win0_0.index t = ![t.val, 0] ∧ win0_1.index t = ![t.val, 0] ∧ win0_2.index t = ![0, 0]
    ∧ win0_3.index t = ![0, 0] ∧ win0_5.index t = ![t.val, 0] ∧ win0_6.index t = ![0, t.val, 0] :=
  (by decide +kernel : ∀ t : Fin grid0.N, _)

theorem w_in : V m c main_v1 = fun i : S1024x1024.Idx => m ((c : Thread nD τ).loc main_arg2) (ix3 0 (i 0) (i 1)) := by
  funext i
  entry_read
  pointwise []

theorem gain_in : V m c main_v3 = fun i : S1x1024.Idx => m ((c : Thread nD τ).loc main_arg3) (ix2 0 (i 1)) := by
  funext i
  entry_read
  pointwise []

theorem blk_x (t : Fin cfg0.N) (r : Fin 512) (j : Fin 1024) (R : Fin 65536) (hR : R.val = 512 * t.val + r.val) :
    (show FVec Ideal S512x1024 .f32 from iblk m c 0 t) (ix2 r j) = m ((c : Thread nD τ).loc main_arg0) (ix2 R j) := by
  refine Eq.trans ?_ (congrFun (V_main_arg0 m c) (ix2 R j))
  blk_ext [iblk, idx t]

theorem blk_o (t : Fin cfg0.N) (r : Fin 512) (j : Fin 1024) (R : Fin 65536) (hR : R.val = 512 * t.val + r.val) :
    (show FVec Ideal S512x1024 .bf16 from iblk m c 1 t) (ix2 r j) = m ((c : Thread nD τ).loc main_arg1) (ix2 R j) := by
  refine Eq.trans ?_ (congrFun (V_main_arg1 m c) (ix2 R j))
  blk_ext [iblk, idx t]

theorem blk_w (t : Fin cfg0.N) (d j : Fin 1024) :
    (show FVec Ideal S1024x1024 .bf16 from iblk m c 2 t) (ix2 d j) = m ((c : Thread nD τ).loc main_arg2) (ix3 0 d j) := by
  refine Eq.trans ?_ (congrFun (w_in m c) (ix2 d j))
  blk_ext [iblk, idx t]

theorem blk_gain (t : Fin cfg0.N) (j : Fin 1024) :
    (show FVec Ideal S1x1024 .f32 from iblk m c 3 t) (ix2 0 j) = m ((c : Thread nD τ).loc main_arg3) (ix2 0 j) := by
  refine Eq.trans ?_ (congrFun (gain_in m c) (ix2 0 j))
  blk_ext [iblk, idx t]

theorem reads (t : Fin cfg0.N) (r : Fin 512) (R : Fin 65536) (hR : R.val = 512 * t.val + r.val) :
    Reads (m ((c : Thread nD τ).loc main_arg0)) (m ((c : Thread nD τ).loc main_arg1)) (m ((c : Thread nD τ).loc main_arg2)) (m ((c : Thread nD τ).loc main_arg3))
      (iblk m c 0 t) (iblk m c 1 t) (iblk m c 2 t) (iblk m c 3 t) r R :=
  ⟨fun d => blk_x m c t r d R hR, fun d => blk_o m c t r d R hR, blk_w m c t, blk_gain m c t⟩

/-! ## What a tile leaves -/

theorem out_5 (t : Fin cfg0.N) : (dats m 0 c).after 5 t = k0_pay2 (iblk m c 0 t) (iblk m c 1 t) (iblk m c 2 t) := by
  rw [after0_5]
  unfold out0_5
  frame_out <;> rfl

theorem out_6 (t : Fin cfg0.N) : (dats m 0 c).after 6 t = blocks (iblk m c 0 t) (iblk m c 1 t) (iblk m c 2 t) (iblk m c 3 t) := by
  rw [after0_6]
  unfold out0_6 k0_pay15 blocks
  frame_out <;> rfl

/-- THE STREAM behind the attention. -/
theorem final_5 : (dats m 0 c).arrAt 5 cfg0.N = stream (m ((c : Thread nD τ).loc main_arg0)) (m ((c : Thread nD τ).loc main_arg1)) (m ((c : Thread nD τ).loc main_arg2)) := by
  refine (dats m 0 c).arrAt_eq_of_covers _ _ (by decide +kernel) fun t _ y => ?_
  have ht : t.val < 128 := t.isLt
  blk_simp
  simp only [out_5]
  idx_vars y
  have hR : 512 * t.val + y0.val < 65536 := by omega
  refine (stream_point (reads m c t y0 ⟨_, hR⟩ rfl) y1).trans (congrArg _ ?_)
  funext a
  fin_cases a <;> (ext; blk_simp [idx t]; first | (show 512 * t.val + y0.val = t.val * 512 + y0.val; omega) | rfl)

/-- THE NORMS of its rows. -/
theorem final_6 : (dats m 0 c).arrAt 6 cfg0.N
    = norms (m ((c : Thread nD τ).loc main_arg0)) (m ((c : Thread nD τ).loc main_arg1)) (m ((c : Thread nD τ).loc main_arg2)) (m ((c : Thread nD τ).loc main_arg3)) := by
  refine (dats m 0 c).arrAt_eq_of_covers _ _ (by decide +kernel) fun t _ y => ?_
  have ht : t.val < 128 := t.isLt
  blk_simp
  simp only [out_6]
  idx_vars y
  have hR : 512 * t.val + y1.val < 65536 := by omega
  refine (norms_point (reads m c t y1 ⟨_, hR⟩ rfl) y0 y2).trans (congrArg _ ?_)
  funext a
  fin_cases a <;> (ext; blk_simp [idx t]; first | (show 512 * t.val + y1.val = t.val * 512 + y1.val; omega) | rfl)

end Cert.RouteIdeal.Rows
end
-- ==== Proof.RouteRef.lean ====
module

public import proofs.«01_k».proof.Proof.RouteValue
public import proofs.«01_k».proof.Proof.Gen.RouteRefIdeal.Read
public import Idealize.ShloMosaic.Lib.Pointwise

/-! The plain output projection of layer 1, read at one place of each of its results. -/

@[expose] public section

set_option maxRecDepth 16384

noncomputable section

namespace Cert.RouteRefIdeal.Rows

open Cert.RouteRefIdeal Cert.RouteRefIdeal.Gen Cert.RouteRefIdeal.Read Idealize.ShloMosaic Idealize.ShloMosaic.TcCoe Idealize.SL.Sem Cert.Layer
open Cert.RouteIdeal.Rows (row stream norms)

variable (x : FVec Ideal S65536x1024 .f32) (o : FVec Ideal S65536x1024 .bf16) (w : FVec Ideal S1x1024x1024 .f32) (g : FVec Ideal S1x1024 .f32)

theorem row_at (r : Fin 65536) (j : Fin 1024) : val_main_v3 (F := Ideal) x o w (ix2 r j) = row x o w r j := by
  unfold row
  pointwise [val_main_v3, val_main_v2, val_main_v1, val_main_v0]

/-- The stream behind the attention. -/
theorem streams : val_main_v3 (F := Ideal) x o w = stream x o w := by
  funext i
  idx_vars i
  exact row_at x o w _ _

/-- A row's norm. -/
theorem normed_at (r : Fin 65536) (j : Fin 1024) : val_main_v17 (F := Ideal) x o w g (ix2 r j) = normed (row x o w r) (fun d => g (ix2 0 d)) j := by
  unfold normed scale
  pointwise [val_main_v17, val_main_v16, val_main_v15, val_main_v14, val_main_v13, val_main_v12, val_main_v11, val_main_v10, val_main_cst_1, val_main_v9, val_main_v8, val_main_cst_0, val_main_v7, val_main_v6, val_main_cst, val_main_v5, val_main_v4, row_at x o w]

/-- The norms, in four blocks of columns. -/
theorem norms_eq : val_main_v19 (F := Ideal) x o w g = norms x o w g := by
  funext i
  idx_vars i
  unfold norms
  pointwise [val_main_v19, val_main_v18, normed_at x o w g]
  exact congrArg (normed _ _) (Fin.ext (by dsimp only; omega))

end Cert.RouteRefIdeal.Rows
end
-- ==== Proof.RouteClaim.lean ====
module

public import proofs.«01_k».proof.Defs
public import proofs.«01_k».proof.Proof.Gen.Route.Frame
public import proofs.«01_k».proof.Proof.RouteRef
public import proofs.«01_k».proof.Proof.Gen.RouteRefIdeal
public import Idealize.ShloMosaic.Lib.Claim

/-! The claims about layer 1's output projection: the runs, and the two results' equality. -/

@[expose] public section

set_option maxRecDepth 16384

noncomputable section

namespace Cert.Proof.Route

open Idealize.ShloMosaic Idealize.ShloMosaic.TcCoe Idealize.SL.Sem
open Cert.RouteIdeal.Rows (stream norms)

/-- The kernel ends, and leaves its arguments as they were. -/
theorem frame_P : Cert.quiescent_Route (hRoute := Cert.Route.Gen.facts) := fun m g _ => Cert.Route.Gen.frame m g

/-- The ideal kernel ends, and leaves its arguments as they were. -/
theorem frame_PI : Cert.quiescent_RouteIdeal (hRouteIdeal := Cert.RouteIdeal.Gen.facts) := fun m g _ => Cert.RouteIdeal.Gen.frame m g

/-- The reference ends, and leaves its arguments as they were. -/
theorem frame_RI : Cert.quiescent_RouteRefIdeal (hRouteRefIdeal := Cert.RouteRefIdeal.Gen.facts) := by
  intro m g _
  refine (θ_run _ _ _).mono (fun r h => ⟨fun c => (h c).2.2, sem_eq_zero_of_no_sems rfl _⟩) (Cert.RouteRefIdeal.Value.run m g)

/-- The ideal kernel is the kernel, word for word. -/
theorem preserves : Cert.preserves_Route_RouteIdeal := trivial

/-- The kernel ends with its result arrays holding the stream and its rows' norms. -/
theorem kernel_ends (m : (ℓ : Loc Cert.RouteIdeal.nD Cert.RouteIdeal.τ Cert.RouteIdeal.sig) → Buf (Elt Ideal) ℓ) (g : Dev Cert.RouteIdeal.nD → PrngReg) :
    θ_run (Cert.RouteIdeal.defs (F := Ideal)) (onTc (τ := Cert.RouteIdeal.τ) (Cert.RouteIdeal.main (F := Ideal))) ⟨m, fun _ => 0, g⟩ (fun r => ∀ c : Dev Cert.RouteIdeal.nD,
      r.2.mem ((c.tc : Thread Cert.RouteIdeal.nD Cert.RouteIdeal.τ).loc Cert.RouteIdeal.main_v4_0) = stream (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))
      ∧ r.2.mem ((c.tc : Thread Cert.RouteIdeal.nD Cert.RouteIdeal.τ).loc Cert.RouteIdeal.main_v4_1) = norms (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3))
      ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)) :=
  (θ_run _ _ _).mono (fun _ h c =>
    ⟨((h c).1 5).trans (Cert.RouteIdeal.Rows.final_5 m c), ((h c).1 6).trans (Cert.RouteIdeal.Rows.final_6 m c),
      ((h c).1 0).trans (((Cert.RouteIdeal.Gen.dats m 0 c).arrAt_in 0 rfl _).trans ((Cert.RouteIdeal.Gen.A_eq m c 0).trans (Cert.RouteIdeal.Gen.V_main_arg0 m c))),
      ((h c).1 1).trans (((Cert.RouteIdeal.Gen.dats m 0 c).arrAt_in 1 rfl _).trans ((Cert.RouteIdeal.Gen.A_eq m c 1).trans (Cert.RouteIdeal.Gen.V_main_arg1 m c))),
      ((h c).2 Cert.RouteIdeal.main_arg2 (Pipeline.mem_restRefs_of Cert.RouteIdeal.main_arg2 (by decide) (by decide))).trans (Cert.RouteIdeal.Gen.V_main_arg2 m c),
      ((h c).2 Cert.RouteIdeal.main_arg3 (Pipeline.mem_restRefs_of Cert.RouteIdeal.main_arg3 (by decide) (by decide))).trans (Cert.RouteIdeal.Gen.V_main_arg3 m c),
      ((h c).1 4).trans (((Cert.RouteIdeal.Gen.dats m 0 c).arrAt_in 4 rfl _).trans ((Cert.RouteIdeal.Gen.A_eq m c 4).trans (Cert.RouteIdeal.Gen.V_main_arg4 m c)))⟩)
    (Cert.RouteIdeal.Gen.run_main m g)

/-- The kernel's two results are the reference's, over the extended reals. -/
theorem algebraic : Cert.algebraic_RouteIdeal_RouteRefIdeal (hRouteIdeal := Cert.RouteIdeal.Gen.facts) (hRouteRefIdeal := Cert.RouteRefIdeal.Gen.facts) := by
  pair_intro
  · run_from kernel_ends m g
  · run_from Cert.RouteRefIdeal.Value.run m' g'
    · exact (Cert.RouteRefIdeal.Read.val_main_v3_eq _ _ _).trans (Cert.RouteRefIdeal.Rows.streams _ _ _)
    · exact (Cert.RouteRefIdeal.Read.val_main_v19_eq _ _ _ _).trans (Cert.RouteRefIdeal.Rows.norms_eq _ _ _ _)

end Cert.Proof.Route

end
-- ==== Proof.lean ====
/- The certificate of the layer's calls: each conjunct is taken from the module of its call. -/
module

public import proofs.«01_k».proof.Defs
public import proofs.«01_k».proof.Proof.Gen.Sb
public import proofs.«01_k».proof.Proof.Gen.Sb.Skeleton
public import proofs.«01_k».proof.Proof.Gen.Sb.Loops
public import proofs.«01_k».proof.Proof.Gen.Sb.Launch
public import proofs.«01_k».proof.Proof.Gen.Sb.Points
public import proofs.«01_k».proof.Proof.Gen.Sb.Frame
public import proofs.«01_k».proof.Proof.Gen.SbIdeal
public import proofs.«01_k».proof.Proof.Gen.SbIdeal.Skeleton
public import proofs.«01_k».proof.Proof.Gen.SbIdeal.Loops
public import proofs.«01_k».proof.Proof.Gen.SbIdeal.Launch
public import proofs.«01_k».proof.Proof.Gen.SbIdeal.Points
public import proofs.«01_k».proof.Proof.Gen.SbIdeal.Frame
public import proofs.«01_k».proof.Proof.Gen.SbRefIdeal
public import proofs.«01_k».proof.Proof.Gen.Pre_finite_qk
public import proofs.«01_k».proof.Proof.Gen.SbIdeal.Value
public import proofs.«01_k».proof.Proof.Gen.SbRefIdeal.Run
public import proofs.«01_k».proof.Proof.Gen.SbRefIdeal.Read
public import proofs.«01_k».proof.Proof.Gen.Ffn
public import proofs.«01_k».proof.Proof.Gen.Ffn.Frame
public import proofs.«01_k».proof.Proof.Gen.Ffn.Points
public import proofs.«01_k».proof.Proof.Gen.Ffn.Launch
public import proofs.«01_k».proof.Proof.Gen.Ffn.Skeleton
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Experts
public import proofs.«01_k».proof.Proof.Gen.Experts.Launch
public import proofs.«01_k».proof.Proof.Gen.ExpertsIdeal
public import proofs.«01_k».proof.Proof.Gen.ExpertsIdeal.Launch
public import proofs.«01_k».proof.Proof.Gen.ExpertsIdeal.Skeleton
public import proofs.«01_k».proof.Proof.Gen.Pre_experts_exist
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Proj
public import proofs.«01_k».proof.Proof.Gen.Proj.Frame
public import proofs.«01_k».proof.Proof.Gen.Proj.Points
public import proofs.«01_k».proof.Proof.Gen.Proj.Launch
public import proofs.«01_k».proof.Proof.Gen.Proj.Skeleton
public import proofs.«01_k».proof.Proof.Gen.ProjIdeal
public import proofs.«01_k».proof.Proof.Gen.ProjIdeal.Frame
public import proofs.«01_k».proof.Proof.Gen.ProjIdeal.Points
public import proofs.«01_k».proof.Proof.Gen.ProjIdeal.Launch
public import proofs.«01_k».proof.Proof.Gen.ProjIdeal.Skeleton
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.ProjC
public import proofs.«01_k».proof.Proof.Gen.ProjC.Frame
public import proofs.«01_k».proof.Proof.Gen.ProjC.Points
public import proofs.«01_k».proof.Proof.Gen.ProjC.Launch
public import proofs.«01_k».proof.Proof.Gen.ProjC.Skeleton
public import proofs.«01_k».proof.Proof.Gen.ProjCIdeal
public import proofs.«01_k».proof.Proof.Gen.ProjCIdeal.Frame
public import proofs.«01_k».proof.Proof.Gen.ProjCIdeal.Points
public import proofs.«01_k».proof.Proof.Gen.ProjCIdeal.Launch
public import proofs.«01_k».proof.Proof.Gen.ProjCIdeal.Skeleton
public import proofs.«01_k».proof.Proof.Gen.ProjCRefIdeal
public import proofs.«01_k».proof.Proof.Gen.ProjCRefIdeal.Run
public import proofs.«01_k».proof.Proof.Gen.ProjCRefIdeal.Read
public import proofs.«01_k».proof.Proof.Gen.Fox
public import proofs.«01_k».proof.Proof.Gen.Fox.Skeleton
public import proofs.«01_k».proof.Proof.Gen.Fox.Loops
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Loops
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxIdeal.Value
public import proofs.«01_k».proof.Proof.Gen.FoxRefIdeal
public import proofs.«01_k».proof.Proof.Gen.FoxRefIdeal.Run
public import proofs.«01_k».proof.Proof.Gen.FoxRefIdeal.Read
public import proofs.«01_k».proof.Proof.Gen.Pre_finite_qkc
public import proofs.«01_k».proof.Proof.Gen.Combine
public import proofs.«01_k».proof.Proof.Gen.Combine.Frame
public import proofs.«01_k».proof.Proof.Gen.Combine.Points
public import proofs.«01_k».proof.Proof.Gen.Combine.Launch
public import proofs.«01_k».proof.Proof.Gen.Combine.Skeleton
public import proofs.«01_k».proof.Proof.Gen.CombineIdeal
public import proofs.«01_k».proof.Proof.Gen.CombineIdeal.Frame
public import proofs.«01_k».proof.Proof.Gen.CombineIdeal.Points
public import proofs.«01_k».proof.Proof.Gen.CombineIdeal.Launch
public import proofs.«01_k».proof.Proof.Gen.CombineIdeal.Skeleton
public import proofs.«01_k».proof.Proof.Gen.CombineIdeal.Value
public import proofs.«01_k».proof.Proof.Gen.CombineRefIdeal
public import proofs.«01_k».proof.Proof.Gen.CombineRefIdeal.Run
public import proofs.«01_k».proof.Proof.Gen.CombineRefIdeal.Read
public import proofs.«01_k».proof.Proof.Gen.CombineS
public import proofs.«01_k».proof.Proof.Gen.CombineS.Frame
public import proofs.«01_k».proof.Proof.Gen.CombineS.Points
public import proofs.«01_k».proof.Proof.Gen.CombineS.Launch
public import proofs.«01_k».proof.Proof.Gen.CombineS.Skeleton
public import proofs.«01_k».proof.Proof.Gen.CombineSIdeal
public import proofs.«01_k».proof.Proof.Gen.CombineSIdeal.Frame
public import proofs.«01_k».proof.Proof.Gen.CombineSIdeal.Points
public import proofs.«01_k».proof.Proof.Gen.CombineSIdeal.Launch
public import proofs.«01_k».proof.Proof.Gen.CombineSIdeal.Skeleton
public import proofs.«01_k».proof.Proof.Gen.CombineSIdeal.Value
public import proofs.«01_k».proof.Proof.Gen.CombineSRefIdeal
public import proofs.«01_k».proof.Proof.Gen.CombineSRefIdeal.Run
public import proofs.«01_k».proof.Proof.Gen.CombineSRefIdeal.Read
public import proofs.«01_k».proof.Proof.Gen.ProjS
public import proofs.«01_k».proof.Proof.Gen.ProjS.Frame
public import proofs.«01_k».proof.Proof.Gen.ProjS.Points
public import proofs.«01_k».proof.Proof.Gen.ProjS.Launch
public import proofs.«01_k».proof.Proof.Gen.ProjS.Skeleton
public import proofs.«01_k».proof.Proof.Gen.ProjSIdeal
public import proofs.«01_k».proof.Proof.Gen.ProjSIdeal.Frame
public import proofs.«01_k».proof.Proof.Gen.ProjSIdeal.Points
public import proofs.«01_k».proof.Proof.Gen.ProjSIdeal.Launch
public import proofs.«01_k».proof.Proof.Gen.ProjSIdeal.Skeleton
public import proofs.«01_k».proof.Proof.Gen.ProjSRefIdeal
public import proofs.«01_k».proof.Proof.Gen.ProjSRefIdeal.Run
public import proofs.«01_k».proof.Proof.Gen.ProjSRefIdeal.Read
public import proofs.«01_k».proof.Proof.Gen.ProjCS
public import proofs.«01_k».proof.Proof.Gen.ProjCS.Frame
public import proofs.«01_k».proof.Proof.Gen.ProjCS.Points
public import proofs.«01_k».proof.Proof.Gen.ProjCS.Launch
public import proofs.«01_k».proof.Proof.Gen.ProjCS.Skeleton
public import proofs.«01_k».proof.Proof.Gen.ProjCSIdeal
public import proofs.«01_k».proof.Proof.Gen.ProjCSIdeal.Frame
public import proofs.«01_k».proof.Proof.Gen.ProjCSIdeal.Points
public import proofs.«01_k».proof.Proof.Gen.ProjCSIdeal.Launch
public import proofs.«01_k».proof.Proof.Gen.ProjCSIdeal.Skeleton
public import proofs.«01_k».proof.Proof.Gen.ProjCSRefIdeal
public import proofs.«01_k».proof.Proof.Gen.ProjCSRefIdeal.Run
public import proofs.«01_k».proof.Proof.Gen.ProjCSRefIdeal.Read
public import proofs.«01_k».proof.Proof.Gen.Route
public import proofs.«01_k».proof.Proof.Gen.Route.Frame
public import proofs.«01_k».proof.Proof.Gen.Route.Points
public import proofs.«01_k».proof.Proof.Gen.Route.Launch
public import proofs.«01_k».proof.Proof.Gen.Route.Skeleton
public import proofs.«01_k».proof.Proof.Gen.RouteIdeal
public import proofs.«01_k».proof.Proof.Gen.RouteIdeal.Frame
public import proofs.«01_k».proof.Proof.Gen.RouteIdeal.Points
public import proofs.«01_k».proof.Proof.Gen.RouteIdeal.Launch
public import proofs.«01_k».proof.Proof.Gen.RouteIdeal.Skeleton
public import proofs.«01_k».proof.Proof.Gen.RouteRefIdeal
public import proofs.«01_k».proof.Proof.Gen.RouteRefIdeal.Run
public import proofs.«01_k».proof.Proof.Gen.RouteRefIdeal.Read
public import proofs.«01_k».proof.Proof.SbClaim
public import proofs.«01_k».proof.Proof.FfnClaim
public import proofs.«01_k».proof.Proof.ExpertsClaim
public import proofs.«01_k».proof.Proof.ProjClaim
public import proofs.«01_k».proof.Proof.ProjCClaim
public import proofs.«01_k».proof.Proof.FoxClaim
public import proofs.«01_k».proof.Proof.CombineClaim
public import proofs.«01_k».proof.Proof.CombineSClaim
public import proofs.«01_k».proof.Proof.ProjSClaim
public import proofs.«01_k».proof.Proof.ProjCSClaim
public import proofs.«01_k».proof.Proof.RouteClaim
public import Idealize.ShloMosaic.Adequacy
public import Idealize.ShloMosaic.Init

@[expose] public section

noncomputable section

namespace Cert.Proof

open Idealize.ShloMosaic Idealize.SL.Sem Cert.Sb

/-- Every claim of the certificate. -/
theorem claim : Cert.Claim :=
  ⟨Cert.Sb.Gen.facts, Cert.SbIdeal.Gen.facts, Cert.SbRefIdeal.Gen.facts, Cert.Ffn.Gen.facts, Cert.FfnIdeal.Gen.facts, Cert.FfnRefIdeal.Gen.facts,
    Cert.Experts.Gen.facts, Cert.ExpertsIdeal.Gen.facts, Cert.ExpertsRefIdeal.Gen.facts,
    Cert.Proj.Gen.facts, Cert.ProjIdeal.Gen.facts, Cert.ProjRefIdeal.Gen.facts, Cert.ProjC.Gen.facts, Cert.ProjCIdeal.Gen.facts, Cert.ProjCRefIdeal.Gen.facts,
    Cert.Fox.Gen.facts, Cert.FoxIdeal.Gen.facts, Cert.FoxRefIdeal.Gen.facts,
    Cert.Combine.Gen.facts, Cert.CombineIdeal.Gen.facts, Cert.CombineRefIdeal.Gen.facts,
    Cert.CombineS.Gen.facts, Cert.CombineSIdeal.Gen.facts, Cert.CombineSRefIdeal.Gen.facts,
    Cert.ProjS.Gen.facts, Cert.ProjSIdeal.Gen.facts, Cert.ProjSRefIdeal.Gen.facts,
    Cert.ProjCS.Gen.facts, Cert.ProjCSIdeal.Gen.facts, Cert.ProjCSRefIdeal.Gen.facts,
    Cert.Route.Gen.facts, Cert.RouteIdeal.Gen.facts, Cert.RouteRefIdeal.Gen.facts,
    Cert.Pre_finite_qk.Gen.facts, Cert.Pre_experts_exist.Gen.facts, Cert.Pre_finite_qkc.Gen.facts,
    Sb.frame_P, Sb.frame_PI, Sb.frame_PI_pre, Sb.frame_RI, Sb.frame_RI_pre, Ffn.frame_P, Ffn.frame_PI, Ffn.frame_RI,
    Experts.frame_P, Experts.frame_PI, Experts.frame_RI, Proj.frame_P, Proj.frame_PI, Proj.frame_RI, ProjC.frame_P, ProjC.frame_PI, ProjC.frame_RI,
    Fox.frame_P, Fox.frame_PI, Fox.frame_PI_pre, Fox.frame_RI, Fox.frame_RI_pre,
    Combine.frame_P, Combine.frame_PI, Combine.frame_RI,
    CombineS.frame_P, CombineS.frame_PI, CombineS.frame_RI,
    ProjS.frame_P, ProjS.frame_PI, ProjS.frame_RI,
    ProjCS.frame_P, ProjCS.frame_PI, ProjCS.frame_RI,
    Route.frame_P, Route.frame_PI, Route.frame_RI,
    Sb.preserves, Sb.algebraic, Ffn.preserves, Ffn.algebraic, Experts.preserves, Experts.algebraic, Proj.preserves, Proj.algebraic,
    ProjC.preserves, ProjC.algebraic, Fox.preserves, Fox.algebraic, Combine.preserves, Combine.algebraic,
    CombineS.preserves, CombineS.algebraic, ProjS.preserves, ProjS.algebraic, ProjCS.preserves, ProjCS.algebraic,
    Route.preserves, Route.algebraic⟩

end Cert.Proof

end
